-- ==== Defs.lean ====
def Pre_GateUp (m : (ℓ : Loc Cert.GateUp.nD Cert.GateUp.τ Cert.GateUp.sig) → Buf (Elt Bits) ℓ) : Prop :=
  True

def Pre_GateUpIdeal (m : (ℓ : Loc Cert.GateUpIdeal.nD Cert.GateUpIdeal.τ Cert.GateUpIdeal.sig) → Buf (Elt Ideal) ℓ) : Prop :=
  True

def Pre_GateUpRefIdeal (m : (ℓ : Loc Cert.GateUpRefIdeal.nD Cert.GateUpRefIdeal.τ Cert.GateUpRefIdeal.sig) → Buf (Elt Ideal) ℓ) : Prop :=
  True

def Pre_Qkv (m : (ℓ : Loc Cert.Qkv.nD Cert.Qkv.τ Cert.Qkv.sig) → Buf (Elt Bits) ℓ) : Prop :=
  True

def Pre_QkvIdeal (m : (ℓ : Loc Cert.QkvIdeal.nD Cert.QkvIdeal.τ Cert.QkvIdeal.sig) → Buf (Elt Ideal) ℓ) : Prop :=
  True

def Pre_QkvRefIdeal (m : (ℓ : Loc Cert.QkvRefIdeal.nD Cert.QkvRefIdeal.τ Cert.QkvRefIdeal.sig) → Buf (Elt Ideal) ℓ) : Prop :=
  True

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutProjRefIdeal (m : (ℓ : Loc Cert.OutProjRefIdeal.nD Cert.OutProjRefIdeal.τ Cert.OutProjRefIdeal.sig) → Buf (Elt Ideal) ℓ) : Prop :=
  True

def Pre_DownLast (m : (ℓ : Loc Cert.DownLast.nD Cert.DownLast.τ Cert.DownLast.sig) → Buf (Elt Bits) ℓ) : Prop :=
  True

def Pre_DownLastIdeal (m : (ℓ : Loc Cert.DownLastIdeal.nD Cert.DownLastIdeal.τ Cert.DownLastIdeal.sig) → Buf (Elt Ideal) ℓ) : Prop :=
  True

def Pre_DownLastRefIdeal (m : (ℓ : Loc Cert.DownLastRefIdeal.nD Cert.DownLastRefIdeal.τ Cert.DownLastRefIdeal.sig) → Buf (Elt Ideal) ℓ) : Prop :=
  True

def Pre_Fc (m : (ℓ : Loc Cert.Fc.nD Cert.Fc.τ Cert.Fc.sig) → Buf (Elt Bits) ℓ) : Prop :=
  True

def Pre_FcIdeal (m : (ℓ : Loc Cert.FcIdeal.nD Cert.FcIdeal.τ Cert.FcIdeal.sig) → Buf (Elt Ideal) ℓ) : Prop :=
  True

def Pre_FcRefIdeal (m : (ℓ : Loc Cert.FcRefIdeal.nD Cert.FcRefIdeal.τ Cert.FcRefIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownRefIdeal (m : (ℓ : Loc Cert.DownRefIdeal.nD Cert.DownRefIdeal.τ Cert.DownRefIdeal.sig) → Buf (Elt Ideal) ℓ) : Prop :=
  True

def quiescent_GateUp [hGateUp : Cert.GateUp.Facts] : Prop :=
  ∀ (m : (ℓ : Loc Cert.GateUp.nD Cert.GateUp.τ Cert.GateUp.sig) → Buf (Elt Bits) ℓ) (g : Dev Cert.GateUp.nD → PrngReg), Pre_GateUp m →
    θ_run (Cert.GateUp.defs (F := Bits)) (onTc (τ := Cert.GateUp.τ) (Cert.GateUp.main (F := Bits))) ⟨m, fun _ => 0, g⟩ (fun r => (∀ c : Dev Cert.GateUp.nD,
      r.2.mem ((c.tc : Thread Cert.GateUp.nD Cert.GateUp.τ).loc Cert.GateUp.main_arg0) = m ((c.tc : Thread Cert.GateUp.nD Cert.GateUp.τ).loc Cert.GateUp.main_arg0)
      ∧ r.2.mem ((c.tc : Thread Cert.GateUp.nD Cert.GateUp.τ).loc Cert.GateUp.main_arg1) = m ((c.tc : Thread Cert.GateUp.nD Cert.GateUp.τ).loc Cert.GateUp.main_arg1)
      ∧ r.2.mem ((c.tc : Thread Cert.GateUp.nD Cert.GateUp.τ).loc Cert.GateUp.main_arg2) = m ((c.tc : Thread Cert.GateUp.nD Cert.GateUp.τ).loc Cert.GateUp.main_arg2)
      ∧ r.2.mem ((c.tc : Thread Cert.GateUp.nD Cert.GateUp.τ).loc Cert.GateUp.main_arg3) = m ((c.tc : Thread Cert.GateUp.nD Cert.GateUp.τ).loc Cert.GateUp.main_arg3)
      ∧ r.2.mem ((c.tc : Thread Cert.GateUp.nD Cert.GateUp.τ).loc Cert.GateUp.main_arg4) = m ((c.tc : Thread Cert.GateUp.nD Cert.GateUp.τ).loc Cert.GateUp.main_arg4)
      ∧ r.2.mem ((c.tc : Thread Cert.GateUp.nD Cert.GateUp.τ).loc Cert.GateUp.main_arg5) = m ((c.tc : Thread Cert.GateUp.nD Cert.GateUp.τ).loc Cert.GateUp.main_arg5))
      ∧ r.2.sem = fun _ => 0)

def quiescent_GateUpIdeal [hGateUpIdeal : Cert.GateUpIdeal.Facts] : Prop :=
  ∀ (m : (ℓ : Loc Cert.GateUpIdeal.nD Cert.GateUpIdeal.τ Cert.GateUpIdeal.sig) → Buf (Elt Ideal) ℓ) (g : Dev Cert.GateUpIdeal.nD → PrngReg), Pre_GateUpIdeal m →
    θ_run (Cert.GateUpIdeal.defs (F := Ideal)) (onTc (τ := Cert.GateUpIdeal.τ) (Cert.GateUpIdeal.main (F := Ideal))) ⟨m, fun _ => 0, g⟩ (fun r => (∀ c : Dev Cert.GateUpIdeal.nD,
      r.2.mem ((c.tc : Thread Cert.GateUpIdeal.nD Cert.GateUpIdeal.τ).loc Cert.GateUpIdeal.main_arg0) = m ((c.tc : Thread Cert.GateUpIdeal.nD Cert.GateUpIdeal.τ).loc Cert.GateUpIdeal.main_arg0)
      ∧ r.2.mem ((c.tc : Thread Cert.GateUpIdeal.nD Cert.GateUpIdeal.τ).loc Cert.GateUpIdeal.main_arg1) = m ((c.tc : Thread Cert.GateUpIdeal.nD Cert.GateUpIdeal.τ).loc Cert.GateUpIdeal.main_arg1)
      ∧ r.2.mem ((c.tc : Thread Cert.GateUpIdeal.nD Cert.GateUpIdeal.τ).loc Cert.GateUpIdeal.main_arg2) = m ((c.tc : Thread Cert.GateUpIdeal.nD Cert.GateUpIdeal.τ).loc Cert.GateUpIdeal.main_arg2)
      ∧ r.2.mem ((c.tc : Thread Cert.GateUpIdeal.nD Cert.GateUpIdeal.τ).loc Cert.GateUpIdeal.main_arg3) = m ((c.tc : Thread Cert.GateUpIdeal.nD Cert.GateUpIdeal.τ).loc Cert.GateUpIdeal.main_arg3)
      ∧ r.2.mem ((c.tc : Thread Cert.GateUpIdeal.nD Cert.GateUpIdeal.τ).loc Cert.GateUpIdeal.main_arg4) = m ((c.tc : Thread Cert.GateUpIdeal.nD Cert.GateUpIdeal.τ).loc Cert.GateUpIdeal.main_arg4)
      ∧ r.2.mem ((c.tc : Thread Cert.GateUpIdeal.nD Cert.GateUpIdeal.τ).loc Cert.GateUpIdeal.main_arg5) = m ((c.tc : Thread Cert.GateUpIdeal.nD Cert.GateUpIdeal.τ).loc Cert.GateUpIdeal.main_arg5))
      ∧ r.2.sem = fun _ => 0)

def quiescent_GateUpRefIdeal [hGateUpRefIdeal : Cert.GateUpRefIdeal.Facts] : Prop :=
  ∀ (m : (ℓ : Loc Cert.GateUpRefIdeal.nD Cert.GateUpRefIdeal.τ Cert.GateUpRefIdeal.sig) → Buf (Elt Ideal) ℓ) (g : Dev Cert.GateUpRefIdeal.nD → PrngReg), Pre_GateUpRefIdeal m →
    θ_run (Cert.GateUpRefIdeal.defs (F := Ideal)) (onTc (τ := Cert.GateUpRefIdeal.τ) (Cert.GateUpRefIdeal.main (F := Ideal))) ⟨m, fun _ => 0, g⟩ (fun r => (∀ c : Dev Cert.GateUpRefIdeal.nD,
      r.2.mem ((c.tc : Thread Cert.GateUpRefIdeal.nD Cert.GateUpRefIdeal.τ).loc Cert.GateUpRefIdeal.main_arg0) = m ((c.tc : Thread Cert.GateUpRefIdeal.nD Cert.GateUpRefIdeal.τ).loc Cert.GateUpRefIdeal.main_arg0)
      ∧ r.2.mem ((c.tc : Thread Cert.GateUpRefIdeal.nD Cert.GateUpRefIdeal.τ).loc Cert.GateUpRefIdeal.main_arg1) = m ((c.tc : Thread Cert.GateUpRefIdeal.nD Cert.GateUpRefIdeal.τ).loc Cert.GateUpRefIdeal.main_arg1)
      ∧ r.2.mem ((c.tc : Thread Cert.GateUpRefIdeal.nD Cert.GateUpRefIdeal.τ).loc Cert.GateUpRefIdeal.main_arg2) = m ((c.tc : Thread Cert.GateUpRefIdeal.nD Cert.GateUpRefIdeal.τ).loc Cert.GateUpRefIdeal.main_arg2)
      ∧ r.2.mem ((c.tc : Thread Cert.GateUpRefIdeal.nD Cert.GateUpRefIdeal.τ).loc Cert.GateUpRefIdeal.main_arg3) = m ((c.tc : Thread Cert.GateUpRefIdeal.nD Cert.GateUpRefIdeal.τ).loc Cert.GateUpRefIdeal.main_arg3)
      ∧ r.2.mem ((c.tc : Thread Cert.GateUpRefIdeal.nD Cert.GateUpRefIdeal.τ).loc Cert.GateUpRefIdeal.main_arg4) = m ((c.tc : Thread Cert.GateUpRefIdeal.nD Cert.GateUpRefIdeal.τ).loc Cert.GateUpRefIdeal.main_arg4)
      ∧ r.2.mem ((c.tc : Thread Cert.GateUpRefIdeal.nD Cert.GateUpRefIdeal.τ).loc Cert.GateUpRefIdeal.main_arg5) = m ((c.tc : Thread Cert.GateUpRefIdeal.nD Cert.GateUpRefIdeal.τ).loc Cert.GateUpRefIdeal.main_arg5))
      ∧ r.2.sem = fun _ => 0)

def quiescent_Qkv [hQkv : Cert.Qkv.Facts] : Prop :=
  ∀ (m : (ℓ : Loc Cert.Qkv.nD Cert.Qkv.τ Cert.Qkv.sig) → Buf (Elt Bits) ℓ) (g : Dev Cert.Qkv.nD → PrngReg), Pre_Qkv m →
    θ_run (Cert.Qkv.defs (F := Bits)) (onTc (τ := Cert.Qkv.τ) (Cert.Qkv.main (F := Bits))) ⟨m, fun _ => 0, g⟩ (fun r => (∀ c : Dev Cert.Qkv.nD,
      r.2.mem ((c.tc : Thread Cert.Qkv.nD Cert.Qkv.τ).loc Cert.Qkv.main_arg0) = m ((c.tc : Thread Cert.Qkv.nD Cert.Qkv.τ).loc Cert.Qkv.main_arg0)
      ∧ r.2.mem ((c.tc : Thread Cert.Qkv.nD Cert.Qkv.τ).loc Cert.Qkv.main_arg1) = m ((c.tc : Thread Cert.Qkv.nD Cert.Qkv.τ).loc Cert.Qkv.main_arg1)
      ∧ r.2.mem ((c.tc : Thread Cert.Qkv.nD Cert.Qkv.τ).loc Cert.Qkv.main_arg2) = m ((c.tc : Thread Cert.Qkv.nD Cert.Qkv.τ).loc Cert.Qkv.main_arg2)
      ∧ r.2.mem ((c.tc : Thread Cert.Qkv.nD Cert.Qkv.τ).loc Cert.Qkv.main_arg3) = m ((c.tc : Thread Cert.Qkv.nD Cert.Qkv.τ).loc Cert.Qkv.main_arg3)
      ∧ r.2.mem ((c.tc : Thread Cert.Qkv.nD Cert.Qkv.τ).loc Cert.Qkv.main_arg4) = m ((c.tc : Thread Cert.Qkv.nD Cert.Qkv.τ).loc Cert.Qkv.main_arg4)
      ∧ r.2.mem ((c.tc : Thread Cert.Qkv.nD Cert.Qkv.τ).loc Cert.Qkv.main_arg5) = m ((c.tc : Thread Cert.Qkv.nD Cert.Qkv.τ).loc Cert.Qkv.main_arg5))
      ∧ r.2.sem = fun _ => 0)

def quiescent_QkvIdeal [hQkvIdeal : Cert.QkvIdeal.Facts] : Prop :=
  ∀ (m : (ℓ : Loc Cert.QkvIdeal.nD Cert.QkvIdeal.τ Cert.QkvIdeal.sig) → Buf (Elt Ideal) ℓ) (g : Dev Cert.QkvIdeal.nD → PrngReg), Pre_QkvIdeal m →
    θ_run (Cert.QkvIdeal.defs (F := Ideal)) (onTc (τ := Cert.QkvIdeal.τ) (Cert.QkvIdeal.main (F := Ideal))) ⟨m, fun _ => 0, g⟩ (fun r => (∀ c : Dev Cert.QkvIdeal.nD,
      r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
      ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
      ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2)
      ∧ r.2.mem ((c.tc : Thread Cert.QkvIdeal.nD Cert.QkvIdeal.τ).loc Cert.QkvIdeal.main_arg3) = m ((c.tc : Thread Cert.QkvIdeal.nD Cert.QkvIdeal.τ).loc Cert.QkvIdeal.main_arg3)
      ∧ r.2.mem ((c.tc : Thread Cert.QkvIdeal.nD Cert.QkvIdeal.τ).loc Cert.QkvIdeal.main_arg4) = m ((c.tc : Thread Cert.QkvIdeal.nD Cert.QkvIdeal.τ).loc Cert.QkvIdeal.main_arg4)
      ∧ r.2.mem ((c.tc : Thread Cert.QkvIdeal.nD Cert.QkvIdeal.τ).loc Cert.QkvIdeal.main_arg5) = m ((c.tc : Thread Cert.QkvIdeal.nD Cert.QkvIdeal.τ).loc Cert.QkvIdeal.main_arg5))
      ∧ r.2.sem = fun _ => 0)

def quiescent_QkvRefIdeal [hQkvRefIdeal : Cert.QkvRefIdeal.Facts] : Prop :=
  ∀ (m : (ℓ : Loc Cert.QkvRefIdeal.nD Cert.QkvRefIdeal.τ Cert.QkvRefIdeal.sig) → Buf (Elt Ideal) ℓ) (g : Dev Cert.QkvRefIdeal.nD → PrngReg), Pre_QkvRefIdeal m →
    θ_run (Cert.QkvRefIdeal.defs (F := Ideal)) (onTc (τ := Cert.QkvRefIdeal.τ) (Cert.QkvRefIdeal.main (F := Ideal))) ⟨m, fun _ => 0, g⟩ (fun r => (∀ c : Dev Cert.QkvRefIdeal.nD,
      r.2.mem ((c.tc : Thread Cert.QkvRefIdeal.nD Cert.QkvRefIdeal.τ).loc Cert.QkvRefIdeal.main_arg0) = m ((c.tc : Thread Cert.QkvRefIdeal.nD Cert.QkvRefIdeal.τ).loc Cert.QkvRefIdeal.main_arg0)
      ∧ r.2.mem ((c.tc : Thread Cert.QkvRefIdeal.nD Cert.QkvRefIdeal.τ).loc Cert.QkvRefIdeal.main_arg1) = m ((c.tc : Thread Cert.QkvRefIdeal.nD Cert.QkvRefIdeal.τ).loc Cert.QkvRefIdeal.main_arg1)
      ∧ r.2.mem ((c.tc : Thread Cert.QkvRefIdeal.nD Cert.QkvRefIdeal.τ).loc Cert.QkvRefIdeal.main_arg2) = m ((c.tc : Thread Cert.QkvRefIdeal.nD Cert.QkvRefIdeal.τ).loc Cert.QkvRefIdeal.main_arg2)
      ∧ r.2.mem ((c.tc : Thread Cert.QkvRefIdeal.nD Cert.QkvRefIdeal.τ).loc Cert.QkvRefIdeal.main_arg3) = m ((c.tc : Thread Cert.QkvRefIdeal.nD Cert.QkvRefIdeal.τ).loc Cert.QkvRefIdeal.main_arg3)
      ∧ r.2.mem ((c.tc : Thread Cert.QkvRefIdeal.nD Cert.QkvRefIdeal.τ).loc Cert.QkvRefIdeal.main_arg4) = m ((c.tc : Thread Cert.QkvRefIdeal.nD Cert.QkvRefIdeal.τ).loc Cert.QkvRefIdeal.main_arg4)
      ∧ r.2.mem ((c.tc : Thread Cert.QkvRefIdeal.nD Cert.QkvRefIdeal.τ).loc Cert.QkvRefIdeal.main_arg5) = m ((c.tc : Thread Cert.QkvRefIdeal.nD Cert.QkvRefIdeal.τ).loc Cert.QkvRefIdeal.main_arg5))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1)
      ∧ r.2.mem ((c.tc : Thread Cert.OutProj.nD Cert.OutProj.τ).loc Cert.OutProj.main_arg2) = m ((c.tc : Thread Cert.OutProj.nD Cert.OutProj.τ).loc Cert.OutProj.main_arg2)
      ∧ r.2.mem ((c.tc : Thread Cert.OutProj.nD Cert.OutProj.τ).loc Cert.OutProj.main_arg3) = m ((c.tc : Thread Cert.OutProj.nD Cert.OutProj.τ).loc Cert.OutProj.main_arg3)
      ∧ r.2.mem ((c.tc : Thread Cert.OutProj.nD Cert.OutProj.τ).loc Cert.OutProj.main_arg4) = m ((c.tc : Thread Cert.OutProj.nD Cert.OutProj.τ).loc Cert.OutProj.main_arg4)
      ∧ r.2.mem ((c.tc : Thread Cert.OutProj.nD Cert.OutProj.τ).loc Cert.OutProj.main_arg5) = m ((c.tc : Thread Cert.OutProj.nD Cert.OutProj.τ).loc Cert.OutProj.main_arg5))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
      ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3)
      ∧ r.2.mem ((c.tc : Thread Cert.OutProjIdeal.nD Cert.OutProjIdeal.τ).loc Cert.OutProjIdeal.main_arg4) = m ((c.tc : Thread Cert.OutProjIdeal.nD Cert.OutProjIdeal.τ).loc Cert.OutProjIdeal.main_arg4)
      ∧ r.2.mem ((c.tc : Thread Cert.OutProjIdeal.nD Cert.OutProjIdeal.τ).loc Cert.OutProjIdeal.main_arg5) = m ((c.tc : Thread Cert.OutProjIdeal.nD Cert.OutProjIdeal.τ).loc Cert.OutProjIdeal.main_arg5))
      ∧ r.2.sem = fun _ => 0)

def quiescent_OutProjRefIdeal [hOutProjRefIdeal : Cert.OutProjRefIdeal.Facts] : Prop :=
  ∀ (m : (ℓ : Loc Cert.OutProjRefIdeal.nD Cert.OutProjRefIdeal.τ Cert.OutProjRefIdeal.sig) → Buf (Elt Ideal) ℓ) (g : Dev Cert.OutProjRefIdeal.nD → PrngReg), Pre_OutProjRefIdeal m →
    θ_run (Cert.OutProjRefIdeal.defs (F := Ideal)) (onTc (τ := Cert.OutProjRefIdeal.τ) (Cert.OutProjRefIdeal.main (F := Ideal))) ⟨m, fun _ => 0, g⟩ (fun r => (∀ c : Dev Cert.OutProjRefIdeal.nD,
      r.2.mem ((c.tc : Thread Cert.OutProjRefIdeal.nD Cert.OutProjRefIdeal.τ).loc Cert.OutProjRefIdeal.main_arg0) = m ((c.tc : Thread Cert.OutProjRefIdeal.nD Cert.OutProjRefIdeal.τ).loc Cert.OutProjRefIdeal.main_arg0)
      ∧ r.2.mem ((c.tc : Thread Cert.OutProjRefIdeal.nD Cert.OutProjRefIdeal.τ).loc Cert.OutProjRefIdeal.main_arg1) = m ((c.tc : Thread Cert.OutProjRefIdeal.nD Cert.OutProjRefIdeal.τ).loc Cert.OutProjRefIdeal.main_arg1)
      ∧ r.2.mem ((c.tc : Thread Cert.OutProjRefIdeal.nD Cert.OutProjRefIdeal.τ).loc Cert.OutProjRefIdeal.main_arg2) = m ((c.tc : Thread Cert.OutProjRefIdeal.nD Cert.OutProjRefIdeal.τ).loc Cert.OutProjRefIdeal.main_arg2)
      ∧ r.2.mem ((c.tc : Thread Cert.OutProjRefIdeal.nD Cert.OutProjRefIdeal.τ).loc Cert.OutProjRefIdeal.main_arg3) = m ((c.tc : Thread Cert.OutProjRefIdeal.nD Cert.OutProjRefIdeal.τ).loc Cert.OutProjRefIdeal.main_arg3)
      ∧ r.2.mem ((c.tc : Thread Cert.OutProjRefIdeal.nD Cert.OutProjRefIdeal.τ).loc Cert.OutProjRefIdeal.main_arg4) = m ((c.tc : Thread Cert.OutProjRefIdeal.nD Cert.OutProjRefIdeal.τ).loc Cert.OutProjRefIdeal.main_arg4)
      ∧ r.2.mem ((c.tc : Thread Cert.OutProjRefIdeal.nD Cert.OutProjRefIdeal.τ).loc Cert.OutProjRefIdeal.main_arg5) = m ((c.tc : Thread Cert.OutProjRefIdeal.nD Cert.OutProjRefIdeal.τ).loc Cert.OutProjRefIdeal.main_arg5))
      ∧ r.2.sem = fun _ => 0)

def quiescent_DownLast [hDownLast : Cert.DownLast.Facts] : Prop :=
  ∀ (m : (ℓ : Loc Cert.DownLast.nD Cert.DownLast.τ Cert.DownLast.sig) → Buf (Elt Bits) ℓ) (g : Dev Cert.DownLast.nD → PrngReg), Pre_DownLast m →
    θ_run (Cert.DownLast.defs (F := Bits)) (onTc (τ := Cert.DownLast.τ) (Cert.DownLast.main (F := Bits))) ⟨m, fun _ => 0, g⟩ (fun r => (∀ c : Dev Cert.DownLast.nD,
      r.2.mem ((c.tc : Thread Cert.DownLast.nD Cert.DownLast.τ).loc Cert.DownLast.main_arg0) = m ((c.tc : Thread Cert.DownLast.nD Cert.DownLast.τ).loc Cert.DownLast.main_arg0)
      ∧ r.2.mem ((c.tc : Thread Cert.DownLast.nD Cert.DownLast.τ).loc Cert.DownLast.main_arg1) = m ((c.tc : Thread Cert.DownLast.nD Cert.DownLast.τ).loc Cert.DownLast.main_arg1)
      ∧ r.2.mem ((c.tc : Thread Cert.DownLast.nD Cert.DownLast.τ).loc Cert.DownLast.main_arg2) = m ((c.tc : Thread Cert.DownLast.nD Cert.DownLast.τ).loc Cert.DownLast.main_arg2)
      ∧ r.2.mem ((c.tc : Thread Cert.DownLast.nD Cert.DownLast.τ).loc Cert.DownLast.main_arg3) = m ((c.tc : Thread Cert.DownLast.nD Cert.DownLast.τ).loc Cert.DownLast.main_arg3)
      ∧ r.2.mem ((c.tc : Thread Cert.DownLast.nD Cert.DownLast.τ).loc Cert.DownLast.main_arg4) = m ((c.tc : Thread Cert.DownLast.nD Cert.DownLast.τ).loc Cert.DownLast.main_arg4)
      ∧ r.2.mem ((c.tc : Thread Cert.DownLast.nD Cert.DownLast.τ).loc Cert.DownLast.main_arg5) = m ((c.tc : Thread Cert.DownLast.nD Cert.DownLast.τ).loc Cert.DownLast.main_arg5))
      ∧ r.2.sem = fun _ => 0)

def quiescent_DownLastIdeal [hDownLastIdeal : Cert.DownLastIdeal.Facts] : Prop :=
  ∀ (m : (ℓ : Loc Cert.DownLastIdeal.nD Cert.DownLastIdeal.τ Cert.DownLastIdeal.sig) → Buf (Elt Ideal) ℓ) (g : Dev Cert.DownLastIdeal.nD → PrngReg), Pre_DownLastIdeal m →
    θ_run (Cert.DownLastIdeal.defs (F := Ideal)) (onTc (τ := Cert.DownLastIdeal.τ) (Cert.DownLastIdeal.main (F := Ideal))) ⟨m, fun _ => 0, g⟩ (fun r => (∀ c : Dev Cert.DownLastIdeal.nD,
      r.2.mem ((c.tc : Thread Cert.DownLastIdeal.nD Cert.DownLastIdeal.τ).loc Cert.DownLastIdeal.main_arg0) = m ((c.tc : Thread Cert.DownLastIdeal.nD Cert.DownLastIdeal.τ).loc Cert.DownLastIdeal.main_arg0)
      ∧ r.2.mem ((c.tc : Thread Cert.DownLastIdeal.nD Cert.DownLastIdeal.τ).loc Cert.DownLastIdeal.main_arg1) = m ((c.tc : Thread Cert.DownLastIdeal.nD Cert.DownLastIdeal.τ).loc Cert.DownLastIdeal.main_arg1)
      ∧ r.2.mem ((c.tc : Thread Cert.DownLastIdeal.nD Cert.DownLastIdeal.τ).loc Cert.DownLastIdeal.main_arg2) = m ((c.tc : Thread Cert.DownLastIdeal.nD Cert.DownLastIdeal.τ).loc Cert.DownLastIdeal.main_arg2)
      ∧ r.2.mem ((c.tc : Thread Cert.DownLastIdeal.nD Cert.DownLastIdeal.τ).loc Cert.DownLastIdeal.main_arg3) = m ((c.tc : Thread Cert.DownLastIdeal.nD Cert.DownLastIdeal.τ).loc Cert.DownLastIdeal.main_arg3)
      ∧ r.2.mem ((c.tc : Thread Cert.DownLastIdeal.nD Cert.DownLastIdeal.τ).loc Cert.DownLastIdeal.main_arg4) = m ((c.tc : Thread Cert.DownLastIdeal.nD Cert.DownLastIdeal.τ).loc Cert.DownLastIdeal.main_arg4)
      ∧ r.2.mem ((c.tc : Thread Cert.DownLastIdeal.nD Cert.DownLastIdeal.τ).loc Cert.DownLastIdeal.main_arg5) = m ((c.tc : Thread Cert.DownLastIdeal.nD Cert.DownLastIdeal.τ).loc Cert.DownLastIdeal.main_arg5))
      ∧ r.2.sem = fun _ => 0)

def quiescent_DownLastRefIdeal [hDownLastRefIdeal : Cert.DownLastRefIdeal.Facts] : Prop :=
  ∀ (m : (ℓ : Loc Cert.DownLastRefIdeal.nD Cert.DownLastRefIdeal.τ Cert.DownLastRefIdeal.sig) → Buf (Elt Ideal) ℓ) (g : Dev Cert.DownLastRefIdeal.nD → PrngReg), Pre_DownLastRefIdeal m →
    θ_run (Cert.DownLastRefIdeal.defs (F := Ideal)) (onTc (τ := Cert.DownLastRefIdeal.τ) (Cert.DownLastRefIdeal.main (F := Ideal))) ⟨m, fun _ => 0, g⟩ (fun r => (∀ c : Dev Cert.DownLastRefIdeal.nD,
      r.2.mem ((c.tc : Thread Cert.DownLastRefIdeal.nD Cert.DownLastRefIdeal.τ).loc Cert.DownLastRefIdeal.main_arg0) = m ((c.tc : Thread Cert.DownLastRefIdeal.nD Cert.DownLastRefIdeal.τ).loc Cert.DownLastRefIdeal.main_arg0)
      ∧ r.2.mem ((c.tc : Thread Cert.DownLastRefIdeal.nD Cert.DownLastRefIdeal.τ).loc Cert.DownLastRefIdeal.main_arg1) = m ((c.tc : Thread Cert.DownLastRefIdeal.nD Cert.DownLastRefIdeal.τ).loc Cert.DownLastRefIdeal.main_arg1)
      ∧ r.2.mem ((c.tc : Thread Cert.DownLastRefIdeal.nD Cert.DownLastRefIdeal.τ).loc Cert.DownLastRefIdeal.main_arg2) = m ((c.tc : Thread Cert.DownLastRefIdeal.nD Cert.DownLastRefIdeal.τ).loc Cert.DownLastRefIdeal.main_arg2)
      ∧ r.2.mem ((c.tc : Thread Cert.DownLastRefIdeal.nD Cert.DownLastRefIdeal.τ).loc Cert.DownLastRefIdeal.main_arg3) = m ((c.tc : Thread Cert.DownLastRefIdeal.nD Cert.DownLastRefIdeal.τ).loc Cert.DownLastRefIdeal.main_arg3)
      ∧ r.2.mem ((c.tc : Thread Cert.DownLastRefIdeal.nD Cert.DownLastRefIdeal.τ).loc Cert.DownLastRefIdeal.main_arg4) = m ((c.tc : Thread Cert.DownLastRefIdeal.nD Cert.DownLastRefIdeal.τ).loc Cert.DownLastRefIdeal.main_arg4)
      ∧ r.2.mem ((c.tc : Thread Cert.DownLastRefIdeal.nD Cert.DownLastRefIdeal.τ).loc Cert.DownLastRefIdeal.main_arg5) = m ((c.tc : Thread Cert.DownLastRefIdeal.nD Cert.DownLastRefIdeal.τ).loc Cert.DownLastRefIdeal.main_arg5))
      ∧ r.2.sem = fun _ => 0)

def quiescent_Fc [hFc : Cert.Fc.Facts] : Prop :=
  ∀ (m : (ℓ : Loc Cert.Fc.nD Cert.Fc.τ Cert.Fc.sig) → Buf (Elt Bits) ℓ) (g : Dev Cert.Fc.nD → PrngReg), Pre_Fc m →
    θ_run (Cert.Fc.defs (F := Bits)) (onTc (τ := Cert.Fc.τ) (Cert.Fc.main (F := Bits))) ⟨m, fun _ => 0, g⟩ (fun r => (∀ c : Dev Cert.Fc.nD,
      r.2.mem ((c.tc : Thread Cert.Fc.nD Cert.Fc.τ).loc Cert.Fc.main_arg0) = m ((c.tc : Thread Cert.Fc.nD Cert.Fc.τ).loc Cert.Fc.main_arg0)
      ∧ r.2.mem ((c.tc : Thread Cert.Fc.nD Cert.Fc.τ).loc Cert.Fc.main_arg1) = m ((c.tc : Thread Cert.Fc.nD Cert.Fc.τ).loc Cert.Fc.main_arg1)
      ∧ r.2.mem ((c.tc : Thread Cert.Fc.nD Cert.Fc.τ).loc Cert.Fc.main_arg2) = m ((c.tc : Thread Cert.Fc.nD Cert.Fc.τ).loc Cert.Fc.main_arg2)
      ∧ r.2.mem ((c.tc : Thread Cert.Fc.nD Cert.Fc.τ).loc Cert.Fc.main_arg3) = m ((c.tc : Thread Cert.Fc.nD Cert.Fc.τ).loc Cert.Fc.main_arg3)
      ∧ r.2.mem ((c.tc : Thread Cert.Fc.nD Cert.Fc.τ).loc Cert.Fc.main_arg4) = m ((c.tc : Thread Cert.Fc.nD Cert.Fc.τ).loc Cert.Fc.main_arg4)
      ∧ r.2.mem ((c.tc : Thread Cert.Fc.nD Cert.Fc.τ).loc Cert.Fc.main_arg5) = m ((c.tc : Thread Cert.Fc.nD Cert.Fc.τ).loc Cert.Fc.main_arg5)
      ∧ r.2.mem ((c.tc : Thread Cert.Fc.nD Cert.Fc.τ).loc Cert.Fc.main_arg6) = m ((c.tc : Thread Cert.Fc.nD Cert.Fc.τ).loc Cert.Fc.main_arg6)
      ∧ r.2.mem ((c.tc : Thread Cert.Fc.nD Cert.Fc.τ).loc Cert.Fc.main_arg7) = m ((c.tc : Thread Cert.Fc.nD Cert.Fc.τ).loc Cert.Fc.main_arg7))
      ∧ r.2.sem = fun _ => 0)

def quiescent_FcIdeal [hFcIdeal : Cert.FcIdeal.Facts] : Prop :=
  ∀ (m : (ℓ : Loc Cert.FcIdeal.nD Cert.FcIdeal.τ Cert.FcIdeal.sig) → Buf (Elt Ideal) ℓ) (g : Dev Cert.FcIdeal.nD → PrngReg), Pre_FcIdeal m →
    θ_run (Cert.FcIdeal.defs (F := Ideal)) (onTc (τ := Cert.FcIdeal.τ) (Cert.FcIdeal.main (F := Ideal))) ⟨m, fun _ => 0, g⟩ (fun r => (∀ c : Dev Cert.FcIdeal.nD,
      r.2.mem ((c.tc : Thread Cert.FcIdeal.nD Cert.FcIdeal.τ).loc Cert.FcIdeal.main_arg0) = m ((c.tc : Thread Cert.FcIdeal.nD Cert.FcIdeal.τ).loc Cert.FcIdeal.main_arg0)
      ∧ r.2.mem ((c.tc : Thread Cert.FcIdeal.nD Cert.FcIdeal.τ).loc Cert.FcIdeal.main_arg1) = m ((c.tc : Thread Cert.FcIdeal.nD Cert.FcIdeal.τ).loc Cert.FcIdeal.main_arg1)
      ∧ r.2.mem ((c.tc : Thread Cert.FcIdeal.nD Cert.FcIdeal.τ).loc Cert.FcIdeal.main_arg2) = m ((c.tc : Thread Cert.FcIdeal.nD Cert.FcIdeal.τ).loc Cert.FcIdeal.main_arg2)
      ∧ r.2.mem ((c.tc : Thread Cert.FcIdeal.nD Cert.FcIdeal.τ).loc Cert.FcIdeal.main_arg3) = m ((c.tc : Thread Cert.FcIdeal.nD Cert.FcIdeal.τ).loc Cert.FcIdeal.main_arg3)
      ∧ r.2.mem ((c.tc : Thread Cert.FcIdeal.nD Cert.FcIdeal.τ).loc Cert.FcIdeal.main_arg4) = m ((c.tc : Thread Cert.FcIdeal.nD Cert.FcIdeal.τ).loc Cert.FcIdeal.main_arg4)
      ∧ r.2.mem ((c.tc : Thread Cert.FcIdeal.nD Cert.FcIdeal.τ).loc Cert.FcIdeal.main_arg5) = m ((c.tc : Thread Cert.FcIdeal.nD Cert.FcIdeal.τ).loc Cert.FcIdeal.main_arg5)
      ∧ r.2.mem ((c.tc : Thread Cert.FcIdeal.nD Cert.FcIdeal.τ).loc Cert.FcIdeal.main_arg6) = m ((c.tc : Thread Cert.FcIdeal.nD Cert.FcIdeal.τ).loc Cert.FcIdeal.main_arg6)
      ∧ r.2.mem ((c.tc : Thread Cert.FcIdeal.nD Cert.FcIdeal.τ).loc Cert.FcIdeal.main_arg7) = m ((c.tc : Thread Cert.FcIdeal.nD Cert.FcIdeal.τ).loc Cert.FcIdeal.main_arg7))
      ∧ r.2.sem = fun _ => 0)

def quiescent_FcRefIdeal [hFcRefIdeal : Cert.FcRefIdeal.Facts] : Prop :=
  ∀ (m : (ℓ : Loc Cert.FcRefIdeal.nD Cert.FcRefIdeal.τ Cert.FcRefIdeal.sig) → Buf (Elt Ideal) ℓ) (g : Dev Cert.FcRefIdeal.nD → PrngReg), Pre_FcRefIdeal m →
    θ_run (Cert.FcRefIdeal.defs (F := Ideal)) (onTc (τ := Cert.FcRefIdeal.τ) (Cert.FcRefIdeal.main (F := Ideal))) ⟨m, fun _ => 0, g⟩ (fun r => (∀ c : Dev Cert.FcRefIdeal.nD,
      r.2.mem ((c.tc : Thread Cert.FcRefIdeal.nD Cert.FcRefIdeal.τ).loc Cert.FcRefIdeal.main_arg0) = m ((c.tc : Thread Cert.FcRefIdeal.nD Cert.FcRefIdeal.τ).loc Cert.FcRefIdeal.main_arg0)
      ∧ r.2.mem ((c.tc : Thread Cert.FcRefIdeal.nD Cert.FcRefIdeal.τ).loc Cert.FcRefIdeal.main_arg1) = m ((c.tc : Thread Cert.FcRefIdeal.nD Cert.FcRefIdeal.τ).loc Cert.FcRefIdeal.main_arg1)
      ∧ r.2.mem ((c.tc : Thread Cert.FcRefIdeal.nD Cert.FcRefIdeal.τ).loc Cert.FcRefIdeal.main_arg2) = m ((c.tc : Thread Cert.FcRefIdeal.nD Cert.FcRefIdeal.τ).loc Cert.FcRefIdeal.main_arg2)
      ∧ r.2.mem ((c.tc : Thread Cert.FcRefIdeal.nD Cert.FcRefIdeal.τ).loc Cert.FcRefIdeal.main_arg3) = m ((c.tc : Thread Cert.FcRefIdeal.nD Cert.FcRefIdeal.τ).loc Cert.FcRefIdeal.main_arg3)
      ∧ r.2.mem ((c.tc : Thread Cert.FcRefIdeal.nD Cert.FcRefIdeal.τ).loc Cert.FcRefIdeal.main_arg4) = m ((c.tc : Thread Cert.FcRefIdeal.nD Cert.FcRefIdeal.τ).loc Cert.FcRefIdeal.main_arg4)
      ∧ r.2.mem ((c.tc : Thread Cert.FcRefIdeal.nD Cert.FcRefIdeal.τ).loc Cert.FcRefIdeal.main_arg5) = m ((c.tc : Thread Cert.FcRefIdeal.nD Cert.FcRefIdeal.τ).loc Cert.FcRefIdeal.main_arg5)
      ∧ r.2.mem ((c.tc : Thread Cert.FcRefIdeal.nD Cert.FcRefIdeal.τ).loc Cert.FcRefIdeal.main_arg6) = m ((c.tc : Thread Cert.FcRefIdeal.nD Cert.FcRefIdeal.τ).loc Cert.FcRefIdeal.main_arg6)
      ∧ r.2.mem ((c.tc : Thread Cert.FcRefIdeal.nD Cert.FcRefIdeal.τ).loc Cert.FcRefIdeal.main_arg7) = m ((c.tc : Thread Cert.FcRefIdeal.nD Cert.FcRefIdeal.τ).loc Cert.FcRefIdeal.main_arg7))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2)
      ∧ r.2.mem ((c.tc : Thread Cert.Down.nD Cert.Down.τ).loc Cert.Down.main_arg3) = m ((c.tc : Thread Cert.Down.nD Cert.Down.τ).loc Cert.Down.main_arg3)
      ∧ r.2.mem ((c.tc : Thread Cert.Down.nD Cert.Down.τ).loc Cert.Down.main_arg4) = m ((c.tc : Thread Cert.Down.nD Cert.Down.τ).loc Cert.Down.main_arg4)
      ∧ r.2.mem ((c.tc : Thread Cert.Down.nD Cert.Down.τ).loc Cert.Down.main_arg5) = m ((c.tc : Thread Cert.Down.nD Cert.Down.τ).loc Cert.Down.main_arg5)
      ∧ r.2.mem ((c.tc : Thread Cert.Down.nD Cert.Down.τ).loc Cert.Down.main_arg6) = m ((c.tc : Thread Cert.Down.nD Cert.Down.τ).loc Cert.Down.main_arg6)
      ∧ r.2.mem ((c.tc : Thread Cert.Down.nD Cert.Down.τ).loc Cert.Down.main_arg7) = m ((c.tc : Thread Cert.Down.nD Cert.Down.τ).loc Cert.Down.main_arg7)
      ∧ r.2.mem ((c.tc : Thread Cert.Down.nD Cert.Down.τ).loc Cert.Down.main_arg8) = m ((c.tc : Thread Cert.Down.nD Cert.Down.τ).loc Cert.Down.main_arg8)
      ∧ r.2.mem ((c.tc : Thread Cert.Down.nD Cert.Down.τ).loc Cert.Down.main_arg9) = m ((c.tc : Thread Cert.Down.nD Cert.Down.τ).loc Cert.Down.main_arg9))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
      ∧ r.2.mem ((c.tc : Thread Cert.DownIdeal.nD Cert.DownIdeal.τ).loc Cert.DownIdeal.main_arg3) = m ((c.tc : Thread Cert.DownIdeal.nD Cert.DownIdeal.τ).loc Cert.DownIdeal.main_arg3)
      ∧ r.2.mem ((c.tc : Thread Cert.DownIdeal.nD Cert.DownIdeal.τ).loc Cert.DownIdeal.main_arg4) = m ((c.tc : Thread Cert.DownIdeal.nD Cert.DownIdeal.τ).loc Cert.DownIdeal.main_arg4)
      ∧ r.2.mem ((c.tc : Thread Cert.DownIdeal.nD Cert.DownIdeal.τ).loc Cert.DownIdeal.main_arg5) = m ((c.tc : Thread Cert.DownIdeal.nD Cert.DownIdeal.τ).loc Cert.DownIdeal.main_arg5)
      ∧ r.2.mem ((c.tc : Thread Cert.DownIdeal.nD Cert.DownIdeal.τ).loc Cert.DownIdeal.main_arg6) = m ((c.tc : Thread Cert.DownIdeal.nD Cert.DownIdeal.τ).loc Cert.DownIdeal.main_arg6)
      ∧ r.2.mem ((c.tc : Thread Cert.DownIdeal.nD Cert.DownIdeal.τ).loc Cert.DownIdeal.main_arg7) = m ((c.tc : Thread Cert.DownIdeal.nD Cert.DownIdeal.τ).loc Cert.DownIdeal.main_arg7)
      ∧ r.2.mem ((c.tc : Thread Cert.DownIdeal.nD Cert.DownIdeal.τ).loc Cert.DownIdeal.main_arg8) = m ((c.tc : Thread Cert.DownIdeal.nD Cert.DownIdeal.τ).loc Cert.DownIdeal.main_arg8)
      ∧ r.2.mem ((c.tc : Thread Cert.DownIdeal.nD Cert.DownIdeal.τ).loc Cert.DownIdeal.main_arg9) = m ((c.tc : Thread Cert.DownIdeal.nD Cert.DownIdeal.τ).loc Cert.DownIdeal.main_arg9))
      ∧ r.2.sem = fun _ => 0)

def quiescent_DownRefIdeal [hDownRefIdeal : Cert.DownRefIdeal.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1)
      ∧ r.2.mem ((c.tc : Thread Cert.DownRefIdeal.nD Cert.DownRefIdeal.τ).loc Cert.DownRefIdeal.main_arg2) = m ((c.tc : Thread Cert.DownRefIdeal.nD Cert.DownRefIdeal.τ).loc Cert.DownRefIdeal.main_arg2)
      ∧ r.2.mem ((c.tc : Thread Cert.DownRefIdeal.nD Cert.DownRefIdeal.τ).loc Cert.DownRefIdeal.main_arg3) = m ((c.tc : Thread Cert.DownRefIdeal.nD Cert.DownRefIdeal.τ).loc Cert.DownRefIdeal.main_arg3)
      ∧ r.2.mem ((c.tc : Thread Cert.DownRefIdeal.nD Cert.DownRefIdeal.τ).loc Cert.DownRefIdeal.main_arg4) = m ((c.tc : Thread Cert.DownRefIdeal.nD Cert.DownRefIdeal.τ).loc Cert.DownRefIdeal.main_arg4)
      ∧ r.2.mem ((c.tc : Thread Cert.DownRefIdeal.nD Cert.DownRefIdeal.τ).loc Cert.DownRefIdeal.main_arg5) = m ((c.tc : Thread Cert.DownRefIdeal.nD Cert.DownRefIdeal.τ).loc Cert.DownRefIdeal.main_arg5)
      ∧ r.2.mem ((c.tc : Thread Cert.DownRefIdeal.nD Cert.DownRefIdeal.τ).loc Cert.DownRefIdeal.main_arg6) = m ((c.tc : Thread Cert.DownRefIdeal.nD Cert.DownRefIdeal.τ).loc Cert.DownRefIdeal.main_arg6)
      ∧ r.2.mem ((c.tc : Thread Cert.DownRefIdeal.nD Cert.DownRefIdeal.τ).loc Cert.DownRefIdeal.main_arg7) = m ((c.tc : Thread Cert.DownRefIdeal.nD Cert.DownRefIdeal.τ).loc Cert.DownRefIdeal.main_arg7)
      ∧ r.2.mem ((c.tc : Thread Cert.DownRefIdeal.nD Cert.DownRefIdeal.τ).loc Cert.DownRefIdeal.main_arg8) = m ((c.tc : Thread Cert.DownRefIdeal.nD Cert.DownRefIdeal.τ).loc Cert.DownRefIdeal.main_arg8)
      ∧ r.2.mem ((c.tc : Thread Cert.DownRefIdeal.nD Cert.DownRefIdeal.τ).loc Cert.DownRefIdeal.main_arg9) = m ((c.tc : Thread Cert.DownRefIdeal.nD Cert.DownRefIdeal.τ).loc Cert.DownRefIdeal.main_arg9))
      ∧ r.2.sem = fun _ => 0)

def preserves_GateUp_GateUpIdeal : Prop :=
  True

def algebraic_GateUpIdeal_GateUpRefIdeal [hGateUpIdeal : Cert.GateUpIdeal.Facts] [hGateUpRefIdeal : Cert.GateUpRefIdeal.Facts] : Prop :=
  ∀ (m : (ℓ : Loc Cert.GateUpIdeal.nD Cert.GateUpIdeal.τ Cert.GateUpIdeal.sig) → Buf (Elt Ideal) ℓ) (g : Dev Cert.GateUpIdeal.nD → PrngReg)
    (m' : (ℓ : Loc Cert.GateUpRefIdeal.nD Cert.GateUpRefIdeal.τ Cert.GateUpRefIdeal.sig) → Buf (Elt Ideal) ℓ) (g' : Dev Cert.GateUpRefIdeal.nD → PrngReg), Pre_GateUpIdeal m →
    (∀ c : Dev Cert.GateUpIdeal.nD,
      m' ((c.tc : Thread Cert.GateUpRefIdeal.nD Cert.GateUpRefIdeal.τ).loc Cert.GateUpRefIdeal.main_arg0) = m ((c.tc : Thread Cert.GateUpIdeal.nD Cert.GateUpIdeal.τ).loc Cert.GateUpIdeal.main_arg0)
      ∧ m' ((c.tc : Thread Cert.GateUpRefIdeal.nD Cert.GateUpRefIdeal.τ).loc Cert.GateUpRefIdeal.main_arg1) = m ((c.tc : Thread Cert.GateUpIdeal.nD Cert.GateUpIdeal.τ).loc Cert.GateUpIdeal.main_arg1)
      ∧ m' ((c.tc : Thread Cert.GateUpRefIdeal.nD Cert.GateUpRefIdeal.τ).loc Cert.GateUpRefIdeal.main_arg2) = m ((c.tc : Thread Cert.GateUpIdeal.nD Cert.GateUpIdeal.τ).loc Cert.GateUpIdeal.main_arg2)
      ∧ m' ((c.tc : Thread Cert.GateUpRefIdeal.nD Cert.GateUpRefIdeal.τ).loc Cert.GateUpRefIdeal.main_arg3) = m ((c.tc : Thread Cert.GateUpIdeal.nD Cert.GateUpIdeal.τ).loc Cert.GateUpIdeal.main_arg3)
      ∧ m' ((c.tc : Thread Cert.GateUpRefIdeal.nD Cert.GateUpRefIdeal.τ).loc Cert.GateUpRefIdeal.main_arg4) = m ((c.tc : Thread Cert.GateUpIdeal.nD Cert.GateUpIdeal.τ).loc Cert.GateUpIdeal.main_arg4)
      ∧ m' ((c.tc : Thread Cert.GateUpRefIdeal.nD Cert.GateUpRefIdeal.τ).loc Cert.GateUpRefIdeal.main_arg5) = m ((c.tc : Thread Cert.GateUpIdeal.nD Cert.GateUpIdeal.τ).loc Cert.GateUpIdeal.main_arg5)) →
    ∃ (v0 : (c : Dev Cert.GateUpIdeal.nD) → Buf (Elt Ideal) ((c.tc : Thread Cert.GateUpIdeal.nD Cert.GateUpIdeal.τ).loc Cert.GateUpIdeal.main_v0_0)) (v1 : (c : Dev Cert.GateUpIdeal.nD) → Buf (Elt Ideal) ((c.tc : Thread Cert.GateUpIdeal.nD Cert.GateUpIdeal.τ).loc Cert.GateUpIdeal.main_v0_1)),
      θ_run (Cert.GateUpIdeal.defs (F := Ideal)) (onTc (τ := Cert.GateUpIdeal.τ) (Cert.GateUpIdeal.main (F := Ideal))) ⟨m, fun _ => 0, g⟩ (fun r => ∀ c : Dev Cert.GateUpIdeal.nD,
          r.2.mem ((c.tc : Thread Cert.GateUpIdeal.nD Cert.GateUpIdeal.τ).loc Cert.GateUpIdeal.main_v0_0) = v0 c
          ∧ r.2.mem ((c.tc : Thread Cert.GateUpIdeal.nD Cert.GateUpIdeal.τ).loc Cert.GateUpIdeal.main_v0_1) = v1 c
          ∧ r.2.mem ((c.tc : Thread Cert.GateUpIdeal.nD Cert.GateUpIdeal.τ).loc Cert.GateUpIdeal.main_arg0) = m ((c.tc : Thread Cert.GateUpIdeal.nD Cert.GateUpIdeal.τ).loc Cert.GateUpIdeal.main_arg0)
          ∧ r.2.mem ((c.tc : Thread Cert.GateUpIdeal.nD Cert.GateUpIdeal.τ).loc Cert.GateUpIdeal.main_arg1) = m ((c.tc : Thread Cert.GateUpIdeal.nD Cert.GateUpIdeal.τ).loc Cert.GateUpIdeal.main_arg1)
          ∧ r.2.mem ((c.tc : Thread Cert.GateUpIdeal.nD Cert.GateUpIdeal.τ).loc Cert.GateUpIdeal.main_arg2) = m ((c.tc : Thread Cert.GateUpIdeal.nD Cert.GateUpIdeal.τ).loc Cert.GateUpIdeal.main_arg2)
          ∧ r.2.mem ((c.tc : Thread Cert.GateUpIdeal.nD Cert.GateUpIdeal.τ).loc Cert.GateUpIdeal.main_arg3) = m ((c.tc : Thread Cert.GateUpIdeal.nD Cert.GateUpIdeal.τ).loc Cert.GateUpIdeal.main_arg3)
          ∧ r.2.mem ((c.tc : Thread Cert.GateUpIdeal.nD Cert.GateUpIdeal.τ).loc Cert.GateUpIdeal.main_arg4) = m ((c.tc : Thread Cert.GateUpIdeal.nD Cert.GateUpIdeal.τ).loc Cert.GateUpIdeal.main_arg4)
          ∧ r.2.mem ((c.tc : Thread Cert.GateUpIdeal.nD Cert.GateUpIdeal.τ).loc Cert.GateUpIdeal.main_arg5) = m ((c.tc : Thread Cert.GateUpIdeal.nD Cert.GateUpIdeal.τ).loc Cert.GateUpIdeal.main_arg5))
      ∧ θ_run (Cert.GateUpRefIdeal.defs (F := Ideal)) (onTc (τ := Cert.GateUpRefIdeal.τ) (Cert.GateUpRefIdeal.main (F := Ideal))) ⟨m', fun _ => 0, g'⟩ (fun r => ∀ c : Dev Cert.GateUpRefIdeal.nD,
          r.2.mem ((c.tc : Thread Cert.GateUpRefIdeal.nD Cert.GateUpRefIdeal.τ).loc Cert.GateUpRefIdeal.main_v0_0) = v0 c
          ∧ r.2.mem ((c.tc : Thread Cert.GateUpRefIdeal.nD Cert.GateUpRefIdeal.τ).loc Cert.GateUpRefIdeal.main_v0_1) = v1 c
          ∧ r.2.mem ((c.tc : Thread Cert.GateUpRefIdeal.nD Cert.GateUpRefIdeal.τ).loc Cert.GateUpRefIdeal.main_arg0) = m' ((c.tc : Thread Cert.GateUpRefIdeal.nD Cert.GateUpRefIdeal.τ).loc Cert.GateUpRefIdeal.main_arg0)
          ∧ r.2.mem ((c.tc : Thread Cert.GateUpRefIdeal.nD Cert.GateUpRefIdeal.τ).loc Cert.GateUpRefIdeal.main_arg1) = m' ((c.tc : Thread Cert.GateUpRefIdeal.nD Cert.GateUpRefIdeal.τ).loc Cert.GateUpRefIdeal.main_arg1)
          ∧ r.2.mem ((c.tc : Thread Cert.GateUpRefIdeal.nD Cert.GateUpRefIdeal.τ).loc Cert.GateUpRefIdeal.main_arg2) = m' ((c.tc : Thread Cert.GateUpRefIdeal.nD Cert.GateUpRefIdeal.τ).loc Cert.GateUpRefIdeal.main_arg2)
          ∧ r.2.mem ((c.tc : Thread Cert.GateUpRefIdeal.nD Cert.GateUpRefIdeal.τ).loc Cert.GateUpRefIdeal.main_arg3) = m' ((c.tc : Thread Cert.GateUpRefIdeal.nD Cert.GateUpRefIdeal.τ).loc Cert.GateUpRefIdeal.main_arg3)
          ∧ r.2.mem ((c.tc : Thread Cert.GateUpRefIdeal.nD Cert.GateUpRefIdeal.τ).loc Cert.GateUpRefIdeal.main_arg4) = m' ((c.tc : Thread Cert.GateUpRefIdeal.nD Cert.GateUpRefIdeal.τ).loc Cert.GateUpRefIdeal.main_arg4)
          ∧ r.2.mem ((c.tc : Thread Cert.GateUpRefIdeal.nD Cert.GateUpRefIdeal.τ).loc Cert.GateUpRefIdeal.main_arg5) = m' ((c.tc : Thread Cert.GateUpRefIdeal.nD Cert.GateUpRefIdeal.τ).loc Cert.GateUpRefIdeal.main_arg5))

def preserves_Qkv_QkvIdeal : Prop :=
  True

def algebraic_QkvIdeal_QkvRefIdeal [hQkvIdeal : Cert.QkvIdeal.Facts] [hQkvRefIdeal : Cert.QkvRefIdeal.Facts] : Prop :=
  ∀ (m : (ℓ : Loc Cert.QkvIdeal.nD Cert.QkvIdeal.τ Cert.QkvIdeal.sig) → Buf (Elt Ideal) ℓ) (g : Dev Cert.QkvIdeal.nD → PrngReg)
    (m' : (ℓ : Loc Cert.QkvRefIdeal.nD Cert.QkvRefIdeal.τ Cert.QkvRefIdeal.sig) → Buf (Elt Ideal) ℓ) (g' : Dev Cert.QkvRefIdeal.nD → PrngReg), Pre_QkvIdeal m →
    (∀ c : Dev Cert.QkvIdeal.nD,
      m' ((c.tc : Thread Cert.QkvRefIdeal.nD Cert.QkvRefIdeal.τ).loc Cert.QkvRefIdeal.main_arg0) = m ((c.tc : Thread Cert.QkvIdeal.nD Cert.QkvIdeal.τ).loc Cert.QkvIdeal.main_arg0)
      ∧ m' ((c.tc : Thread Cert.QkvRefIdeal.nD Cert.QkvRefIdeal.τ).loc Cert.QkvRefIdeal.main_arg1) = m ((c.tc : Thread Cert.QkvIdeal.nD Cert.QkvIdeal.τ).loc Cert.QkvIdeal.main_arg1)
      ∧ m' ((c.tc : Thread Cert.QkvRefIdeal.nD Cert.QkvRefIdeal.τ).loc Cert.QkvRefIdeal.main_arg2) = m ((c.tc : Thread Cert.QkvIdeal.nD Cert.QkvIdeal.τ).loc Cert.QkvIdeal.main_arg2)
      ∧ m' ((c.tc : Thread Cert.QkvRefIdeal.nD Cert.QkvRefIdeal.τ).loc Cert.QkvRefIdeal.main_arg3) = m ((c.tc : Thread Cert.QkvIdeal.nD Cert.QkvIdeal.τ).loc Cert.QkvIdeal.main_arg3)
      ∧ m' ((c.tc : Thread Cert.QkvRefIdeal.nD Cert.QkvRefIdeal.τ).loc Cert.QkvRefIdeal.main_arg4) = m ((c.tc : Thread Cert.QkvIdeal.nD Cert.QkvIdeal.τ).loc Cert.QkvIdeal.main_arg4)
      ∧ m' ((c.tc : Thread Cert.QkvRefIdeal.nD Cert.QkvRefIdeal.τ).loc Cert.QkvRefIdeal.main_arg5) = m ((c.tc : Thread Cert.QkvIdeal.nD Cert.QkvIdeal.τ).loc Cert.QkvIdeal.main_arg5)) →
    ∃ (v0 : (c : Dev Cert.QkvIdeal.nD) → Buf (Elt Ideal) ((c.tc : Thread Cert.QkvIdeal.nD Cert.QkvIdeal.τ).loc Cert.QkvIdeal.main_v0)),
      θ_run (Cert.QkvIdeal.defs (F := Ideal)) (onTc (τ := Cert.QkvIdeal.τ) (Cert.QkvIdeal.main (F := Ideal))) ⟨m, fun _ => 0, g⟩ (fun r => ∀ c : Dev Cert.QkvIdeal.nD,
          r.2.mem ((c.tc : Thread Cert.QkvIdeal.nD Cert.QkvIdeal.τ).loc Cert.QkvIdeal.main_v0) = v0 c
          ∧ r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
          ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
          ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2)
          ∧ r.2.mem ((c.tc : Thread Cert.QkvIdeal.nD Cert.QkvIdeal.τ).loc Cert.QkvIdeal.main_arg3) = m ((c.tc : Thread Cert.QkvIdeal.nD Cert.QkvIdeal.τ).loc Cert.QkvIdeal.main_arg3)
          ∧ r.2.mem ((c.tc : Thread Cert.QkvIdeal.nD Cert.QkvIdeal.τ).loc Cert.QkvIdeal.main_arg4) = m ((c.tc : Thread Cert.QkvIdeal.nD Cert.QkvIdeal.τ).loc Cert.QkvIdeal.main_arg4)
          ∧ r.2.mem ((c.tc : Thread Cert.QkvIdeal.nD Cert.QkvIdeal.τ).loc Cert.QkvIdeal.main_arg5) = m ((c.tc : Thread Cert.QkvIdeal.nD Cert.QkvIdeal.τ).loc Cert.QkvIdeal.main_arg5))
      ∧ θ_run (Cert.QkvRefIdeal.defs (F := Ideal)) (onTc (τ := Cert.QkvRefIdeal.τ) (Cert.QkvRefIdeal.main (F := Ideal))) ⟨m', fun _ => 0, g'⟩ (fun r => ∀ c : Dev Cert.QkvRefIdeal.nD,
          r.2.mem ((c.tc : Thread Cert.QkvRefIdeal.nD Cert.QkvRefIdeal.τ).loc Cert.QkvRefIdeal.main_v0) = v0 c
          ∧ r.2.mem ((c.tc : Thread Cert.QkvRefIdeal.nD Cert.QkvRefIdeal.τ).loc Cert.QkvRefIdeal.main_arg0) = m' ((c.tc : Thread Cert.QkvRefIdeal.nD Cert.QkvRefIdeal.τ).loc Cert.QkvRefIdeal.main_arg0)
          ∧ r.2.mem ((c.tc : Thread Cert.QkvRefIdeal.nD Cert.QkvRefIdeal.τ).loc Cert.QkvRefIdeal.main_arg1) = m' ((c.tc : Thread Cert.QkvRefIdeal.nD Cert.QkvRefIdeal.τ).loc Cert.QkvRefIdeal.main_arg1)
          ∧ r.2.mem ((c.tc : Thread Cert.QkvRefIdeal.nD Cert.QkvRefIdeal.τ).loc Cert.QkvRefIdeal.main_arg2) = m' ((c.tc : Thread Cert.QkvRefIdeal.nD Cert.QkvRefIdeal.τ).loc Cert.QkvRefIdeal.main_arg2)
          ∧ r.2.mem ((c.tc : Thread Cert.QkvRefIdeal.nD Cert.QkvRefIdeal.τ).loc Cert.QkvRefIdeal.main_arg3) = m' ((c.tc : Thread Cert.QkvRefIdeal.nD Cert.QkvRefIdeal.τ).loc Cert.QkvRefIdeal.main_arg3)
          ∧ r.2.mem ((c.tc : Thread Cert.QkvRefIdeal.nD Cert.QkvRefIdeal.τ).loc Cert.QkvRefIdeal.main_arg4) = m' ((c.tc : Thread Cert.QkvRefIdeal.nD Cert.QkvRefIdeal.τ).loc Cert.QkvRefIdeal.main_arg4)
          ∧ r.2.mem ((c.tc : Thread Cert.QkvRefIdeal.nD Cert.QkvRefIdeal.τ).loc Cert.QkvRefIdeal.main_arg5) = m' ((c.tc : Thread Cert.QkvRefIdeal.nD Cert.QkvRefIdeal.τ).loc Cert.QkvRefIdeal.main_arg5))

def preserves_OutProj_OutProjIdeal : Prop :=
  True

def algebraic_OutProjIdeal_OutProjRefIdeal [hOutProjIdeal : Cert.OutProjIdeal.Facts] [hOutProjRefIdeal : Cert.OutProjRefIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutProjRefIdeal.nD Cert.OutProjRefIdeal.τ Cert.OutProjRefIdeal.sig) → Buf (Elt Ideal) ℓ) (g' : Dev Cert.OutProjRefIdeal.nD → PrngReg), Pre_OutProjIdeal m →
    (∀ c : Dev Cert.OutProjIdeal.nD,
      m' ((c.tc : Thread Cert.OutProjRefIdeal.nD Cert.OutProjRefIdeal.τ).loc Cert.OutProjRefIdeal.main_arg0) = m ((c.tc : Thread Cert.OutProjIdeal.nD Cert.OutProjIdeal.τ).loc Cert.OutProjIdeal.main_arg0)
      ∧ m' ((c.tc : Thread Cert.OutProjRefIdeal.nD Cert.OutProjRefIdeal.τ).loc Cert.OutProjRefIdeal.main_arg1) = m ((c.tc : Thread Cert.OutProjIdeal.nD Cert.OutProjIdeal.τ).loc Cert.OutProjIdeal.main_arg1)
      ∧ m' ((c.tc : Thread Cert.OutProjRefIdeal.nD Cert.OutProjRefIdeal.τ).loc Cert.OutProjRefIdeal.main_arg2) = m ((c.tc : Thread Cert.OutProjIdeal.nD Cert.OutProjIdeal.τ).loc Cert.OutProjIdeal.main_arg2)
      ∧ m' ((c.tc : Thread Cert.OutProjRefIdeal.nD Cert.OutProjRefIdeal.τ).loc Cert.OutProjRefIdeal.main_arg3) = m ((c.tc : Thread Cert.OutProjIdeal.nD Cert.OutProjIdeal.τ).loc Cert.OutProjIdeal.main_arg3)
      ∧ m' ((c.tc : Thread Cert.OutProjRefIdeal.nD Cert.OutProjRefIdeal.τ).loc Cert.OutProjRefIdeal.main_arg4) = m ((c.tc : Thread Cert.OutProjIdeal.nD Cert.OutProjIdeal.τ).loc Cert.OutProjIdeal.main_arg4)
      ∧ m' ((c.tc : Thread Cert.OutProjRefIdeal.nD Cert.OutProjRefIdeal.τ).loc Cert.OutProjRefIdeal.main_arg5) = m ((c.tc : Thread Cert.OutProjIdeal.nD Cert.OutProjIdeal.τ).loc Cert.OutProjIdeal.main_arg5)) →
    ∃ (v0 : (c : Dev Cert.OutProjIdeal.nD) → Buf (Elt Ideal) ((c.tc : Thread Cert.OutProjIdeal.nD Cert.OutProjIdeal.τ).loc Cert.OutProjIdeal.main_v0_0)) (v1 : (c : Dev Cert.OutProjIdeal.nD) → Buf (Elt Ideal) ((c.tc : Thread Cert.OutProjIdeal.nD Cert.OutProjIdeal.τ).loc Cert.OutProjIdeal.main_v0_1)) (v2 : (c : Dev Cert.OutProjIdeal.nD) → Buf (Elt Ideal) ((c.tc : Thread Cert.OutProjIdeal.nD Cert.OutProjIdeal.τ).loc Cert.OutProjIdeal.main_v0_2)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v0_0) = v0 c
          ∧ r.2.mem ((c.tc : Thread Cert.OutProjIdeal.nD Cert.OutProjIdeal.τ).loc Cert.OutProjIdeal.main_v0_1) = v1 c
          ∧ r.2.mem ((c.tc : Thread Cert.OutProjIdeal.nD Cert.OutProjIdeal.τ).loc Cert.OutProjIdeal.main_v0_2) = v2 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
          ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
          ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3)
          ∧ r.2.mem ((c.tc : Thread Cert.OutProjIdeal.nD Cert.OutProjIdeal.τ).loc Cert.OutProjIdeal.main_arg4) = m ((c.tc : Thread Cert.OutProjIdeal.nD Cert.OutProjIdeal.τ).loc Cert.OutProjIdeal.main_arg4)
          ∧ r.2.mem ((c.tc : Thread Cert.OutProjIdeal.nD Cert.OutProjIdeal.τ).loc Cert.OutProjIdeal.main_arg5) = m ((c.tc : Thread Cert.OutProjIdeal.nD Cert.OutProjIdeal.τ).loc Cert.OutProjIdeal.main_arg5))
      ∧ θ_run (Cert.OutProjRefIdeal.defs (F := Ideal)) (onTc (τ := Cert.OutProjRefIdeal.τ) (Cert.OutProjRefIdeal.main (F := Ideal))) ⟨m', fun _ => 0, g'⟩ (fun r => ∀ c : Dev Cert.OutProjRefIdeal.nD,
          r.2.mem ((c.tc : Thread Cert.OutProjRefIdeal.nD Cert.OutProjRefIdeal.τ).loc Cert.OutProjRefIdeal.main_v0_0) = v0 c
          ∧ r.2.mem ((c.tc : Thread Cert.OutProjRefIdeal.nD Cert.OutProjRefIdeal.τ).loc Cert.OutProjRefIdeal.main_v0_1) = v1 c
          ∧ r.2.mem ((c.tc : Thread Cert.OutProjRefIdeal.nD Cert.OutProjRefIdeal.τ).loc Cert.OutProjRefIdeal.main_v0_2) = v2 c
          ∧ r.2.mem ((c.tc : Thread Cert.OutProjRefIdeal.nD Cert.OutProjRefIdeal.τ).loc Cert.OutProjRefIdeal.main_arg0) = m' ((c.tc : Thread Cert.OutProjRefIdeal.nD Cert.OutProjRefIdeal.τ).loc Cert.OutProjRefIdeal.main_arg0)
          ∧ r.2.mem ((c.tc : Thread Cert.OutProjRefIdeal.nD Cert.OutProjRefIdeal.τ).loc Cert.OutProjRefIdeal.main_arg1) = m' ((c.tc : Thread Cert.OutProjRefIdeal.nD Cert.OutProjRefIdeal.τ).loc Cert.OutProjRefIdeal.main_arg1)
          ∧ r.2.mem ((c.tc : Thread Cert.OutProjRefIdeal.nD Cert.OutProjRefIdeal.τ).loc Cert.OutProjRefIdeal.main_arg2) = m' ((c.tc : Thread Cert.OutProjRefIdeal.nD Cert.OutProjRefIdeal.τ).loc Cert.OutProjRefIdeal.main_arg2)
          ∧ r.2.mem ((c.tc : Thread Cert.OutProjRefIdeal.nD Cert.OutProjRefIdeal.τ).loc Cert.OutProjRefIdeal.main_arg3) = m' ((c.tc : Thread Cert.OutProjRefIdeal.nD Cert.OutProjRefIdeal.τ).loc Cert.OutProjRefIdeal.main_arg3)
          ∧ r.2.mem ((c.tc : Thread Cert.OutProjRefIdeal.nD Cert.OutProjRefIdeal.τ).loc Cert.OutProjRefIdeal.main_arg4) = m' ((c.tc : Thread Cert.OutProjRefIdeal.nD Cert.OutProjRefIdeal.τ).loc Cert.OutProjRefIdeal.main_arg4)
          ∧ r.2.mem ((c.tc : Thread Cert.OutProjRefIdeal.nD Cert.OutProjRefIdeal.τ).loc Cert.OutProjRefIdeal.main_arg5) = m' ((c.tc : Thread Cert.OutProjRefIdeal.nD Cert.OutProjRefIdeal.τ).loc Cert.OutProjRefIdeal.main_arg5))

def preserves_DownLast_DownLastIdeal : Prop :=
  True

def algebraic_DownLastIdeal_DownLastRefIdeal [hDownLastIdeal : Cert.DownLastIdeal.Facts] [hDownLastRefIdeal : Cert.DownLastRefIdeal.Facts] : Prop :=
  ∀ (m : (ℓ : Loc Cert.DownLastIdeal.nD Cert.DownLastIdeal.τ Cert.DownLastIdeal.sig) → Buf (Elt Ideal) ℓ) (g : Dev Cert.DownLastIdeal.nD → PrngReg)
    (m' : (ℓ : Loc Cert.DownLastRefIdeal.nD Cert.DownLastRefIdeal.τ Cert.DownLastRefIdeal.sig) → Buf (Elt Ideal) ℓ) (g' : Dev Cert.DownLastRefIdeal.nD → PrngReg), Pre_DownLastIdeal m →
    (∀ c : Dev Cert.DownLastIdeal.nD,
      m' ((c.tc : Thread Cert.DownLastRefIdeal.nD Cert.DownLastRefIdeal.τ).loc Cert.DownLastRefIdeal.main_arg0) = m ((c.tc : Thread Cert.DownLastIdeal.nD Cert.DownLastIdeal.τ).loc Cert.DownLastIdeal.main_arg0)
      ∧ m' ((c.tc : Thread Cert.DownLastRefIdeal.nD Cert.DownLastRefIdeal.τ).loc Cert.DownLastRefIdeal.main_arg1) = m ((c.tc : Thread Cert.DownLastIdeal.nD Cert.DownLastIdeal.τ).loc Cert.DownLastIdeal.main_arg1)
      ∧ m' ((c.tc : Thread Cert.DownLastRefIdeal.nD Cert.DownLastRefIdeal.τ).loc Cert.DownLastRefIdeal.main_arg2) = m ((c.tc : Thread Cert.DownLastIdeal.nD Cert.DownLastIdeal.τ).loc Cert.DownLastIdeal.main_arg2)
      ∧ m' ((c.tc : Thread Cert.DownLastRefIdeal.nD Cert.DownLastRefIdeal.τ).loc Cert.DownLastRefIdeal.main_arg3) = m ((c.tc : Thread Cert.DownLastIdeal.nD Cert.DownLastIdeal.τ).loc Cert.DownLastIdeal.main_arg3)
      ∧ m' ((c.tc : Thread Cert.DownLastRefIdeal.nD Cert.DownLastRefIdeal.τ).loc Cert.DownLastRefIdeal.main_arg4) = m ((c.tc : Thread Cert.DownLastIdeal.nD Cert.DownLastIdeal.τ).loc Cert.DownLastIdeal.main_arg4)
      ∧ m' ((c.tc : Thread Cert.DownLastRefIdeal.nD Cert.DownLastRefIdeal.τ).loc Cert.DownLastRefIdeal.main_arg5) = m ((c.tc : Thread Cert.DownLastIdeal.nD Cert.DownLastIdeal.τ).loc Cert.DownLastIdeal.main_arg5)) →
    ∃ (v0 : (c : Dev Cert.DownLastIdeal.nD) → Buf (Elt Ideal) ((c.tc : Thread Cert.DownLastIdeal.nD Cert.DownLastIdeal.τ).loc Cert.DownLastIdeal.main_v0_0)) (v1 : (c : Dev Cert.DownLastIdeal.nD) → Buf (Elt Ideal) ((c.tc : Thread Cert.DownLastIdeal.nD Cert.DownLastIdeal.τ).loc Cert.DownLastIdeal.main_v0_1)) (v2 : (c : Dev Cert.DownLastIdeal.nD) → Buf (Elt Ideal) ((c.tc : Thread Cert.DownLastIdeal.nD Cert.DownLastIdeal.τ).loc Cert.DownLastIdeal.main_v0_2)),
      θ_run (Cert.DownLastIdeal.defs (F := Ideal)) (onTc (τ := Cert.DownLastIdeal.τ) (Cert.DownLastIdeal.main (F := Ideal))) ⟨m, fun _ => 0, g⟩ (fun r => ∀ c : Dev Cert.DownLastIdeal.nD,
          r.2.mem ((c.tc : Thread Cert.DownLastIdeal.nD Cert.DownLastIdeal.τ).loc Cert.DownLastIdeal.main_v0_0) = v0 c
          ∧ r.2.mem ((c.tc : Thread Cert.DownLastIdeal.nD Cert.DownLastIdeal.τ).loc Cert.DownLastIdeal.main_v0_1) = v1 c
          ∧ r.2.mem ((c.tc : Thread Cert.DownLastIdeal.nD Cert.DownLastIdeal.τ).loc Cert.DownLastIdeal.main_v0_2) = v2 c
          ∧ r.2.mem ((c.tc : Thread Cert.DownLastIdeal.nD Cert.DownLastIdeal.τ).loc Cert.DownLastIdeal.main_arg0) = m ((c.tc : Thread Cert.DownLastIdeal.nD Cert.DownLastIdeal.τ).loc Cert.DownLastIdeal.main_arg0)
          ∧ r.2.mem ((c.tc : Thread Cert.DownLastIdeal.nD Cert.DownLastIdeal.τ).loc Cert.DownLastIdeal.main_arg1) = m ((c.tc : Thread Cert.DownLastIdeal.nD Cert.DownLastIdeal.τ).loc Cert.DownLastIdeal.main_arg1)
          ∧ r.2.mem ((c.tc : Thread Cert.DownLastIdeal.nD Cert.DownLastIdeal.τ).loc Cert.DownLastIdeal.main_arg2) = m ((c.tc : Thread Cert.DownLastIdeal.nD Cert.DownLastIdeal.τ).loc Cert.DownLastIdeal.main_arg2)
          ∧ r.2.mem ((c.tc : Thread Cert.DownLastIdeal.nD Cert.DownLastIdeal.τ).loc Cert.DownLastIdeal.main_arg3) = m ((c.tc : Thread Cert.DownLastIdeal.nD Cert.DownLastIdeal.τ).loc Cert.DownLastIdeal.main_arg3)
          ∧ r.2.mem ((c.tc : Thread Cert.DownLastIdeal.nD Cert.DownLastIdeal.τ).loc Cert.DownLastIdeal.main_arg4) = m ((c.tc : Thread Cert.DownLastIdeal.nD Cert.DownLastIdeal.τ).loc Cert.DownLastIdeal.main_arg4)
          ∧ r.2.mem ((c.tc : Thread Cert.DownLastIdeal.nD Cert.DownLastIdeal.τ).loc Cert.DownLastIdeal.main_arg5) = m ((c.tc : Thread Cert.DownLastIdeal.nD Cert.DownLastIdeal.τ).loc Cert.DownLastIdeal.main_arg5))
      ∧ θ_run (Cert.DownLastRefIdeal.defs (F := Ideal)) (onTc (τ := Cert.DownLastRefIdeal.τ) (Cert.DownLastRefIdeal.main (F := Ideal))) ⟨m', fun _ => 0, g'⟩ (fun r => ∀ c : Dev Cert.DownLastRefIdeal.nD,
          r.2.mem ((c.tc : Thread Cert.DownLastRefIdeal.nD Cert.DownLastRefIdeal.τ).loc Cert.DownLastRefIdeal.main_v0_0) = v0 c
          ∧ r.2.mem ((c.tc : Thread Cert.DownLastRefIdeal.nD Cert.DownLastRefIdeal.τ).loc Cert.DownLastRefIdeal.main_v0_1) = v1 c
          ∧ r.2.mem ((c.tc : Thread Cert.DownLastRefIdeal.nD Cert.DownLastRefIdeal.τ).loc Cert.DownLastRefIdeal.main_v0_2) = v2 c
          ∧ r.2.mem ((c.tc : Thread Cert.DownLastRefIdeal.nD Cert.DownLastRefIdeal.τ).loc Cert.DownLastRefIdeal.main_arg0) = m' ((c.tc : Thread Cert.DownLastRefIdeal.nD Cert.DownLastRefIdeal.τ).loc Cert.DownLastRefIdeal.main_arg0)
          ∧ r.2.mem ((c.tc : Thread Cert.DownLastRefIdeal.nD Cert.DownLastRefIdeal.τ).loc Cert.DownLastRefIdeal.main_arg1) = m' ((c.tc : Thread Cert.DownLastRefIdeal.nD Cert.DownLastRefIdeal.τ).loc Cert.DownLastRefIdeal.main_arg1)
          ∧ r.2.mem ((c.tc : Thread Cert.DownLastRefIdeal.nD Cert.DownLastRefIdeal.τ).loc Cert.DownLastRefIdeal.main_arg2) = m' ((c.tc : Thread Cert.DownLastRefIdeal.nD Cert.DownLastRefIdeal.τ).loc Cert.DownLastRefIdeal.main_arg2)
          ∧ r.2.mem ((c.tc : Thread Cert.DownLastRefIdeal.nD Cert.DownLastRefIdeal.τ).loc Cert.DownLastRefIdeal.main_arg3) = m' ((c.tc : Thread Cert.DownLastRefIdeal.nD Cert.DownLastRefIdeal.τ).loc Cert.DownLastRefIdeal.main_arg3)
          ∧ r.2.mem ((c.tc : Thread Cert.DownLastRefIdeal.nD Cert.DownLastRefIdeal.τ).loc Cert.DownLastRefIdeal.main_arg4) = m' ((c.tc : Thread Cert.DownLastRefIdeal.nD Cert.DownLastRefIdeal.τ).loc Cert.DownLastRefIdeal.main_arg4)
          ∧ r.2.mem ((c.tc : Thread Cert.DownLastRefIdeal.nD Cert.DownLastRefIdeal.τ).loc Cert.DownLastRefIdeal.main_arg5) = m' ((c.tc : Thread Cert.DownLastRefIdeal.nD Cert.DownLastRefIdeal.τ).loc Cert.DownLastRefIdeal.main_arg5))

def preserves_Fc_FcIdeal : Prop :=
  True

def algebraic_FcIdeal_FcRefIdeal [hFcIdeal : Cert.FcIdeal.Facts] [hFcRefIdeal : Cert.FcRefIdeal.Facts] : Prop :=
  ∀ (m : (ℓ : Loc Cert.FcIdeal.nD Cert.FcIdeal.τ Cert.FcIdeal.sig) → Buf (Elt Ideal) ℓ) (g : Dev Cert.FcIdeal.nD → PrngReg)
    (m' : (ℓ : Loc Cert.FcRefIdeal.nD Cert.FcRefIdeal.τ Cert.FcRefIdeal.sig) → Buf (Elt Ideal) ℓ) (g' : Dev Cert.FcRefIdeal.nD → PrngReg), Pre_FcIdeal m →
    (∀ c : Dev Cert.FcIdeal.nD,
      m' ((c.tc : Thread Cert.FcRefIdeal.nD Cert.FcRefIdeal.τ).loc Cert.FcRefIdeal.main_arg0) = m ((c.tc : Thread Cert.FcIdeal.nD Cert.FcIdeal.τ).loc Cert.FcIdeal.main_arg0)
      ∧ m' ((c.tc : Thread Cert.FcRefIdeal.nD Cert.FcRefIdeal.τ).loc Cert.FcRefIdeal.main_arg1) = m ((c.tc : Thread Cert.FcIdeal.nD Cert.FcIdeal.τ).loc Cert.FcIdeal.main_arg1)
      ∧ m' ((c.tc : Thread Cert.FcRefIdeal.nD Cert.FcRefIdeal.τ).loc Cert.FcRefIdeal.main_arg2) = m ((c.tc : Thread Cert.FcIdeal.nD Cert.FcIdeal.τ).loc Cert.FcIdeal.main_arg2)
      ∧ m' ((c.tc : Thread Cert.FcRefIdeal.nD Cert.FcRefIdeal.τ).loc Cert.FcRefIdeal.main_arg3) = m ((c.tc : Thread Cert.FcIdeal.nD Cert.FcIdeal.τ).loc Cert.FcIdeal.main_arg3)
      ∧ m' ((c.tc : Thread Cert.FcRefIdeal.nD Cert.FcRefIdeal.τ).loc Cert.FcRefIdeal.main_arg4) = m ((c.tc : Thread Cert.FcIdeal.nD Cert.FcIdeal.τ).loc Cert.FcIdeal.main_arg4)
      ∧ m' ((c.tc : Thread Cert.FcRefIdeal.nD Cert.FcRefIdeal.τ).loc Cert.FcRefIdeal.main_arg5) = m ((c.tc : Thread Cert.FcIdeal.nD Cert.FcIdeal.τ).loc Cert.FcIdeal.main_arg5)
      ∧ m' ((c.tc : Thread Cert.FcRefIdeal.nD Cert.FcRefIdeal.τ).loc Cert.FcRefIdeal.main_arg6) = m ((c.tc : Thread Cert.FcIdeal.nD Cert.FcIdeal.τ).loc Cert.FcIdeal.main_arg6)
      ∧ m' ((c.tc : Thread Cert.FcRefIdeal.nD Cert.FcRefIdeal.τ).loc Cert.FcRefIdeal.main_arg7) = m ((c.tc : Thread Cert.FcIdeal.nD Cert.FcIdeal.τ).loc Cert.FcIdeal.main_arg7)) →
    ∃ (v0 : (c : Dev Cert.FcIdeal.nD) → Buf (Elt Ideal) ((c.tc : Thread Cert.FcIdeal.nD Cert.FcIdeal.τ).loc Cert.FcIdeal.main_v0_0)) (v1 : (c : Dev Cert.FcIdeal.nD) → Buf (Elt Ideal) ((c.tc : Thread Cert.FcIdeal.nD Cert.FcIdeal.τ).loc Cert.FcIdeal.main_v0_1)) (v2 : (c : Dev Cert.FcIdeal.nD) → Buf (Elt Ideal) ((c.tc : Thread Cert.FcIdeal.nD Cert.FcIdeal.τ).loc Cert.FcIdeal.main_v0_2)),
      θ_run (Cert.FcIdeal.defs (F := Ideal)) (onTc (τ := Cert.FcIdeal.τ) (Cert.FcIdeal.main (F := Ideal))) ⟨m, fun _ => 0, g⟩ (fun r => ∀ c : Dev Cert.FcIdeal.nD,
          r.2.mem ((c.tc : Thread Cert.FcIdeal.nD Cert.FcIdeal.τ).loc Cert.FcIdeal.main_v0_0) = v0 c
          ∧ r.2.mem ((c.tc : Thread Cert.FcIdeal.nD Cert.FcIdeal.τ).loc Cert.FcIdeal.main_v0_1) = v1 c
          ∧ r.2.mem ((c.tc : Thread Cert.FcIdeal.nD Cert.FcIdeal.τ).loc Cert.FcIdeal.main_v0_2) = v2 c
          ∧ r.2.mem ((c.tc : Thread Cert.FcIdeal.nD Cert.FcIdeal.τ).loc Cert.FcIdeal.main_arg0) = m ((c.tc : Thread Cert.FcIdeal.nD Cert.FcIdeal.τ).loc Cert.FcIdeal.main_arg0)
          ∧ r.2.mem ((c.tc : Thread Cert.FcIdeal.nD Cert.FcIdeal.τ).loc Cert.FcIdeal.main_arg1) = m ((c.tc : Thread Cert.FcIdeal.nD Cert.FcIdeal.τ).loc Cert.FcIdeal.main_arg1)
          ∧ r.2.mem ((c.tc : Thread Cert.FcIdeal.nD Cert.FcIdeal.τ).loc Cert.FcIdeal.main_arg2) = m ((c.tc : Thread Cert.FcIdeal.nD Cert.FcIdeal.τ).loc Cert.FcIdeal.main_arg2)
          ∧ r.2.mem ((c.tc : Thread Cert.FcIdeal.nD Cert.FcIdeal.τ).loc Cert.FcIdeal.main_arg3) = m ((c.tc : Thread Cert.FcIdeal.nD Cert.FcIdeal.τ).loc Cert.FcIdeal.main_arg3)
          ∧ r.2.mem ((c.tc : Thread Cert.FcIdeal.nD Cert.FcIdeal.τ).loc Cert.FcIdeal.main_arg4) = m ((c.tc : Thread Cert.FcIdeal.nD Cert.FcIdeal.τ).loc Cert.FcIdeal.main_arg4)
          ∧ r.2.mem ((c.tc : Thread Cert.FcIdeal.nD Cert.FcIdeal.τ).loc Cert.FcIdeal.main_arg5) = m ((c.tc : Thread Cert.FcIdeal.nD Cert.FcIdeal.τ).loc Cert.FcIdeal.main_arg5)
          ∧ r.2.mem ((c.tc : Thread Cert.FcIdeal.nD Cert.FcIdeal.τ).loc Cert.FcIdeal.main_arg6) = m ((c.tc : Thread Cert.FcIdeal.nD Cert.FcIdeal.τ).loc Cert.FcIdeal.main_arg6)
          ∧ r.2.mem ((c.tc : Thread Cert.FcIdeal.nD Cert.FcIdeal.τ).loc Cert.FcIdeal.main_arg7) = m ((c.tc : Thread Cert.FcIdeal.nD Cert.FcIdeal.τ).loc Cert.FcIdeal.main_arg7))
      ∧ θ_run (Cert.FcRefIdeal.defs (F := Ideal)) (onTc (τ := Cert.FcRefIdeal.τ) (Cert.FcRefIdeal.main (F := Ideal))) ⟨m', fun _ => 0, g'⟩ (fun r => ∀ c : Dev Cert.FcRefIdeal.nD,
          r.2.mem ((c.tc : Thread Cert.FcRefIdeal.nD Cert.FcRefIdeal.τ).loc Cert.FcRefIdeal.main_v0_0) = v0 c
          ∧ r.2.mem ((c.tc : Thread Cert.FcRefIdeal.nD Cert.FcRefIdeal.τ).loc Cert.FcRefIdeal.main_v0_1) = v1 c
          ∧ r.2.mem ((c.tc : Thread Cert.FcRefIdeal.nD Cert.FcRefIdeal.τ).loc Cert.FcRefIdeal.main_v0_2) = v2 c
          ∧ r.2.mem ((c.tc : Thread Cert.FcRefIdeal.nD Cert.FcRefIdeal.τ).loc Cert.FcRefIdeal.main_arg0) = m' ((c.tc : Thread Cert.FcRefIdeal.nD Cert.FcRefIdeal.τ).loc Cert.FcRefIdeal.main_arg0)
          ∧ r.2.mem ((c.tc : Thread Cert.FcRefIdeal.nD Cert.FcRefIdeal.τ).loc Cert.FcRefIdeal.main_arg1) = m' ((c.tc : Thread Cert.FcRefIdeal.nD Cert.FcRefIdeal.τ).loc Cert.FcRefIdeal.main_arg1)
          ∧ r.2.mem ((c.tc : Thread Cert.FcRefIdeal.nD Cert.FcRefIdeal.τ).loc Cert.FcRefIdeal.main_arg2) = m' ((c.tc : Thread Cert.FcRefIdeal.nD Cert.FcRefIdeal.τ).loc Cert.FcRefIdeal.main_arg2)
          ∧ r.2.mem ((c.tc : Thread Cert.FcRefIdeal.nD Cert.FcRefIdeal.τ).loc Cert.FcRefIdeal.main_arg3) = m' ((c.tc : Thread Cert.FcRefIdeal.nD Cert.FcRefIdeal.τ).loc Cert.FcRefIdeal.main_arg3)
          ∧ r.2.mem ((c.tc : Thread Cert.FcRefIdeal.nD Cert.FcRefIdeal.τ).loc Cert.FcRefIdeal.main_arg4) = m' ((c.tc : Thread Cert.FcRefIdeal.nD Cert.FcRefIdeal.τ).loc Cert.FcRefIdeal.main_arg4)
          ∧ r.2.mem ((c.tc : Thread Cert.FcRefIdeal.nD Cert.FcRefIdeal.τ).loc Cert.FcRefIdeal.main_arg5) = m' ((c.tc : Thread Cert.FcRefIdeal.nD Cert.FcRefIdeal.τ).loc Cert.FcRefIdeal.main_arg5)
          ∧ r.2.mem ((c.tc : Thread Cert.FcRefIdeal.nD Cert.FcRefIdeal.τ).loc Cert.FcRefIdeal.main_arg6) = m' ((c.tc : Thread Cert.FcRefIdeal.nD Cert.FcRefIdeal.τ).loc Cert.FcRefIdeal.main_arg6)
          ∧ r.2.mem ((c.tc : Thread Cert.FcRefIdeal.nD Cert.FcRefIdeal.τ).loc Cert.FcRefIdeal.main_arg7) = m' ((c.tc : Thread Cert.FcRefIdeal.nD Cert.FcRefIdeal.τ).loc Cert.FcRefIdeal.main_arg7))

def preserves_Down_DownIdeal : Prop :=
  True

def algebraic_DownIdeal_DownRefIdeal [hDownIdeal : Cert.DownIdeal.Facts] [hDownRefIdeal : Cert.DownRefIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownIdeal m →
    (∀ c : Dev Cert.DownIdeal.nD,
      m' ((c.tc : Thread Cert.DownRefIdeal.nD Cert.DownRefIdeal.τ).loc Cert.DownRefIdeal.main_arg0) = m ((c.tc : Thread Cert.DownIdeal.nD Cert.DownIdeal.τ).loc Cert.DownIdeal.main_arg0)
      ∧ m' ((c.tc : Thread Cert.DownRefIdeal.nD Cert.DownRefIdeal.τ).loc Cert.DownRefIdeal.main_arg1) = m ((c.tc : Thread Cert.DownIdeal.nD Cert.DownIdeal.τ).loc Cert.DownIdeal.main_arg1)
      ∧ m' ((c.tc : Thread Cert.DownRefIdeal.nD Cert.DownRefIdeal.τ).loc Cert.DownRefIdeal.main_arg2) = m ((c.tc : Thread Cert.DownIdeal.nD Cert.DownIdeal.τ).loc Cert.DownIdeal.main_arg2)
      ∧ m' ((c.tc : Thread Cert.DownRefIdeal.nD Cert.DownRefIdeal.τ).loc Cert.DownRefIdeal.main_arg3) = m ((c.tc : Thread Cert.DownIdeal.nD Cert.DownIdeal.τ).loc Cert.DownIdeal.main_arg3)
      ∧ m' ((c.tc : Thread Cert.DownRefIdeal.nD Cert.DownRefIdeal.τ).loc Cert.DownRefIdeal.main_arg4) = m ((c.tc : Thread Cert.DownIdeal.nD Cert.DownIdeal.τ).loc Cert.DownIdeal.main_arg4)
      ∧ m' ((c.tc : Thread Cert.DownRefIdeal.nD Cert.DownRefIdeal.τ).loc Cert.DownRefIdeal.main_arg5) = m ((c.tc : Thread Cert.DownIdeal.nD Cert.DownIdeal.τ).loc Cert.DownIdeal.main_arg5)
      ∧ m' ((c.tc : Thread Cert.DownRefIdeal.nD Cert.DownRefIdeal.τ).loc Cert.DownRefIdeal.main_arg6) = m ((c.tc : Thread Cert.DownIdeal.nD Cert.DownIdeal.τ).loc Cert.DownIdeal.main_arg6)
      ∧ m' ((c.tc : Thread Cert.DownRefIdeal.nD Cert.DownRefIdeal.τ).loc Cert.DownRefIdeal.main_arg7) = m ((c.tc : Thread Cert.DownIdeal.nD Cert.DownIdeal.τ).loc Cert.DownIdeal.main_arg7)
      ∧ m' ((c.tc : Thread Cert.DownRefIdeal.nD Cert.DownRefIdeal.τ).loc Cert.DownRefIdeal.main_arg8) = m ((c.tc : Thread Cert.DownIdeal.nD Cert.DownIdeal.τ).loc Cert.DownIdeal.main_arg8)
      ∧ m' ((c.tc : Thread Cert.DownRefIdeal.nD Cert.DownRefIdeal.τ).loc Cert.DownRefIdeal.main_arg9) = m ((c.tc : Thread Cert.DownIdeal.nD Cert.DownIdeal.τ).loc Cert.DownIdeal.main_arg9)) →
    ∃ (v0 : (c : Dev Cert.DownIdeal.nD) → Buf (Elt Ideal) ((c.tc : Thread Cert.DownIdeal.nD Cert.DownIdeal.τ).loc Cert.DownIdeal.main_v0_0)) (v1 : (c : Dev Cert.DownIdeal.nD) → Buf (Elt Ideal) ((c.tc : Thread Cert.DownIdeal.nD Cert.DownIdeal.τ).loc Cert.DownIdeal.main_v0_1)) (v2 : (c : Dev Cert.DownIdeal.nD) → Buf (Elt Ideal) ((c.tc : Thread Cert.DownIdeal.nD Cert.DownIdeal.τ).loc Cert.DownIdeal.main_v0_2)) (v3 : (c : Dev Cert.DownIdeal.nD) → Buf (Elt Ideal) ((c.tc : Thread Cert.DownIdeal.nD Cert.DownIdeal.τ).loc Cert.DownIdeal.main_v0_3)) (v4 : (c : Dev Cert.DownIdeal.nD) → Buf (Elt Ideal) ((c.tc : Thread Cert.DownIdeal.nD Cert.DownIdeal.τ).loc Cert.DownIdeal.main_v0_4)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v0_0) = v0 c
          ∧ r.2.mem ((c.tc : Thread Cert.DownIdeal.nD Cert.DownIdeal.τ).loc Cert.DownIdeal.main_v0_1) = v1 c
          ∧ r.2.mem ((c.tc : Thread Cert.DownIdeal.nD Cert.DownIdeal.τ).loc Cert.DownIdeal.main_v0_2) = v2 c
          ∧ r.2.mem ((c.tc : Thread Cert.DownIdeal.nD Cert.DownIdeal.τ).loc Cert.DownIdeal.main_v0_3) = v3 c
          ∧ r.2.mem ((c.tc : Thread Cert.DownIdeal.nD Cert.DownIdeal.τ).loc Cert.DownIdeal.main_v0_4) = v4 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
          ∧ r.2.mem ((c.tc : Thread Cert.DownIdeal.nD Cert.DownIdeal.τ).loc Cert.DownIdeal.main_arg3) = m ((c.tc : Thread Cert.DownIdeal.nD Cert.DownIdeal.τ).loc Cert.DownIdeal.main_arg3)
          ∧ r.2.mem ((c.tc : Thread Cert.DownIdeal.nD Cert.DownIdeal.τ).loc Cert.DownIdeal.main_arg4) = m ((c.tc : Thread Cert.DownIdeal.nD Cert.DownIdeal.τ).loc Cert.DownIdeal.main_arg4)
          ∧ r.2.mem ((c.tc : Thread Cert.DownIdeal.nD Cert.DownIdeal.τ).loc Cert.DownIdeal.main_arg5) = m ((c.tc : Thread Cert.DownIdeal.nD Cert.DownIdeal.τ).loc Cert.DownIdeal.main_arg5)
          ∧ r.2.mem ((c.tc : Thread Cert.DownIdeal.nD Cert.DownIdeal.τ).loc Cert.DownIdeal.main_arg6) = m ((c.tc : Thread Cert.DownIdeal.nD Cert.DownIdeal.τ).loc Cert.DownIdeal.main_arg6)
          ∧ r.2.mem ((c.tc : Thread Cert.DownIdeal.nD Cert.DownIdeal.τ).loc Cert.DownIdeal.main_arg7) = m ((c.tc : Thread Cert.DownIdeal.nD Cert.DownIdeal.τ).loc Cert.DownIdeal.main_arg7)
          ∧ r.2.mem ((c.tc : Thread Cert.DownIdeal.nD Cert.DownIdeal.τ).loc Cert.DownIdeal.main_arg8) = m ((c.tc : Thread Cert.DownIdeal.nD Cert.DownIdeal.τ).loc Cert.DownIdeal.main_arg8)
          ∧ r.2.mem ((c.tc : Thread Cert.DownIdeal.nD Cert.DownIdeal.τ).loc Cert.DownIdeal.main_arg9) = m ((c.tc : Thread Cert.DownIdeal.nD Cert.DownIdeal.τ).loc Cert.DownIdeal.main_arg9))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v0_0) = v0 c
          ∧ r.2.mem ((c.tc : Thread Cert.DownRefIdeal.nD Cert.DownRefIdeal.τ).loc Cert.DownRefIdeal.main_v0_1) = v1 c
          ∧ r.2.mem ((c.tc : Thread Cert.DownRefIdeal.nD Cert.DownRefIdeal.τ).loc Cert.DownRefIdeal.main_v0_2) = v2 c
          ∧ r.2.mem ((c.tc : Thread Cert.DownRefIdeal.nD Cert.DownRefIdeal.τ).loc Cert.DownRefIdeal.main_v0_3) = v3 c
          ∧ r.2.mem ((c.tc : Thread Cert.DownRefIdeal.nD Cert.DownRefIdeal.τ).loc Cert.DownRefIdeal.main_v0_4) = v4 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1)
          ∧ r.2.mem ((c.tc : Thread Cert.DownRefIdeal.nD Cert.DownRefIdeal.τ).loc Cert.DownRefIdeal.main_arg2) = m' ((c.tc : Thread Cert.DownRefIdeal.nD Cert.DownRefIdeal.τ).loc Cert.DownRefIdeal.main_arg2)
          ∧ r.2.mem ((c.tc : Thread Cert.DownRefIdeal.nD Cert.DownRefIdeal.τ).loc Cert.DownRefIdeal.main_arg3) = m' ((c.tc : Thread Cert.DownRefIdeal.nD Cert.DownRefIdeal.τ).loc Cert.DownRefIdeal.main_arg3)
          ∧ r.2.mem ((c.tc : Thread Cert.DownRefIdeal.nD Cert.DownRefIdeal.τ).loc Cert.DownRefIdeal.main_arg4) = m' ((c.tc : Thread Cert.DownRefIdeal.nD Cert.DownRefIdeal.τ).loc Cert.DownRefIdeal.main_arg4)
          ∧ r.2.mem ((c.tc : Thread Cert.DownRefIdeal.nD Cert.DownRefIdeal.τ).loc Cert.DownRefIdeal.main_arg5) = m' ((c.tc : Thread Cert.DownRefIdeal.nD Cert.DownRefIdeal.τ).loc Cert.DownRefIdeal.main_arg5)
          ∧ r.2.mem ((c.tc : Thread Cert.DownRefIdeal.nD Cert.DownRefIdeal.τ).loc Cert.DownRefIdeal.main_arg6) = m' ((c.tc : Thread Cert.DownRefIdeal.nD Cert.DownRefIdeal.τ).loc Cert.DownRefIdeal.main_arg6)
          ∧ r.2.mem ((c.tc : Thread Cert.DownRefIdeal.nD Cert.DownRefIdeal.τ).loc Cert.DownRefIdeal.main_arg7) = m' ((c.tc : Thread Cert.DownRefIdeal.nD Cert.DownRefIdeal.τ).loc Cert.DownRefIdeal.main_arg7)
          ∧ r.2.mem ((c.tc : Thread Cert.DownRefIdeal.nD Cert.DownRefIdeal.τ).loc Cert.DownRefIdeal.main_arg8) = m' ((c.tc : Thread Cert.DownRefIdeal.nD Cert.DownRefIdeal.τ).loc Cert.DownRefIdeal.main_arg8)
          ∧ r.2.mem ((c.tc : Thread Cert.DownRefIdeal.nD Cert.DownRefIdeal.τ).loc Cert.DownRefIdeal.main_arg9) = m' ((c.tc : Thread Cert.DownRefIdeal.nD Cert.DownRefIdeal.τ).loc Cert.DownRefIdeal.main_arg9))

def Claim : Prop :=
  ∃ (hGateUp : Cert.GateUp.Facts) (hGateUpIdeal : Cert.GateUpIdeal.Facts) (hGateUpRefIdeal : Cert.GateUpRefIdeal.Facts) (hQkv : Cert.Qkv.Facts) (hQkvIdeal : Cert.QkvIdeal.Facts) (hQkvRefIdeal : Cert.QkvRefIdeal.Facts) (hOutProj : Cert.OutProj.Facts) (hOutProjIdeal : Cert.OutProjIdeal.Facts) (hOutProjRefIdeal : Cert.OutProjRefIdeal.Facts) (hDownLast : Cert.DownLast.Facts) (hDownLastIdeal : Cert.DownLastIdeal.Facts) (hDownLastRefIdeal : Cert.DownLastRefIdeal.Facts) (hFc : Cert.Fc.Facts) (hFcIdeal : Cert.FcIdeal.Facts) (hFcRefIdeal : Cert.FcRefIdeal.Facts) (hDown : Cert.Down.Facts) (hDownIdeal : Cert.DownIdeal.Facts) (hDownRefIdeal : Cert.DownRefIdeal.Facts),
    quiescent_GateUp (hGateUp := hGateUp)
    ∧ quiescent_GateUpIdeal (hGateUpIdeal := hGateUpIdeal)
    ∧ quiescent_GateUpRefIdeal (hGateUpRefIdeal := hGateUpRefIdeal)
    ∧ quiescent_Qkv (hQkv := hQkv)
    ∧ quiescent_QkvIdeal (hQkvIdeal := hQkvIdeal)
    ∧ quiescent_QkvRefIdeal (hQkvRefIdeal := hQkvRefIdeal)
    ∧ quiescent_OutProj (hOutProj := hOutProj)
    ∧ quiescent_OutProjIdeal (hOutProjIdeal := hOutProjIdeal)
    ∧ quiescent_OutProjRefIdeal (hOutProjRefIdeal := hOutProjRefIdeal)
    ∧ quiescent_DownLast (hDownLast := hDownLast)
    ∧ quiescent_DownLastIdeal (hDownLastIdeal := hDownLastIdeal)
    ∧ quiescent_DownLastRefIdeal (hDownLastRefIdeal := hDownLastRefIdeal)
    ∧ quiescent_Fc (hFc := hFc)
    ∧ quiescent_FcIdeal (hFcIdeal := hFcIdeal)
    ∧ quiescent_FcRefIdeal (hFcRefIdeal := hFcRefIdeal)
    ∧ quiescent_Down (hDown := hDown)
    ∧ quiescent_DownIdeal (hDownIdeal := hDownIdeal)
    ∧ quiescent_DownRefIdeal (hDownRefIdeal := hDownRefIdeal)
    ∧ preserves_GateUp_GateUpIdeal
    ∧ algebraic_GateUpIdeal_GateUpRefIdeal (hGateUpIdeal := hGateUpIdeal) (hGateUpRefIdeal := hGateUpRefIdeal)
    ∧ preserves_Qkv_QkvIdeal
    ∧ algebraic_QkvIdeal_QkvRefIdeal (hQkvIdeal := hQkvIdeal) (hQkvRefIdeal := hQkvRefIdeal)
    ∧ preserves_OutProj_OutProjIdeal
    ∧ algebraic_OutProjIdeal_OutProjRefIdeal (hOutProjIdeal := hOutProjIdeal) (hOutProjRefIdeal := hOutProjRefIdeal)
    ∧ preserves_DownLast_DownLastIdeal
    ∧ algebraic_DownLastIdeal_DownLastRefIdeal (hDownLastIdeal := hDownLastIdeal) (hDownLastRefIdeal := hDownLastRefIdeal)
    ∧ preserves_Fc_FcIdeal
    ∧ algebraic_FcIdeal_FcRefIdeal (hFcIdeal := hFcIdeal) (hFcRefIdeal := hFcRefIdeal)
    ∧ preserves_Down_DownIdeal
    ∧ algebraic_DownIdeal_DownRefIdeal (hDownIdeal := hDownIdeal) (hDownRefIdeal := hDownRefIdeal)
-- ==== GateUp.lean ====
abbrev S7680x2560 : Shape := ⟨2, ![7680, 2560]⟩
abbrev S7680x1 : Shape := ⟨2, ![7680, 1]⟩
abbrev S2560x9728 : Shape := ⟨2, ![2560, 9728]⟩
abbrev S1x9728 : Shape := ⟨2, ![1, 9728]⟩
abbrev S7680x9728 : Shape := ⟨2, ![7680, 9728]⟩
abbrev S128x2560 : Shape := ⟨2, ![128, 2560]⟩
abbrev S128x1 : Shape := ⟨2, ![128, 1]⟩
abbrev S128x9728 : Shape := ⟨2, ![128, 9728]⟩
abbrev S128x128 : Shape := ⟨2, ![128, 128]⟩
abbrev S128x256 : Shape := ⟨2, ![128, 256]⟩
abbrev S2560x256 : Shape := ⟨2, ![2560, 256]⟩
abbrev S1x256 : Shape := ⟨2, ![1, 256]⟩
abbrev S128 : Shape := ⟨1, ![128]⟩

abbrev nBuf : Space → Nat
  | .hbm => 8
  | .vmem => 15
  | .smem => 0
  | _ => 0

abbrev bufTy : (tb : Table) → Fin (tcTables nBuf tb) → BufTy
  | .hbm, ⟨0, _⟩ => ⟨S7680x2560, .fp8e4m3⟩
  | .hbm, ⟨1, _⟩ => ⟨S7680x1, .f32⟩
  | .hbm, ⟨2, _⟩ => ⟨S2560x9728, .fp8e4m3⟩
  | .hbm, ⟨3, _⟩ => ⟨S2560x9728, .fp8e4m3⟩
  | .hbm, ⟨4, _⟩ => ⟨S1x9728, .f32⟩
  | .hbm, ⟨5, _⟩ => ⟨S1x9728, .f32⟩
  | .hbm, ⟨6, _⟩ => ⟨S7680x9728, .fp8e4m3⟩
  | .hbm, ⟨7, _⟩ => ⟨S7680x1, .f32⟩
  | .local _ .vmem, ⟨0, _⟩ => ⟨S128x2560, .fp8e4m3⟩
  | .local _ .vmem, ⟨1, _⟩ => ⟨S128x2560, .fp8e4m3⟩
  | .local _ .vmem, ⟨2, _⟩ => ⟨S128x1, .f32⟩
  | .local _ .vmem, ⟨3, _⟩ => ⟨S128x1, .f32⟩
  | .local _ .vmem, ⟨4, _⟩ => ⟨S2560x9728, .fp8e4m3⟩
  | .local _ .vmem, ⟨5, _⟩ => ⟨S2560x9728, .fp8e4m3⟩
  | .local _ .vmem, ⟨6, _⟩ => ⟨S1x9728, .f32⟩
  | .local _ .vmem, ⟨7, _⟩ => ⟨S1x9728, .f32⟩
  | .local _ .vmem, ⟨8, _⟩ => ⟨S128x9728, .fp8e4m3⟩
  | .local _ .vmem, ⟨9, _⟩ => ⟨S128x9728, .fp8e4m3⟩
  | .local _ .vmem, ⟨10, _⟩ => ⟨S128x1, .f32⟩
  | .local _ .vmem, ⟨11, _⟩ => ⟨S128x1, .f32⟩
  | .local _ .vmem, ⟨12, _⟩ => ⟨S128x9728, .f32⟩
  | .local _ .vmem, ⟨13, _⟩ => ⟨S128x128, .f32⟩
  | .local _ .vmem, ⟨14, _⟩ => ⟨S128x1, .f32⟩
  | _, _ => ⟨S7680x2560, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![61], ![false]⟩

def k0_cond2 (i : grid0.Coords) : BitVec 1 :=
  let arg0 : BitVec 32 := BitVec.ofNat 32 (i 0).val
  let c60_i32 : BitVec 32 := 60#32
  let v3 : BitVec 1 := Scalar.cmpi .slt arg0 c60_i32
  let v4 : BitVec 32 := Scalar.extui v3
  let c0_i32_1 : BitVec 32 := 0#32
  let v5 : BitVec 1 := Scalar.cmpi .ne v4 c0_i32_1
  v5

def k0_cond3 (i : grid0.Coords) : BitVec 1 :=
  let arg0 : BitVec 32 := BitVec.ofNat 32 (i 0).val
  let c60_i32_2 : BitVec 32 := 60#32
  let v6 : BitVec 1 := Scalar.cmpi .eq arg0 c60_i32_2
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let c59_i32 : BitVec 32 := 59#32
  let v0 : BitVec 32 := Scalar.minsi arg0 c59_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c59_i32 : BitVec 32 := 59#32
  let v0 : BitVec 32 := Scalar.minsi arg0 c59_i32
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_7 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

abbrev stage0_0 : Fin 2 → Memref sig .tc .vmem S128x2560 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2560x9728 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2560x9728 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x9728 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x9728 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S128x9728 .fp8e4m3 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== GateUpRefIdeal.lean ====
abbrev S7680x2560 : Shape := ⟨2, ![7680, 2560]⟩
abbrev S7680x1 : Shape := ⟨2, ![7680, 1]⟩
abbrev S2560x9728 : Shape := ⟨2, ![2560, 9728]⟩
abbrev S1x9728 : Shape := ⟨2, ![1, 9728]⟩
abbrev S7680x9728 : Shape := ⟨2, ![7680, 9728]⟩
abbrev S7680 : Shape := ⟨1, ![7680]⟩

abbrev nBuf : Space → Nat
  | .hbm => 8
  | .vmem => 8
  | .smem => 0
  | _ => 0

abbrev bufTy : (tb : Table) → Fin (tcTables nBuf tb) → BufTy
  | .hbm, ⟨0, _⟩ => ⟨S7680x2560, .fp8e4m3⟩
  | .hbm, ⟨1, _⟩ => ⟨S7680x1, .f32⟩
  | .hbm, ⟨2, _⟩ => ⟨S2560x9728, .fp8e4m3⟩
  | .hbm, ⟨3, _⟩ => ⟨S2560x9728, .fp8e4m3⟩
  | .hbm, ⟨4, _⟩ => ⟨S1x9728, .f32⟩
  | .hbm, ⟨5, _⟩ => ⟨S1x9728, .f32⟩
  | .hbm, ⟨6, _⟩ => ⟨S7680x9728, .fp8e4m3⟩
  | .hbm, ⟨7, _⟩ => ⟨S7680x1, .f32⟩
  | .local _ .vmem, ⟨0, _⟩ => ⟨S7680x2560, .fp8e4m3⟩
  | .local _ .vmem, ⟨1, _⟩ => ⟨S7680x1, .f32⟩
  | .local _ .vmem, ⟨2, _⟩ => ⟨S2560x9728, .fp8e4m3⟩
  | .local _ .vmem, ⟨3, _⟩ => ⟨S2560x9728, .fp8e4m3⟩
  | .local _ .vmem, ⟨4, _⟩ => ⟨S1x9728, .f32⟩
  | .local _ .vmem, ⟨5, _⟩ => ⟨S1x9728, .f32⟩
  | .local _ .vmem, ⟨6, _⟩ => ⟨S7680x9728, .fp8e4m3⟩
  | .local _ .vmem, ⟨7, _⟩ => ⟨S7680x1, .f32⟩
  | _, _ => ⟨S7680x2560, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

abbrev stage0_0 : Fin 1 → Memref sig .tc .vmem S7680x2560 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S7680x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2560x9728 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2560x9728 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x9728 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x9728 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S7680x9728 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S7680x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== Qkv.lean ====
abbrev S7680x5120 : Shape := ⟨2, ![7680, 5120]⟩
abbrev S7680x1 : Shape := ⟨2, ![7680, 1]⟩
abbrev S5120x6144 : Shape := ⟨2, ![5120, 6144]⟩
abbrev S1x6144 : Shape := ⟨2, ![1, 6144]⟩
abbrev S7680x64 : Shape := ⟨2, ![7680, 64]⟩
abbrev S7680x6144 : Shape := ⟨2, ![7680, 6144]⟩
abbrev S256x5120 : Shape := ⟨2, ![256, 5120]⟩
abbrev S256x1 : Shape := ⟨2, ![256, 1]⟩
abbrev S256x64 : Shape := ⟨2, ![256, 64]⟩
abbrev S256x6144 : Shape := ⟨2, ![256, 6144]⟩
abbrev S256x128 : Shape := ⟨2, ![256, 128]⟩
abbrev S5120x256 : Shape := ⟨2, ![5120, 256]⟩
abbrev S256x256 : Shape := ⟨2, ![256, 256]⟩
abbrev S1x256 : Shape := ⟨2, ![1, 256]⟩

abbrev nBuf : Space → Nat
  | .hbm => 7
  | .vmem => 12
  | .smem => 0
  | _ => 0

abbrev bufTy : (tb : Table) → Fin (tcTables nBuf tb) → BufTy
  | .hbm, ⟨0, _⟩ => ⟨S7680x5120, .fp8e4m3⟩
  | .hbm, ⟨1, _⟩ => ⟨S7680x1, .f32⟩
  | .hbm, ⟨2, _⟩ => ⟨S5120x6144, .fp8e4m3⟩
  | .hbm, ⟨3, _⟩ => ⟨S1x6144, .f32⟩
  | .hbm, ⟨4, _⟩ => ⟨S7680x64, .f32⟩
  | .hbm, ⟨5, _⟩ => ⟨S7680x64, .f32⟩
  | .hbm, ⟨6, _⟩ => ⟨S7680x6144, .bf16⟩
  | .local _ .vmem, ⟨0, _⟩ => ⟨S256x5120, .fp8e4m3⟩
  | .local _ .vmem, ⟨1, _⟩ => ⟨S256x5120, .fp8e4m3⟩
  | .local _ .vmem, ⟨2, _⟩ => ⟨S256x1, .f32⟩
  | .local _ .vmem, ⟨3, _⟩ => ⟨S256x1, .f32⟩
  | .local _ .vmem, ⟨4, _⟩ => ⟨S5120x6144, .fp8e4m3⟩
  | .local _ .vmem, ⟨5, _⟩ => ⟨S1x6144, .f32⟩
  | .local _ .vmem, ⟨6, _⟩ => ⟨S256x64, .f32⟩
  | .local _ .vmem, ⟨7, _⟩ => ⟨S256x64, .f32⟩
  | .local _ .vmem, ⟨8, _⟩ => ⟨S256x64, .f32⟩
  | .local _ .vmem, ⟨9, _⟩ => ⟨S256x64, .f32⟩
  | .local _ .vmem, ⟨10, _⟩ => ⟨S256x6144, .bf16⟩
  | .local _ .vmem, ⟨11, _⟩ => ⟨S256x6144, .bf16⟩
  | _, _ => ⟨S7680x5120, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![30], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x5120 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S5120x6144 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x6144 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x6144 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== QkvRefIdeal.lean ====
abbrev S7680x5120 : Shape := ⟨2, ![7680, 5120]⟩
abbrev S7680x1 : Shape := ⟨2, ![7680, 1]⟩
abbrev S5120x6144 : Shape := ⟨2, ![5120, 6144]⟩
abbrev S1x6144 : Shape := ⟨2, ![1, 6144]⟩
abbrev S7680x64 : Shape := ⟨2, ![7680, 64]⟩
abbrev S7680x6144 : Shape := ⟨2, ![7680, 6144]⟩
abbrev S7680x1x64 : Shape := ⟨3, ![7680, 1, 64]⟩
abbrev S7680x4096 : Shape := ⟨2, ![7680, 4096]⟩
abbrev S7680x32x128 : Shape := ⟨3, ![7680, 32, 128]⟩
abbrev S7680x32x64 : Shape := ⟨3, ![7680, 32, 64]⟩
abbrev S7680x1024 : Shape := ⟨2, ![7680, 1024]⟩
abbrev S7680x8x128 : Shape := ⟨3, ![7680, 8, 128]⟩
abbrev S7680x8x64 : Shape := ⟨3, ![7680, 8, 64]⟩

abbrev nBuf : Space → Nat
  | .hbm => 7
  | .vmem => 7
  | .smem => 0
  | _ => 0

abbrev bufTy : (tb : Table) → Fin (tcTables nBuf tb) → BufTy
  | .hbm, ⟨0, _⟩ => ⟨S7680x5120, .fp8e4m3⟩
  | .hbm, ⟨1, _⟩ => ⟨S7680x1, .f32⟩
  | .hbm, ⟨2, _⟩ => ⟨S5120x6144, .fp8e4m3⟩
  | .hbm, ⟨3, _⟩ => ⟨S1x6144, .f32⟩
  | .hbm, ⟨4, _⟩ => ⟨S7680x64, .f32⟩
  | .hbm, ⟨5, _⟩ => ⟨S7680x64, .f32⟩
  | .hbm, ⟨6, _⟩ => ⟨S7680x6144, .bf16⟩
  | .local _ .vmem, ⟨0, _⟩ => ⟨S7680x5120, .fp8e4m3⟩
  | .local _ .vmem, ⟨1, _⟩ => ⟨S7680x1, .f32⟩
  | .local _ .vmem, ⟨2, _⟩ => ⟨S5120x6144, .fp8e4m3⟩
  | .local _ .vmem, ⟨3, _⟩ => ⟨S1x6144, .f32⟩
  | .local _ .vmem, ⟨4, _⟩ => ⟨S7680x64, .f32⟩
  | .local _ .vmem, ⟨5, _⟩ => ⟨S7680x64, .f32⟩
  | .local _ .vmem, ⟨6, _⟩ => ⟨S7680x6144, .bf16⟩
  | _, _ => ⟨S7680x5120, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S7680x5120 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S7680x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S5120x6144 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x6144 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S7680x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S7680x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S7680x6144 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== OutProj.lean ====
abbrev S7680x4096 : Shape := ⟨2, ![7680, 4096]⟩
abbrev S7680x1 : Shape := ⟨2, ![7680, 1]⟩
abbrev S4096x2560 : Shape := ⟨2, ![4096, 2560]⟩
abbrev S1x2560 : Shape := ⟨2, ![1, 2560]⟩
abbrev S7680x2560 : Shape := ⟨2, ![7680, 2560]⟩
abbrev S256x4096 : Shape := ⟨2, ![256, 4096]⟩
abbrev S256x1 : Shape := ⟨2, ![256, 1]⟩
abbrev S256x2560 : Shape := ⟨2, ![256, 2560]⟩
abbrev S4096x256 : Shape := ⟨2, ![4096, 256]⟩
abbrev S256x256 : Shape := ⟨2, ![256, 256]⟩
abbrev S1x256 : Shape := ⟨2, ![1, 256]⟩
abbrev S32x2560 : Shape := ⟨2, ![32, 2560]⟩
abbrev S32 : Shape := ⟨1, ![32]⟩
abbrev S32x1 : Shape := ⟨2, ![32, 1]⟩

abbrev nBuf : Space → Nat
  | .hbm => 9
  | .vmem => 17
  | .smem => 0
  | _ => 0

abbrev bufTy : (tb : Table) → Fin (tcTables nBuf tb) → BufTy
  | .hbm, ⟨0, _⟩ => ⟨S7680x4096, .fp8e4m3⟩
  | .hbm, ⟨1, _⟩ => ⟨S7680x1, .f32⟩
  | .hbm, ⟨2, _⟩ => ⟨S4096x2560, .fp8e4m3⟩
  | .hbm, ⟨3, _⟩ => ⟨S1x2560, .f32⟩
  | .hbm, ⟨4, _⟩ => ⟨S7680x2560, .f32⟩
  | .hbm, ⟨5, _⟩ => ⟨S1x2560, .f32⟩
  | .hbm, ⟨6, _⟩ => ⟨S7680x2560, .f32⟩
  | .hbm, ⟨7, _⟩ => ⟨S7680x2560, .fp8e4m3⟩
  | .hbm, ⟨8, _⟩ => ⟨S7680x1, .f32⟩
  | .local _ .vmem, ⟨0, _⟩ => ⟨S256x4096, .fp8e4m3⟩
  | .local _ .vmem, ⟨1, _⟩ => ⟨S256x4096, .fp8e4m3⟩
  | .local _ .vmem, ⟨2, _⟩ => ⟨S256x1, .f32⟩
  | .local _ .vmem, ⟨3, _⟩ => ⟨S256x1, .f32⟩
  | .local _ .vmem, ⟨4, _⟩ => ⟨S4096x2560, .fp8e4m3⟩
  | .local _ .vmem, ⟨5, _⟩ => ⟨S1x2560, .f32⟩
  | .local _ .vmem, ⟨6, _⟩ => ⟨S256x2560, .f32⟩
  | .local _ .vmem, ⟨7, _⟩ => ⟨S256x2560, .f32⟩
  | .local _ .vmem, ⟨8, _⟩ => ⟨S1x2560, .f32⟩
  | .local _ .vmem, ⟨9, _⟩ => ⟨S256x2560, .f32⟩
  | .local _ .vmem, ⟨10, _⟩ => ⟨S256x2560, .f32⟩
  | .local _ .vmem, ⟨11, _⟩ => ⟨S256x2560, .fp8e4m3⟩
  | .local _ .vmem, ⟨12, _⟩ => ⟨S256x2560, .fp8e4m3⟩
  | .local _ .vmem, ⟨13, _⟩ => ⟨S256x1, .f32⟩
  | .local _ .vmem, ⟨14, _⟩ => ⟨S256x1, .f32⟩
  | .local _ .vmem, ⟨15, _⟩ => ⟨S256x2560, .f32⟩
  | .local _ .vmem, ⟨16, _⟩ => ⟨S256x2560, .f32⟩
  | _, _ => ⟨S7680x4096, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_scratch0 : Ref sig .tc := ⟨.vmem, 15, rfl⟩
abbrev cc0_scratch1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨1, ![31], ![false]⟩

def k0_cond2 (i : grid0.Coords) : BitVec 1 :=
  let arg0 : BitVec 32 := BitVec.ofNat 32 (i 0).val
  let c30_i32 : BitVec 32 := 30#32
  let v3 : BitVec 1 := Scalar.cmpi .slt arg0 c30_i32
  let v4 : BitVec 32 := Scalar.extui v3
  let c0_i32_1 : BitVec 32 := 0#32
  let v5 : BitVec 1 := Scalar.cmpi .ne v4 c0_i32_1
  v5

def k0_cond3 (i : grid0.Coords) : BitVec 1 :=
  let arg0 : BitVec 32 := BitVec.ofNat 32 (i 0).val
  let c30_i32_2 : BitVec 32 := 30#32
  let v6 : BitVec 1 := Scalar.cmpi .eq arg0 c30_i32_2
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let c29_i32 : BitVec 32 := 29#32
  let v0 : BitVec 32 := Scalar.minsi arg0 c29_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c29_i32 : BitVec 32 := 29#32
  let v0 : BitVec 32 := Scalar.minsi arg0 c29_i32
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c29_i32 : BitVec 32 := 29#32
  let v0 : BitVec 32 := Scalar.minsi arg0 c29_i32
  let c0_i32 : BitVec 32 := 0#32
  let c0_i32_0 : BitVec 32 := 0#32
  ![v0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_7 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_8 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

abbrev stage0_0 : Fin 2 → Memref sig .tc .vmem S256x4096 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4096x2560 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2560 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2560 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x2560 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x2560 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x2560 .fp8e4m3 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== OutProjRefIdeal.lean ====
abbrev S7680x4096 : Shape := ⟨2, ![7680, 4096]⟩
abbrev S7680x1 : Shape := ⟨2, ![7680, 1]⟩
abbrev S4096x2560 : Shape := ⟨2, ![4096, 2560]⟩
abbrev S1x2560 : Shape := ⟨2, ![1, 2560]⟩
abbrev S7680x2560 : Shape := ⟨2, ![7680, 2560]⟩
abbrev S7680 : Shape := ⟨1, ![7680]⟩

abbrev nBuf : Space → Nat
  | .hbm => 9
  | .vmem => 9
  | .smem => 0
  | _ => 0

abbrev bufTy : (tb : Table) → Fin (tcTables nBuf tb) → BufTy
  | .hbm, ⟨0, _⟩ => ⟨S7680x4096, .fp8e4m3⟩
  | .hbm, ⟨1, _⟩ => ⟨S7680x1, .f32⟩
  | .hbm, ⟨2, _⟩ => ⟨S4096x2560, .fp8e4m3⟩
  | .hbm, ⟨3, _⟩ => ⟨S1x2560, .f32⟩
  | .hbm, ⟨4, _⟩ => ⟨S7680x2560, .f32⟩
  | .hbm, ⟨5, _⟩ => ⟨S1x2560, .f32⟩
  | .hbm, ⟨6, _⟩ => ⟨S7680x2560, .f32⟩
  | .hbm, ⟨7, _⟩ => ⟨S7680x2560, .fp8e4m3⟩
  | .hbm, ⟨8, _⟩ => ⟨S7680x1, .f32⟩
  | .local _ .vmem, ⟨0, _⟩ => ⟨S7680x4096, .fp8e4m3⟩
  | .local _ .vmem, ⟨1, _⟩ => ⟨S7680x1, .f32⟩
  | .local _ .vmem, ⟨2, _⟩ => ⟨S4096x2560, .fp8e4m3⟩
  | .local _ .vmem, ⟨3, _⟩ => ⟨S1x2560, .f32⟩
  | .local _ .vmem, ⟨4, _⟩ => ⟨S7680x2560, .f32⟩
  | .local _ .vmem, ⟨5, _⟩ => ⟨S1x2560, .f32⟩
  | .local _ .vmem, ⟨6, _⟩ => ⟨S7680x2560, .f32⟩
  | .local _ .vmem, ⟨7, _⟩ => ⟨S7680x2560, .fp8e4m3⟩
  | .local _ .vmem, ⟨8, _⟩ => ⟨S7680x1, .f32⟩
  | _, _ => ⟨S7680x4096, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := .none

abbrev stage0_0 : Fin 1 → Memref sig .tc .vmem S7680x4096 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S7680x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4096x2560 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x2560 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S7680x2560 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x2560 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S7680x2560 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S7680x2560 .fp8e4m3 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S7680x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
-- ==== DownLast.lean ====
abbrev S7680x9728 : Shape := ⟨2, ![7680, 9728]⟩
abbrev S7680x1 : Shape := ⟨2, ![7680, 1]⟩
abbrev S9728x2560 : Shape := ⟨2, ![9728, 2560]⟩
abbrev S1x2560 : Shape := ⟨2, ![1, 2560]⟩
abbrev S7680x2560 : Shape := ⟨2, ![7680, 2560]⟩
abbrev S256x9728 : Shape := ⟨2, ![256, 9728]⟩
abbrev S256x1 : Shape := ⟨2, ![256, 1]⟩
abbrev S256x2560 : Shape := ⟨2, ![256, 2560]⟩
abbrev S9728x256 : Shape := ⟨2, ![9728, 256]⟩
abbrev S256x256 : Shape := ⟨2, ![256, 256]⟩
abbrev S1x256 : Shape := ⟨2, ![1, 256]⟩
abbrev S32x2560 : Shape := ⟨2, ![32, 2560]⟩
abbrev S32 : Shape := ⟨1, ![32]⟩
abbrev S32x1 : Shape := ⟨2, ![32, 1]⟩

abbrev nBuf : Space → Nat
  | .hbm => 9
  | .vmem => 17
  | .smem => 0
  | _ => 0

abbrev bufTy : (tb : Table) → Fin (tcTables nBuf tb) → BufTy
  | .hbm, ⟨0, _⟩ => ⟨S7680x9728, .fp8e4m3⟩
  | .hbm, ⟨1, _⟩ => ⟨S7680x1, .f32⟩
  | .hbm, ⟨2, _⟩ => ⟨S9728x2560, .fp8e4m3⟩
  | .hbm, ⟨3, _⟩ => ⟨S1x2560, .f32⟩
  | .hbm, ⟨4, _⟩ => ⟨S7680x2560, .f32⟩
  | .hbm, ⟨5, _⟩ => ⟨S1x2560, .f32⟩
  | .hbm, ⟨6, _⟩ => ⟨S7680x2560, .bf16⟩
  | .hbm, ⟨7, _⟩ => ⟨S7680x2560, .fp8e4m3⟩
  | .hbm, ⟨8, _⟩ => ⟨S7680x1, .f32⟩
  | .local _ .vmem, ⟨0, _⟩ => ⟨S256x9728, .fp8e4m3⟩
  | .local _ .vmem, ⟨1, _⟩ => ⟨S256x9728, .fp8e4m3⟩
  | .local _ .vmem, ⟨2, _⟩ => ⟨S256x1, .f32⟩
  | .local _ .vmem, ⟨3, _⟩ => ⟨S256x1, .f32⟩
  | .local _ .vmem, ⟨4, _⟩ => ⟨S9728x2560, .fp8e4m3⟩
  | .local _ .vmem, ⟨5, _⟩ => ⟨S1x2560, .f32⟩
  | .local _ .vmem, ⟨6, _⟩ => ⟨S256x2560, .f32⟩
  | .local _ .vmem, ⟨7, _⟩ => ⟨S256x2560, .f32⟩
  | .local _ .vmem, ⟨8, _⟩ => ⟨S1x2560, .f32⟩
  | .local _ .vmem, ⟨9, _⟩ => ⟨S256x2560, .bf16⟩
  | .local _ .vmem, ⟨10, _⟩ => ⟨S256x2560, .bf16⟩
  | .local _ .vmem, ⟨11, _⟩ => ⟨S256x2560, .fp8e4m3⟩
  | .local _ .vmem, ⟨12, _⟩ => ⟨S256x2560, .fp8e4m3⟩
  | .local _ .vmem, ⟨13, _⟩ => ⟨S256x1, .f32⟩
  | .local _ .vmem, ⟨14, _⟩ => ⟨S256x1, .f32⟩
  | .local _ .vmem, ⟨15, _⟩ => ⟨S256x2560, .f32⟩
  | .local _ .vmem, ⟨16, _⟩ => ⟨S256x2560, .f32⟩
  | _, _ => ⟨S7680x9728, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_scratch0 : Ref sig .tc := ⟨.vmem, 15, rfl⟩
abbrev cc0_scratch1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨1, ![31], ![false]⟩

def k0_cond2 (i : grid0.Coords) : BitVec 1 :=
  let arg0 : BitVec 32 := BitVec.ofNat 32 (i 0).val
  let c30_i32 : BitVec 32 := 30#32
  let v3 : BitVec 1 := Scalar.cmpi .slt arg0 c30_i32
  let v4 : BitVec 32 := Scalar.extui v3
  let c0_i32_1 : BitVec 32 := 0#32
  let v5 : BitVec 1 := Scalar.cmpi .ne v4 c0_i32_1
  v5

def k0_cond3 (i : grid0.Coords) : BitVec 1 :=
  let arg0 : BitVec 32 := BitVec.ofNat 32 (i 0).val
  let c30_i32_2 : BitVec 32 := 30#32
  let v6 : BitVec 1 := Scalar.cmpi .eq arg0 c30_i32_2
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let c29_i32 : BitVec 32 := 29#32
  let v0 : BitVec 32 := Scalar.minsi arg0 c29_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c29_i32 : BitVec 32 := 29#32
  let v0 : BitVec 32 := Scalar.minsi arg0 c29_i32
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c29_i32 : BitVec 32 := 29#32
  let v0 : BitVec 32 := Scalar.minsi arg0 c29_i32
  let c0_i32 : BitVec 32 := 0#32
  let c0_i32_0 : BitVec 32 := 0#32
  ![v0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_7 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_8 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

abbrev stage0_0 : Fin 2 → Memref sig .tc .vmem S256x9728 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S9728x2560 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2560 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2560 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x2560 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x2560 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x2560 .fp8e4m3 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== DownLastRefIdeal.lean ====
abbrev S7680x9728 : Shape := ⟨2, ![7680, 9728]⟩
abbrev S7680x1 : Shape := ⟨2, ![7680, 1]⟩
abbrev S9728x2560 : Shape := ⟨2, ![9728, 2560]⟩
abbrev S1x2560 : Shape := ⟨2, ![1, 2560]⟩
abbrev S7680x2560 : Shape := ⟨2, ![7680, 2560]⟩
abbrev S7680 : Shape := ⟨1, ![7680]⟩

abbrev nBuf : Space → Nat
  | .hbm => 9
  | .vmem => 9
  | .smem => 0
  | _ => 0

abbrev bufTy : (tb : Table) → Fin (tcTables nBuf tb) → BufTy
  | .hbm, ⟨0, _⟩ => ⟨S7680x9728, .fp8e4m3⟩
  | .hbm, ⟨1, _⟩ => ⟨S7680x1, .f32⟩
  | .hbm, ⟨2, _⟩ => ⟨S9728x2560, .fp8e4m3⟩
  | .hbm, ⟨3, _⟩ => ⟨S1x2560, .f32⟩
  | .hbm, ⟨4, _⟩ => ⟨S7680x2560, .f32⟩
  | .hbm, ⟨5, _⟩ => ⟨S1x2560, .f32⟩
  | .hbm, ⟨6, _⟩ => ⟨S7680x2560, .bf16⟩
  | .hbm, ⟨7, _⟩ => ⟨S7680x2560, .fp8e4m3⟩
  | .hbm, ⟨8, _⟩ => ⟨S7680x1, .f32⟩
  | .local _ .vmem, ⟨0, _⟩ => ⟨S7680x9728, .fp8e4m3⟩
  | .local _ .vmem, ⟨1, _⟩ => ⟨S7680x1, .f32⟩
  | .local _ .vmem, ⟨2, _⟩ => ⟨S9728x2560, .fp8e4m3⟩
  | .local _ .vmem, ⟨3, _⟩ => ⟨S1x2560, .f32⟩
  | .local _ .vmem, ⟨4, _⟩ => ⟨S7680x2560, .f32⟩
  | .local _ .vmem, ⟨5, _⟩ => ⟨S1x2560, .f32⟩
  | .local _ .vmem, ⟨6, _⟩ => ⟨S7680x2560, .bf16⟩
  | .local _ .vmem, ⟨7, _⟩ => ⟨S7680x2560, .fp8e4m3⟩
  | .local _ .vmem, ⟨8, _⟩ => ⟨S7680x1, .f32⟩
  | _, _ => ⟨S7680x9728, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := .none

abbrev stage0_0 : Fin 1 → Memref sig .tc .vmem S7680x9728 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S7680x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S9728x2560 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x2560 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S7680x2560 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x2560 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S7680x2560 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S7680x2560 .fp8e4m3 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S7680x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
-- ==== Fc.lean ====
abbrev S7680x7680 : Shape := ⟨2, ![7680, 7680]⟩
abbrev S7680x1 : Shape := ⟨2, ![7680, 1]⟩
abbrev S7680x2560 : Shape := ⟨2, ![7680, 2560]⟩
abbrev S1x2560 : Shape := ⟨2, ![1, 2560]⟩
abbrev S7680x5120 : Shape := ⟨2, ![7680, 5120]⟩
abbrev S256x7680 : Shape := ⟨2, ![256, 7680]⟩
abbrev S256x1 : Shape := ⟨2, ![256, 1]⟩
abbrev S256x2560 : Shape := ⟨2, ![256, 2560]⟩
abbrev S256x5120 : Shape := ⟨2, ![256, 5120]⟩
abbrev S7680x256 : Shape := ⟨2, ![7680, 256]⟩
abbrev S256x256 : Shape := ⟨2, ![256, 256]⟩
abbrev S1x256 : Shape := ⟨2, ![1, 256]⟩
abbrev S32x2560 : Shape := ⟨2, ![32, 2560]⟩
abbrev S32 : Shape := ⟨1, ![32]⟩
abbrev S32x1 : Shape := ⟨2, ![32, 1]⟩

abbrev nBuf : Space → Nat
  | .hbm => 11
  | .vmem => 20
  | .smem => 0
  | _ => 0

abbrev bufTy : (tb : Table) → Fin (tcTables nBuf tb) → BufTy
  | .hbm, ⟨0, _⟩ => ⟨S7680x7680, .fp8e4m3⟩
  | .hbm, ⟨1, _⟩ => ⟨S7680x1, .f32⟩
  | .hbm, ⟨2, _⟩ => ⟨S7680x2560, .fp8e4m3⟩
  | .hbm, ⟨3, _⟩ => ⟨S1x2560, .f32⟩
  | .hbm, ⟨4, _⟩ => ⟨S7680x2560, .i8⟩
  | .hbm, ⟨5, _⟩ => ⟨S7680x1, .f32⟩
  | .hbm, ⟨6, _⟩ => ⟨S1x2560, .f32⟩
  | .hbm, ⟨7, _⟩ => ⟨S1x2560, .f32⟩
  | .hbm, ⟨8, _⟩ => ⟨S7680x2560, .f32⟩
  | .hbm, ⟨9, _⟩ => ⟨S7680x5120, .fp8e4m3⟩
  | .hbm, ⟨10, _⟩ => ⟨S7680x1, .f32⟩
  | .local _ .vmem, ⟨0, _⟩ => ⟨S256x7680, .fp8e4m3⟩
  | .local _ .vmem, ⟨1, _⟩ => ⟨S256x7680, .fp8e4m3⟩
  | .local _ .vmem, ⟨2, _⟩ => ⟨S256x1, .f32⟩
  | .local _ .vmem, ⟨3, _⟩ => ⟨S256x1, .f32⟩
  | .local _ .vmem, ⟨4, _⟩ => ⟨S7680x2560, .fp8e4m3⟩
  | .local _ .vmem, ⟨5, _⟩ => ⟨S1x2560, .f32⟩
  | .local _ .vmem, ⟨6, _⟩ => ⟨S256x2560, .i8⟩
  | .local _ .vmem, ⟨7, _⟩ => ⟨S256x2560, .i8⟩
  | .local _ .vmem, ⟨8, _⟩ => ⟨S256x1, .f32⟩
  | .local _ .vmem, ⟨9, _⟩ => ⟨S256x1, .f32⟩
  | .local _ .vmem, ⟨10, _⟩ => ⟨S1x2560, .f32⟩
  | .local _ .vmem, ⟨11, _⟩ => ⟨S1x2560, .f32⟩
  | .local _ .vmem, ⟨12, _⟩ => ⟨S256x2560, .f32⟩
  | .local _ .vmem, ⟨13, _⟩ => ⟨S256x2560, .f32⟩
  | .local _ .vmem, ⟨14, _⟩ => ⟨S256x5120, .fp8e4m3⟩
  | .local _ .vmem, ⟨15, _⟩ => ⟨S256x5120, .fp8e4m3⟩
  | .local _ .vmem, ⟨16, _⟩ => ⟨S256x1, .f32⟩
  | .local _ .vmem, ⟨17, _⟩ => ⟨S256x1, .f32⟩
  | .local _ .vmem, ⟨18, _⟩ => ⟨S256x2560, .f32⟩
  | .local _ .vmem, ⟨19, _⟩ => ⟨S256x2560, .f32⟩
  | _, _ => ⟨S7680x7680, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_scratch0 : Ref sig .tc := ⟨.vmem, 18, rfl⟩
abbrev cc0_scratch1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17

abbrev nD : Nat := 1
abbrev τ : Topo := Topo.v7x

variable {F : FTy → Type} [FloatOps F]

abbrev grid0 : Pipeline.Grid := ⟨1, ![31], ![false]⟩

def k0_cond2 (i : grid0.Coords) : BitVec 1 :=
  let arg0 : BitVec 32 := BitVec.ofNat 32 (i 0).val
  let c30_i32 : BitVec 32 := 30#32
  let v3 : BitVec 1 := Scalar.cmpi .slt arg0 c30_i32
  let v4 : BitVec 32 := Scalar.extui v3
  let c0_i32_1 : BitVec 32 := 0#32
  let v5 : BitVec 1 := Scalar.cmpi .ne v4 c0_i32_1
  v5

def k0_cond3 (i : grid0.Coords) : BitVec 1 :=
  let arg0 : BitVec 32 := BitVec.ofNat 32 (i 0).val
  let c30_i32_2 : BitVec 32 := 30#32
  let v6 : BitVec 1 := Scalar.cmpi .eq arg0 c30_i32_2
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let c29_i32 : BitVec 32 := 29#32
  let v0 : BitVec 32 := Scalar.minsi arg0 c29_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c29_i32 : BitVec 32 := 29#32
  let v0 : BitVec 32 := Scalar.minsi arg0 c29_i32
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_5 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_9 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_10 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

abbrev stage0_0 : Fin 2 → Memref sig .tc .vmem S256x7680 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S7680x2560 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2560 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2560 .i8 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x2560 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x2560 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x2560 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x5120 .fp8e4m3 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== FcRefIdeal.lean ====
abbrev S7680x7680 : Shape := ⟨2, ![7680, 7680]⟩
abbrev S7680x1 : Shape := ⟨2, ![7680, 1]⟩
abbrev S7680x2560 : Shape := ⟨2, ![7680, 2560]⟩
abbrev S1x2560 : Shape := ⟨2, ![1, 2560]⟩
abbrev S7680x5120 : Shape := ⟨2, ![7680, 5120]⟩
abbrev S7680 : Shape := ⟨1, ![7680]⟩

abbrev nBuf : Space → Nat
  | .hbm => 11
  | .vmem => 11
  | .smem => 0
  | _ => 0

abbrev bufTy : (tb : Table) → Fin (tcTables nBuf tb) → BufTy
  | .hbm, ⟨0, _⟩ => ⟨S7680x7680, .fp8e4m3⟩
  | .hbm, ⟨1, _⟩ => ⟨S7680x1, .f32⟩
  | .hbm, ⟨2, _⟩ => ⟨S7680x2560, .fp8e4m3⟩
  | .hbm, ⟨3, _⟩ => ⟨S1x2560, .f32⟩
  | .hbm, ⟨4, _⟩ => ⟨S7680x2560, .i8⟩
  | .hbm, ⟨5, _⟩ => ⟨S7680x1, .f32⟩
  | .hbm, ⟨6, _⟩ => ⟨S1x2560, .f32⟩
  | .hbm, ⟨7, _⟩ => ⟨S1x2560, .f32⟩
  | .hbm, ⟨8, _⟩ => ⟨S7680x2560, .f32⟩
  | .hbm, ⟨9, _⟩ => ⟨S7680x5120, .fp8e4m3⟩
  | .hbm, ⟨10, _⟩ => ⟨S7680x1, .f32⟩
  | .local _ .vmem, ⟨0, _⟩ => ⟨S7680x7680, .fp8e4m3⟩
  | .local _ .vmem, ⟨1, _⟩ => ⟨S7680x1, .f32⟩
  | .local _ .vmem, ⟨2, _⟩ => ⟨S7680x2560, .fp8e4m3⟩
  | .local _ .vmem, ⟨3, _⟩ => ⟨S1x2560, .f32⟩
  | .local _ .vmem, ⟨4, _⟩ => ⟨S7680x2560, .i8⟩
  | .local _ .vmem, ⟨5, _⟩ => ⟨S7680x1, .f32⟩
  | .local _ .vmem, ⟨6, _⟩ => ⟨S1x2560, .f32⟩
  | .local _ .vmem, ⟨7, _⟩ => ⟨S1x2560, .f32⟩
  | .local _ .vmem, ⟨8, _⟩ => ⟨S7680x2560, .f32⟩
  | .local _ .vmem, ⟨9, _⟩ => ⟨S7680x5120, .fp8e4m3⟩
  | .local _ .vmem, ⟨10, _⟩ => ⟨S7680x1, .f32⟩
  | _, _ => ⟨S7680x7680, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10

abbrev nD : Nat := 1
abbrev τ : Topo := Topo.v7x

variable {F : FTy → Type} [FloatOps F]

abbrev grid0 : Pipeline.Grid := .none

abbrev stage0_0 : Fin 1 → Memref sig .tc .vmem S7680x7680 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S7680x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S7680x2560 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x2560 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S7680x2560 .i8 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S7680x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x2560 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x2560 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S7680x2560 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S7680x5120 .fp8e4m3 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S7680x1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
-- ==== Down.lean ====
abbrev S7680x9728 : Shape := ⟨2, ![7680, 9728]⟩
abbrev S7680x1 : Shape := ⟨2, ![7680, 1]⟩
abbrev S9728x2560 : Shape := ⟨2, ![9728, 2560]⟩
abbrev S1x2560 : Shape := ⟨2, ![1, 2560]⟩
abbrev S7680x2560 : Shape := ⟨2, ![7680, 2560]⟩
abbrev S7680x5120 : Shape := ⟨2, ![7680, 5120]⟩
abbrev S256x9728 : Shape := ⟨2, ![256, 9728]⟩
abbrev S256x1 : Shape := ⟨2, ![256, 1]⟩
abbrev S256x2560 : Shape := ⟨2, ![256, 2560]⟩
abbrev S256x5120 : Shape := ⟨2, ![256, 5120]⟩
abbrev S9728x256 : Shape := ⟨2, ![9728, 256]⟩
abbrev S256x256 : Shape := ⟨2, ![256, 256]⟩
abbrev S1x256 : Shape := ⟨2, ![1, 256]⟩
abbrev S32x2560 : Shape := ⟨2, ![32, 2560]⟩
abbrev S32 : Shape := ⟨1, ![32]⟩
abbrev S32x1 : Shape := ⟨2, ![32, 1]⟩

abbrev nBuf : Space → Nat
  | .hbm => 15
  | .vmem => 27
  | .smem => 0
  | _ => 0

abbrev bufTy : (tb : Table) → Fin (tcTables nBuf tb) → BufTy
  | .hbm, ⟨0, _⟩ => ⟨S7680x9728, .fp8e4m3⟩
  | .hbm, ⟨1, _⟩ => ⟨S7680x1, .f32⟩
  | .hbm, ⟨2, _⟩ => ⟨S9728x2560, .fp8e4m3⟩
  | .hbm, ⟨3, _⟩ => ⟨S1x2560, .f32⟩
  | .hbm, ⟨4, _⟩ => ⟨S7680x2560, .f32⟩
  | .hbm, ⟨5, _⟩ => ⟨S1x2560, .f32⟩
  | .hbm, ⟨6, _⟩ => ⟨S7680x2560, .i8⟩
  | .hbm, ⟨7, _⟩ => ⟨S7680x1, .f32⟩
  | .hbm, ⟨8, _⟩ => ⟨S1x2560, .f32⟩
  | .hbm, ⟨9, _⟩ => ⟨S1x2560, .f32⟩
  | .hbm, ⟨10, _⟩ => ⟨S7680x2560, .f32⟩
  | .hbm, ⟨11, _⟩ => ⟨S7680x2560, .fp8e4m3⟩
  | .hbm, ⟨12, _⟩ => ⟨S7680x1, .f32⟩
  | .hbm, ⟨13, _⟩ => ⟨S7680x5120, .fp8e4m3⟩
  | .hbm, ⟨14, _⟩ => ⟨S7680x1, .f32⟩
  | .local _ .vmem, ⟨0, _⟩ => ⟨S256x9728, .fp8e4m3⟩
  | .local _ .vmem, ⟨1, _⟩ => ⟨S256x9728, .fp8e4m3⟩
  | .local _ .vmem, ⟨2, _⟩ => ⟨S256x1, .f32⟩
  | .local _ .vmem, ⟨3, _⟩ => ⟨S256x1, .f32⟩
  | .local _ .vmem, ⟨4, _⟩ => ⟨S9728x2560, .fp8e4m3⟩
  | .local _ .vmem, ⟨5, _⟩ => ⟨S1x2560, .f32⟩
  | .local _ .vmem, ⟨6, _⟩ => ⟨S256x2560, .f32⟩
  | .local _ .vmem, ⟨7, _⟩ => ⟨S256x2560, .f32⟩
  | .local _ .vmem, ⟨8, _⟩ => ⟨S1x2560, .f32⟩
  | .local _ .vmem, ⟨9, _⟩ => ⟨S256x2560, .i8⟩
  | .local _ .vmem, ⟨10, _⟩ => ⟨S256x2560, .i8⟩
  | .local _ .vmem, ⟨11, _⟩ => ⟨S256x1, .f32⟩
  | .local _ .vmem, ⟨12, _⟩ => ⟨S256x1, .f32⟩
  | .local _ .vmem, ⟨13, _⟩ => ⟨S1x2560, .f32⟩
  | .local _ .vmem, ⟨14, _⟩ => ⟨S1x2560, .f32⟩
  | .local _ .vmem, ⟨15, _⟩ => ⟨S256x2560, .f32⟩
  | .local _ .vmem, ⟨16, _⟩ => ⟨S256x2560, .f32⟩
  | .local _ .vmem, ⟨17, _⟩ => ⟨S256x2560, .fp8e4m3⟩
  | .local _ .vmem, ⟨18, _⟩ => ⟨S256x2560, .fp8e4m3⟩
  | .local _ .vmem, ⟨19, _⟩ => ⟨S256x1, .f32⟩
  | .local _ .vmem, ⟨20, _⟩ => ⟨S256x1, .f32⟩
  | .local _ .vmem, ⟨21, _⟩ => ⟨S256x5120, .fp8e4m3⟩
  | .local _ .vmem, ⟨22, _⟩ => ⟨S256x5120, .fp8e4m3⟩
  | .local _ .vmem, ⟨23, _⟩ => ⟨S256x1, .f32⟩
  | .local _ .vmem, ⟨24, _⟩ => ⟨S256x1, .f32⟩
  | .local _ .vmem, ⟨25, _⟩ => ⟨S256x2560, .f32⟩
  | .local _ .vmem, ⟨26, _⟩ => ⟨S256x2560, .f32⟩
  | _, _ => ⟨S7680x9728, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0_0 : Ref sig .tc := ⟨.hbm, 10, rfl⟩
abbrev main_v0_1 : Ref sig .tc := ⟨.hbm, 11, rfl⟩
abbrev main_v0_2 : Ref sig .tc := ⟨.hbm, 12, rfl⟩
abbrev main_v0_3 : Ref sig .tc := ⟨.hbm, 13, rfl⟩
abbrev main_v0_4 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg14_1 : Ref sig .tc := ⟨.vmem, 24, rfl⟩
abbrev cc0_scratch0 : Ref sig .tc := ⟨.vmem, 25, rfl⟩
abbrev cc0_scratch1 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem9_0 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22
abbrev cc0_sem14_0 : DmaSem sig := 23
abbrev cc0_sem14_1 : DmaSem sig := 24

abbrev nD : Nat := 1
abbrev τ : Topo := Topo.v7x

variable {F : FTy → Type} [FloatOps F]

abbrev grid0 : Pipeline.Grid := ⟨1, ![31], ![false]⟩

def k0_cond2 (i : grid0.Coords) : BitVec 1 :=
  let arg0 : BitVec 32 := BitVec.ofNat 32 (i 0).val
  let c30_i32 : BitVec 32 := 30#32
  let v3 : BitVec 1 := Scalar.cmpi .slt arg0 c30_i32
  let v4 : BitVec 32 := Scalar.extui v3
  let c0_i32_1 : BitVec 32 := 0#32
  let v5 : BitVec 1 := Scalar.cmpi .ne v4 c0_i32_1
  v5

def k0_cond3 (i : grid0.Coords) : BitVec 1 :=
  let arg0 : BitVec 32 := BitVec.ofNat 32 (i 0).val
  let c30_i32_2 : BitVec 32 := 30#32
  let v6 : BitVec 1 := Scalar.cmpi .eq arg0 c30_i32_2
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let c29_i32 : BitVec 32 := 29#32
  let v0 : BitVec 32 := Scalar.minsi arg0 c29_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c29_i32 : BitVec 32 := 29#32
  let v0 : BitVec 32 := Scalar.minsi arg0 c29_i32
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c29_i32 : BitVec 32 := 29#32
  let v0 : BitVec 32 := Scalar.minsi arg0 c29_i32
  let c0_i32 : BitVec 32 := 0#32
  let c0_i32_0 : BitVec 32 := 0#32
  ![v0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_7 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_11 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_12 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_13 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_14 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

abbrev stage0_0 : Fin 2 → Memref sig .tc .vmem S256x9728 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S9728x2560 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2560 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2560 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x2560 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x2560 .i8 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x2560 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x2560 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S256x2560 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x2560 .fp8e4m3 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x1 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x5120 .fp8e4m3 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x1 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== DownRefIdeal.lean ====
abbrev S7680x9728 : Shape := ⟨2, ![7680, 9728]⟩
abbrev S7680x1 : Shape := ⟨2, ![7680, 1]⟩
abbrev S9728x2560 : Shape := ⟨2, ![9728, 2560]⟩
abbrev S1x2560 : Shape := ⟨2, ![1, 2560]⟩
abbrev S7680x2560 : Shape := ⟨2, ![7680, 2560]⟩
abbrev S7680x5120 : Shape := ⟨2, ![7680, 5120]⟩
abbrev S7680 : Shape := ⟨1, ![7680]⟩

abbrev nBuf : Space → Nat
  | .hbm => 15
  | .vmem => 15
  | .smem => 0
  | _ => 0

abbrev bufTy : (tb : Table) → Fin (tcTables nBuf tb) → BufTy
  | .hbm, ⟨0, _⟩ => ⟨S7680x9728, .fp8e4m3⟩
  | .hbm, ⟨1, _⟩ => ⟨S7680x1, .f32⟩
  | .hbm, ⟨2, _⟩ => ⟨S9728x2560, .fp8e4m3⟩
  | .hbm, ⟨3, _⟩ => ⟨S1x2560, .f32⟩
  | .hbm, ⟨4, _⟩ => ⟨S7680x2560, .f32⟩
  | .hbm, ⟨5, _⟩ => ⟨S1x2560, .f32⟩
  | .hbm, ⟨6, _⟩ => ⟨S7680x2560, .i8⟩
  | .hbm, ⟨7, _⟩ => ⟨S7680x1, .f32⟩
  | .hbm, ⟨8, _⟩ => ⟨S1x2560, .f32⟩
  | .hbm, ⟨9, _⟩ => ⟨S1x2560, .f32⟩
  | .hbm, ⟨10, _⟩ => ⟨S7680x2560, .f32⟩
  | .hbm, ⟨11, _⟩ => ⟨S7680x2560, .fp8e4m3⟩
  | .hbm, ⟨12, _⟩ => ⟨S7680x1, .f32⟩
  | .hbm, ⟨13, _⟩ => ⟨S7680x5120, .fp8e4m3⟩
  | .hbm, ⟨14, _⟩ => ⟨S7680x1, .f32⟩
  | .local _ .vmem, ⟨0, _⟩ => ⟨S7680x9728, .fp8e4m3⟩
  | .local _ .vmem, ⟨1, _⟩ => ⟨S7680x1, .f32⟩
  | .local _ .vmem, ⟨2, _⟩ => ⟨S9728x2560, .fp8e4m3⟩
  | .local _ .vmem, ⟨3, _⟩ => ⟨S1x2560, .f32⟩
  | .local _ .vmem, ⟨4, _⟩ => ⟨S7680x2560, .f32⟩
  | .local _ .vmem, ⟨5, _⟩ => ⟨S1x2560, .f32⟩
  | .local _ .vmem, ⟨6, _⟩ => ⟨S7680x2560, .i8⟩
  | .local _ .vmem, ⟨7, _⟩ => ⟨S7680x1, .f32⟩
  | .local _ .vmem, ⟨8, _⟩ => ⟨S1x2560, .f32⟩
  | .local _ .vmem, ⟨9, _⟩ => ⟨S1x2560, .f32⟩
  | .local _ .vmem, ⟨10, _⟩ => ⟨S7680x2560, .f32⟩
  | .local _ .vmem, ⟨11, _⟩ => ⟨S7680x2560, .fp8e4m3⟩
  | .local _ .vmem, ⟨12, _⟩ => ⟨S7680x1, .f32⟩
  | .local _ .vmem, ⟨13, _⟩ => ⟨S7680x5120, .fp8e4m3⟩
  | .local _ .vmem, ⟨14, _⟩ => ⟨S7680x1, .f32⟩
  | _, _ => ⟨S7680x9728, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0_0 : Ref sig .tc := ⟨.hbm, 10, rfl⟩
abbrev main_v0_1 : Ref sig .tc := ⟨.hbm, 11, rfl⟩
abbrev main_v0_2 : Ref sig .tc := ⟨.hbm, 12, rfl⟩
abbrev main_v0_3 : Ref sig .tc := ⟨.hbm, 13, rfl⟩
abbrev main_v0_4 : Ref sig .tc := ⟨.hbm, 14, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14

abbrev nD : Nat := 1
abbrev τ : Topo := Topo.v7x

variable {F : FTy → Type} [FloatOps F]

abbrev grid0 : Pipeline.Grid := .none

abbrev stage0_0 : Fin 1 → Memref sig .tc .vmem S7680x9728 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S7680x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S9728x2560 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x2560 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S7680x2560 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x2560 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S7680x2560 .i8 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S7680x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x2560 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1x2560 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S7680x2560 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S7680x2560 .fp8e4m3 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S7680x1 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S7680x5120 .fp8e4m3 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S7680x1 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
-- ==== Proof.Quant.lean ====
module

public import Idealize.ShloMosaic.Lib.Pointwise

/-! The row quantiser over the extended reals: the largest absolute value of a row taken lane by lane,
    the scale it gives, and multiplying by the inverse scale against dividing by the scale. -/

@[expose] public section

set_option maxRecDepth 16384

noncomputable section
open Idealize.ShloMosaic

namespace Cert.Quant

/-- The running maximum one lane holds after `n` tiles of 256 columns: of `f` at the columns
    `256 k + l` and `256 k + 128 + l` for `k < n`. -/
def acc (f : ℕ → EReal) : ℕ → ℕ → EReal
  | 0, _ => 0
  | n + 1, l => max (max (acc f n l) (f (256 * n + l))) (f (256 * n + (128 + l)))

/-- A lane's running maximum is at most `b` exactly when zero and every column it has seen are. -/
theorem acc_le (f : ℕ → EReal) (b : EReal) (n l : ℕ) :
    acc f n l ≤ b ↔ 0 ≤ b ∧ ∀ k < n, f (256 * k + l) ≤ b ∧ f (256 * k + (128 + l)) ≤ b := by
  induction n with
  | zero => simp [acc]
  | succ n ih =>
    simp only [acc, max_le_iff, ih]
    constructor
    · rintro ⟨⟨⟨h0, h⟩, h1⟩, h2⟩
      refine ⟨h0, fun k hk => ?_⟩
      rcases Nat.lt_succ_iff_lt_or_eq.mp hk with h' | rfl
      · exact h k h'
      · exact ⟨h1, h2⟩
    · rintro ⟨h0, h⟩
      exact ⟨⟨⟨h0, fun k hk => h k (by omega)⟩, (h n (by omega)).1⟩, (h n (by omega)).2⟩

/-- The maximum over the 128 lanes of the running maxima is the maximum over the whole row. -/
theorem fold_lanes (T N : ℕ) (hN : N = 256 * T) (b : EReal) (f : ℕ → EReal) (hf : ∀ j, 0 ≤ f j) (hT : 0 < T) :
    Finset.fold max b (fun l : Fin 128 => acc f T l) Finset.univ
      = Finset.fold max b (fun j : Fin N => f j) Finset.univ := by
  refine eq_of_forall_ge_iff fun d => ?_
  rw [Finset.fold_max_le, Finset.fold_max_le]
  refine and_congr_right fun _ => ?_
  constructor
  · intro h j _
    have hj := j.isLt
    have h' := (acc_le f d T (j.val % 128)).mp (h ⟨j.val % 128, Nat.mod_lt _ (by norm_num)⟩ (Finset.mem_univ _))
    have h2 := h'.2 (j.val / 256) (by omega)
    by_cases hc : j.val % 256 < 128
    · have := h2.1; rwa [show 256 * (j.val / 256) + j.val % 128 = j.val by omega] at this
    · have := h2.2; rwa [show 256 * (j.val / 256) + (128 + j.val % 128) = j.val by omega] at this
  · intro h l _
    have hl := l.isLt
    refine (acc_le f d T l).mpr ⟨(hf 0).trans (h ⟨0, by omega⟩ (Finset.mem_univ _)), fun k hk => ⟨?_, ?_⟩⟩
    · exact h ⟨256 * k + l, by omega⟩ (Finset.mem_univ _)
    · exact h ⟨256 * k + (128 + l), by omega⟩ (Finset.mem_univ _)

/-- The absolute value is not negative. -/
theorem absf_nonneg (x : EReal) : (0 : EReal) ≤ FloatOps.absf (F := Ideal) (φ := .f32) x := by
  show (0 : EReal) ≤ max x (-x)
  rcases le_total 0 x with h | h
  · exact le_max_of_le_left h
  · exact le_max_of_le_right (EReal.neg_nonneg.mpr h)

/-- The constant 448 as a real number. -/
theorem ofBits_448 : Ideal.ofBits FTy.f32 1138753536#32 = ((448 : ℝ) : EReal) := by
  simp [Ideal.ofBits, Ideal.ieee, -EReal.coe_mul]
  norm_num

/-- The scale of a row whose largest absolute value is `a`. -/
def scaleOf (a : EReal) : EReal := if a = 0 then 1 else Ideal.div a (Ideal.ofBits FTy.f32 1138753536#32)

/-- A row's scale is never zero. -/
theorem scaleOf_ne (a : EReal) : scaleOf a ≠ 0 := by
  unfold scaleOf
  split
  · exact one_ne_zero
  · next h =>
    rw [ofBits_448, Ideal.div_coe (by norm_num)]
    exact mul_ne_zero h (by norm_num)

/-- Multiplying by the inverse of the scale is dividing by the scale. -/
theorem mul_inv_scale (v a : EReal) : v * Ideal.div 1 (scaleOf a) = Ideal.div v (scaleOf a) := by
  rw [Ideal.div, Ideal.div, if_neg (scaleOf_ne a), if_neg (scaleOf_ne a), one_mul]

/-- A quantised value: multiplied by the inverse scale and clipped to the format's range. -/
def quant (v s : EReal) : EReal :=
  min (Ideal.ofBits FTy.f32 1138753536#32) (max (Ideal.ofBits FTy.f32 3286237184#32) (v * Ideal.div 1 s))

end Cert.Quant

end
-- ==== Proof.GateUp.Mid.lean ====
module

public import proofs.«01_k».proof.Proof.Gen.GateUpIdeal.Value
public import proofs.«01_k».proof.Proof.Quant
public import Idealize.ShloMosaic.Lib.Pipeline.ValueKit
public import Idealize.ShloMosaic.Lib.Pipeline.ReadBack

/-! What the gate/up kernel leaves in its staging buffer at a grid point: `silu(gate) * up` of the
    point's rows, all 38 column tiles. -/

@[expose] public section

set_option maxRecDepth 16384

noncomputable section
open Idealize.ShloMosaic Idealize.ShloMosaic.TcCoe Idealize.SL.Sem
open Idealize.ShloMosaic.Pipeline (Dat)
namespace Cert.GateUpIdeal.Value
open Cert.GateUpIdeal Cert.GateUpIdeal.Gen
variable (m : (ℓ : Loc nD τ sig) → Buf (Elt Ideal) ℓ)

/-- One scaled product: row `r` of the codes with column `j` of a weight, times both scales. -/
def lin (x : Vec Ideal S128x2560 .fp8e4m3) (xs : Vec Ideal S128x1 .f32) (w : Vec Ideal S2560x9728 .fp8e4m3)
    (s : Vec Ideal S1x9728 .f32) (r : Fin 128) (j : Fin 9728) : EReal :=
  (∑ k : Fin 2560, (x (ix2 r k) : EReal) * w (ix2 k j)) * xs (ix2 r 0) * s (ix2 0 j)

/-- `silu(gate) * up` at row `r`, column `j` of a block of rows. -/
def mid (x : Vec Ideal S128x2560 .fp8e4m3) (xs : Vec Ideal S128x1 .f32) (wg wu : Vec Ideal S2560x9728 .fp8e4m3)
    (sg su : Vec Ideal S1x9728 .f32) (r : Fin 128) (j : Fin 9728) : EReal :=
  lin x xs wg sg r j * Ideal.logistic (lin x xs wg sg r j) * lin x xs wu su r j

/-- The absolute values of a row of `mid`, extended by zero. -/
def midAbs (x : Vec Ideal S128x2560 .fp8e4m3) (xs : Vec Ideal S128x1 .f32) (wg wu : Vec Ideal S2560x9728 .fp8e4m3)
    (sg su : Vec Ideal S1x9728 .f32) (r : Fin 128) (j : ℕ) : EReal :=
  if h : j < 9728 then FloatOps.absf (F := Ideal) (φ := .f32) (mid x xs wg wu sg su r ⟨j, h⟩) else 0

/-- The extended absolute values are not negative. -/
theorem midAbs_nonneg (x : Vec Ideal S128x2560 .fp8e4m3) (xs : Vec Ideal S128x1 .f32) (wg wu : Vec Ideal S2560x9728 .fp8e4m3)
    (sg su : Vec Ideal S1x9728 .f32) (r : Fin 128) (j : ℕ) : 0 ≤ midAbs x xs wg wu sg su r j := by
  unfold midAbs
  split
  · exact Cert.Quant.absf_nonneg _
  · exact le_rfl

/-- The first tile of the running maximum. -/
theorem acc_first (T : FVec Ideal S128x256 .f32) (f : Fin 128 → ℕ → EReal) (hf : ∀ r j, 0 ≤ f r j)
    (hT : ∀ (r : Fin 128) (j : Fin 256), FloatOps.absf (F := Ideal) (φ := .f32) (T (ix2 r j)) = f r (256 * 0 + j))
    (r l : Fin 128) :
    maximumf (absf (extractStridedSlice S128x128 ![0, 0] T slices_S128x256_o0_0_S128x128))
      (absf (extractStridedSlice S128x128 ![0, 128] T slices_S128x256_o0_128_S128x128)) (ix2 r l)
      = Cert.Quant.acc (f r) 1 l := by
  pointwise
  rw [hT, hT]
  simp only [Cert.Quant.acc, max_eq_right (hf r _)]

/-- One step of the running maximum: a tile of 256 columns, its two halves of 128 lanes in turn. -/
theorem acc_step (A : FVec Ideal S128x128 .f32) (T : FVec Ideal S128x256 .f32) (f : Fin 128 → ℕ → EReal) (n : ℕ)
    (hA : ∀ r l : Fin 128, A (ix2 r l) = Cert.Quant.acc (f r) n l)
    (hT : ∀ (r : Fin 128) (j : Fin 256), FloatOps.absf (F := Ideal) (φ := .f32) (T (ix2 r j)) = f r (256 * n + j))
    (r l : Fin 128) :
    maximumf (maximumf A (absf (extractStridedSlice S128x128 ![0, 0] T slices_S128x256_o0_0_S128x128)))
      (absf (extractStridedSlice S128x128 ![0, 128] T slices_S128x256_o0_128_S128x128)) (ix2 r l)
      = Cert.Quant.acc (f r) (n + 1) l := by
  pointwise
  rw [hA, hT, hT]
  rfl

/-- The stored scale: the last tile joins the running maximum, then the lanes are reduced. -/
theorem scale_last (A : FVec Ideal S128x128 .f32) (g u : FVec Ideal S128x256 .f32) (s : Vec Ideal S1x256 .f32)
    (f : Fin 128 → ℕ → EReal) (hf : ∀ r j, 0 ≤ f r j)
    (hA : ∀ r l : Fin 128, A (ix2 r l) = Cert.Quant.acc (f r) 37 l)
    (hT : ∀ (r : Fin 128) (j : Fin 256), FloatOps.absf (F := Ideal) (φ := .f32) (k0_pay3 g u s (ix2 r j)) = f r (256 * 37 + j))
    (r : Fin 128) :
    k0_pay5 (F := Ideal) A g u s (ix2 r 0)
      = Cert.Quant.scaleOf (Finset.fold max (Ideal.ofBits FTy.f32 4286578688#32) (fun j : Fin 9728 => f r j) Finset.univ) := by
  rw [← Cert.Quant.fold_lanes 38 9728 rfl _ (f r) (hf r) (by norm_num)]
  have h := acc_step A (k0_pay3 g u s) f 37 hA hT r
  pointwise at h
  pointwise [k0_pay5]
  simp only [h]
  rfl

/-- Stores made before stores that cover an index do not matter there. -/
theorem canon_dropLast {Val : EltTy → Type} {S : Shape} {e : EltTy} [∀ e, Nonempty (Val e)] (v : Val e) :
    ∀ (L : List (View.Piece Val S e)) (y : S.Idx) (_ : ∃ p ∈ L.dropLast, y ∈ p.1.set)
      (_ : View.canon L.dropLast y = v), View.canon L y = v
  | [], _, h, _ => by obtain ⟨p, hp, _⟩ := h; simp at hp
  | [_], _, h, _ => by obtain ⟨p, hp, _⟩ := h; simp at hp
  | p :: q :: L, y, hc, hv => by
    rw [List.dropLast_cons₂] at hc hv
    by_cases hm : y ∈ p.1.set
    · obtain ⟨x, rfl⟩ := p.1.exists_idx_of_mem hm
      rw [show p.1.idx x = p.1.emb x from rfl, View.canon_cons_emb] at hv ⊢
      exact hv
    · rw [View.canon_cons_of_not_mem _ _ hm] at hv ⊢
      refine canon_dropLast v (q :: L) y ?_ hv
      obtain ⟨r, hr, hyr⟩ := hc
      rcases List.mem_cons.mp hr with rfl | hr'
      · exact absurd hyr hm
      · exact ⟨r, hr', hyr⟩

/-- After the first point the staging buffer holds `silu(gate) * up` of that point's rows. -/
theorem mid_A (c : Dev nD) (t : Fin cfg0.N) (h0 : t.val % 61 = 0) (h1 : t.val < 60) (h2 : ¬t.val % 61 = 60) (y : S128x9728.Idx) :
    (outsAt0 m c t.val t.isLt).2.2.1 y
      = mid (iblk m c 0 t) (iblk m c 1 t) (iblk m c 2 t) (iblk m c 3 t) (iblk m c 4 t) (iblk m c 5 t) (y 0) (y 1) := by
  rw [outsAt0_A m c t h0 h1 h2]
  frame_out
  refine canon_dropLast _ _ _ ?_ ?_
  · simp only [List.dropLast]
    exact View.cover_of_tiled_head _ _ _ rfl _
  simp only [List.dropLast]
  canon_tiles x h
  all_goals
    open_payloads
    pointwise [mid, lin]
    blk_point []

/-- After the first point the second staging buffer holds the scales of that point's rows. -/
theorem scale_A (c : Dev nD) (t : Fin cfg0.N) (h0 : t.val % 61 = 0) (h1 : t.val < 60) (h2 : ¬t.val % 61 = 60) (r : Fin 128) :
    (outsAt0 m c t.val t.isLt).2.2.2 (ix2 r 0)
      = Cert.Quant.scaleOf (Finset.fold max (Ideal.ofBits FTy.f32 4286578688#32)
          (fun j : Fin 9728 => midAbs (iblk m c 0 t) (iblk m c 1 t) (iblk m c 2 t) (iblk m c 3 t) (iblk m c 4 t) (iblk m c 5 t) r j) Finset.univ) := by
  rw [outsAt0_A m c t h0 h1 h2]
  frame_out
  refine scale_last _ _ _ _ _ (midAbs_nonneg _ _ _ _ _ _) ?_ ?_ r
  all_goals (intro r l; open_payloads; revert r l)
  iterate 36 refine acc_step _ _ _ _ ?_ ?_
  refine acc_first _ _ (midAbs_nonneg _ _ _ _ _ _) ?_
  all_goals
    intro r j
    pointwise [midAbs]
    rw [dif_pos (by omega)]
    pointwise [mid, lin]

/-- After a middle point the staging buffer holds `silu(gate) * up` of that point's rows. -/
theorem mid_B (c : Dev nD) (t : Fin cfg0.N) (h0 : ¬t.val % 61 = 0) (h1 : t.val < 60) (h2 : ¬t.val % 61 = 60) (y : S128x9728.Idx) :
    (outsAt0 m c t.val t.isLt).2.2.1 y
      = mid (iblk m c 0 t) (iblk m c 1 t) (iblk m c 2 t) (iblk m c 3 t) (iblk m c 4 t) (iblk m c 5 t) (y 0) (y 1) := by
  rw [outsAt0_B m c t h0 h1 h2]
  frame_out
  canon_tiles x h
  all_goals
    open_payloads
    pointwise [mid, lin]
    blk_point []

/-- After a middle point the second staging buffer holds the scales of that point's rows. -/
theorem scale_B (c : Dev nD) (t : Fin cfg0.N) (h0 : ¬t.val % 61 = 0) (h1 : t.val < 60) (h2 : ¬t.val % 61 = 60) (r : Fin 128) :
    (outsAt0 m c t.val t.isLt).2.2.2 (ix2 r 0)
      = Cert.Quant.scaleOf (Finset.fold max (Ideal.ofBits FTy.f32 4286578688#32)
          (fun j : Fin 9728 => midAbs (iblk m c 0 t) (iblk m c 1 t) (iblk m c 2 t) (iblk m c 3 t) (iblk m c 4 t) (iblk m c 5 t) r j) Finset.univ) := by
  rw [outsAt0_B m c t h0 h1 h2]
  frame_out
  refine scale_last _ _ _ _ _ (midAbs_nonneg _ _ _ _ _ _) ?_ ?_ r
  all_goals (intro r l; open_payloads; revert r l)
  iterate 36 refine acc_step _ _ _ _ ?_ ?_
  refine acc_first _ _ (midAbs_nonneg _ _ _ _ _ _) ?_
  all_goals
    intro r j
    pointwise [midAbs]
    rw [dif_pos (by omega)]
    pointwise [mid, lin]

/-- The codes of a block of rows: each value quantised by its row's scale. -/
def quantAt (v : S128x9728.Idx → EReal) (s : S128x1.Idx → EReal) (y : S128x9728.Idx) : EReal :=
  Cert.Quant.quant (v y) (s (ix2 (y 0) 0))

/-- A middle point writes the codes of what the point before left. -/
theorem codes_B (c : Dev nD) (t : Fin cfg0.N) (h0 : ¬t.val % 61 = 0) (h1 : t.val < 60) (h2 : ¬t.val % 61 = 60) (y : S128x9728.Idx) :
    (outsAt0 m c t.val t.isLt).1 y
      = quantAt (outsAt0 m c (t.val - 1) (Nat.lt_of_le_of_lt (Nat.sub_le _ _) t.isLt)).2.2.1 (outsAt0 m c (t.val - 1) (Nat.lt_of_le_of_lt (Nat.sub_le _ _) t.isLt)).2.2.2 y := by
  rw [outsAt0_B m c t h0 h1 h2]
  frame_out
  simp only [read_unread_whole]
  canon_tiles x h
  all_goals
    open_payloads
    pointwise [quantAt, Cert.Quant.quant]
    blk_point []

/-- A middle point writes the scales the point before left. -/
theorem scales_B (c : Dev nD) (t : Fin cfg0.N) (h0 : ¬t.val % 61 = 0) (h1 : t.val < 60) (h2 : ¬t.val % 61 = 60) :
    (outsAt0 m c t.val t.isLt).2.1 = (outsAt0 m c (t.val - 1) (Nat.lt_of_le_of_lt (Nat.sub_le _ _) t.isLt)).2.2.2 := by
  rw [outsAt0_B m c t h0 h1 h2]
  frame_out
  simp only [read_unread_whole]
/-- The last point writes the codes of what the point before left. -/
theorem codes_C (c : Dev nD) (t : Fin cfg0.N) (h0 : ¬t.val % 61 = 0) (h1 : ¬t.val < 60) (h2 : t.val % 61 = 60) (y : S128x9728.Idx) :
    (outsAt0 m c t.val t.isLt).1 y
      = quantAt (outsAt0 m c (t.val - 1) (Nat.lt_of_le_of_lt (Nat.sub_le _ _) t.isLt)).2.2.1 (outsAt0 m c (t.val - 1) (Nat.lt_of_le_of_lt (Nat.sub_le _ _) t.isLt)).2.2.2 y := by
  rw [outsAt0_C m c t h0 h1 h2]
  frame_out
  simp only [read_unread_whole]
  canon_tiles x h
  all_goals
    open_payloads
    pointwise [quantAt, Cert.Quant.quant]
    blk_point []

/-- The last point writes the scales the point before left. -/
theorem scales_C (c : Dev nD) (t : Fin cfg0.N) (h0 : ¬t.val % 61 = 0) (h1 : ¬t.val < 60) (h2 : t.val % 61 = 60) :
    (outsAt0 m c t.val t.isLt).2.1 = (outsAt0 m c (t.val - 1) (Nat.lt_of_le_of_lt (Nat.sub_le _ _) t.isLt)).2.2.2 := by
  rw [outsAt0_C m c t h0 h1 h2]
  frame_out
  simp only [read_unread_whole]
-- ==== Proof.GateUp.Ref.lean ====
module

public import proofs.«01_k».proof.Proof.Quant
public import proofs.«01_k».proof.Proof.Gen.GateUpRefIdeal.Value

/-! The gate/up reference at an index: the scaled products, `silu(gate) * up`, the row scales and the codes. -/

@[expose] public section

set_option maxRecDepth 16384

noncomputable section
open Idealize.ShloMosaic Idealize.ShloMosaic.TcCoe Idealize.SL.Sem
open Idealize.ShloMosaic.Pipeline (Dat)
namespace Cert.GateUpRefIdeal.Value
open Cert.GateUpRefIdeal Cert.GateUpRefIdeal.Gen

/-- One scaled product of the whole arrays: row `r` of the codes with column `j` of a weight, times both scales. -/
def linG (x : Vec Ideal S7680x2560 .fp8e4m3) (xs : Vec Ideal S7680x1 .f32) (w : Vec Ideal S2560x9728 .fp8e4m3)
    (s : Vec Ideal S1x9728 .f32) (r : Fin 7680) (j : Fin 9728) : EReal :=
  (∑ k : Fin 2560, (x (ix2 r k) : EReal) * w (ix2 k j)) * xs (ix2 r 0) * s (ix2 0 j)

/-- `silu(gate) * up` of the whole arrays at row `r`, column `j`. -/
def midG (x : Vec Ideal S7680x2560 .fp8e4m3) (xs : Vec Ideal S7680x1 .f32) (wg wu : Vec Ideal S2560x9728 .fp8e4m3)
    (sg su : Vec Ideal S1x9728 .f32) (r : Fin 7680) (j : Fin 9728) : EReal :=
  linG x xs wg sg r j * Ideal.logistic (linG x xs wg sg r j) * linG x xs wu su r j

/-- The largest magnitude of a row of `silu(gate) * up`. -/
def amaxG (x : Vec Ideal S7680x2560 .fp8e4m3) (xs : Vec Ideal S7680x1 .f32) (wg wu : Vec Ideal S2560x9728 .fp8e4m3)
    (sg su : Vec Ideal S1x9728 .f32) (r : Fin 7680) : EReal :=
  Finset.fold max (Ideal.ofBits FTy.f32 4286578688#32)
    (fun j : Fin 9728 => FloatOps.absf (F := Ideal) (φ := .f32) (midG x xs wg wu sg su r j)) Finset.univ

/-- The reference's `silu(gate) * up` at an index. -/
theorem ref_mid (x : Vec Ideal S7680x2560 .fp8e4m3) (xs : Vec Ideal S7680x1 .f32) (wg wu : Vec Ideal S2560x9728 .fp8e4m3)
    (sg su : Vec Ideal S1x9728 .f32) (r : Fin 7680) (j : Fin 9728) :
    k0_pay2 (F := Ideal) x wg xs sg wu xs su (ix2 r j) = midG x xs wg wu sg su r j := by
  pointwise [k0_pay2, midG, linG]

/-- The row maximum as a fold over the row. -/
theorem ref_amax (M : FVec Ideal S7680x9728 .f32) (h) (hn) (he) (r : Fin 7680) :
    multiReduction (F := Ideal) (φ := .f32) .maximumf [1] S7680 (absf M) 0xFF800000#32 h hn he (ix1 r)
      = Finset.fold max (Ideal.ofBits FTy.f32 4286578688#32) (fun j : Fin 9728 => FloatOps.absf (F := Ideal) (φ := .f32) (M (ix2 r j))) Finset.univ := by
  pointwise []

/-- A scale from a row maximum. -/
theorem ref_scale_pt (A : FVec Ideal S7680 .f32) (r : Fin 7680) :
    select (cmpf .oeq A (broadcast S7680 (Scalar.ofBits (F := Ideal) .f32 0x00000000#32))) (broadcast S7680 (Scalar.ofBits (F := Ideal) .f32 0x3F800000#32))
        (divf A (broadcast S7680 (Scalar.ofBits (F := Ideal) .f32 0x43E00000#32))) (ix1 r)
      = Cert.Quant.scaleOf (A (ix1 r)) := by
  pointwise [Cert.Quant.scaleOf]

/-- The reference's row scales. -/
theorem ref_scale (x : Vec Ideal S7680x2560 .fp8e4m3) (xs : Vec Ideal S7680x1 .f32) (wg wu : Vec Ideal S2560x9728 .fp8e4m3)
    (sg su : Vec Ideal S1x9728 .f32) (r : Fin 7680) :
    k0_pay3 (F := Ideal) x wg xs sg wu xs su (ix1 r) = Cert.Quant.scaleOf (amaxG x xs wg wu sg su r) := by
  unfold k0_pay3
  refine (ref_scale_pt _ r).trans (congrArg Cert.Quant.scaleOf ((ref_amax _ _ _ _ r).trans ?_))
  exact congrArg (fun f => Finset.fold max _ f _) (funext fun j => congrArg _ (ref_mid x xs wg wu sg su r j))

/-- Division by the row scale and clipping, at an index. -/
theorem ref_codes_pt (M : FVec Ideal S7680x9728 .f32) (s : FVec Ideal S7680 .f32) (r : Fin 7680) (j : Fin 9728) :
    truncf .fp8e4m3 (minimumf (broadcast S7680x9728 (Scalar.ofBits (F := Ideal) .f32 0x43E00000#32)) (maximumf (broadcast S7680x9728 (Scalar.ofBits (F := Ideal) .f32 0xC3E00000#32))
        (divf M (broadcastTo S7680x9728 (shapeCast S7680x1 s shapeCasts_S7680_S7680x1) broadcasts_S7680x1_S7680x9728)))) bitsLt_fp8e4m3_f32 (ix2 r j)
      = min (Ideal.ofBits FTy.f32 1138753536#32) (max (Ideal.ofBits FTy.f32 3286237184#32) (Ideal.div (M (ix2 r j)) (s (ix1 r)))) := by
  pointwise []

/-- The reference's codes at an index. -/
theorem ref_codes (x : Vec Ideal S7680x2560 .fp8e4m3) (xs : Vec Ideal S7680x1 .f32) (wg wu : Vec Ideal S2560x9728 .fp8e4m3)
    (sg su : Vec Ideal S1x9728 .f32) (r : Fin 7680) (j : Fin 9728) :
    G6 x xs wg wu sg su (ix2 r j)
      = Cert.Quant.quant (midG x xs wg wu sg su r j) (Cert.Quant.scaleOf (amaxG x xs wg wu sg su r)) := by
  rw [Cert.Quant.quant, Cert.Quant.mul_inv_scale, ← ref_scale, ← ref_mid]
  unfold G6 k0_pay4
  exact ref_codes_pt _ _ r j

/-- The reference's scales at an index. -/
theorem ref_scales (x : Vec Ideal S7680x2560 .fp8e4m3) (xs : Vec Ideal S7680x1 .f32) (wg wu : Vec Ideal S2560x9728 .fp8e4m3)
    (sg su : Vec Ideal S1x9728 .f32) (r : Fin 7680) :
    G7 x xs wg wu sg su (ix2 r 0) = Cert.Quant.scaleOf (amaxG x xs wg wu sg su r) := by
  rw [← ref_scale]
  unfold G7 k0_pay1
  generalize k0_pay3 (F := Ideal) x wg xs sg wu xs su = s
  pointwise []

end Cert.GateUpRefIdeal.Value

end
-- ==== Proof.GateUp.Final.lean ====
module

public import proofs.«01_k».proof.Proof.GateUp.Mid
public import proofs.«01_k».proof.Proof.GateUp.Ref

/-! The gate/up kernel's two result arrays are the reference's: the codes and scales of every block of
    128 rows, written one grid point after the products were computed. -/

@[expose] public section

set_option maxRecDepth 16384

noncomputable section
open Idealize.ShloMosaic Idealize.ShloMosaic.TcCoe Idealize.SL.Sem
open Idealize.ShloMosaic.Pipeline (Dat)
namespace Cert.GateUpIdeal.Value
open Cert.GateUpIdeal Cert.GateUpIdeal.Gen
open Cert.GateUpRefIdeal.Value (linG midG amaxG ref_codes ref_scales)
variable (m : (ℓ : Loc nD τ sig) → Buf (Elt Ideal) ℓ)

/-- The windows' index maps: the row blocks of the operands advance with the point and stay at the last, the
    weights are whole, the results lag one point behind. -/
theorem idx : ∀ t : Fin cfg0.N, win0_0.index t = ![min t.val 59, 0] ∧ win0_1.index t = ![min t.val 59, 0]
    ∧ win0_2.index t = ![0, 0] ∧ win0_3.index t = ![0, 0] ∧ win0_4.index t = ![0, 0] ∧ win0_5.index t = ![0, 0]
    ∧ win0_6.index t = ![t.val - 1, 0] ∧ win0_7.index t = ![t.val - 1, 0] :=
  (by decide +kernel : ∀ t : Fin grid0.N, _)

/-- The results' blocks are written back at every point but the first. -/
theorem flush_pos : ∀ t : Fin cfg0.N, ((cfg0.win 6).flush t = true → t.val ≠ 0) ∧ ((cfg0.win 7).flush t = true → t.val ≠ 0) :=
  (by decide +kernel : ∀ t : Fin grid0.N, _)

/-- The gate product of the block computed at point `s`, read from the whole arrays. -/
theorem gate_read (c : Dev nD) (s : Fin cfg0.N) (hs : s.val < 60) (r : Fin 128) (j : Fin 9728) :
    lin (iblk m c 0 s) (iblk m c 1 s) (iblk m c 2 s) (iblk m c 4 s) r j
      = linG (m ((c : Thread nD τ).loc main_arg0)) (m ((c : Thread nD τ).loc main_arg1)) (m ((c : Thread nD τ).loc main_arg2))
          (m ((c : Thread nD τ).loc main_arg4)) ⟨128 * s.val + r.val, by omega⟩ j := by
  unfold lin linG
  blk_point [iblk, V, idx s]

/-- The up product of the block computed at point `s`, read from the whole arrays. -/
theorem up_read (c : Dev nD) (s : Fin cfg0.N) (hs : s.val < 60) (r : Fin 128) (j : Fin 9728) :
    lin (iblk m c 0 s) (iblk m c 1 s) (iblk m c 3 s) (iblk m c 5 s) r j
      = linG (m ((c : Thread nD τ).loc main_arg0)) (m ((c : Thread nD τ).loc main_arg1)) (m ((c : Thread nD τ).loc main_arg3))
          (m ((c : Thread nD τ).loc main_arg5)) ⟨128 * s.val + r.val, by omega⟩ j := by
  unfold lin linG
  blk_point [iblk, V, idx s]

/-- The block of rows computed at point `s`, read from the whole arrays. -/
theorem mid_read (c : Dev nD) (s : Fin cfg0.N) (hs : s.val < 60) (r : Fin 128) (j : Fin 9728) :
    mid (iblk m c 0 s) (iblk m c 1 s) (iblk m c 2 s) (iblk m c 3 s) (iblk m c 4 s) (iblk m c 5 s) r j
      = midG (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          ⟨128 * s.val + r.val, by omega⟩ j := by
  rw [mid, midG, gate_read m c s hs r j, up_read m c s hs r j]

/-- The row maxima of the block computed at point `s`, read from the whole arrays. -/
theorem amax_read (c : Dev nD) (s : Fin cfg0.N) (hs : s.val < 60) (r : Fin 128) :
    Finset.fold max (Ideal.ofBits FTy.f32 4286578688#32)
          (fun j : Fin 9728 => midAbs (iblk m c 0 s) (iblk m c 1 s) (iblk m c 2 s) (iblk m c 3 s) (iblk m c 4 s) (iblk m c 5 s) r j) Finset.univ
      = amaxG (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          ⟨128 * s.val + r.val, by omega⟩ := by
  unfold amaxG
  refine congrArg (fun f => Finset.fold max _ f _) (funext fun j => ?_)
  rw [midAbs, dif_pos j.isLt, ← mid_read m c s hs r j]

/-- The staged rows, whichever point computed them. -/
theorem mid_at (c : Dev nD) (s : Fin cfg0.N) (hs : s.val < 60) (y : S128x9728.Idx) :
    (outsAt0 m c s.val s.isLt).2.2.1 y
      = mid (iblk m c 0 s) (iblk m c 1 s) (iblk m c 2 s) (iblk m c 3 s) (iblk m c 4 s) (iblk m c 5 s) (y 0) (y 1) := by
  by_cases h0 : s.val % 61 = 0
  · exact mid_A m c s h0 hs (by omega) y
  · exact mid_B m c s h0 hs (by omega) y

/-- The staged scales, whichever point computed them. -/
theorem scale_at (c : Dev nD) (s : Fin cfg0.N) (hs : s.val < 60) (r : Fin 128) :
    (outsAt0 m c s.val s.isLt).2.2.2 (ix2 r 0)
      = Cert.Quant.scaleOf (Finset.fold max (Ideal.ofBits FTy.f32 4286578688#32)
          (fun j : Fin 9728 => midAbs (iblk m c 0 s) (iblk m c 1 s) (iblk m c 2 s) (iblk m c 3 s) (iblk m c 4 s) (iblk m c 5 s) r j) Finset.univ) := by
  by_cases h0 : s.val % 61 = 0
  · exact scale_A m c s h0 hs (by omega) r
  · exact scale_B m c s h0 hs (by omega) r

/-- The codes any later point writes. -/
theorem codes_at (c : Dev nD) (t : Fin cfg0.N) (ht : t.val ≠ 0) (y : S128x9728.Idx) :
    (outsAt0 m c t.val t.isLt).1 y
      = quantAt (outsAt0 m c (t.val - 1) (Nat.lt_of_le_of_lt (Nat.sub_le _ _) t.isLt)).2.2.1
          (outsAt0 m c (t.val - 1) (Nat.lt_of_le_of_lt (Nat.sub_le _ _) t.isLt)).2.2.2 y := by
  have hN : t.val < 61 := t.isLt
  by_cases h1 : t.val < 60
  · exact codes_B m c t (by omega) h1 (by omega) y
  · exact codes_C m c t (by omega) h1 (by omega) y

/-- The scales any later point writes. -/
theorem scales_at (c : Dev nD) (t : Fin cfg0.N) (ht : t.val ≠ 0) :
    (outsAt0 m c t.val t.isLt).2.1 = (outsAt0 m c (t.val - 1) (Nat.lt_of_le_of_lt (Nat.sub_le _ _) t.isLt)).2.2.2 := by
  have hN : t.val < 61 := t.isLt
  by_cases h1 : t.val < 60
  · exact scales_B m c t (by omega) h1 (by omega)
  · exact scales_C m c t (by omega) h1 (by omega)

/-- The array of codes is the reference's. -/
theorem final6 (c : Dev nD) : (dats m 0 c).arrAt 6 (cfgs 0).N
    = Cert.GateUpRefIdeal.Value.G6 (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) := by
  refine (dats m 0 c).arrAt_eq_of_covers 6 _ (by decide +kernel) fun t hf y => ?_
  have ht := (flush_pos t).1 hf
  have hN : t.val < 61 := t.isLt
  have hs : t.val - 1 < 60 := by omega
  have hs' : t.val - 1 < cfg0.N := by show t.val - 1 < 61; omega
  have hr : 128 * (t.val - 1) + (y 0).val < 7680 := by have h0 : (y 0).val < 128 := (y 0).isLt; omega
  have e : ((cfg0.win 6).blk t).view.emb y = (ix2 (⟨128 * (t.val - 1) + (y 0).val, hr⟩ : Fin 7680) (y 1 : Fin 9728) : S7680x9728.Idx) := by
    blk_ext [idx t]
  rw [e]
  blk_simp
  rw [after0_6]
  refine (codes_at m c t ht y).trans ?_
  refine Eq.trans ?_ (ref_codes _ _ _ _ _ _ _ _).symm
  unfold quantAt
  refine congrArg₂ Cert.Quant.quant ?_ ?_
  · exact (mid_at m c ⟨t.val - 1, hs'⟩ hs y).trans (mid_read m c ⟨t.val - 1, hs'⟩ hs _ _)
  · exact (scale_at m c ⟨t.val - 1, hs'⟩ hs _).trans
      (congrArg Cert.Quant.scaleOf (amax_read m c ⟨t.val - 1, hs'⟩ hs _))

/-- The array of scales is the reference's. -/
theorem final7 (c : Dev nD) : (dats m 0 c).arrAt 7 (cfgs 0).N
    = Cert.GateUpRefIdeal.Value.G7 (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) := by
  refine (dats m 0 c).arrAt_eq_of_covers 7 _ (by decide +kernel) fun t hf y => ?_
  have ht := (flush_pos t).2 hf
  have hN : t.val < 61 := t.isLt
  have hs : t.val - 1 < 60 := by omega
  have hs' : t.val - 1 < cfg0.N := by show t.val - 1 < 61; omega
  have hr : 128 * (t.val - 1) + (y 0).val < 7680 := by have h0 : (y 0).val < 128 := (y 0).isLt; omega
  have e : ((cfg0.win 7).blk t).view.emb y = (ix2 (⟨128 * (t.val - 1) + (y 0).val, hr⟩ : Fin 7680) (0 : Fin 1) : S7680x1.Idx) := by
    blk_ext [idx t]
  have ey : y = (ix2 (y 0 : Fin 128) (0 : Fin 1) : S128x1.Idx) := by
    blk_ext
  rw [e]
  blk_simp
  rw [after0_7]
  refine (congrFun (scales_at m c t ht) y).trans ?_
  refine Eq.trans ?_ (ref_scales _ _ _ _ _ _ _).symm
  refine (congrArg _ ey).trans ?_
  exact (scale_at m c ⟨t.val - 1, hs'⟩ hs _).trans
    (congrArg Cert.Quant.scaleOf (amax_read m c ⟨t.val - 1, hs'⟩ hs _))

end Cert.GateUpIdeal.Value

end
-- ==== Proof.Qkv.Rot.lean ====
module

public import Idealize.ShloMosaic.Lib.Pointwise

/-! Rotating one head of 128 columns. -/

@[expose] public section

set_option maxRecDepth 16384

noncomputable section
open Idealize.ShloMosaic
namespace Cert.Qkv

/-- A row of 128 values rotated: the first 64 columns are `x1 c - x2 s`, the others `x2 c + x1 s`. -/
def rot (v : Fin 128 → EReal) (c s : Fin 64 → EReal) (j : Fin 128) : EReal :=
  if h : j.val < 64 then v j * c ⟨j.val, h⟩ - v ⟨j.val + 64, by omega⟩ * s ⟨j.val, h⟩
  else v j * c ⟨j.val - 64, by omega⟩ + v ⟨j.val - 64, by omega⟩ * s ⟨j.val - 64, by omega⟩

/-- Rotations of equal rows agree. -/
theorem rot_congr {v v' : Fin 128 → EReal} {c c' s s' : Fin 64 → EReal} {j j' : Fin 128} (hv : ∀ k, v k = v' k)
    (hc : ∀ k, c k = c' k) (hs : ∀ k, s k = s' k) (hj : j.val = j'.val) : rot v c s j = rot v' c' s' j' := by
  rw [funext hv, funext hc, funext hs, Fin.ext hj]

end Cert.Qkv

end
-- ==== Proof.Qkv.Block.lean ====
module

public import proofs.«01_k».proof.Proof.Gen.QkvIdeal.Value
public import proofs.«01_k».proof.Proof.Qkv.Rot
public import Idealize.ShloMosaic.Lib.Pipeline.ValueKit

/-! What one block of the query/key/value kernel writes. -/

@[expose] public section

set_option maxRecDepth 16384

noncomputable section
open Idealize.ShloMosaic Idealize.ShloMosaic.TcCoe Idealize.SL.Sem
open Idealize.ShloMosaic.Pipeline (Dat)
namespace Cert.QkvIdeal.Value
open Cert.QkvIdeal Cert.QkvIdeal.Gen
variable (m : (ℓ : Loc nD τ sig) → Buf (Elt Ideal) ℓ)

/-- Multiplying by the doubled cosines and adding the half-turned row times the signed sines rotates the row. -/
theorem rot_tile (v : FVec Ideal S256x128 .f32) (c s : Vec Ideal S256x64 .f32) (r : Fin 256) (j : Fin 128) :
    addf (mulf v (k0_pay5 c c)) (mulf (dynamicRotate 1 64#32 none v rotates_S256x128_d1) (k0_pay6 s s)) (ix2 r j)
      = Cert.Qkv.rot (fun k => v (ix2 r k)) (fun k => c (ix2 r k)) (fun k => s (ix2 r k)) j := by
  pointwise [k0_pay5, k0_pay6, Cert.Qkv.rot]
  by_cases h : j.val < 64
  · simp only [dif_pos h]
    rw [zero_sub, mul_neg, ← sub_eq_add_neg]
    congr 4
    apply Fin.ext
    show (j.val + 128 - 64) % 128 = j.val + 64
    omega
  · simp only [dif_neg h]
    congr 4
    apply Fin.ext
    show (j.val + 128 - 64) % 128 = j.val - 64
    omega

/-- The same at an index of the tile. -/
theorem rot_at (v : FVec Ideal S256x128 .f32) (c s : Vec Ideal S256x64 .f32) (x : S256x128.Idx) :
    addf (mulf v (k0_pay5 c c)) (mulf (dynamicRotate 1 64#32 none v rotates_S256x128_d1) (k0_pay6 s s)) x
      = Cert.Qkv.rot (fun k => v (ix2 (x 0 : Fin 256) k)) (fun k => c (ix2 (x 0 : Fin 256) k)) (fun k => s (ix2 (x 0 : Fin 256) k)) (x 1) :=
  (congrArg _ (eq_ix2 x)).trans (rot_tile v c s (x 0) (x 1))

/-- One scaled product: row `r` of the codes with column `j` of the weight, times both scales. -/
def lin (x : Vec Ideal S256x5120 .fp8e4m3) (xs : Vec Ideal S256x1 .f32) (w : Vec Ideal S5120x6144 .fp8e4m3)
    (ws : Vec Ideal S1x6144 .f32) (r : Fin 256) (j : Fin 6144) : EReal :=
  (∑ k : Fin 5120, (x (ix2 r k) : EReal) * w (ix2 k j)) * xs (ix2 r 0) * ws (ix2 0 j)

/-- Row `r`, column `j` of a block of the result: the query and key heads rotated, the values as they are. -/
def qkv (x : Vec Ideal S256x5120 .fp8e4m3) (xs : Vec Ideal S256x1 .f32) (w : Vec Ideal S5120x6144 .fp8e4m3)
    (ws : Vec Ideal S1x6144 .f32) (c s : Vec Ideal S256x64 .f32) (r : Fin 256) (j : Fin 6144) : EReal :=
  if j.val < 5120 then
    Cert.Qkv.rot (fun k => lin x xs w ws r ⟨128 * (j.val / 128) + k.val, by omega⟩) (fun k => c (ix2 r k)) (fun k => s (ix2 r k)) ⟨j.val % 128, by omega⟩
  else lin x xs w ws r j

/-- A query or key column of a block. -/
theorem qkv_rot (x : Vec Ideal S256x5120 .fp8e4m3) (xs : Vec Ideal S256x1 .f32) (w : Vec Ideal S5120x6144 .fp8e4m3)
    (ws : Vec Ideal S1x6144 .f32) (c s : Vec Ideal S256x64 .f32) (r : Fin 256) (j : Fin 6144) (h : j.val < 5120) :
    qkv x xs w ws c s r j = Cert.Qkv.rot (fun k => lin x xs w ws r ⟨128 * (j.val / 128) + k.val, by omega⟩) (fun k => c (ix2 r k)) (fun k => s (ix2 r k)) ⟨j.val % 128, by omega⟩ :=
  if_pos h

/-- What a point writes at an index of its block. -/
theorem out_pt (x0 : Vec Ideal S256x5120 .fp8e4m3) (x1 : Vec Ideal S256x1 .f32) (x2 : Vec Ideal S5120x6144 .fp8e4m3)
    (x3 : Vec Ideal S1x6144 .f32) (x4 x5 : Vec Ideal S256x64 .f32) (y : S256x6144.Idx) :
    out0_6 x0 x1 x2 x3 x4 x5 y = qkv x0 x1 x2 x3 x4 x5 (y 0) (y 1) := by
  unfold_out out0_6
  canon_tiles x h
  iterate 8
    open_payloads
    pointwise [qkv, lin]
    rw [if_neg (by omega)]
    blk_point []
  all_goals
    open_payloads
    refine (rot_at _ _ _ x).trans ?_
    refine Eq.trans ?_ (qkv_rot _ _ _ _ _ _ (y 0) (y 1) (by omega)).symm
    refine Cert.Qkv.rot_congr ?_ ?_ ?_ ?_
    · intro k
      pointwise [lin]
      blk_point []
    · intro k
      first
        | exact congrArg (fun r : Fin 256 => x4 (ix2 r k)) (Fin.ext h0.symm)
        | (pointwise []; exact congrArg (fun r : Fin 256 => x4 (ix2 r k)) (Fin.ext h0.symm))
    · intro k
      first
        | exact congrArg (fun r : Fin 256 => x5 (ix2 r k)) (Fin.ext h0.symm)
        | (pointwise []; exact congrArg (fun r : Fin 256 => x5 (ix2 r k)) (Fin.ext h0.symm))
    · show (x 1).val = (y 1).val % 128
      omega

end Cert.QkvIdeal.Value

end
-- ==== Proof.Qkv.Ref.lean ====
module

public import proofs.«01_k».proof.Proof.Qkv.Rot
public import proofs.«01_k».proof.Proof.Gen.QkvRefIdeal.Value
public import Idealize.ShloMosaic.Lib.Pipeline.ValueKit

/-! The query/key/value reference at an index: the scaled product, its query and key heads rotated. -/

@[expose] public section

set_option maxRecDepth 16384

noncomputable section
open Idealize.ShloMosaic Idealize.ShloMosaic.TcCoe Idealize.SL.Sem
open Idealize.ShloMosaic.Pipeline (Dat)
namespace Cert.QkvRefIdeal.Value
open Cert.QkvRefIdeal Cert.QkvRefIdeal.Gen

/-- One scaled product of the whole arrays: row `r` of the codes with column `j` of the weight, times both scales. -/
def linG (x : Vec Ideal S7680x5120 .fp8e4m3) (xs : Vec Ideal S7680x1 .f32) (w : Vec Ideal S5120x6144 .fp8e4m3)
    (ws : Vec Ideal S1x6144 .f32) (r : Fin 7680) (j : Fin 6144) : EReal :=
  (∑ k : Fin 5120, (x (ix2 r k) : EReal) * w (ix2 k j)) * xs (ix2 r 0) * ws (ix2 0 j)

/-- Row `r`, column `j` of the result: the query and key heads rotated, the values as they are. -/
def qkvG (x : Vec Ideal S7680x5120 .fp8e4m3) (xs : Vec Ideal S7680x1 .f32) (w : Vec Ideal S5120x6144 .fp8e4m3)
    (ws : Vec Ideal S1x6144 .f32) (c s : Vec Ideal S7680x64 .f32) (r : Fin 7680) (j : Fin 6144) : EReal :=
  if j.val < 5120 then
    Cert.Qkv.rot (fun k => linG x xs w ws r ⟨128 * (j.val / 128) + k.val, by omega⟩) (fun k => c (ix2 r k)) (fun k => s (ix2 r k)) ⟨j.val % 128, by omega⟩
  else linG x xs w ws r j

/-- The rotated query heads. -/
def refQ (M : FVec Ideal S7680x6144 .f32) (c s : Vec Ideal S7680x64 .f32) : FVec Ideal S7680x4096 .f32 :=
  let v := shapeCast S7680x32x128 (extractStridedSlice S7680x4096 ![0, 0] M slices_S7680x6144_o0_0_S7680x4096) shapeCasts_S7680x4096_S7680x32x128
  let x1 := extractStridedSlice S7680x32x64 ![0, 0, 0] v slices_S7680x32x128_o0_0_0_S7680x32x64
  let x2 := extractStridedSlice S7680x32x64 ![0, 0, 64] v slices_S7680x32x128_o0_0_64_S7680x32x64
  let cb := broadcastTo S7680x32x64 (shapeCast S7680x1x64 c shapeCasts_S7680x64_S7680x1x64) broadcasts_S7680x1x64_S7680x32x64
  let sb := broadcastTo S7680x32x64 (shapeCast S7680x1x64 s shapeCasts_S7680x64_S7680x1x64) broadcasts_S7680x1x64_S7680x32x64
  shapeCast S7680x4096 (concatenate S7680x32x128 2 [⟨S7680x32x64, subf (mulf x1 cb) (mulf x2 sb)⟩, ⟨S7680x32x64, addf (mulf x2 cb) (mulf x1 sb)⟩]
    concatenates_S7680x32x64_S7680x32x64_S7680x32x128_d2) shapeCasts_S7680x32x128_S7680x4096

/-- The rotated key heads. -/
def refK (M : FVec Ideal S7680x6144 .f32) (c s : Vec Ideal S7680x64 .f32) : FVec Ideal S7680x1024 .f32 :=
  let v := shapeCast S7680x8x128 (extractStridedSlice S7680x1024 ![0, 4096] M slices_S7680x6144_o0_4096_S7680x1024) shapeCasts_S7680x1024_S7680x8x128
  let x1 := extractStridedSlice S7680x8x64 ![0, 0, 0] v slices_S7680x8x128_o0_0_0_S7680x8x64
  let x2 := extractStridedSlice S7680x8x64 ![0, 0, 64] v slices_S7680x8x128_o0_0_64_S7680x8x64
  let cb := broadcastTo S7680x8x64 (shapeCast S7680x1x64 c shapeCasts_S7680x64_S7680x1x64) broadcasts_S7680x1x64_S7680x8x64
  let sb := broadcastTo S7680x8x64 (shapeCast S7680x1x64 s shapeCasts_S7680x64_S7680x1x64) broadcasts_S7680x1x64_S7680x8x64
  shapeCast S7680x1024 (concatenate S7680x8x128 2 [⟨S7680x8x64, subf (mulf x1 cb) (mulf x2 sb)⟩, ⟨S7680x8x64, addf (mulf x2 cb) (mulf x1 sb)⟩]
    concatenates_S7680x8x64_S7680x8x64_S7680x8x128_d2) shapeCasts_S7680x8x128_S7680x1024

/-- The scaled product as an array. -/
def refM (x : Vec Ideal S7680x5120 .fp8e4m3) (xs : Vec Ideal S7680x1 .f32) (w : Vec Ideal S5120x6144 .fp8e4m3)
    (ws : Vec Ideal S1x6144 .f32) : FVec Ideal S7680x6144 .f32 :=
  mulf (mulf (matmul (φ₁ := .fp8e4m3) (φ₂ := .fp8e4m3) dot_S7680x5120_S5120x6144_S7680x6144_1_0_0_1_n_n none x w (constant S7680x6144 .f32 0x00000000#32))
    (broadcastTo S7680x6144 xs broadcasts_S7680x1_S7680x6144)) (broadcastTo S7680x6144 ws broadcasts_S1x6144_S7680x6144)

/-- The scaled product at an index. -/
theorem refM_pt (x : Vec Ideal S7680x5120 .fp8e4m3) (xs : Vec Ideal S7680x1 .f32) (w : Vec Ideal S5120x6144 .fp8e4m3)
    (ws : Vec Ideal S1x6144 .f32) (r : Fin 7680) (j : Fin 6144) : refM x xs w ws (ix2 r j) = linG x xs w ws r j := by
  pointwise [refM, linG]

/-- The rotated query heads at an index. -/
theorem refQ_pt (M : FVec Ideal S7680x6144 .f32) (c s : Vec Ideal S7680x64 .f32) (r : Fin 7680) (j : Fin 4096) :
    refQ M c s (ix2 r j)
      = Cert.Qkv.rot (fun k => M (ix2 r ⟨128 * (j.val / 128) + k.val, by omega⟩)) (fun k => c (ix2 r k)) (fun k => s (ix2 r k)) ⟨j.val % 128, by omega⟩ := by
  pointwise [refQ, Cert.Qkv.rot]
  by_cases h : j.val % 128 < 64
  · simp only [dif_pos h]
    blk_point []
  · simp only [dif_neg h]
    blk_point []

/-- The rotated key heads at an index. -/
theorem refK_pt (M : FVec Ideal S7680x6144 .f32) (c s : Vec Ideal S7680x64 .f32) (r : Fin 7680) (j : Fin 1024) :
    refK M c s (ix2 r j)
      = Cert.Qkv.rot (fun k => M (ix2 r ⟨4096 + (128 * (j.val / 128) + k.val), by omega⟩)) (fun k => c (ix2 r k)) (fun k => s (ix2 r k)) ⟨j.val % 128, by omega⟩ := by
  pointwise [refK, Cert.Qkv.rot]
  by_cases h : j.val % 128 < 64
  · simp only [dif_pos h]
    blk_point []
  · simp only [dif_neg h]
    blk_point []

/-- The parts laid side by side. -/
theorem cat_pt (M : FVec Ideal S7680x6144 .f32) (q : FVec Ideal S7680x4096 .f32) (k : FVec Ideal S7680x1024 .f32) (r : Fin 7680) (j : Fin 6144) :
    k0_pay1 (F := Ideal) (concatenate S7680x6144 1 [⟨S7680x4096, q⟩, ⟨S7680x1024, k⟩,
        ⟨S7680x1024, extractStridedSlice S7680x1024 ![0, 5120] M slices_S7680x6144_o0_5120_S7680x1024⟩]
        concatenates_S7680x4096_S7680x1024_S7680x1024_S7680x6144_d1) (ix2 r j)
      = if h : j.val < 4096 then q (ix2 r ⟨j.val, h⟩) else if h : j.val < 5120 then k (ix2 r ⟨j.val - 4096, by omega⟩) else M (ix2 r j) := by
  pointwise [k0_pay1]
  by_cases h : j.val < 4096
  · simp only [dif_pos h]
  · simp only [dif_neg h]
    by_cases h' : j.val < 5120
    · rw [dif_pos (by omega), dif_pos h']
    · rw [dif_neg (by omega), dif_neg h']
      blk_point []

/-- The reference's array at an index. -/
theorem ref_pt (x : Vec Ideal S7680x5120 .fp8e4m3) (xs : Vec Ideal S7680x1 .f32) (w : Vec Ideal S5120x6144 .fp8e4m3)
    (ws : Vec Ideal S1x6144 .f32) (c s : Vec Ideal S7680x64 .f32) (r : Fin 7680) (j : Fin 6144) :
    G6 x xs w ws c s (ix2 r j) = qkvG x xs w ws c s r j := by
  refine (cat_pt (refM x xs w ws) (refQ (refM x xs w ws) c s) (refK (refM x xs w ws) c s) r j).trans ?_
  unfold qkvG
  by_cases h : j.val < 4096
  · rw [dif_pos h, if_pos (by omega), refQ_pt]
    exact Cert.Qkv.rot_congr (fun k => refM_pt _ _ _ _ _ _) (fun _ => rfl) (fun _ => rfl) rfl
  · rw [dif_neg h]
    by_cases h' : j.val < 5120
    · rw [dif_pos h', if_pos h', refK_pt]
      refine Cert.Qkv.rot_congr (fun k => (refM_pt _ _ _ _ _ _).trans ?_) (fun _ => rfl) (fun _ => rfl) ?_
      · exact congrArg (linG x xs w ws r) (Fin.ext (by show 4096 + (128 * ((j.val - 4096) / 128) + k.val) = 128 * (j.val / 128) + k.val; omega))
      · show (j.val - 4096) % 128 = j.val % 128
        omega
    · rw [dif_neg h', if_neg h', refM_pt]

end Cert.QkvRefIdeal.Value

end
-- ==== Proof.Qkv.Final.lean ====
module

public import proofs.«01_k».proof.Proof.Qkv.Block
public import proofs.«01_k».proof.Proof.Qkv.Ref

/-! The query/key/value kernel's result array is the reference's: every block of 256 rows. -/

@[expose] public section

set_option maxRecDepth 16384

noncomputable section
open Idealize.ShloMosaic Idealize.ShloMosaic.TcCoe Idealize.SL.Sem
open Idealize.ShloMosaic.Pipeline (Dat)
namespace Cert.QkvIdeal.Value
open Cert.QkvIdeal Cert.QkvIdeal.Gen
open Cert.QkvRefIdeal.Value (linG qkvG ref_pt)
variable (m : (ℓ : Loc nD τ sig) → Buf (Elt Ideal) ℓ)

/-- The windows' index maps: the row blocks advance with the point, the weight and its scales are whole. -/
theorem idx : ∀ t : Fin cfg0.N, win0_0.index t = ![t.val, 0] ∧ win0_1.index t = ![t.val, 0]
    ∧ win0_2.index t = ![0, 0] ∧ win0_3.index t = ![0, 0] ∧ win0_4.index t = ![t.val, 0] ∧ win0_5.index t = ![t.val, 0]
    ∧ win0_6.index t = ![t.val, 0] :=
  (by decide +kernel : ∀ t : Fin grid0.N, _)

/-- A scaled product of the block at point `s`, read from the whole arrays. -/
theorem lin_read (c : Dev nD) (s : Fin cfg0.N) (hs : s.val < 30) (r : Fin 256) (j : Fin 6144) :
    lin (iblk m c 0 s) (iblk m c 1 s) (iblk m c 2 s) (iblk m c 3 s) r j
      = linG (m ((c : Thread nD τ).loc main_arg0)) (m ((c : Thread nD τ).loc main_arg1)) (m ((c : Thread nD τ).loc main_arg2))
          (m ((c : Thread nD τ).loc main_arg3)) ⟨256 * s.val + r.val, by omega⟩ j := by
  unfold lin linG
  blk_point [iblk, V, idx s]

/-- The cosines of the block at point `s`, read from the whole array. -/
theorem cos_read (c : Dev nD) (s : Fin cfg0.N) (hs : s.val < 30) (r : Fin 256) (k : Fin 64) :
    iblk m c 4 s (ix2 r k) = (m ((c : Thread nD τ).loc main_arg4)) (ix2 (⟨256 * s.val + r.val, by omega⟩ : Fin 7680) k) := by
  blk_point [iblk, V, idx s]

/-- The sines of the block at point `s`, read from the whole array. -/
theorem sin_read (c : Dev nD) (s : Fin cfg0.N) (hs : s.val < 30) (r : Fin 256) (k : Fin 64) :
    iblk m c 5 s (ix2 r k) = (m ((c : Thread nD τ).loc main_arg5)) (ix2 (⟨256 * s.val + r.val, by omega⟩ : Fin 7680) k) := by
  blk_point [iblk, V, idx s]

/-- The block at point `s`, read from the whole arrays. -/
theorem qkv_read (c : Dev nD) (s : Fin cfg0.N) (hs : s.val < 30) (r : Fin 256) (j : Fin 6144) :
    qkv (iblk m c 0 s) (iblk m c 1 s) (iblk m c 2 s) (iblk m c 3 s) (iblk m c 4 s) (iblk m c 5 s) r j
      = qkvG (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) ⟨256 * s.val + r.val, by omega⟩ j := by
  unfold qkv qkvG
  by_cases h : j.val < 5120
  · rw [if_pos h, if_pos h]
    exact Cert.Qkv.rot_congr (fun k => lin_read m c s hs r _) (fun k => cos_read m c s hs r k) (fun k => sin_read m c s hs r k) rfl
  · rw [if_neg h, if_neg h]
    exact lin_read m c s hs r j

/-- The result array is the reference's. -/
theorem final6 (c : Dev nD) : (dats m 0 c).arrAt 6 (cfgs 0).N
    = Cert.QkvRefIdeal.Value.G6 (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) := by
  refine (dats m 0 c).arrAt_eq_of_covers 6 _ (by decide +kernel) fun t hf y => ?_
  have hs : t.val < 30 := t.isLt
  have hr : 256 * t.val + (y 0).val < 7680 := by have h0 : (y 0).val < 256 := (y 0).isLt; omega
  have e : ((cfg0.win 6).blk t).view.emb y = (ix2 (⟨256 * t.val + (y 0).val, hr⟩ : Fin 7680) (y 1 : Fin 6144) : S7680x6144.Idx) := by
    blk_ext [idx t]
  rw [e]
  blk_simp
  rw [after0_6]
  refine (out_pt _ _ _ _ _ _ y).trans ?_
  refine Eq.trans ?_ (ref_pt _ _ _ _ _ _ _ _).symm
  exact qkv_read m c t hs _ _

end Cert.QkvIdeal.Value

end
-- ==== Proof.Norm.lean ====
module

public import proofs.«01_k».proof.Proof.Quant

/-! The root-mean-square norm of a row of 2560 values over the extended reals, and the row quantiser on what it gives. -/

@[expose] public section

set_option maxRecDepth 16384

noncomputable section
open Idealize.ShloMosaic

namespace Cert.Norm

/-- The root of the mean square of a row, the small constant added under the root. -/
def rms (f : Fin 2560 → EReal) : EReal :=
  Ideal.sqrt (Ideal.div (∑ k : Fin 2560, f k * f k) (Ideal.ofBits FTy.f32 1159725056#32) + Ideal.ofBits FTy.f32 925353388#32)

/-- The constant 2560. -/
theorem ofBits_2560 : Ideal.ofBits FTy.f32 1159725056#32 = ((2560 : ℝ) : EReal) := by
  simp [Ideal.ofBits, Ideal.ieee, -EReal.coe_mul]
  norm_num

/-- The small constant is a positive real. -/
theorem ofBits_eps : ∃ e : ℝ, 0 < e ∧ Ideal.ofBits FTy.f32 925353388#32 = (e : EReal) := by
  refine ⟨_, ?_, by simp [Ideal.ofBits, Ideal.ieee, -EReal.coe_mul]; rfl⟩
  norm_num

/-- A square is not negative, over the extended reals too. -/
theorem sq_nonneg' (x : EReal) : 0 ≤ x * x := by
  rcases le_total 0 x with h | h
  · exact mul_nonneg h h
  · have h' : 0 ≤ -x := EReal.neg_nonneg.mpr h
    have := mul_nonneg h' h'
    rwa [EReal.neg_mul, mul_comm, EReal.neg_mul, neg_neg] at this

/-- The root of a positive value is not zero. -/
theorem sqrt_ne (x : EReal) (h : 0 < x) : Ideal.sqrt x ≠ 0 := by
  induction x with
  | bot => exact absurd h (by simp)
  | top => exact fun h' => by simpa using (show (⊤ : EReal) = 0 from h')
  | coe r =>
    have hr : 0 < r := by exact_mod_cast h
    show (if r < 0 then (⊥ : EReal) else (Real.sqrt r : EReal)) ≠ 0
    rw [if_neg (not_lt.mpr hr.le)]
    exact_mod_cast (Real.sqrt_pos.mpr hr).ne'

/-- The root of the mean square is never zero. -/
theorem rms_ne (f : Fin 2560 → EReal) : rms f ≠ 0 := by
  obtain ⟨e, he, h⟩ := ofBits_eps
  refine sqrt_ne _ ?_
  rw [h, ofBits_2560, Ideal.div_coe (by norm_num)]
  have h1 : (0 : EReal) ≤ ∑ k : Fin 2560, f k * f k := Finset.sum_nonneg fun k _ => sq_nonneg' (f k)
  have h2 : (0 : EReal) ≤ (∑ k : Fin 2560, f k * f k) * (((1 / 2560 : ℝ) : ℝ) : EReal) :=
    mul_nonneg h1 (by exact_mod_cast (by norm_num : (0 : ℝ) ≤ 1 / 2560))
  have h3 : (0 : EReal) < (e : EReal) := by exact_mod_cast he
  calc (0 : EReal) < (e : EReal) := h3
    _ = 0 + (e : EReal) := (zero_add _).symm
    _ ≤ _ := add_le_add h2 le_rfl

/-- The norm of a row: each value times the inverse root, times the gain. -/
def norm (f w : Fin 2560 → EReal) (j : Fin 2560) : EReal := f j * Ideal.div 1 (rms f) * w j

/-- Multiplying by the inverse root is dividing by the root. -/
theorem norm_eq (f w : Fin 2560 → EReal) (j : Fin 2560) : norm f w j = Ideal.div (f j) (rms f) * w j := by
  rw [norm, Ideal.div, Ideal.div, if_neg (rms_ne f), if_neg (rms_ne f), one_mul]

/-- The largest absolute value of a row. -/
def amax {n : ℕ} (f : Fin n → EReal) : EReal :=
  Finset.fold max (Ideal.ofBits FTy.f32 4286578688#32) (fun j => FloatOps.absf (F := Ideal) (φ := .f32) (f j)) Finset.univ

/-- The scale of a normed row. -/
def scale (f w : Fin 2560 → EReal) : EReal := Cert.Quant.scaleOf (amax (norm f w))

/-- The code of a normed row at a column. -/
def code (f w : Fin 2560 → EReal) (j : Fin 2560) : EReal := Cert.Quant.quant (norm f w j) (scale f w)

end Cert.Norm

end
-- ==== Proof.Tile.lean ====
module

public import proofs.«01_k».proof.Proof.Norm
public import Idealize.ShloMosaic.Lib.ValueLayout

/-! The norm and the row quantiser on an array of rows, as the kernels compute them (multiplying by inverses)
    and as the references do (dividing), at an index. -/

@[expose] public section

set_option maxRecDepth 16384

noncomputable section
open Idealize.ShloMosaic

namespace Cert.Tile

/-- `R` rows of `n` values. -/
abbrev Rows (R n : ℕ) : Shape := ⟨2, ![R, n]⟩
/-- `R` values. -/
abbrev Col (R : ℕ) : Shape := ⟨1, ![R]⟩

variable {R : ℕ}

/-- The index of a column matched with the flat index. -/
theorem reshape_col (h : (Rows R 1).numel = (Col R).numel) (r : Fin R) : Shape.reshapeEquiv h (ix2 r (0 : Fin 1)) = ix1 r :=
  Shape.reshapeEquiv_eq_of_rowMajor h (by
    rw [Shape.rowMajor_val_two, Shape.rowMajor_val_one]
    show r.val = r.val * 1 + 0
    omega)

/-- A flat array as a column, at an index. -/
theorem col_pt {α : Type} (q : (Col R).Idx → α) (h : (Col R).ShapeCasts (Rows R 1)) (r : Fin R) : shapeCast (Rows R 1) q h (ix2 r 0) = q (ix1 r) := by
  unfold shapeCast
  rw [reshape_col]

/-- The mean square of each row plus the small constant, under the root. -/
theorem rms_pt (g : FVec Ideal (Rows R 2560) .f32) (h1) (h2) (h3) (h4 : (Col R).ShapeCasts (Rows R 1)) (r : Fin R) :
    sqrt (addf (divf (shapeCast (Rows R 1) (multiReduction (F := Ideal) (φ := .f32) .add [1] (Col R) (mulf g g) 0x00000000#32 h1 h2 h3) h4)
        (broadcast (Rows R 1) (Scalar.ofBits (F := Ideal) .f32 0x45200000#32))) (broadcast (Rows R 1) (Scalar.ofBits (F := Ideal) .f32 0x3727C5AC#32))) (ix2 r 0)
      = Cert.Norm.rms (fun k => g (ix2 r k)) := by
  pointwise [Cert.Norm.rms]
  rw [reshape_col]
  rfl

/-- A column spread over rows. -/
theorem bcol {α : Type} {n : ℕ} (q : (Rows R 1).Idx → α) (h : (Rows R 1).Broadcasts (Rows R n)) (r : Fin R) (j : Fin n) :
    broadcastTo (Rows R n) q h (ix2 r j) = q (ix2 r 0) := by
  refine Idealize.ShloMosaic.broadcastTo_apply q h (ix2 r j) (ix2 r (0 : Fin 1)) fun ax => ?_
  match ax with
  | ⟨0, _⟩ =>
    show r.val = if R = 1 then 0 else r.val
    split
    · have := r.isLt; omega
    · rfl
  | ⟨1, _⟩ => rfl

/-- A row spread over rows. -/
theorem brow {α : Type} {n : ℕ} (w : (Rows 1 n).Idx → α) (h : (Rows 1 n).Broadcasts (Rows R n)) (r : Fin R) (j : Fin n) :
    broadcastTo (Rows R n) w h (ix2 r j) = w (ix2 0 j) :=
  ValueIdx.broadcastTo_1b_ab_apply w h r j

/-- Rows times the inverse of a column, times a gain. -/
theorem normK_pt {n : ℕ} (g : FVec Ideal (Rows R n) .f32) (q : FVec Ideal (Rows R 1) .f32) (w : FVec Ideal (Rows 1 n) .f32)
    (h1 : (Rows R 1).Broadcasts (Rows R n)) (h2 : (Rows 1 n).Broadcasts (Rows R n)) (r : Fin R) (j : Fin n) :
    mulf (mulf g (broadcastTo (Rows R n) (divf (broadcast (Rows R 1) (Scalar.ofBits (F := Ideal) .f32 0x3F800000#32)) q) h1)) (broadcastTo (Rows R n) w h2) (ix2 r j)
      = g (ix2 r j) * Ideal.div 1 (q (ix2 r 0)) * w (ix2 0 j) := by
  rw [ValueIdx.mulf_apply, ValueIdx.mulf_apply, bcol, brow]
  pointwise []

/-- Rows divided by a column, times a gain. -/
theorem normR_pt {n : ℕ} (g : FVec Ideal (Rows R n) .f32) (q : FVec Ideal (Rows R 1) .f32) (w : FVec Ideal (Rows 1 n) .f32)
    (h1 : (Rows R 1).Broadcasts (Rows R n)) (h2 : (Rows 1 n).Broadcasts (Rows R n)) (r : Fin R) (j : Fin n) :
    mulf (divf g (broadcastTo (Rows R n) q h1)) (broadcastTo (Rows R n) w h2) (ix2 r j)
      = Ideal.div (g (ix2 r j)) (q (ix2 r 0)) * w (ix2 0 j) := by
  rw [ValueIdx.mulf_apply, ValueIdx.divf_apply, bcol, brow]

/-- The largest magnitude of each row. -/
theorem amax_pt {n : ℕ} (g : FVec Ideal (Rows R n) .f32) (h1) (h2) (h3) (r : Fin R) :
    multiReduction (F := Ideal) (φ := .f32) .maximumf [1] (Col R) (absf g) 0xFF800000#32 h1 h2 h3 (ix1 r)
      = Cert.Norm.amax (fun k => g (ix2 r k)) := by
  pointwise [Cert.Norm.amax]

/-- The largest magnitude of each row, as a column. -/
theorem amax_col_pt {n : ℕ} (g : FVec Ideal (Rows R n) .f32) (h1) (h2) (h3) (h4 : (Col R).ShapeCasts (Rows R 1)) (r : Fin R) :
    shapeCast (Rows R 1) (multiReduction (F := Ideal) (φ := .f32) .maximumf [1] (Col R) (absf g) 0xFF800000#32 h1 h2 h3) h4 (ix2 r 0)
      = Cert.Norm.amax (fun k => g (ix2 r k)) := by
  pointwise [Cert.Norm.amax]
  rw [reshape_col]
  rfl

/-- A scale from a row maximum. -/
theorem scale_pt {s : Shape} (a : FVec Ideal s .f32) (i : s.Idx) :
    select (cmpf .oeq a (broadcast s (Scalar.ofBits (F := Ideal) .f32 0x00000000#32))) (broadcast s (Scalar.ofBits (F := Ideal) .f32 0x3F800000#32))
        (divf a (broadcast s (Scalar.ofBits (F := Ideal) .f32 0x43E00000#32))) i
      = Cert.Quant.scaleOf (a i) := by
  pointwise [Cert.Quant.scaleOf]

/-- Codes by the inverse scale. -/
theorem codesK_pt {n : ℕ} (v : FVec Ideal (Rows R n) .f32) (s : FVec Ideal (Rows R 1) .f32) (h1 : (Rows R 1).Broadcasts (Rows R n)) (h2) (r : Fin R) (j : Fin n) :
    truncf (F := Ideal) .fp8e4m3 (minimumf (broadcast (Rows R n) (Scalar.ofBits (F := Ideal) .f32 0x43E00000#32)) (maximumf (broadcast (Rows R n) (Scalar.ofBits (F := Ideal) .f32 0xC3E00000#32))
        (mulf v (broadcastTo (Rows R n) (divf (broadcast (Rows R 1) (Scalar.ofBits (F := Ideal) .f32 0x3F800000#32)) s) h1)))) h2 (ix2 r j)
      = Cert.Quant.quant (v (ix2 r j)) (s (ix2 r 0)) := by
  have e := bcol (divf (broadcast (Rows R 1) (Scalar.ofBits (F := Ideal) .f32 0x3F800000#32)) s) h1 r j
  generalize broadcastTo (Rows R n) (divf (broadcast (Rows R 1) (Scalar.ofBits (F := Ideal) .f32 0x3F800000#32)) s) h1 = B at e ⊢
  pointwise [Cert.Quant.quant]
  rw [e]
  pointwise []

/-- Codes by division. -/
theorem codesR_pt {n : ℕ} (v : FVec Ideal (Rows R n) .f32) (s : FVec Ideal (Col R) .f32) (h1 : (Rows R 1).Broadcasts (Rows R n)) (h2) (h4 : (Col R).ShapeCasts (Rows R 1)) (r : Fin R) (j : Fin n) :
    truncf (F := Ideal) .fp8e4m3 (minimumf (broadcast (Rows R n) (Scalar.ofBits (F := Ideal) .f32 0x43E00000#32)) (maximumf (broadcast (Rows R n) (Scalar.ofBits (F := Ideal) .f32 0xC3E00000#32))
        (divf v (broadcastTo (Rows R n) (shapeCast (Rows R 1) s h4) h1)))) h2 (ix2 r j)
      = min (Ideal.ofBits FTy.f32 1138753536#32) (max (Ideal.ofBits FTy.f32 3286237184#32) (Ideal.div (v (ix2 r j)) (s (ix1 r)))) := by
  have e := bcol (shapeCast (Rows R 1) s h4) h1 r j
  generalize broadcastTo (Rows R n) (shapeCast (Rows R 1) s h4) h1 = B at e ⊢
  pointwise []
  rw [e]
  unfold shapeCast
  rw [reshape_col]

/-- The root of the mean square of each row, as a column. -/
abbrev rootCol (g : FVec Ideal (Rows R 2560) .f32) (h1 : (Rows R 2560).Reduces [1] (Col R)) (h2 : FKind.Formats FTy.f32) (h3 : 0x00000000#32 = FKind.add.neutral FTy.f32 h2) (h4 : (Col R).ShapeCasts (Rows R 1)) : FVec Ideal (Rows R 1) .f32 :=
  sqrt (addf (divf (shapeCast (Rows R 1) (multiReduction (F := Ideal) (φ := .f32) .add [1] (Col R) (mulf g g) 0x00000000#32 h1 h2 h3) h4)
    (broadcast (Rows R 1) (Scalar.ofBits (F := Ideal) .f32 0x45200000#32))) (broadcast (Rows R 1) (Scalar.ofBits (F := Ideal) .f32 0x3727C5AC#32)))

/-- The norm of each row by the inverse of its root. -/
abbrev normK (g : FVec Ideal (Rows R 2560) .f32) (w : FVec Ideal (Rows 1 2560) .f32) (h1 : (Rows R 2560).Reduces [1] (Col R)) (h2 : FKind.Formats FTy.f32) (h3 : 0x00000000#32 = FKind.add.neutral FTy.f32 h2) (h4 : (Col R).ShapeCasts (Rows R 1))
    (h5 : (Rows R 1).Broadcasts (Rows R 2560)) (h6 : (Rows 1 2560).Broadcasts (Rows R 2560)) : FVec Ideal (Rows R 2560) .f32 :=
  mulf (mulf g (broadcastTo (Rows R 2560) (divf (broadcast (Rows R 1) (Scalar.ofBits (F := Ideal) .f32 0x3F800000#32)) (rootCol g h1 h2 h3 h4)) h5))
    (broadcastTo (Rows R 2560) w h6)

/-- The norm of each row by division by its root. -/
abbrev normR (g : FVec Ideal (Rows R 2560) .f32) (w : FVec Ideal (Rows 1 2560) .f32) (h1 : (Rows R 2560).Reduces [1] (Col R)) (h2 : FKind.Formats FTy.f32) (h3 : 0x00000000#32 = FKind.add.neutral FTy.f32 h2) (h4 : (Col R).ShapeCasts (Rows R 1))
    (h5 : (Rows R 1).Broadcasts (Rows R 2560)) (h6 : (Rows 1 2560).Broadcasts (Rows R 2560)) : FVec Ideal (Rows R 2560) .f32 :=
  mulf (divf g (broadcastTo (Rows R 2560) (rootCol g h1 h2 h3 h4) h5)) (broadcastTo (Rows R 2560) w h6)

/-- The largest magnitude of each row, as a column. -/
abbrev amaxCol {n : ℕ} (v : FVec Ideal (Rows R n) .f32) (h1 : (Rows R n).Reduces [1] (Col R)) (h2 : FKind.Formats FTy.f32) (h3 : 0xFF800000#32 = FKind.maximumf.neutral FTy.f32 h2) (h4 : (Col R).ShapeCasts (Rows R 1)) : FVec Ideal (Rows R 1) .f32 :=
  shapeCast (Rows R 1) (multiReduction (F := Ideal) (φ := .f32) .maximumf [1] (Col R) (absf v) 0xFF800000#32 h1 h2 h3) h4

/-- The scales of row maxima. -/
abbrev scales {s : Shape} (a : FVec Ideal s .f32) : FVec Ideal s .f32 :=
  select (cmpf .oeq a (broadcast s (Scalar.ofBits (F := Ideal) .f32 0x00000000#32))) (broadcast s (Scalar.ofBits (F := Ideal) .f32 0x3F800000#32))
    (divf a (broadcast s (Scalar.ofBits (F := Ideal) .f32 0x43E00000#32)))

/-- Codes by the inverse scale. -/
abbrev codesK {n : ℕ} (v : FVec Ideal (Rows R n) .f32) (s : FVec Ideal (Rows R 1) .f32) (h1 : (Rows R 1).Broadcasts (Rows R n)) (h2 : FTy.fp8e4m3.bits < FTy.f32.bits) :
    FVec Ideal (Rows R n) .fp8e4m3 :=
  truncf (F := Ideal) .fp8e4m3 (minimumf (broadcast (Rows R n) (Scalar.ofBits (F := Ideal) .f32 0x43E00000#32)) (maximumf (broadcast (Rows R n) (Scalar.ofBits (F := Ideal) .f32 0xC3E00000#32))
    (mulf v (broadcastTo (Rows R n) (divf (broadcast (Rows R 1) (Scalar.ofBits (F := Ideal) .f32 0x3F800000#32)) s) h1)))) h2

/-- The norm by the inverse, at an index. -/
theorem normK_eq (g : FVec Ideal (Rows R 2560) .f32) (w : FVec Ideal (Rows 1 2560) .f32) (h1) (h2) (h3) (h4) (h5) (h6) (r : Fin R) (j : Fin 2560) :
    normK g w h1 h2 h3 h4 h5 h6 (ix2 r j) = Cert.Norm.norm (fun k => g (ix2 r k)) (fun k => w (ix2 0 k)) j := by
  refine (normK_pt g (rootCol g h1 h2 h3 h4) w h5 h6 r j).trans ?_
  exact congrArg (fun q => g (ix2 r j) * Ideal.div 1 q * w (ix2 0 j)) (rms_pt g h1 h2 h3 h4 r)

/-- The norm by division, at an index. -/
theorem normR_eq (g : FVec Ideal (Rows R 2560) .f32) (w : FVec Ideal (Rows 1 2560) .f32) (h1) (h2) (h3) (h4) (h5) (h6) (r : Fin R) (j : Fin 2560) :
    normR g w h1 h2 h3 h4 h5 h6 (ix2 r j) = Cert.Norm.norm (fun k => g (ix2 r k)) (fun k => w (ix2 0 k)) j := by
  refine (normR_pt g (rootCol g h1 h2 h3 h4) w h5 h6 r j).trans ?_
  rw [Cert.Norm.norm_eq]
  exact congrArg (fun q => Ideal.div (g (ix2 r j)) q * w (ix2 0 j)) (rms_pt g h1 h2 h3 h4 r)

/-- The largest magnitude of a normed row. -/
theorem amaxK_eq (g : FVec Ideal (Rows R 2560) .f32) (w : FVec Ideal (Rows 1 2560) .f32) (h1) (h2) (h3) (h4) (h5) (h6) (k1) (k2) (k3) (r : Fin R) :
    amaxCol (normK g w h1 h2 h3 h4 h5 h6) k1 k2 k3 h4 (ix2 r 0)
      = Cert.Norm.amax (Cert.Norm.norm (fun k => g (ix2 r k)) (fun k => w (ix2 0 k))) := by
  refine (amax_col_pt _ k1 k2 k3 h4 r).trans (congrArg _ (funext fun k => ?_))
  exact normK_eq g w h1 h2 h3 h4 h5 h6 r k

/-- The scale of a normed row. -/
theorem scalesK_eq (g : FVec Ideal (Rows R 2560) .f32) (w : FVec Ideal (Rows 1 2560) .f32) (h1) (h2) (h3) (h4) (h5) (h6) (k1) (k2) (k3) (x : (Rows R 1).Idx) :
    scales (amaxCol (normK g w h1 h2 h3 h4 h5 h6) k1 k2 k3 h4) x
      = Cert.Norm.scale (fun k => g (ix2 (x 0 : Fin R) k)) (fun k => w (ix2 0 k)) := by
  have ex : x = ix2 (x 0 : Fin R) (0 : Fin 1) := by
    refine (eq_ix2 x).trans (congrArg _ (Subsingleton.elim (α := Fin 1) _ _))
  refine (scale_pt _ x).trans (congrArg Cert.Quant.scaleOf ((congrArg _ ex).trans ?_))
  exact amaxK_eq g w h1 h2 h3 h4 h5 h6 k1 k2 k3 (x 0)

/-- The codes of a normed row. -/
theorem codesK_eq (g : FVec Ideal (Rows R 2560) .f32) (w : FVec Ideal (Rows 1 2560) .f32) (h1) (h2) (h3) (h4) (h5) (h6) (k1) (k2) (k3) (k4) (x : (Rows R 2560).Idx) :
    codesK (normK g w h1 h2 h3 h4 h5 h6) (scales (amaxCol (normK g w h1 h2 h3 h4 h5 h6) k1 k2 k3 h4)) h5 k4 x
      = Cert.Norm.code (fun k => g (ix2 (x 0 : Fin R) k)) (fun k => w (ix2 0 k)) (x 1) := by
  refine (congrArg _ (eq_ix2 x)).trans ((codesK_pt _ _ h5 k4 (x 0) (x 1)).trans ?_)
  exact congrArg₂ Cert.Quant.quant (normK_eq g w h1 h2 h3 h4 h5 h6 (x 0) (x 1)) (scalesK_eq g w h1 h2 h3 h4 h5 h6 k1 k2 k3 (ix2 (x 0) 0))

/-- The scale of a normed row, by division and without the column. -/
theorem scalesR_eq (g : FVec Ideal (Rows R 2560) .f32) (w : FVec Ideal (Rows 1 2560) .f32) (h1) (h2) (h3) (h4) (h5) (h6) (k1) (k2) (k3) (r : Fin R) :
    scales (multiReduction (F := Ideal) (φ := .f32) .maximumf [1] (Col R) (absf (normR g w h1 h2 h3 h4 h5 h6)) 0xFF800000#32 k1 k2 k3) (ix1 r)
      = Cert.Norm.scale (fun k => g (ix2 r k)) (fun k => w (ix2 0 k)) := by
  refine (scale_pt _ (ix1 r)).trans (congrArg Cert.Quant.scaleOf ?_)
  refine (amax_pt _ k1 k2 k3 r).trans (congrArg _ (funext fun k => ?_))
  exact normR_eq g w h1 h2 h3 h4 h5 h6 r k

/-- The code of a normed row, from its quotient by the scale. -/
theorem code_div (f w : Fin 2560 → EReal) (j : Fin 2560) :
    min (Ideal.ofBits FTy.f32 1138753536#32) (max (Ideal.ofBits FTy.f32 3286237184#32) (Ideal.div (Cert.Norm.norm f w j) (Cert.Norm.scale f w)))
      = Cert.Norm.code f w j := by
  unfold Cert.Norm.code Cert.Quant.quant Cert.Norm.scale
  rw [Cert.Quant.mul_inv_scale]

/-- Codes agree where rows, gains and columns agree. -/
theorem code_congr {f f' w w' : Fin 2560 → EReal} {j j' : Fin 2560} (hf : ∀ k, f k = f' k) (hw : ∀ k, w k = w' k) (hj : j = j') :
    Cert.Norm.code f w j = Cert.Norm.code f' w' j' := by
  rw [funext hf, funext hw, hj]

/-- Scales agree where rows and gains agree. -/
theorem scale_congr {f f' w w' : Fin 2560 → EReal} (hf : ∀ k, f k = f' k) (hw : ∀ k, w k = w' k) :
    Cert.Norm.scale f w = Cert.Norm.scale f' w' := by
  rw [funext hf, funext hw]

end Cert.Tile

end
-- ==== Proof.Canon.lean ====
module

public import Idealize.ShloMosaic.Lib.Pipeline.ValueKit

/-! Reading what a sequence of stores leaves when the earliest store is covered by the later ones. -/

@[expose] public section

noncomputable section
open Idealize.ShloMosaic Idealize.ShloMosaic.TcCoe Idealize.SL.Sem

namespace Cert

/-- Stores made before stores that cover an index do not matter there. -/
theorem canon_dropLast {Val : EltTy → Type} {S : Shape} {e : EltTy} [∀ e, Nonempty (Val e)] (v : Val e) :
    ∀ (L : List (View.Piece Val S e)) (y : S.Idx) (_ : ∃ p ∈ L.dropLast, y ∈ p.1.set)
      (_ : View.canon L.dropLast y = v), View.canon L y = v
  | [], _, h, _ => by obtain ⟨p, hp, _⟩ := h; simp at hp
  | [_], _, h, _ => by obtain ⟨p, hp, _⟩ := h; simp at hp
  | p :: q :: L, y, hc, hv => by
    rw [List.dropLast_cons₂] at hc hv
    by_cases hm : y ∈ p.1.set
    · obtain ⟨x, rfl⟩ := p.1.exists_idx_of_mem hm
      rw [show p.1.idx x = p.1.emb x from rfl, View.canon_cons_emb] at hv ⊢
      exact hv
    · rw [View.canon_cons_of_not_mem _ _ hm] at hv ⊢
      refine canon_dropLast v (q :: L) y ?_ hv
      obtain ⟨r, hr, hyr⟩ := hc
      rcases List.mem_cons.mp hr with rfl | hr'
      · exact absurd hyr hm
      · exact ⟨r, hr', hyr⟩

end Cert

end
-- ==== Proof.OutProj.Step.lean ====
module

public import proofs.«01_k».proof.Proof.Gen.OutProjIdeal.Value
public import proofs.«01_k».proof.Proof.Tile
public import proofs.«01_k».proof.Proof.Canon
public import Idealize.ShloMosaic.Lib.Pipeline.ValueKit
public import Idealize.ShloMosaic.Lib.Pipeline.ReadBack

/-! What the output projection kernel leaves in its staging buffer at a grid point, and what it writes one point later:
    the staged rows, and the codes and scales of their norms. -/

@[expose] public section

set_option maxRecDepth 16384

noncomputable section
open Idealize.ShloMosaic Idealize.ShloMosaic.TcCoe Idealize.SL.Sem
open Idealize.ShloMosaic.Pipeline (Dat)
namespace Cert.OutProjIdeal.Value
open Cert.OutProjIdeal Cert.OutProjIdeal.Gen
variable (m : (ℓ : Loc nD τ sig) → Buf (Elt Ideal) ℓ)

/-- The residual plus the scaled product, at row `r`, column `j` of a block of rows. -/
def lin (x : Vec Ideal S256x4096 .fp8e4m3) (xs : Vec Ideal S256x1 .f32) (w : Vec Ideal S4096x2560 .fp8e4m3)
    (s : Vec Ideal S1x2560 .f32) (res : Vec Ideal S256x2560 .f32) (r : Fin 256) (j : Fin 2560) : EReal :=
  res (ix2 r j) + (∑ k : Fin 4096, (x (ix2 r k) : EReal) * w (ix2 k j)) * xs (ix2 r 0) * s (ix2 0 j)

/-- The codes of the norms of staged rows. -/
def codesAt (v : S256x2560.Idx → EReal) (w : S1x2560.Idx → EReal) (y : S256x2560.Idx) : EReal :=
  Cert.Norm.code (fun j => v (ix2 (y 0 : Fin 256) j)) (fun j => w (ix2 0 j)) (y 1)

/-- The scales of the norms of staged rows. -/
def scaleAt (v : S256x2560.Idx → EReal) (w : S1x2560.Idx → EReal) (y : S256x1.Idx) : EReal :=
  Cert.Norm.scale (fun j => v (ix2 (y 0 : Fin 256) j)) (fun j => w (ix2 0 j))

/-- What the point before left in the staging buffer. -/
abbrev prev (c : Dev nD) (t : Fin cfg0.N) : S256x2560.Idx → EReal :=
  (outsAt0 m c (t.val - 1) (Nat.lt_of_le_of_lt (Nat.sub_le _ _) t.isLt)).2.2.2

/-- After the first point the staging buffer holds that point's rows. -/
theorem g_A (c : Dev nD) (t : Fin cfg0.N) (h0 : t.val % 31 = 0) (h1 : t.val < 30) (h2 : ¬t.val % 31 = 30) (y : S256x2560.Idx) :
    (outsAt0 m c t.val t.isLt).2.2.2 y
      = lin (iblk m c 0 t) (iblk m c 1 t) (iblk m c 2 t) (iblk m c 3 t) (iblk m c 4 t) (y 0) (y 1) := by
  rw [outsAt0_A m c t h0 h1 h2]
  frame_out
  refine canon_dropLast _ _ _ ?_ ?_
  · simp only [List.dropLast]
    exact View.cover_of_tiled_head _ _ _ rfl _
  simp only [List.dropLast]
  canon_tiles x h
  all_goals
    open_payloads
    pointwise [lin]
    blk_point []

/-- After a middle point the staging buffer holds that point's rows. -/
theorem g_B (c : Dev nD) (t : Fin cfg0.N) (h0 : ¬t.val % 31 = 0) (h1 : t.val < 30) (h2 : ¬t.val % 31 = 30) (y : S256x2560.Idx) :
    (outsAt0 m c t.val t.isLt).2.2.2 y
      = lin (iblk m c 0 t) (iblk m c 1 t) (iblk m c 2 t) (iblk m c 3 t) (iblk m c 4 t) (y 0) (y 1) := by
  rw [outsAt0_B m c t h0 h1 h2]
  frame_out
  canon_tiles x h
  all_goals
    open_payloads
    pointwise [lin]
    blk_point []

/-- A middle point writes the rows the point before left. -/
theorem out_B (c : Dev nD) (t : Fin cfg0.N) (h0 : ¬t.val % 31 = 0) (h1 : t.val < 30) (h2 : ¬t.val % 31 = 30) :
    (outsAt0 m c t.val t.isLt).1 = prev m c t := by
  rw [outsAt0_B m c t h0 h1 h2]
  frame_out
  simp only [read_unread_whole]

/-- A middle point writes the codes of the rows the point before left. -/
theorem codes_B (c : Dev nD) (t : Fin cfg0.N) (h0 : ¬t.val % 31 = 0) (h1 : t.val < 30) (h2 : ¬t.val % 31 = 30) (y : S256x2560.Idx) :
    (outsAt0 m c t.val t.isLt).2.1 y = codesAt (prev m c t) (iblk m c 5 t) y := by
  rw [outsAt0_B m c t h0 h1 h2]
  frame_out
  simp only [read_unread_whole]
  canon_tiles x h
  all_goals
    open_payloads
    refine (Cert.Tile.codesK_eq (R := 32) _ _ _ _ _ _ _ _ _ _ _ _ x).trans ?_
    refine Cert.Tile.code_congr (fun k => ?_) (fun k => rfl) (Fin.ext (by first | exact h1.symm | exact h1))
    refine (congrFun (View.readCov_fill _ _ _ _ _ (by decide)) _).trans ?_
    pointwise []
    blk_point []

/-- A middle point writes the scales of the rows the point before left. -/
theorem scales_B (c : Dev nD) (t : Fin cfg0.N) (h0 : ¬t.val % 31 = 0) (h1 : t.val < 30) (h2 : ¬t.val % 31 = 30) (y : S256x1.Idx) :
    (outsAt0 m c t.val t.isLt).2.2.1 y = scaleAt (prev m c t) (iblk m c 5 t) y := by
  rw [outsAt0_B m c t h0 h1 h2]
  frame_out
  simp only [read_unread_whole]
  canon_tiles x h
  all_goals
    open_payloads
    refine (Cert.Tile.scalesK_eq (R := 32) _ _ _ _ _ _ _ _ _ _ _ x).trans ?_
    refine Cert.Tile.scale_congr (fun k => ?_) (fun k => rfl)
    refine (congrFun (View.readCov_fill _ _ _ _ _ (by decide)) _).trans ?_
    pointwise []
    blk_point []

/-- The last point writes the rows the point before left. -/
theorem out_C (c : Dev nD) (t : Fin cfg0.N) (h0 : ¬t.val % 31 = 0) (h1 : ¬t.val < 30) (h2 : t.val % 31 = 30) :
    (outsAt0 m c t.val t.isLt).1 = prev m c t := by
  rw [outsAt0_C m c t h0 h1 h2]
  frame_out
  simp only [read_unread_whole]

/-- The last point writes the codes of the rows the point before left. -/
theorem codes_C (c : Dev nD) (t : Fin cfg0.N) (h0 : ¬t.val % 31 = 0) (h1 : ¬t.val < 30) (h2 : t.val % 31 = 30) (y : S256x2560.Idx) :
    (outsAt0 m c t.val t.isLt).2.1 y = codesAt (prev m c t) (iblk m c 5 t) y := by
  rw [outsAt0_C m c t h0 h1 h2]
  frame_out
  simp only [read_unread_whole]
  canon_tiles x h
  all_goals
    open_payloads
    refine (Cert.Tile.codesK_eq (R := 32) _ _ _ _ _ _ _ _ _ _ _ _ x).trans ?_
    refine Cert.Tile.code_congr (fun k => ?_) (fun k => rfl) (Fin.ext (by first | exact h1.symm | exact h1))
    refine (congrFun (View.readCov_fill _ _ _ _ _ (by decide)) _).trans ?_
    pointwise []
    blk_point []

/-- The last point writes the scales of the rows the point before left. -/
theorem scales_C (c : Dev nD) (t : Fin cfg0.N) (h0 : ¬t.val % 31 = 0) (h1 : ¬t.val < 30) (h2 : t.val % 31 = 30) (y : S256x1.Idx) :
    (outsAt0 m c t.val t.isLt).2.2.1 y = scaleAt (prev m c t) (iblk m c 5 t) y := by
  rw [outsAt0_C m c t h0 h1 h2]
  frame_out
  simp only [read_unread_whole]
  canon_tiles x h
  all_goals
    open_payloads
    refine (Cert.Tile.scalesK_eq (R := 32) _ _ _ _ _ _ _ _ _ _ _ x).trans ?_
    refine Cert.Tile.scale_congr (fun k => ?_) (fun k => rfl)
    refine (congrFun (View.readCov_fill _ _ _ _ _ (by decide)) _).trans ?_
    pointwise []
    blk_point []

end Cert.OutProjIdeal.Value

end
-- ==== Proof.OutProj.Ref.lean ====
module

public import proofs.«01_k».proof.Proof.Tile
public import proofs.«01_k».proof.Proof.Gen.OutProjRefIdeal.Value

/-! The output projection reference at an index: the residual plus the scaled product, and the codes and scales of its norm. -/

@[expose] public section

set_option maxRecDepth 16384

noncomputable section
open Idealize.ShloMosaic Idealize.ShloMosaic.TcCoe Idealize.SL.Sem
open Idealize.ShloMosaic.Pipeline (Dat)
namespace Cert.OutProjRefIdeal.Value
open Cert.OutProjRefIdeal Cert.OutProjRefIdeal.Gen

/-- The residual plus the scaled product of the whole arrays, at row `r`, column `j`. -/
def linG (x : Vec Ideal S7680x4096 .fp8e4m3) (xs : Vec Ideal S7680x1 .f32) (w : Vec Ideal S4096x2560 .fp8e4m3)
    (s : Vec Ideal S1x2560 .f32) (res : Vec Ideal S7680x2560 .f32) (r : Fin 7680) (j : Fin 2560) : EReal :=
  res (ix2 r j) + (∑ k : Fin 4096, (x (ix2 r k) : EReal) * w (ix2 k j)) * xs (ix2 r 0) * s (ix2 0 j)

variable (x : Vec Ideal S7680x4096 .fp8e4m3) (xs : Vec Ideal S7680x1 .f32) (w : Vec Ideal S4096x2560 .fp8e4m3)
  (s : Vec Ideal S1x2560 .f32) (res : Vec Ideal S7680x2560 .f32) (wn : Vec Ideal S1x2560 .f32) (r : Fin 7680)

/-- The reference's rows at an index. -/
theorem ref_lin (j : Fin 2560) : k0_pay3 (F := Ideal) res x xs w s (ix2 r j) = linG x xs w s res r j := by
  pointwise [k0_pay3, linG]

/-- The reference's first result at an index. -/
theorem ref_out (j : Fin 2560) : G6 x xs w s res wn (ix2 r j) = linG x xs w s res r j := ref_lin x xs w s res r j

/-- The reference's norms at an index. -/
theorem ref_norm (j : Fin 2560) : k0_pay4 (F := Ideal) res x xs w s wn (ix2 r j)
    = Cert.Norm.norm (linG x xs w s res r) (fun k => wn (ix2 0 k)) j := by
  refine (Cert.Tile.normR_eq (R := 7680) (k0_pay3 (F := Ideal) res x xs w s) wn _ _ _ _ _ _ r j).trans ?_
  rw [funext (ref_lin x xs w s res r)]

/-- The reference's scales at a row. -/
theorem ref_scale : k0_pay5 (F := Ideal) res x xs w s wn (ix1 r)
    = Cert.Norm.scale (linG x xs w s res r) (fun k => wn (ix2 0 k)) := by
  refine (Cert.Tile.scalesR_eq (R := 7680) (k0_pay3 (F := Ideal) res x xs w s) wn _ _ _ _ _ _ _ _ _ r).trans ?_
  rw [funext (ref_lin x xs w s res r)]

/-- The reference's codes at an index. -/
theorem ref_codes (j : Fin 2560) : G7 x xs w s res wn (ix2 r j)
    = Cert.Norm.code (linG x xs w s res r) (fun k => wn (ix2 0 k)) j := by
  refine (Cert.Tile.codesR_pt (R := 7680) (k0_pay4 (F := Ideal) res x xs w s wn) (k0_pay5 (F := Ideal) res x xs w s wn) _ _ _ r j).trans ?_
  exact (congrArg₂ (fun a b => min (Ideal.ofBits FTy.f32 1138753536#32) (max (Ideal.ofBits FTy.f32 3286237184#32) (Ideal.div a b)))
    (ref_norm x xs w s res wn r j) (ref_scale x xs w s res wn r)).trans (Cert.Tile.code_div _ _ j)

/-- The reference's scales, as the column it writes. -/
theorem ref_scales : G8 x xs w s res wn (ix2 r 0)
    = Cert.Norm.scale (linG x xs w s res r) (fun k => wn (ix2 0 k)) := by
  refine Eq.trans ?_ (ref_scale x xs w s res wn r)
  unfold G8 k0_pay2
  generalize k0_pay5 (F := Ideal) res x xs w s wn = q
  exact Cert.Tile.col_pt q _ r

end Cert.OutProjRefIdeal.Value

end
-- ==== Proof.OutProj.Final.lean ====
module

public import proofs.«01_k».proof.Proof.OutProj.Step
public import proofs.«01_k».proof.Proof.OutProj.Ref

/-! The output projection kernel's three result arrays are the reference's: the rows, codes and scales of every block of
    256 rows, written one grid point after the products were computed. -/

@[expose] public section

set_option maxRecDepth 16384

noncomputable section
open Idealize.ShloMosaic Idealize.ShloMosaic.TcCoe Idealize.SL.Sem
open Idealize.ShloMosaic.Pipeline (Dat)
namespace Cert.OutProjIdeal.Value
open Cert.OutProjIdeal Cert.OutProjIdeal.Gen
open Cert.OutProjRefIdeal.Value (linG)
variable (m : (ℓ : Loc nD τ sig) → Buf (Elt Ideal) ℓ)

/-- The windows' index maps: the row blocks of the operands advance with the point and stay at the last, the
    weights and gains are whole, the results lag one point behind. -/
theorem idx : ∀ t : Fin cfg0.N, win0_0.index t = ![min t.val 29, 0] ∧ win0_1.index t = ![min t.val 29, 0]
    ∧ win0_2.index t = ![0, 0] ∧ win0_3.index t = ![0, 0] ∧ win0_4.index t = ![min t.val 29, 0] ∧ win0_5.index t = ![0, 0]
    ∧ win0_6.index t = ![t.val - 1, 0] ∧ win0_7.index t = ![t.val - 1, 0] ∧ win0_8.index t = ![t.val - 1, 0] :=
  (by decide +kernel : ∀ t : Fin grid0.N, _)

/-- The results' blocks are written back at every point but the first. -/
theorem flush_pos : ∀ t : Fin cfg0.N, ((cfg0.win 6).flush t = true → t.val ≠ 0) ∧ ((cfg0.win 7).flush t = true → t.val ≠ 0)
    ∧ ((cfg0.win 8).flush t = true → t.val ≠ 0) :=
  (by decide +kernel : ∀ t : Fin grid0.N, _)

/-- The rows computed at point `s`, read from the whole arrays. -/
theorem lin_read (c : Dev nD) (s : Fin cfg0.N) (hs : s.val < 30) (r : Fin 256) (j : Fin 2560) :
    lin (iblk m c 0 s) (iblk m c 1 s) (iblk m c 2 s) (iblk m c 3 s) (iblk m c 4 s) r j
      = linG (m ((c : Thread nD τ).loc main_arg0)) (m ((c : Thread nD τ).loc main_arg1)) (m ((c : Thread nD τ).loc main_arg2)) (m ((c : Thread nD τ).loc main_arg3)) (m ((c : Thread nD τ).loc main_arg4))
          ⟨256 * s.val + r.val, by omega⟩ j := by
  unfold lin linG
  blk_point [iblk, V, idx s]

/-- The norm's gain, read from the whole array. -/
theorem gain_read (c : Dev nD) (t : Fin cfg0.N) (k : Fin 2560) :
    iblk m c 5 t (ix2 0 k) = m ((c : Thread nD τ).loc main_arg5) (ix2 0 k) := by
  blk_point [iblk, V, idx t]

/-- The staged rows, whichever point computed them. -/
theorem g_at (c : Dev nD) (s : Fin cfg0.N) (hs : s.val < 30) (y : S256x2560.Idx) :
    (outsAt0 m c s.val s.isLt).2.2.2 y
      = lin (iblk m c 0 s) (iblk m c 1 s) (iblk m c 2 s) (iblk m c 3 s) (iblk m c 4 s) (y 0) (y 1) := by
  by_cases h0 : s.val % 31 = 0
  · exact g_A m c s h0 hs (by omega) y
  · exact g_B m c s h0 hs (by omega) y

/-- The rows any later point writes. -/
theorem out_at (c : Dev nD) (t : Fin cfg0.N) (ht : t.val ≠ 0) (y : S256x2560.Idx) :
    (outsAt0 m c t.val t.isLt).1 y = prev m c t y := by
  have hN : t.val < 31 := t.isLt
  by_cases h1 : t.val < 30
  · exact congrFun (out_B m c t (by omega) h1 (by omega)) y
  · exact congrFun (out_C m c t (by omega) h1 (by omega)) y

/-- The codes any later point writes. -/
theorem codes_at (c : Dev nD) (t : Fin cfg0.N) (ht : t.val ≠ 0) (y : S256x2560.Idx) :
    (outsAt0 m c t.val t.isLt).2.1 y = codesAt (prev m c t) (iblk m c 5 t) y := by
  have hN : t.val < 31 := t.isLt
  by_cases h1 : t.val < 30
  · exact codes_B m c t (by omega) h1 (by omega) y
  · exact codes_C m c t (by omega) h1 (by omega) y

/-- The scales any later point writes. -/
theorem scales_at (c : Dev nD) (t : Fin cfg0.N) (ht : t.val ≠ 0) (y : S256x1.Idx) :
    (outsAt0 m c t.val t.isLt).2.2.1 y = scaleAt (prev m c t) (iblk m c 5 t) y := by
  have hN : t.val < 31 := t.isLt
  by_cases h1 : t.val < 30
  · exact scales_B m c t (by omega) h1 (by omega) y
  · exact scales_C m c t (by omega) h1 (by omega) y

/-- The array of rows is the reference's. -/
theorem final6 (c : Dev nD) : (dats m 0 c).arrAt 6 (cfgs 0).N
    = Cert.OutProjRefIdeal.Value.G6 (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) := by
  refine (dats m 0 c).arrAt_eq_of_covers 6 _ (by decide +kernel) fun t hf y => ?_
  have ht := (flush_pos t).1 hf
  have hN : t.val < 31 := t.isLt
  have hs : t.val - 1 < 30 := by omega
  have hs' : t.val - 1 < cfg0.N := by show t.val - 1 < 31; omega
  have hr : 256 * (t.val - 1) + (y 0).val < 7680 := by have h0 : (y 0).val < 256 := (y 0).isLt; omega
  have e : ((cfg0.win 6).blk t).view.emb y = (ix2 (⟨256 * (t.val - 1) + (y 0).val, hr⟩ : Fin 7680) (y 1 : Fin 2560) : S7680x2560.Idx) := by
    blk_ext [idx t]
  rw [e]
  blk_simp
  rw [after0_6]
  refine Eq.trans ?_ (Cert.OutProjRefIdeal.Value.ref_out _ _ _ _ _ _ _ _).symm
  exact (out_at m c t ht y).trans ((g_at m c ⟨t.val - 1, hs'⟩ hs y).trans (lin_read m c ⟨t.val - 1, hs'⟩ hs _ _))

/-- The array of codes is the reference's. -/
theorem final7 (c : Dev nD) : (dats m 0 c).arrAt 7 (cfgs 0).N
    = Cert.OutProjRefIdeal.Value.G7 (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) := by
  refine (dats m 0 c).arrAt_eq_of_covers 7 _ (by decide +kernel) fun t hf y => ?_
  have ht := (flush_pos t).2.1 hf
  have hN : t.val < 31 := t.isLt
  have hs : t.val - 1 < 30 := by omega
  have hs' : t.val - 1 < cfg0.N := by show t.val - 1 < 31; omega
  have hr : 256 * (t.val - 1) + (y 0).val < 7680 := by have h0 : (y 0).val < 256 := (y 0).isLt; omega
  have e : ((cfg0.win 7).blk t).view.emb y = (ix2 (⟨256 * (t.val - 1) + (y 0).val, hr⟩ : Fin 7680) (y 1 : Fin 2560) : S7680x2560.Idx) := by
    blk_ext [idx t]
  rw [e]
  blk_simp
  rw [after0_7]
  refine (codes_at m c t ht y).trans ?_
  refine Eq.trans ?_ (Cert.OutProjRefIdeal.Value.ref_codes _ _ _ _ _ _ _ _).symm
  refine Cert.Tile.code_congr (fun k => ?_) (fun k => gain_read m c t k) rfl
  exact (g_at m c ⟨t.val - 1, hs'⟩ hs _).trans (lin_read m c ⟨t.val - 1, hs'⟩ hs _ _)

/-- The array of scales is the reference's. -/
theorem final8 (c : Dev nD) : (dats m 0 c).arrAt 8 (cfgs 0).N
    = Cert.OutProjRefIdeal.Value.G8 (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) := by
  refine (dats m 0 c).arrAt_eq_of_covers 8 _ (by decide +kernel) fun t hf y => ?_
  have ht := (flush_pos t).2.2 hf
  have hN : t.val < 31 := t.isLt
  have hs : t.val - 1 < 30 := by omega
  have hs' : t.val - 1 < cfg0.N := by show t.val - 1 < 31; omega
  have hr : 256 * (t.val - 1) + (y 0).val < 7680 := by have h0 : (y 0).val < 256 := (y 0).isLt; omega
  have e : ((cfg0.win 8).blk t).view.emb y = (ix2 (⟨256 * (t.val - 1) + (y 0).val, hr⟩ : Fin 7680) (0 : Fin 1) : S7680x1.Idx) := by
    blk_ext [idx t]
  rw [e]
  blk_simp
  rw [after0_8]
  refine (scales_at m c t ht y).trans ?_
  refine Eq.trans ?_ (Cert.OutProjRefIdeal.Value.ref_scales _ _ _ _ _ _ _).symm
  refine Cert.Tile.scale_congr (fun k => ?_) (fun k => gain_read m c t k)
  exact (g_at m c ⟨t.val - 1, hs'⟩ hs _).trans (lin_read m c ⟨t.val - 1, hs'⟩ hs _ _)

end Cert.OutProjIdeal.Value

end
-- ==== Proof.DownLast.Step.lean ====
module

public import proofs.«01_k».proof.Proof.Gen.DownLastIdeal.Value
public import proofs.«01_k».proof.Proof.Tile
public import proofs.«01_k».proof.Proof.Canon
public import Idealize.ShloMosaic.Lib.Pipeline.ValueKit
public import Idealize.ShloMosaic.Lib.Pipeline.ReadBack

/-! What the last down projection kernel leaves in its staging buffer at a grid point, and what it writes one point later:
    the staged rows, and the codes and scales of their norms. -/

@[expose] public section

set_option maxRecDepth 16384

noncomputable section
open Idealize.ShloMosaic Idealize.ShloMosaic.TcCoe Idealize.SL.Sem
open Idealize.ShloMosaic.Pipeline (Dat)
namespace Cert.DownLastIdeal.Value
open Cert.DownLastIdeal Cert.DownLastIdeal.Gen
variable (m : (ℓ : Loc nD τ sig) → Buf (Elt Ideal) ℓ)

/-- The residual plus the scaled product, at row `r`, column `j` of a block of rows. -/
def lin (x : Vec Ideal S256x9728 .fp8e4m3) (xs : Vec Ideal S256x1 .f32) (w : Vec Ideal S9728x2560 .fp8e4m3)
    (s : Vec Ideal S1x2560 .f32) (res : Vec Ideal S256x2560 .f32) (r : Fin 256) (j : Fin 2560) : EReal :=
  res (ix2 r j) + (∑ k : Fin 9728, (x (ix2 r k) : EReal) * w (ix2 k j)) * xs (ix2 r 0) * s (ix2 0 j)

/-- The codes of the norms of staged rows. -/
def codesAt (v : S256x2560.Idx → EReal) (w : S1x2560.Idx → EReal) (y : S256x2560.Idx) : EReal :=
  Cert.Norm.code (fun j => v (ix2 (y 0 : Fin 256) j)) (fun j => w (ix2 0 j)) (y 1)

/-- The scales of the norms of staged rows. -/
def scaleAt (v : S256x2560.Idx → EReal) (w : S1x2560.Idx → EReal) (y : S256x1.Idx) : EReal :=
  Cert.Norm.scale (fun j => v (ix2 (y 0 : Fin 256) j)) (fun j => w (ix2 0 j))

/-- What the point before left in the staging buffer. -/
abbrev prev (c : Dev nD) (t : Fin cfg0.N) : S256x2560.Idx → EReal :=
  (outsAt0 m c (t.val - 1) (Nat.lt_of_le_of_lt (Nat.sub_le _ _) t.isLt)).2.2.2

/-- After the first point the staging buffer holds that point's rows. -/
theorem g_A (c : Dev nD) (t : Fin cfg0.N) (h0 : t.val % 31 = 0) (h1 : t.val < 30) (h2 : ¬t.val % 31 = 30) (y : S256x2560.Idx) :
    (outsAt0 m c t.val t.isLt).2.2.2 y
      = lin (iblk m c 0 t) (iblk m c 1 t) (iblk m c 2 t) (iblk m c 3 t) (iblk m c 4 t) (y 0) (y 1) := by
  rw [outsAt0_A m c t h0 h1 h2]
  frame_out
  refine canon_dropLast _ _ _ ?_ ?_
  · simp only [List.dropLast]
    exact View.cover_of_tiled_head _ _ _ rfl _
  simp only [List.dropLast]
  canon_tiles x h
  all_goals
    open_payloads
    pointwise [lin]
    blk_point []

/-- After a middle point the staging buffer holds that point's rows. -/
theorem g_B (c : Dev nD) (t : Fin cfg0.N) (h0 : ¬t.val % 31 = 0) (h1 : t.val < 30) (h2 : ¬t.val % 31 = 30) (y : S256x2560.Idx) :
    (outsAt0 m c t.val t.isLt).2.2.2 y
      = lin (iblk m c 0 t) (iblk m c 1 t) (iblk m c 2 t) (iblk m c 3 t) (iblk m c 4 t) (y 0) (y 1) := by
  rw [outsAt0_B m c t h0 h1 h2]
  frame_out
  canon_tiles x h
  all_goals
    open_payloads
    pointwise [lin]
    blk_point []

/-- A middle point writes the rows the point before left. -/
theorem out_B (c : Dev nD) (t : Fin cfg0.N) (h0 : ¬t.val % 31 = 0) (h1 : t.val < 30) (h2 : ¬t.val % 31 = 30) :
    (outsAt0 m c t.val t.isLt).1 = prev m c t := by
  rw [outsAt0_B m c t h0 h1 h2]
  frame_out
  simp only [read_unread_whole]
  rfl

/-- A middle point writes the codes of the rows the point before left. -/
theorem codes_B (c : Dev nD) (t : Fin cfg0.N) (h0 : ¬t.val % 31 = 0) (h1 : t.val < 30) (h2 : ¬t.val % 31 = 30) (y : S256x2560.Idx) :
    (outsAt0 m c t.val t.isLt).2.1 y = codesAt (prev m c t) (iblk m c 5 t) y := by
  rw [outsAt0_B m c t h0 h1 h2]
  frame_out
  simp only [read_unread_whole]
  canon_tiles x h
  all_goals
    open_payloads
    refine (Cert.Tile.codesK_eq (R := 32) _ _ _ _ _ _ _ _ _ _ _ _ x).trans ?_
    refine Cert.Tile.code_congr (fun k => ?_) (fun k => rfl) (Fin.ext (by first | exact h1.symm | exact h1))
    refine (congrFun (View.readCov_fill _ _ _ _ _ (by decide)) _).trans ?_
    pointwise []
    blk_point []

/-- A middle point writes the scales of the rows the point before left. -/
theorem scales_B (c : Dev nD) (t : Fin cfg0.N) (h0 : ¬t.val % 31 = 0) (h1 : t.val < 30) (h2 : ¬t.val % 31 = 30) (y : S256x1.Idx) :
    (outsAt0 m c t.val t.isLt).2.2.1 y = scaleAt (prev m c t) (iblk m c 5 t) y := by
  rw [outsAt0_B m c t h0 h1 h2]
  frame_out
  simp only [read_unread_whole]
  canon_tiles x h
  all_goals
    open_payloads
    refine (Cert.Tile.scalesK_eq (R := 32) _ _ _ _ _ _ _ _ _ _ _ x).trans ?_
    refine Cert.Tile.scale_congr (fun k => ?_) (fun k => rfl)
    refine (congrFun (View.readCov_fill _ _ _ _ _ (by decide)) _).trans ?_
    pointwise []
    blk_point []

/-- The last point writes the rows the point before left. -/
theorem out_C (c : Dev nD) (t : Fin cfg0.N) (h0 : ¬t.val % 31 = 0) (h1 : ¬t.val < 30) (h2 : t.val % 31 = 30) :
    (outsAt0 m c t.val t.isLt).1 = prev m c t := by
  rw [outsAt0_C m c t h0 h1 h2]
  frame_out
  simp only [read_unread_whole]
  rfl

/-- The last point writes the codes of the rows the point before left. -/
theorem codes_C (c : Dev nD) (t : Fin cfg0.N) (h0 : ¬t.val % 31 = 0) (h1 : ¬t.val < 30) (h2 : t.val % 31 = 30) (y : S256x2560.Idx) :
    (outsAt0 m c t.val t.isLt).2.1 y = codesAt (prev m c t) (iblk m c 5 t) y := by
  rw [outsAt0_C m c t h0 h1 h2]
  frame_out
  simp only [read_unread_whole]
  canon_tiles x h
  all_goals
    open_payloads
    refine (Cert.Tile.codesK_eq (R := 32) _ _ _ _ _ _ _ _ _ _ _ _ x).trans ?_
    refine Cert.Tile.code_congr (fun k => ?_) (fun k => rfl) (Fin.ext (by first | exact h1.symm | exact h1))
    refine (congrFun (View.readCov_fill _ _ _ _ _ (by decide)) _).trans ?_
    pointwise []
    blk_point []

/-- The last point writes the scales of the rows the point before left. -/
theorem scales_C (c : Dev nD) (t : Fin cfg0.N) (h0 : ¬t.val % 31 = 0) (h1 : ¬t.val < 30) (h2 : t.val % 31 = 30) (y : S256x1.Idx) :
    (outsAt0 m c t.val t.isLt).2.2.1 y = scaleAt (prev m c t) (iblk m c 5 t) y := by
  rw [outsAt0_C m c t h0 h1 h2]
  frame_out
  simp only [read_unread_whole]
  canon_tiles x h
  all_goals
    open_payloads
    refine (Cert.Tile.scalesK_eq (R := 32) _ _ _ _ _ _ _ _ _ _ _ x).trans ?_
    refine Cert.Tile.scale_congr (fun k => ?_) (fun k => rfl)
    refine (congrFun (View.readCov_fill _ _ _ _ _ (by decide)) _).trans ?_
    pointwise []
    blk_point []

end Cert.DownLastIdeal.Value

end
-- ==== Proof.DownLast.Ref.lean ====
module

public import proofs.«01_k».proof.Proof.Tile
public import proofs.«01_k».proof.Proof.Gen.DownLastRefIdeal.Value

/-! The last down projection reference at an index: the residual plus the scaled product, and the codes and scales of its norm. -/

@[expose] public section

set_option maxRecDepth 16384

noncomputable section
open Idealize.ShloMosaic Idealize.ShloMosaic.TcCoe Idealize.SL.Sem
open Idealize.ShloMosaic.Pipeline (Dat)
namespace Cert.DownLastRefIdeal.Value
open Cert.DownLastRefIdeal Cert.DownLastRefIdeal.Gen

/-- The residual plus the scaled product of the whole arrays, at row `r`, column `j`. -/
def linG (x : Vec Ideal S7680x9728 .fp8e4m3) (xs : Vec Ideal S7680x1 .f32) (w : Vec Ideal S9728x2560 .fp8e4m3)
    (s : Vec Ideal S1x2560 .f32) (res : Vec Ideal S7680x2560 .f32) (r : Fin 7680) (j : Fin 2560) : EReal :=
  res (ix2 r j) + (∑ k : Fin 9728, (x (ix2 r k) : EReal) * w (ix2 k j)) * xs (ix2 r 0) * s (ix2 0 j)

variable (x : Vec Ideal S7680x9728 .fp8e4m3) (xs : Vec Ideal S7680x1 .f32) (w : Vec Ideal S9728x2560 .fp8e4m3)
  (s : Vec Ideal S1x2560 .f32) (res : Vec Ideal S7680x2560 .f32) (wn : Vec Ideal S1x2560 .f32) (r : Fin 7680)

/-- The reference's rows at an index. -/
theorem ref_lin (j : Fin 2560) : k0_pay3 (F := Ideal) res x xs w s (ix2 r j) = linG x xs w s res r j := by
  pointwise [k0_pay3, linG]

/-- The reference's first result at an index. -/
theorem ref_out (j : Fin 2560) : G6 x xs w s res wn (ix2 r j) = linG x xs w s res r j := ref_lin x xs w s res r j

/-- The reference's norms at an index. -/
theorem ref_norm (j : Fin 2560) : k0_pay5 (F := Ideal) res x xs w s wn (ix2 r j)
    = Cert.Norm.norm (linG x xs w s res r) (fun k => wn (ix2 0 k)) j := by
  refine (Cert.Tile.normR_eq (R := 7680) (k0_pay3 (F := Ideal) res x xs w s) wn _ _ _ _ _ _ r j).trans ?_
  rw [funext (ref_lin x xs w s res r)]

/-- The reference's scales at a row. -/
theorem ref_scale : k0_pay6 (F := Ideal) res x xs w s wn (ix1 r)
    = Cert.Norm.scale (linG x xs w s res r) (fun k => wn (ix2 0 k)) := by
  refine (Cert.Tile.scalesR_eq (R := 7680) (k0_pay3 (F := Ideal) res x xs w s) wn _ _ _ _ _ _ _ _ _ r).trans ?_
  rw [funext (ref_lin x xs w s res r)]

/-- The reference's codes at an index. -/
theorem ref_codes (j : Fin 2560) : G7 x xs w s res wn (ix2 r j)
    = Cert.Norm.code (linG x xs w s res r) (fun k => wn (ix2 0 k)) j := by
  refine (Cert.Tile.codesR_pt (R := 7680) (k0_pay5 (F := Ideal) res x xs w s wn) (k0_pay6 (F := Ideal) res x xs w s wn) _ _ _ r j).trans ?_
  exact (congrArg₂ (fun a b => min (Ideal.ofBits FTy.f32 1138753536#32) (max (Ideal.ofBits FTy.f32 3286237184#32) (Ideal.div a b)))
    (ref_norm x xs w s res wn r j) (ref_scale x xs w s res wn r)).trans (Cert.Tile.code_div _ _ j)

/-- The reference's scales, as the column it writes. -/
theorem ref_scales : G8 x xs w s res wn (ix2 r 0)
    = Cert.Norm.scale (linG x xs w s res r) (fun k => wn (ix2 0 k)) := by
  refine Eq.trans ?_ (ref_scale x xs w s res wn r)
  unfold G8 k0_pay2
  generalize k0_pay6 (F := Ideal) res x xs w s wn = q
  exact Cert.Tile.col_pt q _ r

end Cert.DownLastRefIdeal.Value

end
-- ==== Proof.DownLast.Final.lean ====
module

public import proofs.«01_k».proof.Proof.DownLast.Step
public import proofs.«01_k».proof.Proof.DownLast.Ref

/-! The last down projection kernel's three result arrays are the reference's: the rows, codes and scales of every block of
    256 rows, written one grid point after the products were computed. -/

@[expose] public section

set_option maxRecDepth 16384

noncomputable section
open Idealize.ShloMosaic Idealize.ShloMosaic.TcCoe Idealize.SL.Sem
open Idealize.ShloMosaic.Pipeline (Dat)
namespace Cert.DownLastIdeal.Value
open Cert.DownLastIdeal Cert.DownLastIdeal.Gen
open Cert.DownLastRefIdeal.Value (linG)
variable (m : (ℓ : Loc nD τ sig) → Buf (Elt Ideal) ℓ)

/-- The windows' index maps: the row blocks of the operands advance with the point and stay at the last, the
    weights and gains are whole, the results lag one point behind. -/
theorem idx : ∀ t : Fin cfg0.N, win0_0.index t = ![min t.val 29, 0] ∧ win0_1.index t = ![min t.val 29, 0]
    ∧ win0_2.index t = ![0, 0] ∧ win0_3.index t = ![0, 0] ∧ win0_4.index t = ![min t.val 29, 0] ∧ win0_5.index t = ![0, 0]
    ∧ win0_6.index t = ![t.val - 1, 0] ∧ win0_7.index t = ![t.val - 1, 0] ∧ win0_8.index t = ![t.val - 1, 0] :=
  (by decide +kernel : ∀ t : Fin grid0.N, _)

/-- The results' blocks are written back at every point but the first. -/
theorem flush_pos : ∀ t : Fin cfg0.N, ((cfg0.win 6).flush t = true → t.val ≠ 0) ∧ ((cfg0.win 7).flush t = true → t.val ≠ 0)
    ∧ ((cfg0.win 8).flush t = true → t.val ≠ 0) :=
  (by decide +kernel : ∀ t : Fin grid0.N, _)

/-- The rows computed at point `s`, read from the whole arrays. -/
theorem lin_read (c : Dev nD) (s : Fin cfg0.N) (hs : s.val < 30) (r : Fin 256) (j : Fin 2560) :
    lin (iblk m c 0 s) (iblk m c 1 s) (iblk m c 2 s) (iblk m c 3 s) (iblk m c 4 s) r j
      = linG (m ((c : Thread nD τ).loc main_arg0)) (m ((c : Thread nD τ).loc main_arg1)) (m ((c : Thread nD τ).loc main_arg2)) (m ((c : Thread nD τ).loc main_arg3)) (m ((c : Thread nD τ).loc main_arg4))
          ⟨256 * s.val + r.val, by omega⟩ j := by
  unfold lin linG
  blk_point [iblk, V, idx s]

/-- The norm's gain, read from the whole array. -/
theorem gain_read (c : Dev nD) (t : Fin cfg0.N) (k : Fin 2560) :
    iblk m c 5 t (ix2 0 k) = m ((c : Thread nD τ).loc main_arg5) (ix2 0 k) := by
  blk_point [iblk, V, idx t]

/-- The staged rows, whichever point computed them. -/
theorem g_at (c : Dev nD) (s : Fin cfg0.N) (hs : s.val < 30) (y : S256x2560.Idx) :
    (outsAt0 m c s.val s.isLt).2.2.2 y
      = lin (iblk m c 0 s) (iblk m c 1 s) (iblk m c 2 s) (iblk m c 3 s) (iblk m c 4 s) (y 0) (y 1) := by
  by_cases h0 : s.val % 31 = 0
  · exact g_A m c s h0 hs (by omega) y
  · exact g_B m c s h0 hs (by omega) y

/-- The rows any later point writes. -/
theorem out_at (c : Dev nD) (t : Fin cfg0.N) (ht : t.val ≠ 0) (y : S256x2560.Idx) :
    (outsAt0 m c t.val t.isLt).1 y = prev m c t y := by
  have hN : t.val < 31 := t.isLt
  by_cases h1 : t.val < 30
  · exact congrFun (out_B m c t (by omega) h1 (by omega)) y
  · exact congrFun (out_C m c t (by omega) h1 (by omega)) y

/-- The codes any later point writes. -/
theorem codes_at (c : Dev nD) (t : Fin cfg0.N) (ht : t.val ≠ 0) (y : S256x2560.Idx) :
    (outsAt0 m c t.val t.isLt).2.1 y = codesAt (prev m c t) (iblk m c 5 t) y := by
  have hN : t.val < 31 := t.isLt
  by_cases h1 : t.val < 30
  · exact codes_B m c t (by omega) h1 (by omega) y
  · exact codes_C m c t (by omega) h1 (by omega) y

/-- The scales any later point writes. -/
theorem scales_at (c : Dev nD) (t : Fin cfg0.N) (ht : t.val ≠ 0) (y : S256x1.Idx) :
    (outsAt0 m c t.val t.isLt).2.2.1 y = scaleAt (prev m c t) (iblk m c 5 t) y := by
  have hN : t.val < 31 := t.isLt
  by_cases h1 : t.val < 30
  · exact scales_B m c t (by omega) h1 (by omega) y
  · exact scales_C m c t (by omega) h1 (by omega) y

/-- The array of rows is the reference's. -/
theorem final6 (c : Dev nD) : (dats m 0 c).arrAt 6 (cfgs 0).N
    = Cert.DownLastRefIdeal.Value.G6 (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) := by
  refine (dats m 0 c).arrAt_eq_of_covers 6 _ (by decide +kernel) fun t hf y => ?_
  have ht := (flush_pos t).1 hf
  have hN : t.val < 31 := t.isLt
  have hs : t.val - 1 < 30 := by omega
  have hs' : t.val - 1 < cfg0.N := by show t.val - 1 < 31; omega
  have hr : 256 * (t.val - 1) + (y 0).val < 7680 := by have h0 : (y 0).val < 256 := (y 0).isLt; omega
  have e : ((cfg0.win 6).blk t).view.emb y = (ix2 (⟨256 * (t.val - 1) + (y 0).val, hr⟩ : Fin 7680) (y 1 : Fin 2560) : S7680x2560.Idx) := by
    blk_ext [idx t]
  rw [e]
  blk_simp
  rw [after0_6]
  refine Eq.trans ?_ (Cert.DownLastRefIdeal.Value.ref_out _ _ _ _ _ _ _ _).symm
  exact (out_at m c t ht y).trans ((g_at m c ⟨t.val - 1, hs'⟩ hs y).trans (lin_read m c ⟨t.val - 1, hs'⟩ hs _ _))

/-- The array of codes is the reference's. -/
theorem final7 (c : Dev nD) : (dats m 0 c).arrAt 7 (cfgs 0).N
    = Cert.DownLastRefIdeal.Value.G7 (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) := by
  refine (dats m 0 c).arrAt_eq_of_covers 7 _ (by decide +kernel) fun t hf y => ?_
  have ht := (flush_pos t).2.1 hf
  have hN : t.val < 31 := t.isLt
  have hs : t.val - 1 < 30 := by omega
  have hs' : t.val - 1 < cfg0.N := by show t.val - 1 < 31; omega
  have hr : 256 * (t.val - 1) + (y 0).val < 7680 := by have h0 : (y 0).val < 256 := (y 0).isLt; omega
  have e : ((cfg0.win 7).blk t).view.emb y = (ix2 (⟨256 * (t.val - 1) + (y 0).val, hr⟩ : Fin 7680) (y 1 : Fin 2560) : S7680x2560.Idx) := by
    blk_ext [idx t]
  rw [e]
  blk_simp
  rw [after0_7]
  refine (codes_at m c t ht y).trans ?_
  refine Eq.trans ?_ (Cert.DownLastRefIdeal.Value.ref_codes _ _ _ _ _ _ _ _).symm
  refine Cert.Tile.code_congr (fun k => ?_) (fun k => gain_read m c t k) rfl
  exact (g_at m c ⟨t.val - 1, hs'⟩ hs _).trans (lin_read m c ⟨t.val - 1, hs'⟩ hs _ _)

/-- The array of scales is the reference's. -/
theorem final8 (c : Dev nD) : (dats m 0 c).arrAt 8 (cfgs 0).N
    = Cert.DownLastRefIdeal.Value.G8 (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) := by
  refine (dats m 0 c).arrAt_eq_of_covers 8 _ (by decide +kernel) fun t hf y => ?_
  have ht := (flush_pos t).2.2 hf
  have hN : t.val < 31 := t.isLt
  have hs : t.val - 1 < 30 := by omega
  have hs' : t.val - 1 < cfg0.N := by show t.val - 1 < 31; omega
  have hr : 256 * (t.val - 1) + (y 0).val < 7680 := by have h0 : (y 0).val < 256 := (y 0).isLt; omega
  have e : ((cfg0.win 8).blk t).view.emb y = (ix2 (⟨256 * (t.val - 1) + (y 0).val, hr⟩ : Fin 7680) (0 : Fin 1) : S7680x1.Idx) := by
    blk_ext [idx t]
  rw [e]
  blk_simp
  rw [after0_8]
  refine (scales_at m c t ht y).trans ?_
  refine Eq.trans ?_ (Cert.DownLastRefIdeal.Value.ref_scales _ _ _ _ _ _ _).symm
  refine Cert.Tile.scale_congr (fun k => ?_) (fun k => gain_read m c t k)
  exact (g_at m c ⟨t.val - 1, hs'⟩ hs _).trans (lin_read m c ⟨t.val - 1, hs'⟩ hs _ _)

end Cert.DownLastIdeal.Value

end
-- ==== Proof.Fc.Bits.Runs.lean ====
module

public import proofs.«01_k».proof.Proof.Gen.Fc.Launch
public import proofs.«01_k».proof.Proof.Gen.Fc.Skeleton
public import proofs.«01_k».proof.Proof.Gen.Fc.Points
public import Idealize.ShloMosaic.Lib.Pipeline.FrameBody
public import Idealize.ShloMosaic.Lib.Ring
public import Idealize.ShloMosaic.Lib.Tactic
public import Idealize.ShloMosaic.Lib.WordCmp

/-! What the runs of the first projection's kernel share: the windows, the conditions, the staging buffers. The generated text, in its form that names nothing of the outputs' contents. -/

@[expose] public section

-- membership in a rectangle of production extents (`View.cover_of_tiled`): the elaborator's structural look
-- recurses once per coordinate of the long axes
set_option maxRecDepth 16384

noncomputable section

namespace Cert.Fc.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: as launched (@main is the region alone). -/
abbrev V (c : Dev nD) (b : Ref sig .tc) : Buf (Elt F) ((c : Thread nD τ).loc b) := m ((c : Thread nD τ).loc b)

set_option maxHeartbeats 800000 in
/-- @main up to the region, at the certificate's variants `𝒱₀`: the region alone (`Pipeline.hmain_region` off
    `main_chain`). -/
theorem hmain (𝒱₀ : Variants) : Pipeline.HMain (Ix := Unit) (Name := ℕ) (U := UR sig nD τ) (Lvl := ℕ) cfgs 0 defs₀ 𝒱₀ m (main (F := F)) (V m) :=
  Pipeline.hmain_region cfgs 0 defs₀ 𝒱₀ m main fun c => (main_chain c).trans rfl

theorem V_main_arg0 (c : Dev nD) : V m c main_arg0 = m ((c : Thread nD τ).loc main_arg0) := rfl
theorem V_main_arg1 (c : Dev nD) : V m c main_arg1 = m ((c : Thread nD τ).loc main_arg1) := rfl
theorem V_main_arg2 (c : Dev nD) : V m c main_arg2 = m ((c : Thread nD τ).loc main_arg2) := rfl
theorem V_main_arg3 (c : Dev nD) : V m c main_arg3 = m ((c : Thread nD τ).loc main_arg3) := rfl
theorem V_main_arg4 (c : Dev nD) : V m c main_arg4 = m ((c : Thread nD τ).loc main_arg4) := rfl
theorem V_main_arg5 (c : Dev nD) : V m c main_arg5 = m ((c : Thread nD τ).loc main_arg5) := rfl
theorem V_main_arg6 (c : Dev nD) : V m c main_arg6 = m ((c : Thread nD τ).loc main_arg6) := rfl
theorem V_main_arg7 (c : Dev nD) : V m c main_arg7 = m ((c : Thread nD τ).loc main_arg7) := rfl

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`Cert.frame_Fc`, Defs.lean, at any `F`). -/
theorem frame_of (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨(Pipeline.RDat.FramePost.arr_in h c 0 rfl).trans ((hA c 0).trans (V_main_arg0 m c)),
      (Pipeline.RDat.FramePost.arr_in h c 1 rfl).trans ((hA c 1).trans (V_main_arg1 m c)),
      (Pipeline.RDat.FramePost.arr_in h c 2 rfl).trans ((hA c 2).trans (V_main_arg2 m c)),
      (Pipeline.RDat.FramePost.arr_in h c 3 rfl).trans ((hA c 3).trans (V_main_arg3 m c)),
      (Pipeline.RDat.FramePost.arr_in h c 4 rfl).trans ((hA c 4).trans (V_main_arg4 m c)),
      (Pipeline.RDat.FramePost.arr_in h c 5 rfl).trans ((hA c 5).trans (V_main_arg5 m c)),
      (Pipeline.RDat.FramePost.arr_in h c 6 rfl).trans ((hA c 6).trans (V_main_arg6 m c)),
      (Pipeline.RDat.FramePost.arr_in h c 7 rfl).trans ((hA c 7).trans (V_main_arg7 m c))⟩) h

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 0).val) 0#32)) 0#32) = 1#1
/-- It holds at the first point only — by arithmetic of the point. -/
theorem hcond0_0 : ∀ t : Fin cfg0.N, cond0_0 (grid0.coords t) ↔ t.val % 31 = 0 :=
  (fun t => by
    have ht : t.val < 31 := Nat.lt_of_lt_of_eq t.isLt N_0
    have e0 : (grid0.coords t 0).val = t.val / 1 % 31 := Pipeline.Grid.coords_val t 0 (by decide) rfl
    simp only [cond0_0, e0]
    word_cmp
   : ∀ t : Fin grid0.N, cond0_0 (grid0.coords t) ↔ t.val % 31 = 0)

/-- The condition of the body's `scf.if` 1 (`k0_h2`), from the grid coordinates (the skeleton's scalar
    chain substituted). -/
abbrev cond0_1 (i : grid0.Coords) : Prop := k0_cond2 i = 1#1
/-- It holds at the points before point 30 — decided over the grid. -/
theorem hcond0_1 : ∀ t : Fin cfg0.N, cond0_1 (grid0.coords t) ↔ t.val < 30 :=
  (by decide +kernel : ∀ t : Fin grid0.N, cond0_1 (grid0.coords t) ↔ t.val < 30)

/-- The condition of the body's `scf.if` 2 (`k0_h3`), from the grid coordinates (the skeleton's scalar
    chain substituted). -/
abbrev cond0_2 (i : grid0.Coords) : Prop := k0_cond3 i = 1#1
/-- It holds at the last point only — by arithmetic of the point. -/
theorem hcond0_2 : ∀ t : Fin cfg0.N, cond0_2 (grid0.coords t) ↔ t.val % 31 = 30 :=
  (fun t => by
    have ht : t.val < 31 := Nat.lt_of_lt_of_eq t.isLt N_0
    have e0 : (grid0.coords t 0).val = t.val / 1 % 31 := Pipeline.Grid.coords_val t 0 (by decide) rfl
    simp only [cond0_2, k0_cond3, e0]
    word_cmp
   : ∀ t : Fin grid0.N, cond0_2 (grid0.coords t) ↔ t.val % 31 = 30)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 5 is never idle (an input). -/
theorem liveAt0_5 : ∀ t : Fin cfg0.N, cfg0.idle 5 (grid0.coords t) = false := fun _ => rfl
/-- Window 6 is never idle (an input). -/
theorem liveAt0_6 : ∀ t : Fin cfg0.N, cfg0.idle 6 (grid0.coords t) = false := fun _ => rfl
/-- Window 7 is never idle (an input). -/
theorem liveAt0_7 : ∀ t : Fin cfg0.N, cfg0.idle 7 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .vmem S256x7680 .fp8e4m3 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S256x1 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S7680x2560 .fp8e4m3 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x2560 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S256x2560 .i8 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S256x1 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x2560 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x2560 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S256x2560 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S256x5120 .fp8e4m3 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S256x1 .f32 := win0_10.stage (cfg0.slots t 10)
abbrev hs0_10 (t : Fin cfg0.N) : (ms0_10 t).IsWhole := hstage0_10 ((cfg0.slots t 10).cast nbuf0_10)
/-- The scratch operands: whole scoped buffers of the kernel's own, passed beside the windows. -/
abbrev scM0_0 : Memref sig .tc .vmem S256x2560 .f32 := Memref.whole cc0_scratch0
abbrev scM0_1 : Memref sig .tc .vmem S256x2560 .f32 := Memref.whole cc0_scratch1
/-- The scratch `arg12` the kernel carries between points, as a view: what it holds is stated through it. -/
abbrev VS0_0 : View sig .tc .vmem S256x2560 .f32 := scM0_0.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.Fc.Gen

end
-- ==== Proof.Fc.Bits.RunA.lean ====
module

public import proofs.«01_k».proof.Proof.Fc.Bits.Runs

/-! The run of the first projection's kernel at the first point of its grid: the generated text. -/

@[expose] public section

-- membership in a rectangle of production extents (`View.cover_of_tiled`): the elaborator's structural look
-- recurses once per coordinate of the long axes
set_option maxRecDepth 16384

noncomputable section

namespace Cert.Fc.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1040000 in
/-- What the body's stores leave in each output's staging memref, as pieces (last first) IN CASE A (`scf.if` 0 taken, `scf.if` 1 taken, `scf.if` 2 not taken: points 0), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). Here also the FORGOTTEN outputs' (8, 9, 10) at anything, handed back at some contents nothing names. -/
noncomputable def kernelRun0_A (c : Dev nD) (i : grid0.Coords) (arg1 : Memref sig .tc .vmem S256x7680 .fp8e4m3) (harg1 : arg1.IsWhole) (arg2 : Memref sig .tc .vmem S256x1 .f32) (harg2 : arg2.IsWhole) (arg3 : Memref sig .tc .vmem S7680x2560 .fp8e4m3) (harg3 : arg3.IsWhole) (arg4 : Memref sig .tc .vmem S1x2560 .f32) (harg4 : arg4.IsWhole) (arg5 : Memref sig .tc .vmem S256x2560 .i8) (harg5 : arg5.IsWhole) (arg6 : Memref sig .tc .vmem S256x1 .f32) (harg6 : arg6.IsWhole) (arg7 : Memref sig .tc .vmem S1x2560 .f32) (harg7 : arg7.IsWhole) (arg8 : Memref sig .tc .vmem S1x2560 .f32) (harg8 : arg8.IsWhole) (arg9 : Memref sig .tc .vmem S256x2560 .f32) (harg9 : arg9.IsWhole) (arg10 : Memref sig .tc .vmem S256x5120 .fp8e4m3) (harg10 : arg10.IsWhole) (arg11 : Memref sig .tc .vmem S256x1 .f32) (harg11 : arg11.IsWhole) (arg12 : Memref sig .tc .vmem S256x2560 .f32) (harg12 : arg12.IsWhole) (arg13 : Memref sig .tc .vmem S256x2560 .f32) (harg13 : arg13.IsWhole) (hc0 : cond0_0 i) (hc1 : cond0_1 i) (hc2 : ¬cond0_2 i)
    (x0 : Vec F S256x7680 .fp8e4m3) (x1 : Vec F S256x1 .f32) (x2 : Vec F S7680x2560 .fp8e4m3) (x3 : Vec F S1x2560 .f32) (x4 : Vec F S256x2560 .i8) (x5 : Vec F S256x1 .f32) (x6 : Vec F S1x2560 .f32) (x7 : Vec F S1x2560 .f32) :
    { LS0 : List (View.Piece (Elt F) S256x2560 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ (∃ d, owns (c : Thread nD τ) arg10 fullShare d) ∗ (∃ d, owns (c : Thread nD τ) arg11 fullShare d) ∗ (∃ f, arg12.view.loc (c : Thread nD τ) ↦[arg12.view.set]{fullShare} arg12.view.writes (Elt F) f LS0) ∗ (∃ d, owns (c : Thread nD τ) arg13 fullShare d)) -∗ K ⟨⟩))
          ⊢ wp frame (wpE (defs₀ (F := F)) Variants.none c none) E (cc0_fc i arg1 harg1 arg2 harg2 arg3 harg3 arg4 harg4 arg5 harg5 arg6 harg6 arg7 harg7 arg8 harg8 arg9 harg9 arg10 harg10 arg11 harg11 arg12 harg12 arg13 harg13) K } := by
  refine ⟨?_, fun E K => ?run⟩
  case run =>
    simp only [cc0_fc_eq_skeleton]; unfold cc0_fc_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7
    sl_exec (disch := first | sl_exact hc0 | sl_exact hc1 | sl_exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _, _; isplitr; swap; · iexact H8
      ipureintro; rfl
    isplitl [H9]
    · iexists _, _; isplitr; swap; · iexact H9
      ipureintro; rfl
    isplitl [H10]
    · iexists _, _; isplitr; swap; · iexact H10
      ipureintro; rfl
    isplitl [HS0]; · iexists _; iexact HS0
    iexists _, _; isplitr; swap; · iexact HS1
    ipureintro; rfl

end Cert.Fc.Gen

end
-- ==== Proof.Fc.Bits.RunB.lean ====
module

public import proofs.«01_k».proof.Proof.Fc.Bits.RunA

/-! The run of the first projection's kernel at a middle point of its grid: the generated text. -/

@[expose] public section

-- membership in a rectangle of production extents (`View.cover_of_tiled`): the elaborator's structural look
-- recurses once per coordinate of the long axes
set_option maxRecDepth 16384

noncomputable section

namespace Cert.Fc.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1028000 in
/-- What the body's stores leave in each output's staging memref, as pieces (last first) IN CASE B (`scf.if` 0 not taken, `scf.if` 1 taken, `scf.if` 2 not taken: points 1, 2, … 29: 29 of 31), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). Here also the FORGOTTEN outputs' (8, 9, 10) at anything, handed back at some contents nothing names. -/
noncomputable def kernelRun0_B (c : Dev nD) (i : grid0.Coords) (arg1 : Memref sig .tc .vmem S256x7680 .fp8e4m3) (harg1 : arg1.IsWhole) (arg2 : Memref sig .tc .vmem S256x1 .f32) (harg2 : arg2.IsWhole) (arg3 : Memref sig .tc .vmem S7680x2560 .fp8e4m3) (harg3 : arg3.IsWhole) (arg4 : Memref sig .tc .vmem S1x2560 .f32) (harg4 : arg4.IsWhole) (arg5 : Memref sig .tc .vmem S256x2560 .i8) (harg5 : arg5.IsWhole) (arg6 : Memref sig .tc .vmem S256x1 .f32) (harg6 : arg6.IsWhole) (arg7 : Memref sig .tc .vmem S1x2560 .f32) (harg7 : arg7.IsWhole) (arg8 : Memref sig .tc .vmem S1x2560 .f32) (harg8 : arg8.IsWhole) (arg9 : Memref sig .tc .vmem S256x2560 .f32) (harg9 : arg9.IsWhole) (arg10 : Memref sig .tc .vmem S256x5120 .fp8e4m3) (harg10 : arg10.IsWhole) (arg11 : Memref sig .tc .vmem S256x1 .f32) (harg11 : arg11.IsWhole) (arg12 : Memref sig .tc .vmem S256x2560 .f32) (harg12 : arg12.IsWhole) (arg13 : Memref sig .tc .vmem S256x2560 .f32) (harg13 : arg13.IsWhole) (hc0 : ¬cond0_0 i) (hc1 : cond0_1 i) (hc2 : ¬cond0_2 i)
    (x0 : Vec F S256x7680 .fp8e4m3) (x1 : Vec F S256x1 .f32) (x2 : Vec F S7680x2560 .fp8e4m3) (x3 : Vec F S1x2560 .f32) (x4 : Vec F S256x2560 .i8) (x5 : Vec F S256x1 .f32) (x6 : Vec F S1x2560 .f32) (x7 : Vec F S1x2560 .f32) (xs0 : Vec F S256x2560 .f32) :
    { LS0 : List (View.Piece (Elt F) S256x2560 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ (∃ d, owns (c : Thread nD τ) arg10 fullShare d) ∗ (∃ d, owns (c : Thread nD τ) arg11 fullShare d) ∗ owns (c : Thread nD τ) arg12 fullShare xs0 ∗ (∃ d, owns (c : Thread nD τ) arg13 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ (∃ d, owns (c : Thread nD τ) arg10 fullShare d) ∗ (∃ d, owns (c : Thread nD τ) arg11 fullShare d) ∗ (∃ f, arg12.view.loc (c : Thread nD τ) ↦[arg12.view.set]{fullShare} arg12.view.writes (Elt F) f LS0) ∗ (∃ d, owns (c : Thread nD τ) arg13 fullShare d)) -∗ K ⟨⟩))
          ⊢ wp frame (wpE (defs₀ (F := F)) Variants.none c none) E (cc0_fc i arg1 harg1 arg2 harg2 arg3 harg3 arg4 harg4 arg5 harg5 arg6 harg6 arg7 harg7 arg8 harg8 arg9 harg9 arg10 harg10 arg11 harg11 arg12 harg12 arg13 harg13) K } := by
  refine ⟨?_, fun E K => ?run⟩
  case run =>
    simp only [cc0_fc_eq_skeleton]; unfold cc0_fc_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%fs0, %hfs0, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg12.eq_unread hfs0
    sl_exec (disch := first | sl_exact hc0 | sl_exact hc1 | sl_exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _, _; isplitr; swap; · iexact H8
      ipureintro; rfl
    isplitl [H9]
    · iexists _, _; isplitr; swap; · iexact H9
      ipureintro; rfl
    isplitl [H10]
    · iexists _, _; isplitr; swap; · iexact H10
      ipureintro; rfl
    isplitl [HS0]; · iexists _; iexact HS0
    iexists _, _; isplitr; swap; · iexact HS1
    ipureintro; rfl

end Cert.Fc.Gen

end
-- ==== Proof.Fc.Bits.RunC.lean ====
module

public import proofs.«01_k».proof.Proof.Fc.Bits.RunB

/-! The run of the first projection's kernel at the last point of its grid, where only the rows of the point before are written out: the generated text of this run, but for one step, which rewrites the printed parts by `dsimp` and not by `simp` (which does not end on them). -/

@[expose] public section

-- membership in a rectangle of production extents (`View.cover_of_tiled`): the elaborator's structural look
-- recurses once per coordinate of the long axes
set_option maxRecDepth 16384

noncomputable section

namespace Cert.Fc.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- What the body's stores leave in each output's staging memref, as pieces (last first) IN CASE C (`scf.if` 0 not taken, `scf.if` 1 not taken, `scf.if` 2 taken: points 30), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). Here also the FORGOTTEN outputs' (8, 9, 10) at anything, handed back at some contents nothing names. -/
noncomputable def kernelRun0_C (c : Dev nD) (i : grid0.Coords) (arg1 : Memref sig .tc .vmem S256x7680 .fp8e4m3) (harg1 : arg1.IsWhole) (arg2 : Memref sig .tc .vmem S256x1 .f32) (harg2 : arg2.IsWhole) (arg3 : Memref sig .tc .vmem S7680x2560 .fp8e4m3) (harg3 : arg3.IsWhole) (arg4 : Memref sig .tc .vmem S1x2560 .f32) (harg4 : arg4.IsWhole) (arg5 : Memref sig .tc .vmem S256x2560 .i8) (harg5 : arg5.IsWhole) (arg6 : Memref sig .tc .vmem S256x1 .f32) (harg6 : arg6.IsWhole) (arg7 : Memref sig .tc .vmem S1x2560 .f32) (harg7 : arg7.IsWhole) (arg8 : Memref sig .tc .vmem S1x2560 .f32) (harg8 : arg8.IsWhole) (arg9 : Memref sig .tc .vmem S256x2560 .f32) (harg9 : arg9.IsWhole) (arg10 : Memref sig .tc .vmem S256x5120 .fp8e4m3) (harg10 : arg10.IsWhole) (arg11 : Memref sig .tc .vmem S256x1 .f32) (harg11 : arg11.IsWhole) (arg12 : Memref sig .tc .vmem S256x2560 .f32) (harg12 : arg12.IsWhole) (arg13 : Memref sig .tc .vmem S256x2560 .f32) (harg13 : arg13.IsWhole) (hc0 : ¬cond0_0 i) (hc1 : ¬cond0_1 i) (hc2 : cond0_2 i)
    (x0 : Vec F S256x7680 .fp8e4m3) (x1 : Vec F S256x1 .f32) (x2 : Vec F S7680x2560 .fp8e4m3) (x3 : Vec F S1x2560 .f32) (x4 : Vec F S256x2560 .i8) (x5 : Vec F S256x1 .f32) (x6 : Vec F S1x2560 .f32) (x7 : Vec F S1x2560 .f32) (xs0 : Vec F S256x2560 .f32) :
    { LS0 : List (View.Piece (Elt F) S256x2560 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ (∃ d, owns (c : Thread nD τ) arg10 fullShare d) ∗ (∃ d, owns (c : Thread nD τ) arg11 fullShare d) ∗ owns (c : Thread nD τ) arg12 fullShare xs0 ∗ (∃ d, owns (c : Thread nD τ) arg13 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ (∃ d, owns (c : Thread nD τ) arg10 fullShare d) ∗ (∃ d, owns (c : Thread nD τ) arg11 fullShare d) ∗ owns (c : Thread nD τ) arg12 fullShare xs0 ∗ (∃ d, owns (c : Thread nD τ) arg13 fullShare d)) -∗ K ⟨⟩))
          ⊢ wp frame (wpE (defs₀ (F := F)) Variants.none c none) E (cc0_fc i arg1 harg1 arg2 harg2 arg3 harg3 arg4 harg4 arg5 harg5 arg6 harg6 arg7 harg7 arg8 harg8 arg9 harg9 arg10 harg10 arg11 harg11 arg12 harg12 arg13 harg13) K } := by
  refine ⟨[], fun E K => ?run⟩
  case run =>
    simp only [cc0_fc_eq_skeleton]; unfold cc0_fc_skel
    dsimp only [k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%fs0, %hfs0, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg12.eq_unread hfs0
    sl_exec (disch := first | sl_exact hc0 | sl_exact hc1 | sl_exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _, _; isplitr; swap; · iexact H8
      ipureintro; rfl
    isplitl [H9]
    · iexists _, _; isplitr; swap; · iexact H9
      ipureintro; rfl
    isplitl [H10]
    · iexists _, _; isplitr; swap; · iexact H10
      ipureintro; rfl
    isplitl [HS0]
    · iexists _; isplitr; · ipureintro; exact harg12.read_unread _
      iexact HS0
    iexists _, _; isplitr; swap; · iexact HS1
    ipureintro; rfl

end Cert.Fc.Gen

end
-- ==== Proof.Fc.Bits.Frame.lean ====
module

public import proofs.«01_k».proof.Proof.Fc.Bits.RunC
public import Idealize.ShloMosaic.Lib.Claim

/-! The frame of the first projection's kernel: the generated text over this directory's run of the last point. -/

@[expose] public section

-- membership in a rectangle of production extents (`View.cover_of_tiled`): the elaborator's structural look
-- recurses once per coordinate of the long axes
set_option maxRecDepth 16384

noncomputable section

namespace Cert.Fc.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- Case A's pieces for scratch `arg12`, which the kernel carries between points, cover it: one of them a store of the WHOLE buffer (Lib/Ring.lean `sl_whole_mem`). -/
theorem scover0_A_0 (c : Dev nD) (i : grid0.Coords) (arg1 : Memref sig .tc .vmem S256x7680 .fp8e4m3) (harg1 : arg1.IsWhole) (arg2 : Memref sig .tc .vmem S256x1 .f32) (harg2 : arg2.IsWhole) (arg3 : Memref sig .tc .vmem S7680x2560 .fp8e4m3) (harg3 : arg3.IsWhole) (arg4 : Memref sig .tc .vmem S1x2560 .f32) (harg4 : arg4.IsWhole) (arg5 : Memref sig .tc .vmem S256x2560 .i8) (harg5 : arg5.IsWhole) (arg6 : Memref sig .tc .vmem S256x1 .f32) (harg6 : arg6.IsWhole) (arg7 : Memref sig .tc .vmem S1x2560 .f32) (harg7 : arg7.IsWhole) (arg8 : Memref sig .tc .vmem S1x2560 .f32) (harg8 : arg8.IsWhole) (arg9 : Memref sig .tc .vmem S256x2560 .f32) (harg9 : arg9.IsWhole) (arg10 : Memref sig .tc .vmem S256x5120 .fp8e4m3) (harg10 : arg10.IsWhole) (arg11 : Memref sig .tc .vmem S256x1 .f32) (harg11 : arg11.IsWhole) (arg12 : Memref sig .tc .vmem S256x2560 .f32) (harg12 : arg12.IsWhole) (arg13 : Memref sig .tc .vmem S256x2560 .f32) (harg13 : arg13.IsWhole) (hc0 : cond0_0 i) (hc1 : cond0_1 i) (hc2 : ¬cond0_2 i)
    (x0 : Vec F S256x7680 .fp8e4m3) (x1 : Vec F S256x1 .f32) (x2 : Vec F S7680x2560 .fp8e4m3) (x3 : Vec F S1x2560 .f32) (x4 : Vec F S256x2560 .i8) (x5 : Vec F S256x1 .f32) (x6 : Vec F S1x2560 .f32) (x7 : Vec F S1x2560 .f32) (y : S256x2560.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7).1, y ∈ pc.1.set :=
  View.cover_of_wholeMem (kernelRun0_A c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7).1 (by sl_whole_mem) y

/-- What case A leaves in scratch `arg12`: its pieces read back over junk. -/
def sout0_A_0 (c : Dev nD) (i : grid0.Coords) (arg1 : Memref sig .tc .vmem S256x7680 .fp8e4m3) (harg1 : arg1.IsWhole) (arg2 : Memref sig .tc .vmem S256x1 .f32) (harg2 : arg2.IsWhole) (arg3 : Memref sig .tc .vmem S7680x2560 .fp8e4m3) (harg3 : arg3.IsWhole) (arg4 : Memref sig .tc .vmem S1x2560 .f32) (harg4 : arg4.IsWhole) (arg5 : Memref sig .tc .vmem S256x2560 .i8) (harg5 : arg5.IsWhole) (arg6 : Memref sig .tc .vmem S256x1 .f32) (harg6 : arg6.IsWhole) (arg7 : Memref sig .tc .vmem S1x2560 .f32) (harg7 : arg7.IsWhole) (arg8 : Memref sig .tc .vmem S1x2560 .f32) (harg8 : arg8.IsWhole) (arg9 : Memref sig .tc .vmem S256x2560 .f32) (harg9 : arg9.IsWhole) (arg10 : Memref sig .tc .vmem S256x5120 .fp8e4m3) (harg10 : arg10.IsWhole) (arg11 : Memref sig .tc .vmem S256x1 .f32) (harg11 : arg11.IsWhole) (arg12 : Memref sig .tc .vmem S256x2560 .f32) (harg12 : arg12.IsWhole) (arg13 : Memref sig .tc .vmem S256x2560 .f32) (harg13 : arg13.IsWhole) (hc0 : cond0_0 i) (hc1 : cond0_1 i) (hc2 : ¬cond0_2 i)
    (x0 : Vec F S256x7680 .fp8e4m3) (x1 : Vec F S256x1 .f32) (x2 : Vec F S7680x2560 .fp8e4m3) (x3 : Vec F S1x2560 .f32) (x4 : Vec F S256x2560 .i8) (x5 : Vec F S256x1 .f32) (x6 : Vec F S1x2560 .f32) (x7 : Vec F S1x2560 .f32) : Vec F S256x2560 .f32 :=
  VS0_0.read (Elt F) (VS0_0.writes (Elt F) VS0_0.junk (kernelRun0_A c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7).1)

/-- Case B's pieces for scratch `arg12`, which the kernel carries between points, cover it: 10 pieces of `S256x256` tiling it (Lib/Ring.lean `Piece.tiledL`). -/
theorem scover0_B_0 (c : Dev nD) (i : grid0.Coords) (arg1 : Memref sig .tc .vmem S256x7680 .fp8e4m3) (harg1 : arg1.IsWhole) (arg2 : Memref sig .tc .vmem S256x1 .f32) (harg2 : arg2.IsWhole) (arg3 : Memref sig .tc .vmem S7680x2560 .fp8e4m3) (harg3 : arg3.IsWhole) (arg4 : Memref sig .tc .vmem S1x2560 .f32) (harg4 : arg4.IsWhole) (arg5 : Memref sig .tc .vmem S256x2560 .i8) (harg5 : arg5.IsWhole) (arg6 : Memref sig .tc .vmem S256x1 .f32) (harg6 : arg6.IsWhole) (arg7 : Memref sig .tc .vmem S1x2560 .f32) (harg7 : arg7.IsWhole) (arg8 : Memref sig .tc .vmem S1x2560 .f32) (harg8 : arg8.IsWhole) (arg9 : Memref sig .tc .vmem S256x2560 .f32) (harg9 : arg9.IsWhole) (arg10 : Memref sig .tc .vmem S256x5120 .fp8e4m3) (harg10 : arg10.IsWhole) (arg11 : Memref sig .tc .vmem S256x1 .f32) (harg11 : arg11.IsWhole) (arg12 : Memref sig .tc .vmem S256x2560 .f32) (harg12 : arg12.IsWhole) (arg13 : Memref sig .tc .vmem S256x2560 .f32) (harg13 : arg13.IsWhole) (hc0 : ¬cond0_0 i) (hc1 : cond0_1 i) (hc2 : ¬cond0_2 i)
    (x0 : Vec F S256x7680 .fp8e4m3) (x1 : Vec F S256x1 .f32) (x2 : Vec F S7680x2560 .fp8e4m3) (x3 : Vec F S1x2560 .f32) (x4 : Vec F S256x2560 .i8) (x5 : Vec F S256x1 .f32) (x6 : Vec F S1x2560 .f32) (x7 : Vec F S1x2560 .f32) (xs0 : Vec F S256x2560 .f32) (y : S256x2560.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7 xs0).1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7 xs0).1 S256x256.size (by sl_kernel_rfl) y

/-- What case B leaves in scratch `arg12`: its pieces read back over junk. -/
def sout0_B_0 (c : Dev nD) (i : grid0.Coords) (arg1 : Memref sig .tc .vmem S256x7680 .fp8e4m3) (harg1 : arg1.IsWhole) (arg2 : Memref sig .tc .vmem S256x1 .f32) (harg2 : arg2.IsWhole) (arg3 : Memref sig .tc .vmem S7680x2560 .fp8e4m3) (harg3 : arg3.IsWhole) (arg4 : Memref sig .tc .vmem S1x2560 .f32) (harg4 : arg4.IsWhole) (arg5 : Memref sig .tc .vmem S256x2560 .i8) (harg5 : arg5.IsWhole) (arg6 : Memref sig .tc .vmem S256x1 .f32) (harg6 : arg6.IsWhole) (arg7 : Memref sig .tc .vmem S1x2560 .f32) (harg7 : arg7.IsWhole) (arg8 : Memref sig .tc .vmem S1x2560 .f32) (harg8 : arg8.IsWhole) (arg9 : Memref sig .tc .vmem S256x2560 .f32) (harg9 : arg9.IsWhole) (arg10 : Memref sig .tc .vmem S256x5120 .fp8e4m3) (harg10 : arg10.IsWhole) (arg11 : Memref sig .tc .vmem S256x1 .f32) (harg11 : arg11.IsWhole) (arg12 : Memref sig .tc .vmem S256x2560 .f32) (harg12 : arg12.IsWhole) (arg13 : Memref sig .tc .vmem S256x2560 .f32) (harg13 : arg13.IsWhole) (hc0 : ¬cond0_0 i) (hc1 : cond0_1 i) (hc2 : ¬cond0_2 i)
    (x0 : Vec F S256x7680 .fp8e4m3) (x1 : Vec F S256x1 .f32) (x2 : Vec F S7680x2560 .fp8e4m3) (x3 : Vec F S1x2560 .f32) (x4 : Vec F S256x2560 .i8) (x5 : Vec F S256x1 .f32) (x6 : Vec F S1x2560 .f32) (x7 : Vec F S1x2560 .f32) (xs0 : Vec F S256x2560 .f32) : Vec F S256x2560 .f32 :=
  VS0_0.read (Elt F) (VS0_0.writes (Elt F) VS0_0.junk (kernelRun0_B c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7 xs0).1)

/-- Case C stores nothing into scratch `arg12`: it holds what the point before left. -/
def sout0_C_0 (c : Dev nD) (i : grid0.Coords) (arg1 : Memref sig .tc .vmem S256x7680 .fp8e4m3) (harg1 : arg1.IsWhole) (arg2 : Memref sig .tc .vmem S256x1 .f32) (harg2 : arg2.IsWhole) (arg3 : Memref sig .tc .vmem S7680x2560 .fp8e4m3) (harg3 : arg3.IsWhole) (arg4 : Memref sig .tc .vmem S1x2560 .f32) (harg4 : arg4.IsWhole) (arg5 : Memref sig .tc .vmem S256x2560 .i8) (harg5 : arg5.IsWhole) (arg6 : Memref sig .tc .vmem S256x1 .f32) (harg6 : arg6.IsWhole) (arg7 : Memref sig .tc .vmem S1x2560 .f32) (harg7 : arg7.IsWhole) (arg8 : Memref sig .tc .vmem S1x2560 .f32) (harg8 : arg8.IsWhole) (arg9 : Memref sig .tc .vmem S256x2560 .f32) (harg9 : arg9.IsWhole) (arg10 : Memref sig .tc .vmem S256x5120 .fp8e4m3) (harg10 : arg10.IsWhole) (arg11 : Memref sig .tc .vmem S256x1 .f32) (harg11 : arg11.IsWhole) (arg12 : Memref sig .tc .vmem S256x2560 .f32) (harg12 : arg12.IsWhole) (arg13 : Memref sig .tc .vmem S256x2560 .f32) (harg13 : arg13.IsWhole) (hc0 : ¬cond0_0 i) (hc1 : ¬cond0_1 i) (hc2 : cond0_2 i)
    (x0 : Vec F S256x7680 .fp8e4m3) (x1 : Vec F S256x1 .f32) (x2 : Vec F S7680x2560 .fp8e4m3) (x3 : Vec F S1x2560 .f32) (x4 : Vec F S256x2560 .i8) (x5 : Vec F S256x1 .f32) (x6 : Vec F S1x2560 .f32) (x7 : Vec F S1x2560 .f32) (xs0 : Vec F S256x2560 .f32) : Vec F S256x2560 .f32 := xs0

/-! ## What the outputs hold after each point -/

/-- THE ACCUMULATION. What the outputs' staging buffers and the scratch the kernel carries between points hold after the body at position `n`:
    the case the closed forms select at `n`, run at the point's memrefs and input blocks, an output it reads before covering
    at what this leaves at `n - 1` (its buffer is not written back between: `before0_W_κ`). An assignment of the conditions no point meets is no case (`False.elim`). -/
def outsAt0 (c : Dev nD) : (n : ℕ) → n < cfg0.N → Vec F S256x2560 .f32
  | 0, hn => sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) scM0_0 (Memref.isWhole_whole _) scM0_1 (Memref.isWhole_whole _) ((hcond0_0 ⟨0, hn⟩).mpr (Nat.zero_mod _)) ((hcond0_1 ⟨0, hn⟩).mpr (by (try dsimp only); omega)) (fun h => (fun h => by (try dsimp only at h); omega) ((hcond0_2 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩)
  | n + 1, hn =>
    if h0 : (n + 1) % 31 = 0 then
      if h1 : (n + 1) < 30 then
        if h2 : (n + 1) % 31 = 30 then
          False.elim (by have hN : n + 1 < 31 := lt_of_lt_of_eq hn (show cfg0.N = 31 from N_0); omega)
        else
          sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) scM0_1 (Memref.isWhole_whole _) ((hcond0_0 ⟨n + 1, hn⟩).mpr h0) ((hcond0_1 ⟨n + 1, hn⟩).mpr h1) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩)
      else
        False.elim (by have hN : n + 1 < 31 := lt_of_lt_of_eq hn (show cfg0.N = 31 from N_0); omega)
    else
      if h1 : (n + 1) < 30 then
        if h2 : (n + 1) % 31 = 30 then
          False.elim (by have hN : n + 1 < 31 := lt_of_lt_of_eq hn (show cfg0.N = 31 from N_0); omega)
        else
          sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) scM0_1 (Memref.isWhole_whole _) (fun h => h0 ((hcond0_0 ⟨n + 1, hn⟩).mp h)) ((hcond0_1 ⟨n + 1, hn⟩).mpr h1) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (outsAt0 c n (Nat.lt_of_succ_lt hn))
      else
        if h2 : (n + 1) % 31 = 30 then
          sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) ((hcond0_2 ⟨n + 1, hn⟩).mpr h2) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (outsAt0 c n (Nat.lt_of_succ_lt hn))
        else
          False.elim (by have hN : n + 1 < 31 := lt_of_lt_of_eq hn (show cfg0.N = 31 from N_0); omega)

/-- `outsAt0` at a point of case A: that case's contents. -/
theorem outsAt0_A (c : Dev nD) (t : Fin cfg0.N) (h0 : t.val % 31 = 0) (h1 : t.val < 30) (h2 : ¬t.val % 31 = 30) :
    outsAt0 m c t.val t.isLt = sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) ((hcond0_0 t).mpr h0) ((hcond0_1 t).mpr h1) (fun h => h2 ((hcond0_2 t).mp h)) (iblk m c 0 t) (iblk m c 1 t) (iblk m c 2 t) (iblk m c 3 t) (iblk m c 4 t) (iblk m c 5 t) (iblk m c 6 t) (iblk m c 7 t) := by
  obtain ⟨n, hn⟩ := t
  cases n with
  | zero => exact rfl
  | succ n => exact (dif_pos h0).trans ((dif_pos h1).trans ((dif_neg h2).trans rfl))

/-- `outsAt0` at a point of case B: that case's contents, over what the point before left. -/
theorem outsAt0_B (c : Dev nD) (t : Fin cfg0.N) (h0 : ¬t.val % 31 = 0) (h1 : t.val < 30) (h2 : ¬t.val % 31 = 30) :
    outsAt0 m c t.val t.isLt = sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) (fun h => h0 ((hcond0_0 t).mp h)) ((hcond0_1 t).mpr h1) (fun h => h2 ((hcond0_2 t).mp h)) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_pos h1).trans ((dif_neg h2).trans rfl))

/-- `outsAt0` at a point of case C: that case's contents, over what the point before left. -/
theorem outsAt0_C (c : Dev nD) (t : Fin cfg0.N) (h0 : ¬t.val % 31 = 0) (h1 : ¬t.val < 30) (h2 : t.val % 31 = 30) :
    outsAt0 m c t.val t.isLt = sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) (fun h => h0 ((hcond0_0 t).mp h)) (fun h => h1 ((hcond0_1 t).mp h)) ((hcond0_2 t).mpr h2) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_neg h1).trans ((dif_pos h2).trans rfl))

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn)) ∗ (∃ d, owns (c : Thread nD τ) scM0_1 fullShare d)) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop(owns (c : Thread nD τ) scM0_0 fullShare ((outsAt0 m c n hn)) ∗ (∃ d, owns (c : Thread nD τ) scM0_1 fullShare d)) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop(owns (c : Thread nD τ) scM0_0 fullShare ((outsAt0 m c (n - 1) (by omega))) ∗ (∃ d, owns (c : Thread nD τ) scM0_1 fullShare d)) ∗ (∃ r, prngReg c r)) := by
  cases n with
  | zero => exact absurd rfl hz
  | succ n => rfl

/-! ## The pipeline's proof data -/

/-- The output windows this certificate FORGETS (8, 9, 10): nothing reads what the kernel leaves in them, so nothing
    of it is named (Lib/Pipeline/Dat.lean `Dat.toRForget`). -/
def forgets0 : Fin 11 → Bool := fun w => w.val == 8 || w.val == 9 || w.val == 10

/-- The proof data of the one pipeline on core `c`: the arrays as the region finds them (`V`); after the body at
    point `t` each input's buffer at its block and the outputs, FORGOTTEN, at `Dat.unnamed`; the invariant the class's
    (`PhiS`: the class's `ΦA` before the first point, then the scoped rest with the carried scratch at `outsAt0`'s component);
    nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, h⟩ => Pipeline.Dat.unnamed (cfg := cfg0) ⟨8, h⟩ t
    | ⟨9, h⟩ => Pipeline.Dat.unnamed (cfg := cfg0) ⟨9, h⟩ t
    | ⟨10, h⟩ => Pipeline.Dat.unnamed (cfg := cfg0) ⟨10, h⟩ t
  Φ t := PhiS m c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare d)
    ∗ (∃ d, owns (c : Thread nD τ) (ms0_9 t) fullShare d)
    ∗ (∃ d, owns (c : Thread nD τ) (ms0_10 t) fullShare d))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (∃ d, owns (c : Thread nD τ) (ms0_8 t) fullShare d)
    ∗ (∃ d, owns (c : Thread nD τ) (ms0_9 t) fullShare d)
    ∗ (∃ d, owns (c : Thread nD τ) (ms0_10 t) fullShare d))

set_option maxHeartbeats 14400000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).owesAt () t.succ = (dats m 0 c).owesAt () t.castSucc from rfl]
  rw [show (dats m 0 c).Φ t.succ = PhiS m c (t.val + 1) t.isLt from rfl, PhiS_succ]
  have hN : t.val < 31 := lt_of_lt_of_eq t.isLt (show cfg0.N = 31 from N_0)
  by_cases h0 : t.val % 31 = 0
  · by_cases h1 : t.val < 30
    · by_cases h2 : t.val % 31 = 30
      · exfalso; omega
      · rw [show (dats m 0 c).leavesExact 0 t = owns (c : Thread nD τ) (ms0_0 t) fullShare ((dats m 0 c).after 0 t) from by
      unfold Dat.leavesExact; rw [liveAt0_0 t], after0_0]
        rw [show (dats m 0 c).leavesExact 1 t = owns (c : Thread nD τ) (ms0_1 t) fullShare ((dats m 0 c).after 1 t) from by
      unfold Dat.leavesExact; rw [liveAt0_1 t], after0_1]
        rw [show (dats m 0 c).leavesExact 2 t = owns (c : Thread nD τ) (ms0_2 t) fullShare ((dats m 0 c).after 2 t) from by
      unfold Dat.leavesExact; rw [liveAt0_2 t], after0_2]
        rw [show (dats m 0 c).leavesExact 3 t = owns (c : Thread nD τ) (ms0_3 t) fullShare ((dats m 0 c).after 3 t) from by
      unfold Dat.leavesExact; rw [liveAt0_3 t], after0_3]
        rw [show (dats m 0 c).leavesExact 4 t = owns (c : Thread nD τ) (ms0_4 t) fullShare ((dats m 0 c).after 4 t) from by
      unfold Dat.leavesExact; rw [liveAt0_4 t], after0_4]
        rw [show (dats m 0 c).leavesExact 5 t = owns (c : Thread nD τ) (ms0_5 t) fullShare ((dats m 0 c).after 5 t) from by
      unfold Dat.leavesExact; rw [liveAt0_5 t], after0_5]
        rw [show (dats m 0 c).leavesExact 6 t = owns (c : Thread nD τ) (ms0_6 t) fullShare ((dats m 0 c).after 6 t) from by
      unfold Dat.leavesExact; rw [liveAt0_6 t], after0_6]
        rw [show (dats m 0 c).leavesExact 7 t = owns (c : Thread nD τ) (ms0_7 t) fullShare ((dats m 0 c).after 7 t) from by
      unfold Dat.leavesExact; rw [liveAt0_7 t], after0_7]
        by_cases hz : t.val = 0
        · rw [PhiS_castSucc m c t, PhiS_zero m c _ _ hz, PhiA0_eq]
          rw [outsAt0_A m c t h0 h1 h2]
          unfold sout0_A_0
          iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
          iapply ((kernelRun0_A c (grid0.coords t) _ _ _ _ _ _ _ _ _ _ _ _ _ _ _ _ _ _ _ _ _ _ _ _ _ _ ((hcond0_0 t).mpr h0) ((hcond0_1 t).mpr h1) (fun h => h2 ((hcond0_2 t).mp h)) (iblk m c 0 t) (iblk m c 1 t) (iblk m c 2 t) (iblk m c 3 t) (iblk m c 4 t) (iblk m c 5 t) (iblk m c 6 t) (iblk m c 7 t)).2 Set.univ _)
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexists _; iexact H8
          isplitl [H9]; · iexists _; iexact H9
          isplitl [H10]; · iexists _; iexact H10
          isplitl [HS0]; · iexact HS0
          isplitl [HS1]; · iexact HS1
          iintro ⟨H0, H1, H2, H3, H4, H5, H6, H7, H8, H9, H10, ⟨%es0, HS0⟩, HS1⟩
          isplitl [HS0 HS1 Hg]
          · isplitl [HS0 HS1]
            · isplitl [HS0]
              · unfold owns; iexists _; isplitr
                swap; · iexact HS0
                ipureintro; exact View.read_writes_of_cover _ _ _ _ _ (scover0_A_0 c _ _ _ _ _ _ _ _ _ _ _ _ _ _ _ _ _ _ _ _ _ _ _ _ _ _ _ _ _ _ _ _ _ _ _ _ _ _)
              iexact HS1
            iexact Hg
          isplitl [Ho]; · iexact Ho
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          isplitl [H9]; · iexact H9
          iexact H10
        · exfalso; have hN : t.val < 31 := lt_of_lt_of_eq t.isLt (show cfg0.N = 31 from N_0); omega
    · exfalso; omega
  · by_cases h1 : t.val < 30
    · by_cases h2 : t.val % 31 = 30
      · exfalso; omega
      · rw [show (dats m 0 c).leavesExact 0 t = owns (c : Thread nD τ) (ms0_0 t) fullShare ((dats m 0 c).after 0 t) from by
      unfold Dat.leavesExact; rw [liveAt0_0 t], after0_0]
        rw [show (dats m 0 c).leavesExact 1 t = owns (c : Thread nD τ) (ms0_1 t) fullShare ((dats m 0 c).after 1 t) from by
      unfold Dat.leavesExact; rw [liveAt0_1 t], after0_1]
        rw [show (dats m 0 c).leavesExact 2 t = owns (c : Thread nD τ) (ms0_2 t) fullShare ((dats m 0 c).after 2 t) from by
      unfold Dat.leavesExact; rw [liveAt0_2 t], after0_2]
        rw [show (dats m 0 c).leavesExact 3 t = owns (c : Thread nD τ) (ms0_3 t) fullShare ((dats m 0 c).after 3 t) from by
      unfold Dat.leavesExact; rw [liveAt0_3 t], after0_3]
        rw [show (dats m 0 c).leavesExact 4 t = owns (c : Thread nD τ) (ms0_4 t) fullShare ((dats m 0 c).after 4 t) from by
      unfold Dat.leavesExact; rw [liveAt0_4 t], after0_4]
        rw [show (dats m 0 c).leavesExact 5 t = owns (c : Thread nD τ) (ms0_5 t) fullShare ((dats m 0 c).after 5 t) from by
      unfold Dat.leavesExact; rw [liveAt0_5 t], after0_5]
        rw [show (dats m 0 c).leavesExact 6 t = owns (c : Thread nD τ) (ms0_6 t) fullShare ((dats m 0 c).after 6 t) from by
      unfold Dat.leavesExact; rw [liveAt0_6 t], after0_6]
        rw [show (dats m 0 c).leavesExact 7 t = owns (c : Thread nD τ) (ms0_7 t) fullShare ((dats m 0 c).after 7 t) from by
      unfold Dat.leavesExact; rw [liveAt0_7 t], after0_7]
        by_cases hz : t.val = 0
        · exfalso; have hN : t.val < 31 := lt_of_lt_of_eq t.isLt (show cfg0.N = 31 from N_0); omega
        · rw [PhiS_castSucc m c t, PhiS_pos m c _ _ hz]
          rw [outsAt0_B m c t h0 h1 h2]
          unfold sout0_B_0
          iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
          iapply ((kernelRun0_B c (grid0.coords t) _ _ _ _ _ _ _ _ _ _ _ _ _ _ _ _ _ _ _ _ _ _ _ _ _ _ (fun h => h0 ((hcond0_0 t).mp h)) ((hcond0_1 t).mpr h1) (fun h => h2 ((hcond0_2 t).mp h)) (iblk m c 0 t) (iblk m c 1 t) (iblk m c 2 t) (iblk m c 3 t) (iblk m c 4 t) (iblk m c 5 t) (iblk m c 6 t) (iblk m c 7 t) _).2 Set.univ _)
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexists _; iexact H8
          isplitl [H9]; · iexists _; iexact H9
          isplitl [H10]; · iexists _; iexact H10
          isplitl [HS0]; · iexact HS0
          isplitl [HS1]; · iexact HS1
          iintro ⟨H0, H1, H2, H3, H4, H5, H6, H7, H8, H9, H10, ⟨%es0, HS0⟩, HS1⟩
          isplitl [HS0 HS1 Hg]
          · isplitl [HS0 HS1]
            · isplitl [HS0]
              · unfold owns; iexists _; isplitr
                swap; · iexact HS0
                ipureintro; exact View.read_writes_of_cover _ _ _ _ _ (scover0_B_0 c _ _ _ _ _ _ _ _ _ _ _ _ _ _ _ _ _ _ _ _ _ _ _ _ _ _ _ _ _ _ _ _ _ _ _ _ _ _ _)
              iexact HS1
            iexact Hg
          isplitl [Ho]; · iexact Ho
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          isplitl [H9]; · iexact H9
          iexact H10
    · by_cases h2 : t.val % 31 = 30
      · rw [show (dats m 0 c).leavesExact 0 t = owns (c : Thread nD τ) (ms0_0 t) fullShare ((dats m 0 c).after 0 t) from by
      unfold Dat.leavesExact; rw [liveAt0_0 t], after0_0]
        rw [show (dats m 0 c).leavesExact 1 t = owns (c : Thread nD τ) (ms0_1 t) fullShare ((dats m 0 c).after 1 t) from by
      unfold Dat.leavesExact; rw [liveAt0_1 t], after0_1]
        rw [show (dats m 0 c).leavesExact 2 t = owns (c : Thread nD τ) (ms0_2 t) fullShare ((dats m 0 c).after 2 t) from by
      unfold Dat.leavesExact; rw [liveAt0_2 t], after0_2]
        rw [show (dats m 0 c).leavesExact 3 t = owns (c : Thread nD τ) (ms0_3 t) fullShare ((dats m 0 c).after 3 t) from by
      unfold Dat.leavesExact; rw [liveAt0_3 t], after0_3]
        rw [show (dats m 0 c).leavesExact 4 t = owns (c : Thread nD τ) (ms0_4 t) fullShare ((dats m 0 c).after 4 t) from by
      unfold Dat.leavesExact; rw [liveAt0_4 t], after0_4]
        rw [show (dats m 0 c).leavesExact 5 t = owns (c : Thread nD τ) (ms0_5 t) fullShare ((dats m 0 c).after 5 t) from by
      unfold Dat.leavesExact; rw [liveAt0_5 t], after0_5]
        rw [show (dats m 0 c).leavesExact 6 t = owns (c : Thread nD τ) (ms0_6 t) fullShare ((dats m 0 c).after 6 t) from by
      unfold Dat.leavesExact; rw [liveAt0_6 t], after0_6]
        rw [show (dats m 0 c).leavesExact 7 t = owns (c : Thread nD τ) (ms0_7 t) fullShare ((dats m 0 c).after 7 t) from by
      unfold Dat.leavesExact; rw [liveAt0_7 t], after0_7]
        by_cases hz : t.val = 0
        · exfalso; have hN : t.val < 31 := lt_of_lt_of_eq t.isLt (show cfg0.N = 31 from N_0); omega
        · rw [PhiS_castSucc m c t, PhiS_pos m c _ _ hz]
          rw [outsAt0_C m c t h0 h1 h2]
          unfold sout0_C_0
          iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
          iapply ((kernelRun0_C c (grid0.coords t) _ _ _ _ _ _ _ _ _ _ _ _ _ _ _ _ _ _ _ _ _ _ _ _ _ _ (fun h => h0 ((hcond0_0 t).mp h)) (fun h => h1 ((hcond0_1 t).mp h)) ((hcond0_2 t).mpr h2) (iblk m c 0 t) (iblk m c 1 t) (iblk m c 2 t) (iblk m c 3 t) (iblk m c 4 t) (iblk m c 5 t) (iblk m c 6 t) (iblk m c 7 t) _).2 Set.univ _)
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexists _; iexact H8
          isplitl [H9]; · iexists _; iexact H9
          isplitl [H10]; · iexists _; iexact H10
          isplitl [HS0]; · iexact HS0
          isplitl [HS1]; · iexact HS1
          iintro ⟨H0, H1, H2, H3, H4, H5, H6, H7, H8, H9, H10, HS0, HS1⟩
          isplitl [HS0 HS1 Hg]
          · isplitl [HS0 HS1]
            · isplitl [HS0]
              · iexact HS0
              iexact HS1
            iexact Hg
          isplitl [Ho]; · iexact Ho
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          isplitl [H9]; · iexact H9
          iexact H10
      · exfalso; omega

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1⟩, Hg⟩
  isplitl [HS0 HS1]
  · isplitl [HS0]
    · iexists _; iexact HS0
    iexact HS1
  iexact Hg

/-- The same after the last point. -/
theorem hout (c : Dev nD) : (dats m 0 c).Φ (Fin.last cfg0.N) ⊢ Pipeline.ΦA spec0 c :=
  Phi_out m c _ (by rw [Fin.val_last]; have : cfg0.N = 31 := N_0; omega)

/-! ## The run and the frame -/

-- `θ_run_frame_track_forget`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_track_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- At the compiled mesh, for any values, from any memory with zero counters: every weakly fair execution of @main on the
    TensorCores terminates, and every final state has every INPUT array of the pipeline unchanged, nothing stated of the
    FORGOTTEN outputs (windows 8, 9, 10) (Lib/Pipeline/Frame.lean `RDat.FramePost` over the proof data with those windows
    forgotten, Dat.lean `Dat.toRForget`), and every other unscoped buffer at its region-entry contents. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  frame_of m ρ (fun c => (dats m 0 c).toRForget forgets0) (A_eq m) (run_main m ρ)

/-- THE FRAME: `Cert.quiescent_Fc`'s statement (Defs.lean) at any `F` — Proof.lean cites it at `Bits`:
    `theorem Cert.Proof.claim : Cert.Claim := ⟨Cert.Fc.Gen.facts, fun m ρ _ => Cert.Fc.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_and (unchanged m ρ) ((θ_run defs _ _).mono (fun _ h => h.2) (run_main_quiescent m ρ))

end Cert.Fc.Gen

end
-- ==== Proof.Fc.Ideal.RunC.lean ====
module

public import proofs.«01_k».proof.Proof.Gen.FcIdeal.Frame.RunB

/-! The run of the first projection's ideal kernel at the last point of its grid, where only the rows of the point before are written out: the generated text of this run, but for one step, which rewrites the printed parts by `dsimp` and not by `simp` (which does not end on them). -/

@[expose] public section

-- membership in a rectangle of production extents (`View.cover_of_tiled`): the elaborator's structural look
-- recurses once per coordinate of the long axes
set_option maxRecDepth 16384

noncomputable section

namespace Cert.FcIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- What the body's stores leave in each output's staging memref, as pieces (last first) IN CASE C (`scf.if` 0 not taken, `scf.if` 1 not taken, `scf.if` 2 taken: points 30), WITH the
    proof that on whole staging memrefs — the inputs' at their contents, the other outputs' at
    anything, a carried scratch at the contents the point before left (`xs·`) or at anything, the other scratch at anything, the body runs to the continuation holding the inputs' as they were,
    a carried scratch it stored into with its pieces written (`LS·`), a scratch it stored into and does not carry with its pieces (`LT·`) written over some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_C (c : Dev nD) (i : grid0.Coords) (arg1 : Memref sig .tc .vmem S256x7680 .fp8e4m3) (harg1 : arg1.IsWhole) (arg2 : Memref sig .tc .vmem S256x1 .f32) (harg2 : arg2.IsWhole) (arg3 : Memref sig .tc .vmem S7680x2560 .fp8e4m3) (harg3 : arg3.IsWhole) (arg4 : Memref sig .tc .vmem S1x2560 .f32) (harg4 : arg4.IsWhole) (arg5 : Memref sig .tc .vmem S256x2560 .i8) (harg5 : arg5.IsWhole) (arg6 : Memref sig .tc .vmem S256x1 .f32) (harg6 : arg6.IsWhole) (arg7 : Memref sig .tc .vmem S1x2560 .f32) (harg7 : arg7.IsWhole) (arg8 : Memref sig .tc .vmem S1x2560 .f32) (harg8 : arg8.IsWhole) (arg9 : Memref sig .tc .vmem S256x2560 .f32) (harg9 : arg9.IsWhole) (arg10 : Memref sig .tc .vmem S256x5120 .fp8e4m3) (harg10 : arg10.IsWhole) (arg11 : Memref sig .tc .vmem S256x1 .f32) (harg11 : arg11.IsWhole) (arg12 : Memref sig .tc .vmem S256x2560 .f32) (harg12 : arg12.IsWhole) (arg13 : Memref sig .tc .vmem S256x2560 .f32) (harg13 : arg13.IsWhole) (hc0 : ¬cond0_0 i) (hc1 : ¬cond0_1 i) (hc2 : cond0_2 i)
    (x0 : Vec F S256x7680 .fp8e4m3) (x1 : Vec F S256x1 .f32) (x2 : Vec F S7680x2560 .fp8e4m3) (x3 : Vec F S1x2560 .f32) (x4 : Vec F S256x2560 .i8) (x5 : Vec F S256x1 .f32) (x6 : Vec F S1x2560 .f32) (x7 : Vec F S1x2560 .f32) (xs0 : Vec F S256x2560 .f32) :
    Σ' (L8 : List (View.Piece (Elt F) S256x2560 .f32)), Σ' (L9 : List (View.Piece (Elt F) S256x5120 .fp8e4m3)), Σ' (L10 : List (View.Piece (Elt F) S256x1 .f32)), Σ' (LS0 : List (View.Piece (Elt F) S256x2560 .f32)), { LT1 : List (View.Piece (Elt F) S256x2560 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ (∃ d, owns (c : Thread nD τ) arg10 fullShare d) ∗ (∃ d, owns (c : Thread nD τ) arg11 fullShare d) ∗ owns (c : Thread nD τ) arg12 fullShare xs0 ∗ (∃ d, owns (c : Thread nD τ) arg13 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ f, arg9.view.loc (c : Thread nD τ) ↦[arg9.view.set]{fullShare} arg9.view.writes (Elt F) f L8) ∗ (∃ f, arg10.view.loc (c : Thread nD τ) ↦[arg10.view.set]{fullShare} arg10.view.writes (Elt F) f L9) ∗ (∃ f, arg11.view.loc (c : Thread nD τ) ↦[arg11.view.set]{fullShare} arg11.view.writes (Elt F) f L10) ∗ owns (c : Thread nD τ) arg12 fullShare xs0 ∗ (∃ f, arg13.view.loc (c : Thread nD τ) ↦[arg13.view.set]{fullShare} arg13.view.writes (Elt F) f LT1)) -∗ K ⟨⟩))
          ⊢ wp frame (wpE (defs₀ (F := F)) Variants.none c none) E (cc0_fc i arg1 harg1 arg2 harg2 arg3 harg3 arg4 harg4 arg5 harg5 arg6 harg6 arg7 harg7 arg8 harg8 arg9 harg9 arg10 harg10 arg11 harg11 arg12 harg12 arg13 harg13) K } := by
  refine ⟨?_, ?_, ?_, [], ?_, fun E K => ?run⟩
  case run =>
    simp only [cc0_fc_eq_skeleton]; unfold cc0_fc_skel
    dsimp only [k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%fs0, %hfs0, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg12.eq_unread hfs0
    sl_exec (disch := first | sl_exact hc0 | sl_exact hc1 | sl_exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]; · iexists _; iexact H8
    isplitl [H9]; · iexists _; iexact H9
    isplitl [H10]; · iexists _; iexact H10
    isplitl [HS0]
    · iexists _; isplitr; · ipureintro; exact harg12.read_unread _
      iexact HS0
    iexists _; iexact HS1

end Cert.FcIdeal.Gen

end
-- ==== Proof.Fc.Ideal.Outs.lean ====
module

public import proofs.«01_k».proof.Proof.Fc.Ideal.RunC
public import Idealize.ShloMosaic.Lib.Claim

/-! What each grid point of the first projection's ideal kernel leaves in its buffers: the generated text over this directory's run of the last point. -/

@[expose] public section

-- membership in a rectangle of production extents (`View.cover_of_tiled`): the elaborator's structural look
-- recurses once per coordinate of the long axes
set_option maxRecDepth 16384

noncomputable section

namespace Cert.FcIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

section
variable (c : Dev nD) (i : grid0.Coords) (arg1 : Memref sig .tc .vmem S256x7680 .fp8e4m3) (harg1 : arg1.IsWhole) (arg2 : Memref sig .tc .vmem S256x1 .f32) (harg2 : arg2.IsWhole) (arg3 : Memref sig .tc .vmem S7680x2560 .fp8e4m3) (harg3 : arg3.IsWhole) (arg4 : Memref sig .tc .vmem S1x2560 .f32) (harg4 : arg4.IsWhole) (arg5 : Memref sig .tc .vmem S256x2560 .i8) (harg5 : arg5.IsWhole) (arg6 : Memref sig .tc .vmem S256x1 .f32) (harg6 : arg6.IsWhole) (arg7 : Memref sig .tc .vmem S1x2560 .f32) (harg7 : arg7.IsWhole) (arg8 : Memref sig .tc .vmem S1x2560 .f32) (harg8 : arg8.IsWhole) (arg9 : Memref sig .tc .vmem S256x2560 .f32) (harg9 : arg9.IsWhole) (arg10 : Memref sig .tc .vmem S256x5120 .fp8e4m3) (harg10 : arg10.IsWhole) (arg11 : Memref sig .tc .vmem S256x1 .f32) (harg11 : arg11.IsWhole) (arg12 : Memref sig .tc .vmem S256x2560 .f32) (harg12 : arg12.IsWhole) (arg13 : Memref sig .tc .vmem S256x2560 .f32) (harg13 : arg13.IsWhole) (hc0 : cond0_0 i) (hc1 : cond0_1 i) (hc2 : ¬cond0_2 i)
    (x0 : Vec F S256x7680 .fp8e4m3) (x1 : Vec F S256x1 .f32) (x2 : Vec F S7680x2560 .fp8e4m3) (x3 : Vec F S1x2560 .f32) (x4 : Vec F S256x2560 .i8) (x5 : Vec F S256x1 .f32) (x6 : Vec F S1x2560 .f32) (x7 : Vec F S1x2560 .f32)

/-- Case A's pieces for output 8 tile its block (1 store of `S256x2560`, checked by the kernel's evaluation: Lib/Ring.lean `Piece.tiledL`, linear in the pieces, through a loop's `@[irreducible]` trip theorem too), so they cover it. -/
theorem cover0_A_8 (y : S256x2560.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7).1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7).1 S256x2560.size (by sl_kernel_rfl) y

/-- What case A leaves in output 8's staging buffer: its pieces read back over junk. -/
def out0_A_8 : Vec F S256x2560 .f32 :=
  VO0_8.read (Elt F) (VO0_8.writes (Elt F) VO0_8.junk (kernelRun0_A c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7).1)

/-- Case A's pieces for output 9 tile its block (16 stores of `S32x2560`, checked by the kernel's evaluation: Lib/Ring.lean `Piece.tiledL`, linear in the pieces, through a loop's `@[irreducible]` trip theorem too), so they cover it. -/
theorem cover0_A_9 (y : S256x5120.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7).2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7).2.1 S32x2560.size (by sl_kernel_rfl) y

/-- What case A leaves in output 9's staging buffer: its pieces read back over junk. -/
def out0_A_9 : Vec F S256x5120 .fp8e4m3 :=
  VO0_9.read (Elt F) (VO0_9.writes (Elt F) VO0_9.junk (kernelRun0_A c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7).2.1)

/-- Case A's pieces for output 10 tile its block (8 stores of `S32x1`, checked by the kernel's evaluation: Lib/Ring.lean `Piece.tiledL`, linear in the pieces, through a loop's `@[irreducible]` trip theorem too), so they cover it. -/
theorem cover0_A_10 (y : S256x1.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7).2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7).2.2.1 S32x1.size (by sl_kernel_rfl) y

/-- What case A leaves in output 10's staging buffer: its pieces read back over junk. -/
def out0_A_10 : Vec F S256x1 .f32 :=
  VO0_10.read (Elt F) (VO0_10.writes (Elt F) VO0_10.junk (kernelRun0_A c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7).2.2.1)

/-- Case A's pieces for scratch `arg12`, which the kernel carries between points, cover it: one of them a store of the WHOLE buffer (Lib/Ring.lean `sl_whole_mem`). -/
theorem scover0_A_0 (y : S256x2560.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7).2.2.2.1, y ∈ pc.1.set :=
  View.cover_of_wholeMem (kernelRun0_A c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7).2.2.2.1 (by sl_whole_mem) y

/-- What case A leaves in scratch `arg12`: its pieces read back over junk. -/
def sout0_A_0 : Vec F S256x2560 .f32 :=
  VS0_0.read (Elt F) (VS0_0.writes (Elt F) VS0_0.junk (kernelRun0_A c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7).2.2.2.1)

end

section
variable (c : Dev nD) (i : grid0.Coords) (arg1 : Memref sig .tc .vmem S256x7680 .fp8e4m3) (harg1 : arg1.IsWhole) (arg2 : Memref sig .tc .vmem S256x1 .f32) (harg2 : arg2.IsWhole) (arg3 : Memref sig .tc .vmem S7680x2560 .fp8e4m3) (harg3 : arg3.IsWhole) (arg4 : Memref sig .tc .vmem S1x2560 .f32) (harg4 : arg4.IsWhole) (arg5 : Memref sig .tc .vmem S256x2560 .i8) (harg5 : arg5.IsWhole) (arg6 : Memref sig .tc .vmem S256x1 .f32) (harg6 : arg6.IsWhole) (arg7 : Memref sig .tc .vmem S1x2560 .f32) (harg7 : arg7.IsWhole) (arg8 : Memref sig .tc .vmem S1x2560 .f32) (harg8 : arg8.IsWhole) (arg9 : Memref sig .tc .vmem S256x2560 .f32) (harg9 : arg9.IsWhole) (arg10 : Memref sig .tc .vmem S256x5120 .fp8e4m3) (harg10 : arg10.IsWhole) (arg11 : Memref sig .tc .vmem S256x1 .f32) (harg11 : arg11.IsWhole) (arg12 : Memref sig .tc .vmem S256x2560 .f32) (harg12 : arg12.IsWhole) (arg13 : Memref sig .tc .vmem S256x2560 .f32) (harg13 : arg13.IsWhole) (hc0 : ¬cond0_0 i) (hc1 : cond0_1 i) (hc2 : ¬cond0_2 i)
    (x0 : Vec F S256x7680 .fp8e4m3) (x1 : Vec F S256x1 .f32) (x2 : Vec F S7680x2560 .fp8e4m3) (x3 : Vec F S1x2560 .f32) (x4 : Vec F S256x2560 .i8) (x5 : Vec F S256x1 .f32) (x6 : Vec F S1x2560 .f32) (x7 : Vec F S1x2560 .f32) (xs0 : Vec F S256x2560 .f32)

/-- Case B's pieces for output 8 tile its block (1 store of `S256x2560`, checked by the kernel's evaluation: Lib/Ring.lean `Piece.tiledL`, linear in the pieces, through a loop's `@[irreducible]` trip theorem too), so they cover it. -/
theorem cover0_B_8 (y : S256x2560.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7 xs0).1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7 xs0).1 S256x2560.size (by sl_kernel_rfl) y

/-- What case B leaves in output 8's staging buffer: its pieces read back over junk. -/
def out0_B_8 : Vec F S256x2560 .f32 :=
  VO0_8.read (Elt F) (VO0_8.writes (Elt F) VO0_8.junk (kernelRun0_B c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7 xs0).1)

/-- Case B's pieces for output 9 tile its block (16 stores of `S32x2560`, checked by the kernel's evaluation: Lib/Ring.lean `Piece.tiledL`, linear in the pieces, through a loop's `@[irreducible]` trip theorem too), so they cover it. -/
theorem cover0_B_9 (y : S256x5120.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7 xs0).2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7 xs0).2.1 S32x2560.size (by sl_kernel_rfl) y

/-- What case B leaves in output 9's staging buffer: its pieces read back over junk. -/
def out0_B_9 : Vec F S256x5120 .fp8e4m3 :=
  VO0_9.read (Elt F) (VO0_9.writes (Elt F) VO0_9.junk (kernelRun0_B c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7 xs0).2.1)

/-- Case B's pieces for output 10 tile its block (8 stores of `S32x1`, checked by the kernel's evaluation: Lib/Ring.lean `Piece.tiledL`, linear in the pieces, through a loop's `@[irreducible]` trip theorem too), so they cover it. -/
theorem cover0_B_10 (y : S256x1.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7 xs0).2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7 xs0).2.2.1 S32x1.size (by sl_kernel_rfl) y

/-- What case B leaves in output 10's staging buffer: its pieces read back over junk. -/
def out0_B_10 : Vec F S256x1 .f32 :=
  VO0_10.read (Elt F) (VO0_10.writes (Elt F) VO0_10.junk (kernelRun0_B c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7 xs0).2.2.1)

/-- Case B's pieces for scratch `arg12`, which the kernel carries between points, cover it: 10 pieces of `S256x256` tiling it (Lib/Ring.lean `Piece.tiledL`). -/
theorem scover0_B_0 (y : S256x2560.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7 xs0).2.2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7 xs0).2.2.2.1 S256x256.size (by sl_kernel_rfl) y

/-- What case B leaves in scratch `arg12`: its pieces read back over junk. -/
def sout0_B_0 : Vec F S256x2560 .f32 :=
  VS0_0.read (Elt F) (VS0_0.writes (Elt F) VS0_0.junk (kernelRun0_B c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7 xs0).2.2.2.1)

end

section
variable (c : Dev nD) (i : grid0.Coords) (arg1 : Memref sig .tc .vmem S256x7680 .fp8e4m3) (harg1 : arg1.IsWhole) (arg2 : Memref sig .tc .vmem S256x1 .f32) (harg2 : arg2.IsWhole) (arg3 : Memref sig .tc .vmem S7680x2560 .fp8e4m3) (harg3 : arg3.IsWhole) (arg4 : Memref sig .tc .vmem S1x2560 .f32) (harg4 : arg4.IsWhole) (arg5 : Memref sig .tc .vmem S256x2560 .i8) (harg5 : arg5.IsWhole) (arg6 : Memref sig .tc .vmem S256x1 .f32) (harg6 : arg6.IsWhole) (arg7 : Memref sig .tc .vmem S1x2560 .f32) (harg7 : arg7.IsWhole) (arg8 : Memref sig .tc .vmem S1x2560 .f32) (harg8 : arg8.IsWhole) (arg9 : Memref sig .tc .vmem S256x2560 .f32) (harg9 : arg9.IsWhole) (arg10 : Memref sig .tc .vmem S256x5120 .fp8e4m3) (harg10 : arg10.IsWhole) (arg11 : Memref sig .tc .vmem S256x1 .f32) (harg11 : arg11.IsWhole) (arg12 : Memref sig .tc .vmem S256x2560 .f32) (harg12 : arg12.IsWhole) (arg13 : Memref sig .tc .vmem S256x2560 .f32) (harg13 : arg13.IsWhole) (hc0 : ¬cond0_0 i) (hc1 : ¬cond0_1 i) (hc2 : cond0_2 i)
    (x0 : Vec F S256x7680 .fp8e4m3) (x1 : Vec F S256x1 .f32) (x2 : Vec F S7680x2560 .fp8e4m3) (x3 : Vec F S1x2560 .f32) (x4 : Vec F S256x2560 .i8) (x5 : Vec F S256x1 .f32) (x6 : Vec F S1x2560 .f32) (x7 : Vec F S1x2560 .f32) (xs0 : Vec F S256x2560 .f32)

/-- Case C's pieces for output 8 tile its block (1 store of `S256x2560`, checked by the kernel's evaluation: Lib/Ring.lean `Piece.tiledL`, linear in the pieces, through a loop's `@[irreducible]` trip theorem too), so they cover it. -/
theorem cover0_C_8 (y : S256x2560.Idx) :
    ∃ pc ∈ (kernelRun0_C c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7 xs0).1, y ∈ pc.1.set :=
  View.cover_of_tiledL (kernelRun0_C c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7 xs0).1 S256x2560.size (by sl_kernel_rfl) y

/-- What case C leaves in output 8's staging buffer: its pieces read back over junk. -/
def out0_C_8 : Vec F S256x2560 .f32 :=
  VO0_8.read (Elt F) (VO0_8.writes (Elt F) VO0_8.junk (kernelRun0_C c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7 xs0).1)

/-- Case C's pieces for output 9 tile its block (16 stores of `S32x2560`, checked by the kernel's evaluation: Lib/Ring.lean `Piece.tiledL`, linear in the pieces, through a loop's `@[irreducible]` trip theorem too), so they cover it. -/
theorem cover0_C_9 (y : S256x5120.Idx) :
    ∃ pc ∈ (kernelRun0_C c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7 xs0).2.1, y ∈ pc.1.set :=
  View.cover_of_tiledL (kernelRun0_C c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7 xs0).2.1 S32x2560.size (by sl_kernel_rfl) y

/-- What case C leaves in output 9's staging buffer: its pieces read back over junk. -/
def out0_C_9 : Vec F S256x5120 .fp8e4m3 :=
  VO0_9.read (Elt F) (VO0_9.writes (Elt F) VO0_9.junk (kernelRun0_C c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7 xs0).2.1)

/-- Case C's pieces for output 10 tile its block (8 stores of `S32x1`, checked by the kernel's evaluation: Lib/Ring.lean `Piece.tiledL`, linear in the pieces, through a loop's `@[irreducible]` trip theorem too), so they cover it. -/
theorem cover0_C_10 (y : S256x1.Idx) :
    ∃ pc ∈ (kernelRun0_C c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7 xs0).2.2.1, y ∈ pc.1.set :=
  View.cover_of_tiledL (kernelRun0_C c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7 xs0).2.2.1 S32x1.size (by sl_kernel_rfl) y

/-- What case C leaves in output 10's staging buffer: its pieces read back over junk. -/
def out0_C_10 : Vec F S256x1 .f32 :=
  VO0_10.read (Elt F) (VO0_10.writes (Elt F) VO0_10.junk (kernelRun0_C c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7 xs0).2.2.1)

end

/-- Case C stores nothing into scratch `arg12`: it holds what the point before left. -/
def sout0_C_0 (c : Dev nD) (i : grid0.Coords) (arg1 : Memref sig .tc .vmem S256x7680 .fp8e4m3) (harg1 : arg1.IsWhole) (arg2 : Memref sig .tc .vmem S256x1 .f32) (harg2 : arg2.IsWhole) (arg3 : Memref sig .tc .vmem S7680x2560 .fp8e4m3) (harg3 : arg3.IsWhole) (arg4 : Memref sig .tc .vmem S1x2560 .f32) (harg4 : arg4.IsWhole) (arg5 : Memref sig .tc .vmem S256x2560 .i8) (harg5 : arg5.IsWhole) (arg6 : Memref sig .tc .vmem S256x1 .f32) (harg6 : arg6.IsWhole) (arg7 : Memref sig .tc .vmem S1x2560 .f32) (harg7 : arg7.IsWhole) (arg8 : Memref sig .tc .vmem S1x2560 .f32) (harg8 : arg8.IsWhole) (arg9 : Memref sig .tc .vmem S256x2560 .f32) (harg9 : arg9.IsWhole) (arg10 : Memref sig .tc .vmem S256x5120 .fp8e4m3) (harg10 : arg10.IsWhole) (arg11 : Memref sig .tc .vmem S256x1 .f32) (harg11 : arg11.IsWhole) (arg12 : Memref sig .tc .vmem S256x2560 .f32) (harg12 : arg12.IsWhole) (arg13 : Memref sig .tc .vmem S256x2560 .f32) (harg13 : arg13.IsWhole) (hc0 : ¬cond0_0 i) (hc1 : ¬cond0_1 i) (hc2 : cond0_2 i)
    (x0 : Vec F S256x7680 .fp8e4m3) (x1 : Vec F S256x1 .f32) (x2 : Vec F S7680x2560 .fp8e4m3) (x3 : Vec F S1x2560 .f32) (x4 : Vec F S256x2560 .i8) (x5 : Vec F S256x1 .f32) (x6 : Vec F S1x2560 .f32) (x7 : Vec F S1x2560 .f32) (xs0 : Vec F S256x2560 .f32) : Vec F S256x2560 .f32 := xs0

/-! ## What the outputs hold after each point -/

/-- THE ACCUMULATION. What the outputs' staging buffers and the scratch the kernel carries between points hold after the body at position `n` (a tuple: the outputs in window order, then the scratch):
    the case the closed forms select at `n`, run at the point's memrefs and input blocks, an output it reads before covering
    at what this leaves at `n - 1` (its buffer is not written back between: `before0_W_κ`). An assignment of the conditions no point meets is no case (`False.elim`). -/
def outsAt0 (c : Dev nD) : (n : ℕ) → n < cfg0.N → Vec F S256x2560 .f32 × Vec F S256x5120 .fp8e4m3 × Vec F S256x1 .f32 × Vec F S256x2560 .f32
  | 0, hn => (out0_A_8 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) scM0_0 (Memref.isWhole_whole _) scM0_1 (Memref.isWhole_whole _) ((hcond0_0 ⟨0, hn⟩).mpr (Nat.zero_mod _)) ((hcond0_1 ⟨0, hn⟩).mpr (by (try dsimp only); omega)) (fun h => (fun h => by (try dsimp only at h); omega) ((hcond0_2 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩), out0_A_9 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) scM0_0 (Memref.isWhole_whole _) scM0_1 (Memref.isWhole_whole _) ((hcond0_0 ⟨0, hn⟩).mpr (Nat.zero_mod _)) ((hcond0_1 ⟨0, hn⟩).mpr (by (try dsimp only); omega)) (fun h => (fun h => by (try dsimp only at h); omega) ((hcond0_2 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩), out0_A_10 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) scM0_0 (Memref.isWhole_whole _) scM0_1 (Memref.isWhole_whole _) ((hcond0_0 ⟨0, hn⟩).mpr (Nat.zero_mod _)) ((hcond0_1 ⟨0, hn⟩).mpr (by (try dsimp only); omega)) (fun h => (fun h => by (try dsimp only at h); omega) ((hcond0_2 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) scM0_0 (Memref.isWhole_whole _) scM0_1 (Memref.isWhole_whole _) ((hcond0_0 ⟨0, hn⟩).mpr (Nat.zero_mod _)) ((hcond0_1 ⟨0, hn⟩).mpr (by (try dsimp only); omega)) (fun h => (fun h => by (try dsimp only at h); omega) ((hcond0_2 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩))
  | n + 1, hn =>
    if h0 : (n + 1) % 31 = 0 then
      if h1 : (n + 1) < 30 then
        if h2 : (n + 1) % 31 = 30 then
          False.elim (by have hN : n + 1 < 31 := lt_of_lt_of_eq hn (show cfg0.N = 31 from N_0); omega)
        else
          (out0_A_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) scM0_1 (Memref.isWhole_whole _) ((hcond0_0 ⟨n + 1, hn⟩).mpr h0) ((hcond0_1 ⟨n + 1, hn⟩).mpr h1) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩), out0_A_9 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) scM0_1 (Memref.isWhole_whole _) ((hcond0_0 ⟨n + 1, hn⟩).mpr h0) ((hcond0_1 ⟨n + 1, hn⟩).mpr h1) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩), out0_A_10 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) scM0_1 (Memref.isWhole_whole _) ((hcond0_0 ⟨n + 1, hn⟩).mpr h0) ((hcond0_1 ⟨n + 1, hn⟩).mpr h1) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) scM0_1 (Memref.isWhole_whole _) ((hcond0_0 ⟨n + 1, hn⟩).mpr h0) ((hcond0_1 ⟨n + 1, hn⟩).mpr h1) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩))
      else
        False.elim (by have hN : n + 1 < 31 := lt_of_lt_of_eq hn (show cfg0.N = 31 from N_0); omega)
    else
      if h1 : (n + 1) < 30 then
        if h2 : (n + 1) % 31 = 30 then
          False.elim (by have hN : n + 1 < 31 := lt_of_lt_of_eq hn (show cfg0.N = 31 from N_0); omega)
        else
          (out0_B_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) scM0_1 (Memref.isWhole_whole _) (fun h => h0 ((hcond0_0 ⟨n + 1, hn⟩).mp h)) ((hcond0_1 ⟨n + 1, hn⟩).mpr h1) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (outsAt0 c n (Nat.lt_of_succ_lt hn)).2.2.2, out0_B_9 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) scM0_1 (Memref.isWhole_whole _) (fun h => h0 ((hcond0_0 ⟨n + 1, hn⟩).mp h)) ((hcond0_1 ⟨n + 1, hn⟩).mpr h1) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (outsAt0 c n (Nat.lt_of_succ_lt hn)).2.2.2, out0_B_10 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) scM0_1 (Memref.isWhole_whole _) (fun h => h0 ((hcond0_0 ⟨n + 1, hn⟩).mp h)) ((hcond0_1 ⟨n + 1, hn⟩).mpr h1) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (outsAt0 c n (Nat.lt_of_succ_lt hn)).2.2.2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) scM0_1 (Memref.isWhole_whole _) (fun h => h0 ((hcond0_0 ⟨n + 1, hn⟩).mp h)) ((hcond0_1 ⟨n + 1, hn⟩).mpr h1) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (outsAt0 c n (Nat.lt_of_succ_lt hn)).2.2.2)
      else
        if h2 : (n + 1) % 31 = 30 then
          (out0_C_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) ((hcond0_2 ⟨n + 1, hn⟩).mpr h2) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (outsAt0 c n (Nat.lt_of_succ_lt hn)).2.2.2, out0_C_9 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) ((hcond0_2 ⟨n + 1, hn⟩).mpr h2) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (outsAt0 c n (Nat.lt_of_succ_lt hn)).2.2.2, out0_C_10 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) ((hcond0_2 ⟨n + 1, hn⟩).mpr h2) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (outsAt0 c n (Nat.lt_of_succ_lt hn)).2.2.2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) ((hcond0_2 ⟨n + 1, hn⟩).mpr h2) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (outsAt0 c n (Nat.lt_of_succ_lt hn)).2.2.2)
        else
          False.elim (by have hN : n + 1 < 31 := lt_of_lt_of_eq hn (show cfg0.N = 31 from N_0); omega)

/-- `outsAt0` at a point of case A: that case's contents. -/
theorem outsAt0_A (c : Dev nD) (t : Fin cfg0.N) (h0 : t.val % 31 = 0) (h1 : t.val < 30) (h2 : ¬t.val % 31 = 30) :
    outsAt0 m c t.val t.isLt = (out0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) ((hcond0_0 t).mpr h0) ((hcond0_1 t).mpr h1) (fun h => h2 ((hcond0_2 t).mp h)) (iblk m c 0 t) (iblk m c 1 t) (iblk m c 2 t) (iblk m c 3 t) (iblk m c 4 t) (iblk m c 5 t) (iblk m c 6 t) (iblk m c 7 t), out0_A_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) ((hcond0_0 t).mpr h0) ((hcond0_1 t).mpr h1) (fun h => h2 ((hcond0_2 t).mp h)) (iblk m c 0 t) (iblk m c 1 t) (iblk m c 2 t) (iblk m c 3 t) (iblk m c 4 t) (iblk m c 5 t) (iblk m c 6 t) (iblk m c 7 t), out0_A_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) ((hcond0_0 t).mpr h0) ((hcond0_1 t).mpr h1) (fun h => h2 ((hcond0_2 t).mp h)) (iblk m c 0 t) (iblk m c 1 t) (iblk m c 2 t) (iblk m c 3 t) (iblk m c 4 t) (iblk m c 5 t) (iblk m c 6 t) (iblk m c 7 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) ((hcond0_0 t).mpr h0) ((hcond0_1 t).mpr h1) (fun h => h2 ((hcond0_2 t).mp h)) (iblk m c 0 t) (iblk m c 1 t) (iblk m c 2 t) (iblk m c 3 t) (iblk m c 4 t) (iblk m c 5 t) (iblk m c 6 t) (iblk m c 7 t)) := by
  obtain ⟨n, hn⟩ := t
  cases n with
  | zero => exact rfl
  | succ n => exact (dif_pos h0).trans ((dif_pos h1).trans ((dif_neg h2).trans rfl))

/-- `outsAt0` at a point of case B: that case's contents, over what the point before left. -/
theorem outsAt0_B (c : Dev nD) (t : Fin cfg0.N) (h0 : ¬t.val % 31 = 0) (h1 : t.val < 30) (h2 : ¬t.val % 31 = 30) :
    outsAt0 m c t.val t.isLt = (out0_B_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) (fun h => h0 ((hcond0_0 t).mp h)) ((hcond0_1 t).mpr h1) (fun h => h2 ((hcond0_2 t).mp h)) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.2.2, out0_B_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) (fun h => h0 ((hcond0_0 t).mp h)) ((hcond0_1 t).mpr h1) (fun h => h2 ((hcond0_2 t).mp h)) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.2.2, out0_B_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) (fun h => h0 ((hcond0_0 t).mp h)) ((hcond0_1 t).mpr h1) (fun h => h2 ((hcond0_2 t).mp h)) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.2.2, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) (fun h => h0 ((hcond0_0 t).mp h)) ((hcond0_1 t).mpr h1) (fun h => h2 ((hcond0_2 t).mp h)) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_pos h1).trans ((dif_neg h2).trans rfl))

/-- `outsAt0` at a point of case C: that case's contents, over what the point before left. -/
theorem outsAt0_C (c : Dev nD) (t : Fin cfg0.N) (h0 : ¬t.val % 31 = 0) (h1 : ¬t.val < 30) (h2 : t.val % 31 = 30) :
    outsAt0 m c t.val t.isLt = (out0_C_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) (fun h => h0 ((hcond0_0 t).mp h)) (fun h => h1 ((hcond0_1 t).mp h)) ((hcond0_2 t).mpr h2) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.2.2, out0_C_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) (fun h => h0 ((hcond0_0 t).mp h)) (fun h => h1 ((hcond0_1 t).mp h)) ((hcond0_2 t).mpr h2) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.2.2, out0_C_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) (fun h => h0 ((hcond0_0 t).mp h)) (fun h => h1 ((hcond0_1 t).mp h)) ((hcond0_2 t).mpr h2) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.2.2, sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) (fun h => h0 ((hcond0_0 t).mp h)) (fun h => h1 ((hcond0_1 t).mp h)) ((hcond0_2 t).mpr h2) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_neg h1).trans ((dif_pos h2).trans rfl))

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.2.2) ∗ (∃ d, owns (c : Thread nD τ) scM0_1 fullShare d)) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop(owns (c : Thread nD τ) scM0_0 fullShare ((outsAt0 m c n hn).2.2.2) ∗ (∃ d, owns (c : Thread nD τ) scM0_1 fullShare d)) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop(owns (c : Thread nD τ) scM0_0 fullShare ((outsAt0 m c (n - 1) (by omega)).2.2.2) ∗ (∃ d, owns (c : Thread nD τ) scM0_1 fullShare d)) ∗ (∃ r, prngReg c r)) := by
  cases n with
  | zero => exact absurd rfl hz
  | succ n => rfl

/-! ## The pipeline's proof data -/

/-- The proof data of the one pipeline on core `c`: the arrays as the region finds them (`V`); after the body at
    point `t` each input's buffer at its block and the outputs' at `outsAt0`; the invariant the class's
    (`PhiS`: the class's `ΦA` before the first point, then the scoped rest with the carried scratch at `outsAt0`'s component);
    nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => (outsAt0 m c t.val t.isLt).1
    | ⟨9, _⟩ => (outsAt0 m c t.val t.isLt).2.1
    | ⟨10, _⟩ => (outsAt0 m c t.val t.isLt).2.2.1
  Φ t := PhiS m c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = (outsAt0 m c t.val t.isLt).1 := by dsimp only [dats]
theorem after0_9 (c : Dev nD) (t : Fin cfg0.N) : (dats m 0 c).after 9 t = (outsAt0 m c t.val t.isLt).2.1 := by dsimp only [dats]
theorem after0_10 (c : Dev nD) (t : Fin cfg0.N) : (dats m 0 c).after 10 t = (outsAt0 m c t.val t.isLt).2.2.1 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d

end Cert.FcIdeal.Gen

end
-- ==== Proof.Fc.Ideal.Frame.lean ====
module

public import proofs.«01_k».proof.Proof.Fc.Ideal.Outs
public import Idealize.ShloMosaic.Lib.Claim

/-! The frame of the first projection's ideal kernel: the generated text over this directory's `Outs`. -/

@[expose] public section

-- membership in a rectangle of production extents (`View.cover_of_tiled`): the elaborator's structural look
-- recurses once per coordinate of the long axes
set_option maxRecDepth 16384

noncomputable section

namespace Cert.FcIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t)

set_option maxHeartbeats 14400000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).owesAt () t.succ = (dats m 0 c).owesAt () t.castSucc from rfl]
  rw [show (dats m 0 c).Φ t.succ = PhiS m c (t.val + 1) t.isLt from rfl, PhiS_succ]
  have hN : t.val < 31 := lt_of_lt_of_eq t.isLt (show cfg0.N = 31 from N_0)
  by_cases h0 : t.val % 31 = 0
  · by_cases h1 : t.val < 30
    · by_cases h2 : t.val % 31 = 30
      · exfalso; omega
      · rw [show (dats m 0 c).leavesExact 0 t = owns (c : Thread nD τ) (ms0_0 t) fullShare ((dats m 0 c).after 0 t) from by
      unfold Dat.leavesExact; rw [liveAt0_0 t], after0_0]
        rw [show (dats m 0 c).leavesExact 1 t = owns (c : Thread nD τ) (ms0_1 t) fullShare ((dats m 0 c).after 1 t) from by
      unfold Dat.leavesExact; rw [liveAt0_1 t], after0_1]
        rw [show (dats m 0 c).leavesExact 2 t = owns (c : Thread nD τ) (ms0_2 t) fullShare ((dats m 0 c).after 2 t) from by
      unfold Dat.leavesExact; rw [liveAt0_2 t], after0_2]
        rw [show (dats m 0 c).leavesExact 3 t = owns (c : Thread nD τ) (ms0_3 t) fullShare ((dats m 0 c).after 3 t) from by
      unfold Dat.leavesExact; rw [liveAt0_3 t], after0_3]
        rw [show (dats m 0 c).leavesExact 4 t = owns (c : Thread nD τ) (ms0_4 t) fullShare ((dats m 0 c).after 4 t) from by
      unfold Dat.leavesExact; rw [liveAt0_4 t], after0_4]
        rw [show (dats m 0 c).leavesExact 5 t = owns (c : Thread nD τ) (ms0_5 t) fullShare ((dats m 0 c).after 5 t) from by
      unfold Dat.leavesExact; rw [liveAt0_5 t], after0_5]
        rw [show (dats m 0 c).leavesExact 6 t = owns (c : Thread nD τ) (ms0_6 t) fullShare ((dats m 0 c).after 6 t) from by
      unfold Dat.leavesExact; rw [liveAt0_6 t], after0_6]
        rw [show (dats m 0 c).leavesExact 7 t = owns (c : Thread nD τ) (ms0_7 t) fullShare ((dats m 0 c).after 7 t) from by
      unfold Dat.leavesExact; rw [liveAt0_7 t], after0_7]
        rw [show (dats m 0 c).leavesExact 8 t = owns (c : Thread nD τ) (ms0_8 t) fullShare ((dats m 0 c).after 8 t) from by
      unfold Dat.leavesExact; rw [liveAt0_8_A t ((hcond0_0 t).mpr h0) ((hcond0_1 t).mpr h1) (fun h => h2 ((hcond0_2 t).mp h))], after0_8]
        rw [show (dats m 0 c).leavesExact 9 t = owns (c : Thread nD τ) (ms0_9 t) fullShare ((dats m 0 c).after 9 t) from by
      unfold Dat.leavesExact; rw [liveAt0_9_A t ((hcond0_0 t).mpr h0) ((hcond0_1 t).mpr h1) (fun h => h2 ((hcond0_2 t).mp h))], after0_9]
        rw [show (dats m 0 c).leavesExact 10 t = owns (c : Thread nD τ) (ms0_10 t) fullShare ((dats m 0 c).after 10 t) from by
      unfold Dat.leavesExact; rw [liveAt0_10_A t ((hcond0_0 t).mpr h0) ((hcond0_1 t).mpr h1) (fun h => h2 ((hcond0_2 t).mp h))], after0_10]
        by_cases hz : t.val = 0
        · rw [PhiS_castSucc m c t, PhiS_zero m c _ _ hz, PhiA0_eq]
          rw [outsAt0_A m c t h0 h1 h2]
          unfold out0_A_8 out0_A_9 out0_A_10 sout0_A_0; (try dsimp only)
          iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
          iapply ((kernelRun0_A c (grid0.coords t) _ _ _ _ _ _ _ _ _ _ _ _ _ _ _ _ _ _ _ _ _ _ _ _ _ _ ((hcond0_0 t).mpr h0) ((hcond0_1 t).mpr h1) (fun h => h2 ((hcond0_2 t).mp h)) (iblk m c 0 t) (iblk m c 1 t) (iblk m c 2 t) (iblk m c 3 t) (iblk m c 4 t) (iblk m c 5 t) (iblk m c 6 t) (iblk m c 7 t)).2.2.2.2.2 Set.univ _)
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexists _; iexact H8
          isplitl [H9]; · iexists _; iexact H9
          isplitl [H10]; · iexists _; iexact H10
          isplitl [HS0]; · iexact HS0
          isplitl [HS1]; · iexact HS1
          iintro ⟨H0, H1, H2, H3, H4, H5, H6, H7, ⟨%e8, H8⟩, ⟨%e9, H9⟩, ⟨%e10, H10⟩, ⟨%es0, HS0⟩, ⟨%fT1, HS1⟩⟩
          isplitl [HS0 HS1 Hg]
          · isplitl [HS0 HS1]
            · isplitl [HS0]
              · unfold owns; iexists _; isplitr
                swap; · iexact HS0
                ipureintro; exact View.read_writes_of_cover _ _ _ _ _ (scover0_A_0 c _ _ _ _ _ _ _ _ _ _ _ _ _ _ _ _ _ _ _ _ _ _ _ _ _ _ _ _ _ _ _ _ _ _ _ _ _ _)
              iexists _; unfold owns; iexists _; isplitr
              swap; · iexact HS1
              ipureintro; rfl
            iexact Hg
          isplitl [Ho]; · iexact Ho
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]
          · unfold owns; iexists _; isplitr
            swap; · iexact H8
            ipureintro; exact View.read_writes_of_cover _ _ _ _ _ (cover0_A_8 c _ _ _ _ _ _ _ _ _ _ _ _ _ _ _ _ _ _ _ _ _ _ _ _ _ _ _ _ _ _ _ _ _ _ _ _ _ _)
          isplitl [H9]
          · unfold owns; iexists _; isplitr
            swap; · iexact H9
            ipureintro; exact View.read_writes_of_cover _ _ _ _ _ (cover0_A_9 c _ _ _ _ _ _ _ _ _ _ _ _ _ _ _ _ _ _ _ _ _ _ _ _ _ _ _ _ _ _ _ _ _ _ _ _ _ _)
          unfold owns; iexists _; isplitr
          swap; · iexact H10
          ipureintro; exact View.read_writes_of_cover _ _ _ _ _ (cover0_A_10 c _ _ _ _ _ _ _ _ _ _ _ _ _ _ _ _ _ _ _ _ _ _ _ _ _ _ _ _ _ _ _ _ _ _ _ _ _ _)
        · exfalso; have hN : t.val < 31 := lt_of_lt_of_eq t.isLt (show cfg0.N = 31 from N_0); omega
    · exfalso; omega
  · by_cases h1 : t.val < 30
    · by_cases h2 : t.val % 31 = 30
      · exfalso; omega
      · rw [show (dats m 0 c).leavesExact 0 t = owns (c : Thread nD τ) (ms0_0 t) fullShare ((dats m 0 c).after 0 t) from by
      unfold Dat.leavesExact; rw [liveAt0_0 t], after0_0]
        rw [show (dats m 0 c).leavesExact 1 t = owns (c : Thread nD τ) (ms0_1 t) fullShare ((dats m 0 c).after 1 t) from by
      unfold Dat.leavesExact; rw [liveAt0_1 t], after0_1]
        rw [show (dats m 0 c).leavesExact 2 t = owns (c : Thread nD τ) (ms0_2 t) fullShare ((dats m 0 c).after 2 t) from by
      unfold Dat.leavesExact; rw [liveAt0_2 t], after0_2]
        rw [show (dats m 0 c).leavesExact 3 t = owns (c : Thread nD τ) (ms0_3 t) fullShare ((dats m 0 c).after 3 t) from by
      unfold Dat.leavesExact; rw [liveAt0_3 t], after0_3]
        rw [show (dats m 0 c).leavesExact 4 t = owns (c : Thread nD τ) (ms0_4 t) fullShare ((dats m 0 c).after 4 t) from by
      unfold Dat.leavesExact; rw [liveAt0_4 t], after0_4]
        rw [show (dats m 0 c).leavesExact 5 t = owns (c : Thread nD τ) (ms0_5 t) fullShare ((dats m 0 c).after 5 t) from by
      unfold Dat.leavesExact; rw [liveAt0_5 t], after0_5]
        rw [show (dats m 0 c).leavesExact 6 t = owns (c : Thread nD τ) (ms0_6 t) fullShare ((dats m 0 c).after 6 t) from by
      unfold Dat.leavesExact; rw [liveAt0_6 t], after0_6]
        rw [show (dats m 0 c).leavesExact 7 t = owns (c : Thread nD τ) (ms0_7 t) fullShare ((dats m 0 c).after 7 t) from by
      unfold Dat.leavesExact; rw [liveAt0_7 t], after0_7]
        rw [show (dats m 0 c).leavesExact 8 t = owns (c : Thread nD τ) (ms0_8 t) fullShare ((dats m 0 c).after 8 t) from by
      unfold Dat.leavesExact; rw [liveAt0_8_B t (fun h => h0 ((hcond0_0 t).mp h)) ((hcond0_1 t).mpr h1) (fun h => h2 ((hcond0_2 t).mp h))], after0_8]
        rw [show (dats m 0 c).leavesExact 9 t = owns (c : Thread nD τ) (ms0_9 t) fullShare ((dats m 0 c).after 9 t) from by
      unfold Dat.leavesExact; rw [liveAt0_9_B t (fun h => h0 ((hcond0_0 t).mp h)) ((hcond0_1 t).mpr h1) (fun h => h2 ((hcond0_2 t).mp h))], after0_9]
        rw [show (dats m 0 c).leavesExact 10 t = owns (c : Thread nD τ) (ms0_10 t) fullShare ((dats m 0 c).after 10 t) from by
      unfold Dat.leavesExact; rw [liveAt0_10_B t (fun h => h0 ((hcond0_0 t).mp h)) ((hcond0_1 t).mpr h1) (fun h => h2 ((hcond0_2 t).mp h))], after0_10]
        by_cases hz : t.val = 0
        · exfalso; have hN : t.val < 31 := lt_of_lt_of_eq t.isLt (show cfg0.N = 31 from N_0); omega
        · rw [PhiS_castSucc m c t, PhiS_pos m c _ _ hz]
          rw [outsAt0_B m c t h0 h1 h2]
          unfold out0_B_8 out0_B_9 out0_B_10 sout0_B_0; (try dsimp only)
          iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
          iapply ((kernelRun0_B c (grid0.coords t) _ _ _ _ _ _ _ _ _ _ _ _ _ _ _ _ _ _ _ _ _ _ _ _ _ _ (fun h => h0 ((hcond0_0 t).mp h)) ((hcond0_1 t).mpr h1) (fun h => h2 ((hcond0_2 t).mp h)) (iblk m c 0 t) (iblk m c 1 t) (iblk m c 2 t) (iblk m c 3 t) (iblk m c 4 t) (iblk m c 5 t) (iblk m c 6 t) (iblk m c 7 t) _).2.2.2.2.2 Set.univ _)
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexists _; iexact H8
          isplitl [H9]; · iexists _; iexact H9
          isplitl [H10]; · iexists _; iexact H10
          isplitl [HS0]; · iexact HS0
          isplitl [HS1]; · iexact HS1
          iintro ⟨H0, H1, H2, H3, H4, H5, H6, H7, ⟨%e8, H8⟩, ⟨%e9, H9⟩, ⟨%e10, H10⟩, ⟨%es0, HS0⟩, ⟨%fT1, HS1⟩⟩
          isplitl [HS0 HS1 Hg]
          · isplitl [HS0 HS1]
            · isplitl [HS0]
              · unfold owns; iexists _; isplitr
                swap; · iexact HS0
                ipureintro; exact View.read_writes_of_cover _ _ _ _ _ (scover0_B_0 c _ _ _ _ _ _ _ _ _ _ _ _ _ _ _ _ _ _ _ _ _ _ _ _ _ _ _ _ _ _ _ _ _ _ _ _ _ _ _)
              iexists _; unfold owns; iexists _; isplitr
              swap; · iexact HS1
              ipureintro; rfl
            iexact Hg
          isplitl [Ho]; · iexact Ho
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]
          · unfold owns; iexists _; isplitr
            swap; · iexact H8
            ipureintro; exact View.read_writes_of_cover _ _ _ _ _ (cover0_B_8 c _ _ _ _ _ _ _ _ _ _ _ _ _ _ _ _ _ _ _ _ _ _ _ _ _ _ _ _ _ _ _ _ _ _ _ _ _ _ _)
          isplitl [H9]
          · unfold owns; iexists _; isplitr
            swap; · iexact H9
            ipureintro; exact View.read_writes_of_cover _ _ _ _ _ (cover0_B_9 c _ _ _ _ _ _ _ _ _ _ _ _ _ _ _ _ _ _ _ _ _ _ _ _ _ _ _ _ _ _ _ _ _ _ _ _ _ _ _)
          unfold owns; iexists _; isplitr
          swap; · iexact H10
          ipureintro; exact View.read_writes_of_cover _ _ _ _ _ (cover0_B_10 c _ _ _ _ _ _ _ _ _ _ _ _ _ _ _ _ _ _ _ _ _ _ _ _ _ _ _ _ _ _ _ _ _ _ _ _ _ _ _)
    · by_cases h2 : t.val % 31 = 30
      · rw [show (dats m 0 c).leavesExact 0 t = owns (c : Thread nD τ) (ms0_0 t) fullShare ((dats m 0 c).after 0 t) from by
      unfold Dat.leavesExact; rw [liveAt0_0 t], after0_0]
        rw [show (dats m 0 c).leavesExact 1 t = owns (c : Thread nD τ) (ms0_1 t) fullShare ((dats m 0 c).after 1 t) from by
      unfold Dat.leavesExact; rw [liveAt0_1 t], after0_1]
        rw [show (dats m 0 c).leavesExact 2 t = owns (c : Thread nD τ) (ms0_2 t) fullShare ((dats m 0 c).after 2 t) from by
      unfold Dat.leavesExact; rw [liveAt0_2 t], after0_2]
        rw [show (dats m 0 c).leavesExact 3 t = owns (c : Thread nD τ) (ms0_3 t) fullShare ((dats m 0 c).after 3 t) from by
      unfold Dat.leavesExact; rw [liveAt0_3 t], after0_3]
        rw [show (dats m 0 c).leavesExact 4 t = owns (c : Thread nD τ) (ms0_4 t) fullShare ((dats m 0 c).after 4 t) from by
      unfold Dat.leavesExact; rw [liveAt0_4 t], after0_4]
        rw [show (dats m 0 c).leavesExact 5 t = owns (c : Thread nD τ) (ms0_5 t) fullShare ((dats m 0 c).after 5 t) from by
      unfold Dat.leavesExact; rw [liveAt0_5 t], after0_5]
        rw [show (dats m 0 c).leavesExact 6 t = owns (c : Thread nD τ) (ms0_6 t) fullShare ((dats m 0 c).after 6 t) from by
      unfold Dat.leavesExact; rw [liveAt0_6 t], after0_6]
        rw [show (dats m 0 c).leavesExact 7 t = owns (c : Thread nD τ) (ms0_7 t) fullShare ((dats m 0 c).after 7 t) from by
      unfold Dat.leavesExact; rw [liveAt0_7 t], after0_7]
        rw [show (dats m 0 c).leavesExact 8 t = owns (c : Thread nD τ) (ms0_8 t) fullShare ((dats m 0 c).after 8 t) from by
      unfold Dat.leavesExact; rw [liveAt0_8_C t (fun h => h0 ((hcond0_0 t).mp h)) (fun h => h1 ((hcond0_1 t).mp h)) ((hcond0_2 t).mpr h2)], after0_8]
        rw [show (dats m 0 c).leavesExact 9 t = owns (c : Thread nD τ) (ms0_9 t) fullShare ((dats m 0 c).after 9 t) from by
      unfold Dat.leavesExact; rw [liveAt0_9_C t (fun h => h0 ((hcond0_0 t).mp h)) (fun h => h1 ((hcond0_1 t).mp h)) ((hcond0_2 t).mpr h2)], after0_9]
        rw [show (dats m 0 c).leavesExact 10 t = owns (c : Thread nD τ) (ms0_10 t) fullShare ((dats m 0 c).after 10 t) from by
      unfold Dat.leavesExact; rw [liveAt0_10_C t (fun h => h0 ((hcond0_0 t).mp h)) (fun h => h1 ((hcond0_1 t).mp h)) ((hcond0_2 t).mpr h2)], after0_10]
        by_cases hz : t.val = 0
        · exfalso; have hN : t.val < 31 := lt_of_lt_of_eq t.isLt (show cfg0.N = 31 from N_0); omega
        · rw [PhiS_castSucc m c t, PhiS_pos m c _ _ hz]
          rw [outsAt0_C m c t h0 h1 h2]
          unfold out0_C_8 out0_C_9 out0_C_10 sout0_C_0; (try dsimp only)
          iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
          iapply ((kernelRun0_C c (grid0.coords t) _ _ _ _ _ _ _ _ _ _ _ _ _ _ _ _ _ _ _ _ _ _ _ _ _ _ (fun h => h0 ((hcond0_0 t).mp h)) (fun h => h1 ((hcond0_1 t).mp h)) ((hcond0_2 t).mpr h2) (iblk m c 0 t) (iblk m c 1 t) (iblk m c 2 t) (iblk m c 3 t) (iblk m c 4 t) (iblk m c 5 t) (iblk m c 6 t) (iblk m c 7 t) _).2.2.2.2.2 Set.univ _)
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexists _; iexact H8
          isplitl [H9]; · iexists _; iexact H9
          isplitl [H10]; · iexists _; iexact H10
          isplitl [HS0]; · iexact HS0
          isplitl [HS1]; · iexact HS1
          iintro ⟨H0, H1, H2, H3, H4, H5, H6, H7, ⟨%e8, H8⟩, ⟨%e9, H9⟩, ⟨%e10, H10⟩, HS0, ⟨%fT1, HS1⟩⟩
          isplitl [HS0 HS1 Hg]
          · isplitl [HS0 HS1]
            · isplitl [HS0]
              · iexact HS0
              iexists _; unfold owns; iexists _; isplitr
              swap; · iexact HS1
              ipureintro; rfl
            iexact Hg
          isplitl [Ho]; · iexact Ho
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]
          · unfold owns; iexists _; isplitr
            swap; · iexact H8
            ipureintro; exact View.read_writes_of_cover _ _ _ _ _ (cover0_C_8 c _ _ _ _ _ _ _ _ _ _ _ _ _ _ _ _ _ _ _ _ _ _ _ _ _ _ _ _ _ _ _ _ _ _ _ _ _ _ _)
          isplitl [H9]
          · unfold owns; iexists _; isplitr
            swap; · iexact H9
            ipureintro; exact View.read_writes_of_cover _ _ _ _ _ (cover0_C_9 c _ _ _ _ _ _ _ _ _ _ _ _ _ _ _ _ _ _ _ _ _ _ _ _ _ _ _ _ _ _ _ _ _ _ _ _ _ _ _)
          unfold owns; iexists _; isplitr
          swap; · iexact H10
          ipureintro; exact View.read_writes_of_cover _ _ _ _ _ (cover0_C_10 c _ _ _ _ _ _ _ _ _ _ _ _ _ _ _ _ _ _ _ _ _ _ _ _ _ _ _ _ _ _ _ _ _ _ _ _ _ _ _)
      · exfalso; omega

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1⟩, Hg⟩
  isplitl [HS0 HS1]
  · isplitl [HS0]
    · iexists _; iexact HS0
    iexact HS1
  iexact Hg

/-- The same after the last point. -/
theorem hout (c : Dev nD) : (dats m 0 c).Φ (Fin.last cfg0.N) ⊢ Pipeline.ΦA spec0 c :=
  Phi_out m c _ (by rw [Fin.val_last]; have : cfg0.N = 31 := N_0; omega)

/-! ## The run and the frame -/

-- `θ_run_frame_track`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  frame_of m ρ (dats m) (A_eq m) (run_main m ρ)

/-- THE FRAME: `Cert.quiescent_FcIdeal`'s statement (Defs.lean) at any `F` — Proof.lean cites it at `Bits`:
    `theorem Cert.Proof.claim : Cert.Claim := ⟨Cert.FcIdeal.Gen.facts, fun m ρ _ => Cert.FcIdeal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_and (unchanged m ρ) ((θ_run defs _ _).mono (fun _ h => h.2) (run_main_quiescent m ρ))

end Cert.FcIdeal.Gen

end
-- ==== Proof.Layer.lean ====
module

public import proofs.«01_k».proof.Proof.Tile

/-! The input of a decoder layer: the norms of two rows of 2560 values side by side, quantised with one scale.
    As the kernels compute it (two halves, multiplying by inverses) and as the references do (one row of 5120,
    dividing), at an index. -/

@[expose] public section

set_option maxRecDepth 16384

noncomputable section
open Idealize.ShloMosaic

namespace Cert.Layer
open Cert.Tile

/-- An embedding value: its integer code times its row's scale. -/
def emb (a : BitVec 8) (s : EReal) : EReal := FloatOps.sitofp (F := Ideal) .f32 a * s

/-- Two rows side by side. -/
def pair (f g : Fin 2560 → EReal) (k : Fin 5120) : EReal :=
  if h : k.val < 2560 then f ⟨k.val, h⟩ else g ⟨k.val - 2560, by omega⟩

/-- The scale of two normed rows. -/
def scale (e we g wg : Fin 2560 → EReal) : EReal :=
  Cert.Quant.scaleOf (max (Cert.Norm.amax (Cert.Norm.norm e we)) (Cert.Norm.amax (Cert.Norm.norm g wg)))

/-- The code of two normed rows at a column. -/
def code (e we g wg : Fin 2560 → EReal) (k : Fin 5120) : EReal :=
  Cert.Quant.quant (pair (Cert.Norm.norm e we) (Cert.Norm.norm g wg) k) (scale e we g wg)

/-- Codes agree where rows, gains and columns agree. -/
theorem code_congr {e e' we we' g g' wg wg' : Fin 2560 → EReal} {k k' : Fin 5120} (h1 : ∀ j, e j = e' j) (h2 : ∀ j, we j = we' j)
    (h3 : ∀ j, g j = g' j) (h4 : ∀ j, wg j = wg' j) (hk : k = k') : code e we g wg k = code e' we' g' wg' k' := by
  rw [funext h1, funext h2, funext h3, funext h4, hk]

/-- Scales agree where rows and gains agree. -/
theorem scale_congr {e e' we we' g g' wg wg' : Fin 2560 → EReal} (h1 : ∀ j, e j = e' j) (h2 : ∀ j, we j = we' j)
    (h3 : ∀ j, g j = g' j) (h4 : ∀ j, wg j = wg' j) : scale e we g wg = scale e' we' g' wg' := by
  rw [funext h1, funext h2, funext h3, funext h4]

/-- The largest magnitude of two rows side by side is the larger of theirs. -/
theorem amax_pair (f g : Fin 2560 → EReal) : Cert.Norm.amax (pair f g) = max (Cert.Norm.amax f) (Cert.Norm.amax g) := by
  unfold Cert.Norm.amax
  refine le_antisymm (Finset.fold_max_le _ |>.mpr ⟨?_, fun k _ => ?_⟩) (max_le ?_ ?_)
  · exact le_max_of_le_left ((Finset.le_fold_max _).mpr (Or.inl le_rfl))
  · unfold pair
    split
    · next h => exact le_max_of_le_left ((Finset.le_fold_max _).mpr (Or.inr ⟨_, Finset.mem_univ _, le_rfl⟩))
    · next h => exact le_max_of_le_right ((Finset.le_fold_max _).mpr (Or.inr ⟨_, Finset.mem_univ _, le_rfl⟩))
  · refine (Finset.fold_max_le _).mpr ⟨(Finset.le_fold_max _).mpr (Or.inl le_rfl), fun j _ => (Finset.le_fold_max _).mpr (Or.inr ⟨⟨j.val, by omega⟩, Finset.mem_univ _, ?_⟩)⟩
    unfold pair
    rw [dif_pos j.isLt]
  · refine (Finset.fold_max_le _).mpr ⟨(Finset.le_fold_max _).mpr (Or.inl le_rfl), fun j _ => (Finset.le_fold_max _).mpr (Or.inr ⟨⟨2560 + j.val, by omega⟩, Finset.mem_univ _, ?_⟩)⟩
    unfold pair
    rw [dif_neg (by show ¬ 2560 + j.val < 2560; omega)]
    exact le_of_eq (congrArg (fun i => FloatOps.absf (F := Ideal) (φ := .f32) (g i)) (Fin.ext (by show j.val = 2560 + j.val - 2560; omega)))

variable {R : ℕ}

/-- Embedding rows at an index. -/
theorem emb_pt (e : IVec (Rows R 2560) 8) (s : FVec Ideal (Rows R 1) .f32) (h : (Rows R 1).Broadcasts (Rows R 2560)) (r : Fin R) (j : Fin 2560) :
    mulf (sitofp (F := Ideal) .f32 e) (broadcastTo (Rows R 2560) s h) (ix2 r j) = emb (e (ix2 r j)) (s (ix2 r 0)) := by
  rw [ValueIdx.mulf_apply, bcol]
  rfl

/-- The kernels' scale of two normed rows. -/
theorem scalesK_eq (e g : FVec Ideal (Rows R 2560) .f32) (we wg : FVec Ideal (Rows 1 2560) .f32) (h1) (h2) (h3) (h4) (h5) (h6) (k1) (k2) (k3) (x : (Rows R 1).Idx) :
    scales (maximumf (amaxCol (normK e we h1 h2 h3 h4 h5 h6) k1 k2 k3 h4) (amaxCol (normK g wg h1 h2 h3 h4 h5 h6) k1 k2 k3 h4)) x
      = scale (fun k => e (ix2 (x 0 : Fin R) k)) (fun k => we (ix2 0 k)) (fun k => g (ix2 (x 0 : Fin R) k)) (fun k => wg (ix2 0 k)) := by
  have ex : x = ix2 (x 0 : Fin R) (0 : Fin 1) := by
    refine (eq_ix2 x).trans (congrArg _ (Subsingleton.elim (α := Fin 1) _ _))
  refine (scale_pt _ x).trans (congrArg Cert.Quant.scaleOf ((congrArg _ ex).trans ?_))
  exact congrArg₂ max (amaxK_eq e we h1 h2 h3 h4 h5 h6 k1 k2 k3 (x 0)) (amaxK_eq g wg h1 h2 h3 h4 h5 h6 k1 k2 k3 (x 0))

/-- The kernels' codes of the left half. -/
theorem codesL_eq (e g : FVec Ideal (Rows R 2560) .f32) (we wg : FVec Ideal (Rows 1 2560) .f32) (h1) (h2) (h3) (h4) (h5) (h6) (k1) (k2) (k3) (k4) (x : (Rows R 2560).Idx)
    (k : Fin 5120) (hk : k.val = (x 1 : Fin 2560).val) :
    codesK (normK e we h1 h2 h3 h4 h5 h6) (scales (maximumf (amaxCol (normK e we h1 h2 h3 h4 h5 h6) k1 k2 k3 h4) (amaxCol (normK g wg h1 h2 h3 h4 h5 h6) k1 k2 k3 h4))) h5 k4 x
      = code (fun k => e (ix2 (x 0 : Fin R) k)) (fun k => we (ix2 0 k)) (fun k => g (ix2 (x 0 : Fin R) k)) (fun k => wg (ix2 0 k)) k := by
  refine (congrArg _ (eq_ix2 x)).trans ((codesK_pt _ _ h5 k4 (x 0) (x 1)).trans ?_)
  refine congrArg₂ Cert.Quant.quant ((normK_eq e we h1 h2 h3 h4 h5 h6 (x 0) (x 1)).trans ?_) (scalesK_eq e g we wg h1 h2 h3 h4 h5 h6 k1 k2 k3 (ix2 (x 0) 0))
  have hx : (x 1 : Fin 2560).val < 2560 := (x 1 : Fin 2560).isLt
  unfold pair
  rw [dif_pos (by omega)]
  exact congrArg _ (Fin.ext hk.symm)

/-- The kernels' codes of the right half. -/
theorem codesR_eq (e g : FVec Ideal (Rows R 2560) .f32) (we wg : FVec Ideal (Rows 1 2560) .f32) (h1) (h2) (h3) (h4) (h5) (h6) (k1) (k2) (k3) (k4) (x : (Rows R 2560).Idx)
    (k : Fin 5120) (hk : k.val = 2560 + (x 1 : Fin 2560).val) :
    codesK (normK g wg h1 h2 h3 h4 h5 h6) (scales (maximumf (amaxCol (normK e we h1 h2 h3 h4 h5 h6) k1 k2 k3 h4) (amaxCol (normK g wg h1 h2 h3 h4 h5 h6) k1 k2 k3 h4))) h5 k4 x
      = code (fun k => e (ix2 (x 0 : Fin R) k)) (fun k => we (ix2 0 k)) (fun k => g (ix2 (x 0 : Fin R) k)) (fun k => wg (ix2 0 k)) k := by
  refine (congrArg _ (eq_ix2 x)).trans ((codesK_pt _ _ h5 k4 (x 0) (x 1)).trans ?_)
  refine congrArg₂ Cert.Quant.quant ((normK_eq g wg h1 h2 h3 h4 h5 h6 (x 0) (x 1)).trans ?_) (scalesK_eq e g we wg h1 h2 h3 h4 h5 h6 k1 k2 k3 (ix2 (x 0) 0))
  unfold pair
  rw [dif_neg (by omega)]
  exact congrArg _ (Fin.ext (by show (x 1 : Fin 2560).val = k.val - 2560; omega))

/-- Two arrays of rows side by side, at an index. -/
theorem concat_pt (A B : FVec Ideal (Rows 7680 2560) .f32) (h) (r : Fin 7680) (k : Fin 5120) :
    concatenate (Rows 7680 5120) 1 [⟨Rows 7680 2560, A⟩, ⟨Rows 7680 2560, B⟩] h (ix2 r k) = pair (fun j => A (ix2 r j)) (fun j => B (ix2 r j)) k := by
  pointwise [pair]

/-- The references' scale of two normed rows. -/
theorem scalesD_eq (e g : FVec Ideal (Rows 7680 2560) .f32) (we wg : FVec Ideal (Rows 1 2560) .f32) (h1) (h2) (h3) (h4) (h5) (h6) (hc) (k1) (k2) (k3) (r : Fin 7680) :
    scales (multiReduction (F := Ideal) (φ := .f32) .maximumf [1] (Col 7680)
        (absf (concatenate (Rows 7680 5120) 1 [⟨Rows 7680 2560, normR e we h1 h2 h3 h4 h5 h6⟩, ⟨Rows 7680 2560, normR g wg h1 h2 h3 h4 h5 h6⟩] hc)) 0xFF800000#32 k1 k2 k3) (ix1 r)
      = scale (fun k => e (ix2 r k)) (fun k => we (ix2 0 k)) (fun k => g (ix2 r k)) (fun k => wg (ix2 0 k)) := by
  refine (scale_pt _ (ix1 r)).trans (congrArg Cert.Quant.scaleOf ?_)
  refine (amax_pt _ k1 k2 k3 r).trans (Eq.trans ?_ (amax_pair _ _))
  refine congrArg _ (funext fun k => (concat_pt _ _ hc r k).trans ?_)
  exact congrArg₂ (fun a b => pair a b k) (funext fun j => normR_eq e we h1 h2 h3 h4 h5 h6 r j) (funext fun j => normR_eq g wg h1 h2 h3 h4 h5 h6 r j)

/-- The references' codes of two normed rows. -/
theorem codesD_eq (e g : FVec Ideal (Rows 7680 2560) .f32) (we wg : FVec Ideal (Rows 1 2560) .f32) (s : FVec Ideal (Col 7680) .f32) (h1) (h2) (h3) (h4) (h5) (h6) (hc) (h7) (h8) (r : Fin 7680) (k : Fin 5120)
    (hs : s (ix1 r) = scale (fun k => e (ix2 r k)) (fun k => we (ix2 0 k)) (fun k => g (ix2 r k)) (fun k => wg (ix2 0 k))) :
    truncf (F := Ideal) .fp8e4m3 (minimumf (broadcast (Rows 7680 5120) (Scalar.ofBits (F := Ideal) .f32 0x43E00000#32)) (maximumf (broadcast (Rows 7680 5120) (Scalar.ofBits (F := Ideal) .f32 0xC3E00000#32))
        (divf (concatenate (Rows 7680 5120) 1 [⟨Rows 7680 2560, normR e we h1 h2 h3 h4 h5 h6⟩, ⟨Rows 7680 2560, normR g wg h1 h2 h3 h4 h5 h6⟩] hc)
          (broadcastTo (Rows 7680 5120) (shapeCast (Rows 7680 1) s h4) h7)))) h8 (ix2 r k)
      = code (fun k => e (ix2 r k)) (fun k => we (ix2 0 k)) (fun k => g (ix2 r k)) (fun k => wg (ix2 0 k)) k := by
  refine (codesR_pt _ s h7 h8 h4 r k).trans ?_
  rw [hs]
  unfold code Cert.Quant.quant scale
  rw [Cert.Quant.mul_inv_scale]
  refine congrArg (fun a => min _ (max _ (Ideal.div a _))) ((concat_pt _ _ hc r k).trans ?_)
  exact congrArg₂ (fun a b => pair a b k) (funext fun j => normR_eq e we h1 h2 h3 h4 h5 h6 r j) (funext fun j => normR_eq g wg h1 h2 h3 h4 h5 h6 r j)

end Cert.Layer

end
-- ==== Proof.Fc.Step.lean ====
module

public import proofs.«01_k».proof.Proof.Fc.Ideal.Outs
public import proofs.«01_k».proof.Proof.Layer
public import proofs.«01_k».proof.Proof.Canon
public import Idealize.ShloMosaic.Lib.Pipeline.ValueKit
public import Idealize.ShloMosaic.Lib.Pipeline.ReadBack

/-! What the first projection kernel leaves in its staging buffer at a grid point, and what it writes one point later:
    the staged rows and the codes and scales of the layer input they make with the embeddings. -/

@[expose] public section

set_option maxRecDepth 16384

noncomputable section
open Idealize.ShloMosaic Idealize.ShloMosaic.TcCoe Idealize.SL.Sem
open Idealize.ShloMosaic.Pipeline (Dat)
namespace Cert.FcIdeal.Value
open Cert.FcIdeal Cert.FcIdeal.Gen
variable (m : (ℓ : Loc nD τ sig) → Buf (Elt Ideal) ℓ)

/-- The scaled product, at row `r`, column `j` of a block of rows. -/
def lin (x : Vec Ideal S256x7680 .fp8e4m3) (xs : Vec Ideal S256x1 .f32) (w : Vec Ideal S7680x2560 .fp8e4m3)
    (s : Vec Ideal S1x2560 .f32) (r : Fin 256) (j : Fin 2560) : EReal :=
  (∑ k : Fin 7680, (x (ix2 r k) : EReal) * w (ix2 k j)) * xs (ix2 r 0) * s (ix2 0 j)

/-- The codes of the layer input that embedding rows and staged rows make. -/
def xcodesAt (e : Vec Ideal S256x2560 .i8) (es : Vec Ideal S256x1 .f32) (we wh : Vec Ideal S1x2560 .f32) (v : S256x2560.Idx → EReal) (y : S256x5120.Idx) : EReal :=
  Cert.Layer.code (fun j => Cert.Layer.emb (e (ix2 (y 0 : Fin 256) j)) (es (ix2 (y 0 : Fin 256) 0))) (fun j => we (ix2 0 j))
    (fun j => v (ix2 (y 0 : Fin 256) j)) (fun j => wh (ix2 0 j)) (y 1)

/-- The scales of the layer input that embedding rows and staged rows make. -/
def xscaleAt (e : Vec Ideal S256x2560 .i8) (es : Vec Ideal S256x1 .f32) (we wh : Vec Ideal S1x2560 .f32) (v : S256x2560.Idx → EReal) (y : S256x1.Idx) : EReal :=
  Cert.Layer.scale (fun j => Cert.Layer.emb (e (ix2 (y 0 : Fin 256) j)) (es (ix2 (y 0 : Fin 256) 0))) (fun j => we (ix2 0 j))
    (fun j => v (ix2 (y 0 : Fin 256) j)) (fun j => wh (ix2 0 j))

/-- What the point before left in the staging buffer. -/
abbrev prev (c : Dev nD) (t : Fin cfg0.N) : S256x2560.Idx → EReal :=
  (outsAt0 m c (t.val - 1) (Nat.lt_of_le_of_lt (Nat.sub_le _ _) t.isLt)).2.2.2

/-- After the first point the staging buffer holds that point's rows. -/
theorem g_A (c : Dev nD) (t : Fin cfg0.N) (h0 : t.val % 31 = 0) (h1 : t.val < 30) (h2 : ¬t.val % 31 = 30) (y : S256x2560.Idx) :
    (outsAt0 m c t.val t.isLt).2.2.2 y
      = lin (iblk m c 0 t) (iblk m c 1 t) (iblk m c 2 t) (iblk m c 3 t) (y 0) (y 1) := by
  rw [outsAt0_A m c t h0 h1 h2]
  frame_out
  refine canon_dropLast _ _ _ ?_ ?_
  · simp only [List.dropLast]
    exact View.cover_of_tiled_head _ _ _ rfl _
  simp only [List.dropLast]
  canon_tiles x h
  all_goals
    open_payloads
    pointwise [lin]
    blk_point []

/-- After a middle point the staging buffer holds that point's rows. -/
theorem g_B (c : Dev nD) (t : Fin cfg0.N) (h0 : ¬t.val % 31 = 0) (h1 : t.val < 30) (h2 : ¬t.val % 31 = 30) (y : S256x2560.Idx) :
    (outsAt0 m c t.val t.isLt).2.2.2 y
      = lin (iblk m c 0 t) (iblk m c 1 t) (iblk m c 2 t) (iblk m c 3 t) (y 0) (y 1) := by
  rw [outsAt0_B m c t h0 h1 h2]
  frame_out
  canon_tiles x h
  all_goals
    open_payloads
    pointwise [lin]
    blk_point []

/-- A middle point writes the rows the point before left. -/
theorem out_B (c : Dev nD) (t : Fin cfg0.N) (h0 : ¬t.val % 31 = 0) (h1 : t.val < 30) (h2 : ¬t.val % 31 = 30) :
    (outsAt0 m c t.val t.isLt).1 = prev m c t := by
  rw [outsAt0_B m c t h0 h1 h2]
  frame_out
  simp only [read_unread_whole]

/-- A middle point writes the codes of the layer input made with those rows. -/
theorem xcodes_B (c : Dev nD) (t : Fin cfg0.N) (h0 : ¬t.val % 31 = 0) (h1 : t.val < 30) (h2 : ¬t.val % 31 = 30) (y : S256x5120.Idx) :
    (outsAt0 m c t.val t.isLt).2.1 y = xcodesAt (iblk m c 4 t) (iblk m c 5 t) (iblk m c 6 t) (iblk m c 7 t) (prev m c t) y := by
  rw [outsAt0_B m c t h0 h1 h2]
  frame_out
  simp only [read_unread_whole]
  canon_tiles x h
  all_goals
    open_payloads
    first
    | have hk : (y 1 : Fin 5120).val = (x 1 : Fin 2560).val := h1
      refine (Cert.Layer.codesL_eq (R := 32) _ _ _ _ _ _ _ _ _ _ _ _ _ _ x (y 1) hk).trans ?_
    | have hk : (y 1 : Fin 5120).val = 2560 + (x 1 : Fin 2560).val := h1
      refine (Cert.Layer.codesR_eq (R := 32) _ _ _ _ _ _ _ _ _ _ _ _ _ _ x (y 1) hk).trans ?_
    refine Cert.Layer.code_congr (fun j => ?_) (fun j => rfl) (fun j => ?_) (fun j => rfl) rfl
    · refine (Cert.Layer.emb_pt _ _ _ _ _).trans (congrArg₂ Cert.Layer.emb ?_ ?_)
      · pointwise []
        blk_point []
      · pointwise []
        blk_point []
    · refine (congrFun (View.readCov_fill _ _ _ _ _ (by decide)) _).trans ?_
      pointwise []
      blk_point []

/-- A middle point writes the scales of the layer input made with those rows. -/
theorem xscales_B (c : Dev nD) (t : Fin cfg0.N) (h0 : ¬t.val % 31 = 0) (h1 : t.val < 30) (h2 : ¬t.val % 31 = 30) (y : S256x1.Idx) :
    (outsAt0 m c t.val t.isLt).2.2.1 y = xscaleAt (iblk m c 4 t) (iblk m c 5 t) (iblk m c 6 t) (iblk m c 7 t) (prev m c t) y := by
  rw [outsAt0_B m c t h0 h1 h2]
  frame_out
  simp only [read_unread_whole]
  canon_tiles x h
  all_goals
    open_payloads
    refine (Cert.Layer.scalesK_eq (R := 32) _ _ _ _ _ _ _ _ _ _ _ _ _ x).trans ?_
    refine Cert.Layer.scale_congr (fun j => ?_) (fun j => rfl) (fun j => ?_) (fun j => rfl)
    · refine (Cert.Layer.emb_pt _ _ _ _ _).trans (congrArg₂ Cert.Layer.emb ?_ ?_)
      · pointwise []
        blk_point []
      · pointwise []
        blk_point []
    · refine (congrFun (View.readCov_fill _ _ _ _ _ (by decide)) _).trans ?_
      pointwise []
      blk_point []

/-- The last point writes the rows the point before left. -/
theorem out_C (c : Dev nD) (t : Fin cfg0.N) (h0 : ¬t.val % 31 = 0) (h1 : ¬t.val < 30) (h2 : t.val % 31 = 30) :
    (outsAt0 m c t.val t.isLt).1 = prev m c t := by
  rw [outsAt0_C m c t h0 h1 h2]
  frame_out
  simp only [read_unread_whole]

/-- The last point writes the codes of the layer input made with those rows. -/
theorem xcodes_C (c : Dev nD) (t : Fin cfg0.N) (h0 : ¬t.val % 31 = 0) (h1 : ¬t.val < 30) (h2 : t.val % 31 = 30) (y : S256x5120.Idx) :
    (outsAt0 m c t.val t.isLt).2.1 y = xcodesAt (iblk m c 4 t) (iblk m c 5 t) (iblk m c 6 t) (iblk m c 7 t) (prev m c t) y := by
  rw [outsAt0_C m c t h0 h1 h2]
  frame_out
  simp only [read_unread_whole]
  canon_tiles x h
  all_goals
    open_payloads
    first
    | have hk : (y 1 : Fin 5120).val = (x 1 : Fin 2560).val := h1
      refine (Cert.Layer.codesL_eq (R := 32) _ _ _ _ _ _ _ _ _ _ _ _ _ _ x (y 1) hk).trans ?_
    | have hk : (y 1 : Fin 5120).val = 2560 + (x 1 : Fin 2560).val := h1
      refine (Cert.Layer.codesR_eq (R := 32) _ _ _ _ _ _ _ _ _ _ _ _ _ _ x (y 1) hk).trans ?_
    refine Cert.Layer.code_congr (fun j => ?_) (fun j => rfl) (fun j => ?_) (fun j => rfl) rfl
    · refine (Cert.Layer.emb_pt _ _ _ _ _).trans (congrArg₂ Cert.Layer.emb ?_ ?_)
      · pointwise []
        blk_point []
      · pointwise []
        blk_point []
    · refine (congrFun (View.readCov_fill _ _ _ _ _ (by decide)) _).trans ?_
      pointwise []
      blk_point []

/-- The last point writes the scales of the layer input made with those rows. -/
theorem xscales_C (c : Dev nD) (t : Fin cfg0.N) (h0 : ¬t.val % 31 = 0) (h1 : ¬t.val < 30) (h2 : t.val % 31 = 30) (y : S256x1.Idx) :
    (outsAt0 m c t.val t.isLt).2.2.1 y = xscaleAt (iblk m c 4 t) (iblk m c 5 t) (iblk m c 6 t) (iblk m c 7 t) (prev m c t) y := by
  rw [outsAt0_C m c t h0 h1 h2]
  frame_out
  simp only [read_unread_whole]
  canon_tiles x h
  all_goals
    open_payloads
    refine (Cert.Layer.scalesK_eq (R := 32) _ _ _ _ _ _ _ _ _ _ _ _ _ x).trans ?_
    refine Cert.Layer.scale_congr (fun j => ?_) (fun j => rfl) (fun j => ?_) (fun j => rfl)
    · refine (Cert.Layer.emb_pt _ _ _ _ _).trans (congrArg₂ Cert.Layer.emb ?_ ?_)
      · pointwise []
        blk_point []
      · pointwise []
        blk_point []
    · refine (congrFun (View.readCov_fill _ _ _ _ _ (by decide)) _).trans ?_
      pointwise []
      blk_point []

end Cert.FcIdeal.Value

end
-- ==== Proof.Fc.Ref.lean ====
module

public import proofs.«01_k».proof.Proof.Layer
public import proofs.«01_k».proof.Proof.Gen.FcRefIdeal.Value

/-! The first projection reference at an index: the scaled product, and the codes and scales of the
    layer input it makes with the embeddings. -/

@[expose] public section

set_option maxRecDepth 16384

noncomputable section
open Idealize.ShloMosaic Idealize.ShloMosaic.TcCoe Idealize.SL.Sem
open Idealize.ShloMosaic.Pipeline (Dat)
namespace Cert.FcRefIdeal.Value
open Cert.FcRefIdeal Cert.FcRefIdeal.Gen

/-- The scaled product of the whole arrays, at row `r`, column `j`. -/
def linG (x : Vec Ideal S7680x7680 .fp8e4m3) (xs : Vec Ideal S7680x1 .f32) (w : Vec Ideal S7680x2560 .fp8e4m3) (s : Vec Ideal S1x2560 .f32) (r : Fin 7680) (j : Fin 2560) : EReal :=
  (∑ k : Fin 7680, (x (ix2 r k) : EReal) * w (ix2 k j)) * xs (ix2 r 0) * s (ix2 0 j)

variable (x : Vec Ideal S7680x7680 .fp8e4m3) (xs : Vec Ideal S7680x1 .f32) (w : Vec Ideal S7680x2560 .fp8e4m3) (s : Vec Ideal S1x2560 .f32) (e : Vec Ideal S7680x2560 .i8) (es : Vec Ideal S7680x1 .f32) (we : Vec Ideal S1x2560 .f32) (wh : Vec Ideal S1x2560 .f32) (r : Fin 7680)

/-- The offsets of a whole array. -/
theorem hz : (![0, 0] : Fin 2 → ℕ) = fun _ => 0 := by
  funext i
  fin_cases i <;> rfl

/-- The rows, from the whole arrays. -/
theorem whole8 : k0_pay8 (F := Ideal) x xs w s e es we wh = k0_pay5 x xs w s := by
  unfold k0_pay8
  rw [View.ld_unit_zero (S := S7680x7680) hz _ x, View.ld_unit_zero (S := S7680x1) hz _ xs, View.ld_unit_zero (S := S7680x2560) hz _ w, View.ld_unit_zero (S := S1x2560) hz _ s]

/-- The normed embeddings, from the whole arrays. -/
theorem whole9 : k0_pay9 (F := Ideal) x xs w s e es we wh = k0_pay6 e es we := by
  unfold k0_pay9
  rw [View.ld_unit_zero (S := S7680x2560) hz _ e, View.ld_unit_zero (S := S7680x1) hz _ es, View.ld_unit_zero (S := S1x2560) hz _ we]

/-- The mean squares, from the whole arrays. -/
theorem whole10 : k0_pay10 (F := Ideal) x xs w s e es we wh = k0_pay7 x xs w s := by
  unfold k0_pay10
  rw [View.ld_unit_zero (S := S7680x7680) hz _ x, View.ld_unit_zero (S := S7680x1) hz _ xs, View.ld_unit_zero (S := S7680x2560) hz _ w, View.ld_unit_zero (S := S1x2560) hz _ s]

/-- The reference's rows at an index. -/
theorem ref_lin (j : Fin 2560) : k0_pay5 (F := Ideal) x xs w s (ix2 r j) = linG x xs w s r j := by
  pointwise [k0_pay5, linG]

/-- The reference's first result at an index. -/
theorem ref_out (j : Fin 2560) : G8 x xs w s e es we wh (ix2 r j) = linG x xs w s r j := ref_lin x xs w s r j

/-- The rows and embeddings behind the layer input, at an index. -/
theorem ref_xcongr : Cert.Layer.scale (fun j => (mulf (sitofp (F := Ideal) .f32 e) (broadcastTo S7680x2560 es broadcasts_S7680x1_S7680x2560)) (ix2 r j)) (fun j => we (ix2 0 j)) (fun j => (k0_pay5 (F := Ideal) x xs w s) (ix2 r j)) (fun j => wh (ix2 0 j))
    = Cert.Layer.scale (fun j => Cert.Layer.emb (e (ix2 r j)) (es (ix2 r 0))) (fun j => we (ix2 0 j)) (linG x xs w s r) (fun j => wh (ix2 0 j)) :=
  Cert.Layer.scale_congr (fun j => Cert.Layer.emb_pt e es _ r j) (fun j => rfl) (fun j => ref_lin x xs w s r j) (fun j => rfl)

/-- The reference's scale of the layer input at a row. -/
theorem ref_xscale : k0_pay2 (k0_pay5 (F := Ideal) x xs w s) (k0_pay6 (F := Ideal) e es we) wh (k0_pay7 (F := Ideal) x xs w s) (Scalar.ofBits (F := Ideal) .f32 0x3727C5AC#32) (ix1 r)
    = Cert.Layer.scale (fun j => (mulf (sitofp (F := Ideal) .f32 e) (broadcastTo S7680x2560 es broadcasts_S7680x1_S7680x2560)) (ix2 r j)) (fun j => we (ix2 0 j)) (fun j => (k0_pay5 (F := Ideal) x xs w s) (ix2 r j)) (fun j => wh (ix2 0 j)) :=
  Cert.Layer.scalesD_eq (mulf (sitofp (F := Ideal) .f32 e) (broadcastTo S7680x2560 es broadcasts_S7680x1_S7680x2560)) (k0_pay5 (F := Ideal) x xs w s) we wh _ _ _ _ _ _ concatenates_S7680x2560_S7680x2560_S7680x5120_d1 reduces_S7680x5120_S7680 (.inl rfl) rfl r

/-- The reference's codes of the layer input at an index. -/
theorem ref_xcodes (k : Fin 5120) : G9 x xs w s e es we wh (ix2 r k) = Cert.Layer.code (fun j => Cert.Layer.emb (e (ix2 r j)) (es (ix2 r 0))) (fun j => we (ix2 0 j)) (linG x xs w s r) (fun j => wh (ix2 0 j)) k := by
  unfold G9
  rw [whole8, whole9, whole10]
  refine (Cert.Layer.codesD_eq (mulf (sitofp (F := Ideal) .f32 e) (broadcastTo S7680x2560 es broadcasts_S7680x1_S7680x2560)) (k0_pay5 (F := Ideal) x xs w s) we wh (k0_pay2 (k0_pay5 (F := Ideal) x xs w s) (k0_pay6 (F := Ideal) e es we) wh (k0_pay7 (F := Ideal) x xs w s) (Scalar.ofBits (F := Ideal) .f32 0x3727C5AC#32)) _ _ _ _ _ _ concatenates_S7680x2560_S7680x2560_S7680x5120_d1 _ _ r k (ref_xscale x xs w s e es we wh r)).trans ?_
  exact Cert.Layer.code_congr (fun j => Cert.Layer.emb_pt e es _ r j) (fun j => rfl) (fun j => ref_lin x xs w s r j) (fun j => rfl) rfl

/-- The reference's scales of the layer input, as the column it writes. -/
theorem ref_xscales : G10 x xs w s e es we wh (ix2 r 0) = Cert.Layer.scale (fun j => Cert.Layer.emb (e (ix2 r j)) (es (ix2 r 0))) (fun j => we (ix2 0 j)) (linG x xs w s r) (fun j => wh (ix2 0 j)) := by
  unfold G10
  rw [whole8, whole9, whole10]
  refine Eq.trans ?_ ((ref_xscale x xs w s e es we wh r).trans (ref_xcongr x xs w s e es we wh r))
  unfold k0_pay4
  generalize k0_pay2 (k0_pay5 (F := Ideal) x xs w s) (k0_pay6 (F := Ideal) e es we) wh (k0_pay7 (F := Ideal) x xs w s) (Scalar.ofBits (F := Ideal) .f32 0x3727C5AC#32) = q
  exact Cert.Tile.col_pt q _ r

end Cert.FcRefIdeal.Value

end
-- ==== Proof.Fc.Final.lean ====
module

public import proofs.«01_k».proof.Proof.Fc.Ideal.Frame
public import proofs.«01_k».proof.Proof.Fc.Step
public import proofs.«01_k».proof.Proof.Fc.Ref

/-! The first projection kernel's three result arrays are the reference's: every block of 256 rows is written one grid point
    after its products were computed. -/

@[expose] public section

set_option maxRecDepth 16384

noncomputable section
open Idealize.ShloMosaic Idealize.ShloMosaic.TcCoe Idealize.SL.Sem
open Idealize.ShloMosaic.Pipeline (Dat)
namespace Cert.FcIdeal.Value
open Cert.FcIdeal Cert.FcIdeal.Gen
open Cert.FcRefIdeal.Value (linG)
variable (m : (ℓ : Loc nD τ sig) → Buf (Elt Ideal) ℓ)

/-- The windows' index maps: the row blocks of the operands advance with the point and stay at the last, the
    weights and gains are whole, the embeddings and the results lag one point behind. -/
theorem idx : ∀ t : Fin cfg0.N, win0_0.index t = ![min t.val 29, 0] ∧ win0_1.index t = ![min t.val 29, 0] ∧ win0_2.index t = ![0, 0]
    ∧ win0_3.index t = ![0, 0] ∧ win0_4.index t = ![t.val - 1, 0] ∧ win0_5.index t = ![t.val - 1, 0]
    ∧ win0_6.index t = ![0, 0] ∧ win0_7.index t = ![0, 0] ∧ win0_8.index t = ![t.val - 1, 0]
    ∧ win0_9.index t = ![t.val - 1, 0] ∧ win0_10.index t = ![t.val - 1, 0] :=
  (by decide +kernel : ∀ t : Fin grid0.N, _)

/-- The results' blocks are written back at every point but the first. -/
theorem flush_pos : ∀ t : Fin cfg0.N, ((cfg0.win 8).flush t = true → t.val ≠ 0) ∧ ((cfg0.win 9).flush t = true → t.val ≠ 0) ∧ ((cfg0.win 10).flush t = true → t.val ≠ 0) :=
  (by decide +kernel : ∀ t : Fin grid0.N, _)

/-- The rows computed at point `s`, read from the whole arrays. -/
theorem lin_read (c : Dev nD) (s : Fin cfg0.N) (hs : s.val < 30) (r : Fin 256) (j : Fin 2560) :
    lin (iblk m c 0 s) (iblk m c 1 s) (iblk m c 2 s) (iblk m c 3 s) r j
      = linG (m ((c : Thread nD τ).loc main_arg0)) (m ((c : Thread nD τ).loc main_arg1)) (m ((c : Thread nD τ).loc main_arg2)) (m ((c : Thread nD τ).loc main_arg3))
          ⟨256 * s.val + r.val, by omega⟩ j := by
  unfold lin linG
  blk_point [iblk, V, idx s]

/-- The embeddings' gain, read from the whole array. -/
theorem we_read (c : Dev nD) (t : Fin cfg0.N) (k : Fin 2560) :
    iblk m c 6 t (ix2 0 k) = m ((c : Thread nD τ).loc main_arg6) (ix2 0 k) := by
  blk_point [iblk, V, idx t]

/-- The gain of the layer input's rows, read from the whole array. -/
theorem wh_read (c : Dev nD) (t : Fin cfg0.N) (k : Fin 2560) :
    iblk m c 7 t (ix2 0 k) = m ((c : Thread nD τ).loc main_arg7) (ix2 0 k) := by
  blk_point [iblk, V, idx t]

/-- The embeddings a later point reads, from the whole arrays. -/
theorem emb_read (c : Dev nD) (t : Fin cfg0.N) (hN : t.val < 31) (r : Fin 256) (j : Fin 2560) :
    Cert.Layer.emb (iblk m c 4 t (ix2 r j)) (iblk m c 5 t (ix2 r 0))
      = Cert.Layer.emb (m ((c : Thread nD τ).loc main_arg4) (ix2 ⟨256 * (t.val - 1) + r.val, by omega⟩ j))
          (m ((c : Thread nD τ).loc main_arg5) (ix2 ⟨256 * (t.val - 1) + r.val, by omega⟩ 0)) := by
  refine congrArg₂ Cert.Layer.emb ?_ ?_
  · blk_point [iblk, V, idx t]
  · blk_point [iblk, V, idx t]

/-- The staged rows, whichever point computed them. -/
theorem g_at (c : Dev nD) (s : Fin cfg0.N) (hs : s.val < 30) (y : S256x2560.Idx) :
    (outsAt0 m c s.val s.isLt).2.2.2 y
      = lin (iblk m c 0 s) (iblk m c 1 s) (iblk m c 2 s) (iblk m c 3 s) (y 0) (y 1) := by
  by_cases h0 : s.val % 31 = 0
  · exact g_A m c s h0 hs (by omega) y
  · exact g_B m c s h0 hs (by omega) y

/-- The rows any later point writes. -/
theorem out_at (c : Dev nD) (t : Fin cfg0.N) (ht : t.val ≠ 0) (y : S256x2560.Idx) :
    (outsAt0 m c t.val t.isLt).1 y = prev m c t y := by
  have hN : t.val < 31 := t.isLt
  by_cases h1 : t.val < 30
  · exact congrFun (out_B m c t (by omega) h1 (by omega)) y
  · exact congrFun (out_C m c t (by omega) h1 (by omega)) y

/-- The codes of the layer input any later point writes. -/
theorem xcodes_at (c : Dev nD) (t : Fin cfg0.N) (ht : t.val ≠ 0) (y : S256x5120.Idx) :
    (outsAt0 m c t.val t.isLt).2.1 y = xcodesAt (iblk m c 4 t) (iblk m c 5 t) (iblk m c 6 t) (iblk m c 7 t) (prev m c t) y := by
  have hN : t.val < 31 := t.isLt
  by_cases h1 : t.val < 30
  · exact xcodes_B m c t (by omega) h1 (by omega) y
  · exact xcodes_C m c t (by omega) h1 (by omega) y

/-- The scales of the layer input any later point writes. -/
theorem xscales_at (c : Dev nD) (t : Fin cfg0.N) (ht : t.val ≠ 0) (y : S256x1.Idx) :
    (outsAt0 m c t.val t.isLt).2.2.1 y = xscaleAt (iblk m c 4 t) (iblk m c 5 t) (iblk m c 6 t) (iblk m c 7 t) (prev m c t) y := by
  have hN : t.val < 31 := t.isLt
  by_cases h1 : t.val < 30
  · exact xscales_B m c t (by omega) h1 (by omega) y
  · exact xscales_C m c t (by omega) h1 (by omega) y

/-- The array of rows is the reference's. -/
theorem final8 (c : Dev nD) : (dats m 0 c).arrAt 8 (cfgs 0).N
    = Cert.FcRefIdeal.Value.G8 (m ((c : Thread nD τ).loc main_arg0)) (m ((c : Thread nD τ).loc main_arg1)) (m ((c : Thread nD τ).loc main_arg2)) (m ((c : Thread nD τ).loc main_arg3))
      (m ((c : Thread nD τ).loc main_arg4)) (m ((c : Thread nD τ).loc main_arg5)) (m ((c : Thread nD τ).loc main_arg6)) (m ((c : Thread nD τ).loc main_arg7)) := by
  refine (dats m 0 c).arrAt_eq_of_covers 8 _ (by decide +kernel) fun t hf y => ?_
  have ht := (flush_pos t).1 hf
  have hN : t.val < 31 := t.isLt
  have hs : t.val - 1 < 30 := by omega
  have hs' : t.val - 1 < cfg0.N := by show t.val - 1 < 31; omega
  have hr : 256 * (t.val - 1) + (y 0).val < 7680 := by have h0 : (y 0).val < 256 := (y 0).isLt; omega
  have e : ((cfg0.win 8).blk t).view.emb y = (ix2 (⟨256 * (t.val - 1) + (y 0).val, hr⟩ : Fin 7680) (y 1 : Fin 2560) : S7680x2560.Idx) := by
    blk_ext [idx t]
  rw [e]
  blk_simp
  rw [after0_8]
  refine Eq.trans ?_ (Cert.FcRefIdeal.Value.ref_out _ _ _ _ _ _ _ _ _ _).symm
  exact (out_at m c t ht y).trans ((g_at m c ⟨t.val - 1, hs'⟩ hs y).trans (lin_read m c ⟨t.val - 1, hs'⟩ hs _ _))

/-- The array of the layer input's codes is the reference's. -/
theorem final9 (c : Dev nD) : (dats m 0 c).arrAt 9 (cfgs 0).N
    = Cert.FcRefIdeal.Value.G9 (m ((c : Thread nD τ).loc main_arg0)) (m ((c : Thread nD τ).loc main_arg1)) (m ((c : Thread nD τ).loc main_arg2)) (m ((c : Thread nD τ).loc main_arg3))
      (m ((c : Thread nD τ).loc main_arg4)) (m ((c : Thread nD τ).loc main_arg5)) (m ((c : Thread nD τ).loc main_arg6)) (m ((c : Thread nD τ).loc main_arg7)) := by
  refine (dats m 0 c).arrAt_eq_of_covers 9 _ (by decide +kernel) fun t hf y => ?_
  have ht := (flush_pos t).2.1 hf
  have hN : t.val < 31 := t.isLt
  have hs : t.val - 1 < 30 := by omega
  have hs' : t.val - 1 < cfg0.N := by show t.val - 1 < 31; omega
  have hr : 256 * (t.val - 1) + (y 0).val < 7680 := by have h0 : (y 0).val < 256 := (y 0).isLt; omega
  have e : ((cfg0.win 9).blk t).view.emb y = (ix2 (⟨256 * (t.val - 1) + (y 0).val, hr⟩ : Fin 7680) (y 1 : Fin 5120) : S7680x5120.Idx) := by
    blk_ext [idx t]
  rw [e]
  blk_simp
  rw [after0_9]
  refine (xcodes_at m c t ht y).trans ?_
  refine Eq.trans ?_ (Cert.FcRefIdeal.Value.ref_xcodes _ _ _ _ _ _ _ _ _ _).symm
  refine Cert.Layer.code_congr (fun j => emb_read m c t hN _ j) (fun j => we_read m c t j) (fun j => ?_) (fun j => wh_read m c t j) rfl
  exact (g_at m c ⟨t.val - 1, hs'⟩ hs _).trans (lin_read m c ⟨t.val - 1, hs'⟩ hs _ _)

/-- The array of the layer input's scales is the reference's. -/
theorem final10 (c : Dev nD) : (dats m 0 c).arrAt 10 (cfgs 0).N
    = Cert.FcRefIdeal.Value.G10 (m ((c : Thread nD τ).loc main_arg0)) (m ((c : Thread nD τ).loc main_arg1)) (m ((c : Thread nD τ).loc main_arg2)) (m ((c : Thread nD τ).loc main_arg3))
      (m ((c : Thread nD τ).loc main_arg4)) (m ((c : Thread nD τ).loc main_arg5)) (m ((c : Thread nD τ).loc main_arg6)) (m ((c : Thread nD τ).loc main_arg7)) := by
  refine (dats m 0 c).arrAt_eq_of_covers 10 _ (by decide +kernel) fun t hf y => ?_
  have ht := (flush_pos t).2.2 hf
  have hN : t.val < 31 := t.isLt
  have hs : t.val - 1 < 30 := by omega
  have hs' : t.val - 1 < cfg0.N := by show t.val - 1 < 31; omega
  have hr : 256 * (t.val - 1) + (y 0).val < 7680 := by have h0 : (y 0).val < 256 := (y 0).isLt; omega
  have e : ((cfg0.win 10).blk t).view.emb y = (ix2 (⟨256 * (t.val - 1) + (y 0).val, hr⟩ : Fin 7680) (0 : Fin 1) : S7680x1.Idx) := by
    blk_ext [idx t]
  rw [e]
  blk_simp
  rw [after0_10]
  refine (xscales_at m c t ht y).trans ?_
  refine Eq.trans ?_ (Cert.FcRefIdeal.Value.ref_xscales _ _ _ _ _ _ _ _ _).symm
  refine Cert.Layer.scale_congr (fun j => emb_read m c t hN _ j) (fun j => we_read m c t j) (fun j => ?_) (fun j => wh_read m c t j)
  exact (g_at m c ⟨t.val - 1, hs'⟩ hs _).trans (lin_read m c ⟨t.val - 1, hs'⟩ hs _ _)

end Cert.FcIdeal.Value

end
-- ==== Proof.Down.Bits.Runs.lean ====
module

public import proofs.«01_k».proof.Proof.Gen.Down.Launch
public import proofs.«01_k».proof.Proof.Gen.Down.Skeleton
public import proofs.«01_k».proof.Proof.Gen.Down.Points
public import Idealize.ShloMosaic.Lib.Pipeline.FrameBody
public import Idealize.ShloMosaic.Lib.Ring
public import Idealize.ShloMosaic.Lib.Tactic
public import Idealize.ShloMosaic.Lib.WordCmp

/-! What the runs of the down projection's kernel share: the windows, the conditions, the staging buffers. The generated text, in its form that names nothing of the outputs' contents. -/

@[expose] public section

-- membership in a rectangle of production extents (`View.cover_of_tiled`): the elaborator's structural look
-- recurses once per coordinate of the long axes
set_option maxRecDepth 16384

noncomputable section

namespace Cert.Down.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: as launched (@main is the region alone). -/
abbrev V (c : Dev nD) (b : Ref sig .tc) : Buf (Elt F) ((c : Thread nD τ).loc b) := m ((c : Thread nD τ).loc b)

set_option maxHeartbeats 800000 in
/-- @main up to the region, at the certificate's variants `𝒱₀`: the region alone (`Pipeline.hmain_region` off
    `main_chain`). -/
theorem hmain (𝒱₀ : Variants) : Pipeline.HMain (Ix := Unit) (Name := ℕ) (U := UR sig nD τ) (Lvl := ℕ) cfgs 0 defs₀ 𝒱₀ m (main (F := F)) (V m) :=
  Pipeline.hmain_region cfgs 0 defs₀ 𝒱₀ m main fun c => (main_chain c).trans rfl

theorem V_main_arg0 (c : Dev nD) : V m c main_arg0 = m ((c : Thread nD τ).loc main_arg0) := rfl
theorem V_main_arg1 (c : Dev nD) : V m c main_arg1 = m ((c : Thread nD τ).loc main_arg1) := rfl
theorem V_main_arg2 (c : Dev nD) : V m c main_arg2 = m ((c : Thread nD τ).loc main_arg2) := rfl
theorem V_main_arg3 (c : Dev nD) : V m c main_arg3 = m ((c : Thread nD τ).loc main_arg3) := rfl
theorem V_main_arg4 (c : Dev nD) : V m c main_arg4 = m ((c : Thread nD τ).loc main_arg4) := rfl
theorem V_main_arg5 (c : Dev nD) : V m c main_arg5 = m ((c : Thread nD τ).loc main_arg5) := rfl
theorem V_main_arg6 (c : Dev nD) : V m c main_arg6 = m ((c : Thread nD τ).loc main_arg6) := rfl
theorem V_main_arg7 (c : Dev nD) : V m c main_arg7 = m ((c : Thread nD τ).loc main_arg7) := rfl
theorem V_main_arg8 (c : Dev nD) : V m c main_arg8 = m ((c : Thread nD τ).loc main_arg8) := rfl
theorem V_main_arg9 (c : Dev nD) : V m c main_arg9 = m ((c : Thread nD τ).loc main_arg9) := rfl

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
/-- Input window 8's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
/-- Input window 9's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`Cert.frame_Down`, Defs.lean, at any `F`). -/
theorem frame_of (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c => ⟨(Pipeline.RDat.FramePost.arr_in h c 0 rfl).trans ((hA c 0).trans (V_main_arg0 m c)),
      (Pipeline.RDat.FramePost.arr_in h c 1 rfl).trans ((hA c 1).trans (V_main_arg1 m c)),
      (Pipeline.RDat.FramePost.arr_in h c 2 rfl).trans ((hA c 2).trans (V_main_arg2 m c)),
      (Pipeline.RDat.FramePost.arr_in h c 3 rfl).trans ((hA c 3).trans (V_main_arg3 m c)),
      (Pipeline.RDat.FramePost.arr_in h c 4 rfl).trans ((hA c 4).trans (V_main_arg4 m c)),
      (Pipeline.RDat.FramePost.arr_in h c 5 rfl).trans ((hA c 5).trans (V_main_arg5 m c)),
      (Pipeline.RDat.FramePost.arr_in h c 6 rfl).trans ((hA c 6).trans (V_main_arg6 m c)),
      (Pipeline.RDat.FramePost.arr_in h c 7 rfl).trans ((hA c 7).trans (V_main_arg7 m c)),
      (Pipeline.RDat.FramePost.arr_in h c 8 rfl).trans ((hA c 8).trans (V_main_arg8 m c)),
      (Pipeline.RDat.FramePost.arr_in h c 9 rfl).trans ((hA c 9).trans (V_main_arg9 m c))⟩) h

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 0).val) 0#32)) 0#32) = 1#1
/-- It holds at the first point only — by arithmetic of the point. -/
theorem hcond0_0 : ∀ t : Fin cfg0.N, cond0_0 (grid0.coords t) ↔ t.val % 31 = 0 :=
  (fun t => by
    have ht : t.val < 31 := Nat.lt_of_lt_of_eq t.isLt N_0
    have e0 : (grid0.coords t 0).val = t.val / 1 % 31 := Pipeline.Grid.coords_val t 0 (by decide) rfl
    simp only [cond0_0, e0]
    word_cmp
   : ∀ t : Fin grid0.N, cond0_0 (grid0.coords t) ↔ t.val % 31 = 0)

/-- The condition of the body's `scf.if` 1 (`k0_h2`), from the grid coordinates (the skeleton's scalar
    chain substituted). -/
abbrev cond0_1 (i : grid0.Coords) : Prop := k0_cond2 i = 1#1
/-- It holds at the points before point 30 — decided over the grid. -/
theorem hcond0_1 : ∀ t : Fin cfg0.N, cond0_1 (grid0.coords t) ↔ t.val < 30 :=
  (by decide +kernel : ∀ t : Fin grid0.N, cond0_1 (grid0.coords t) ↔ t.val < 30)

/-- The condition of the body's `scf.if` 2 (`k0_h3`), from the grid coordinates (the skeleton's scalar
    chain substituted). -/
abbrev cond0_2 (i : grid0.Coords) : Prop := k0_cond3 i = 1#1
/-- It holds at the last point only — by arithmetic of the point. -/
theorem hcond0_2 : ∀ t : Fin cfg0.N, cond0_2 (grid0.coords t) ↔ t.val % 31 = 30 :=
  (fun t => by
    have ht : t.val < 31 := Nat.lt_of_lt_of_eq t.isLt N_0
    have e0 : (grid0.coords t 0).val = t.val / 1 % 31 := Pipeline.Grid.coords_val t 0 (by decide) rfl
    simp only [cond0_2, k0_cond3, e0]
    word_cmp
   : ∀ t : Fin grid0.N, cond0_2 (grid0.coords t) ↔ t.val % 31 = 30)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 5 is never idle (an input). -/
theorem liveAt0_5 : ∀ t : Fin cfg0.N, cfg0.idle 5 (grid0.coords t) = false := fun _ => rfl
/-- Window 6 is never idle (an input). -/
theorem liveAt0_6 : ∀ t : Fin cfg0.N, cfg0.idle 6 (grid0.coords t) = false := fun _ => rfl
/-- Window 7 is never idle (an input). -/
theorem liveAt0_7 : ∀ t : Fin cfg0.N, cfg0.idle 7 (grid0.coords t) = false := fun _ => rfl
/-- Window 8 is never idle (an input). -/
theorem liveAt0_8 : ∀ t : Fin cfg0.N, cfg0.idle 8 (grid0.coords t) = false := fun _ => rfl
/-- Window 9 is never idle (an input). -/
theorem liveAt0_9 : ∀ t : Fin cfg0.N, cfg0.idle 9 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .vmem S256x9728 .fp8e4m3 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S256x1 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S9728x2560 .fp8e4m3 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x2560 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S256x2560 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x2560 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S256x2560 .i8 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S256x1 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x2560 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x2560 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S256x2560 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S256x2560 .fp8e4m3 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S256x1 .f32 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S256x5120 .fp8e4m3 := win0_13.stage (cfg0.slots t 13)
abbrev hs0_13 (t : Fin cfg0.N) : (ms0_13 t).IsWhole := hstage0_13 ((cfg0.slots t 13).cast nbuf0_13)
abbrev ms0_14 (t : Fin cfg0.N) : Memref sig .tc .vmem S256x1 .f32 := win0_14.stage (cfg0.slots t 14)
abbrev hs0_14 (t : Fin cfg0.N) : (ms0_14 t).IsWhole := hstage0_14 ((cfg0.slots t 14).cast nbuf0_14)
/-- The scratch operands: whole scoped buffers of the kernel's own, passed beside the windows. -/
abbrev scM0_0 : Memref sig .tc .vmem S256x2560 .f32 := Memref.whole cc0_scratch0
abbrev scM0_1 : Memref sig .tc .vmem S256x2560 .f32 := Memref.whole cc0_scratch1
/-- The scratch `arg16` the kernel carries between points, as a view: what it holds is stated through it. -/
abbrev VS0_0 : View sig .tc .vmem S256x2560 .f32 := scM0_0.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.Down.Gen

end
-- ==== Proof.Down.Bits.RunA.lean ====
module

public import proofs.«01_k».proof.Proof.Down.Bits.Runs

/-! The run of the down projection's kernel at the first point of its grid: the generated text. -/

@[expose] public section

-- membership in a rectangle of production extents (`View.cover_of_tiled`): the elaborator's structural look
-- recurses once per coordinate of the long axes
set_option maxRecDepth 16384

noncomputable section

namespace Cert.Down.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1312000 in
/-- What the body's stores leave in each output's staging memref, as pieces (last first) IN CASE A (`scf.if` 0 taken, `scf.if` 1 taken, `scf.if` 2 not taken: points 0), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). Here also the FORGOTTEN outputs' (10, 11, 12, 13, 14) at anything, handed back at some contents nothing names. -/
noncomputable def kernelRun0_A (c : Dev nD) (i : grid0.Coords) (arg1 : Memref sig .tc .vmem S256x9728 .fp8e4m3) (harg1 : arg1.IsWhole) (arg2 : Memref sig .tc .vmem S256x1 .f32) (harg2 : arg2.IsWhole) (arg3 : Memref sig .tc .vmem S9728x2560 .fp8e4m3) (harg3 : arg3.IsWhole) (arg4 : Memref sig .tc .vmem S1x2560 .f32) (harg4 : arg4.IsWhole) (arg5 : Memref sig .tc .vmem S256x2560 .f32) (harg5 : arg5.IsWhole) (arg6 : Memref sig .tc .vmem S1x2560 .f32) (harg6 : arg6.IsWhole) (arg7 : Memref sig .tc .vmem S256x2560 .i8) (harg7 : arg7.IsWhole) (arg8 : Memref sig .tc .vmem S256x1 .f32) (harg8 : arg8.IsWhole) (arg9 : Memref sig .tc .vmem S1x2560 .f32) (harg9 : arg9.IsWhole) (arg10 : Memref sig .tc .vmem S1x2560 .f32) (harg10 : arg10.IsWhole) (arg11 : Memref sig .tc .vmem S256x2560 .f32) (harg11 : arg11.IsWhole) (arg12 : Memref sig .tc .vmem S256x2560 .fp8e4m3) (harg12 : arg12.IsWhole) (arg13 : Memref sig .tc .vmem S256x1 .f32) (harg13 : arg13.IsWhole) (arg14 : Memref sig .tc .vmem S256x5120 .fp8e4m3) (harg14 : arg14.IsWhole) (arg15 : Memref sig .tc .vmem S256x1 .f32) (harg15 : arg15.IsWhole) (arg16 : Memref sig .tc .vmem S256x2560 .f32) (harg16 : arg16.IsWhole) (arg17 : Memref sig .tc .vmem S256x2560 .f32) (harg17 : arg17.IsWhole) (hc0 : cond0_0 i) (hc1 : cond0_1 i) (hc2 : ¬cond0_2 i)
    (x0 : Vec F S256x9728 .fp8e4m3) (x1 : Vec F S256x1 .f32) (x2 : Vec F S9728x2560 .fp8e4m3) (x3 : Vec F S1x2560 .f32) (x4 : Vec F S256x2560 .f32) (x5 : Vec F S1x2560 .f32) (x6 : Vec F S256x2560 .i8) (x7 : Vec F S256x1 .f32) (x8 : Vec F S1x2560 .f32) (x9 : Vec F S1x2560 .f32) :
    { LS0 : List (View.Piece (Elt F) S256x2560 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ f, arg16.view.loc (c : Thread nD τ) ↦[arg16.view.set]{fullShare} arg16.view.writes (Elt F) f LS0) ∗ (∃ d, owns (c : Thread nD τ) arg17 fullShare d)) -∗ K ⟨⟩))
          ⊢ wp frame (wpE (defs₀ (F := F)) Variants.none c none) E (cc0_down i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K } := by
  refine ⟨?_, fun E K => ?run⟩
  case run =>
    simp only [cc0_down_eq_skeleton]; unfold cc0_down_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%d12, %f12, -, H12⟩, ⟨%d13, %f13, -, H13⟩, ⟨%d14, %f14, -, H14⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9
    sl_exec (disch := first | sl_exact hc0 | sl_exact hc1 | sl_exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _, _; isplitr; swap; · iexact H10
      ipureintro; rfl
    isplitl [H11]
    · iexists _, _; isplitr; swap; · iexact H11
      ipureintro; rfl
    isplitl [H12]
    · iexists _, _; isplitr; swap; · iexact H12
      ipureintro; rfl
    isplitl [H13]
    · iexists _, _; isplitr; swap; · iexact H13
      ipureintro; rfl
    isplitl [H14]
    · iexists _, _; isplitr; swap; · iexact H14
      ipureintro; rfl
    isplitl [HS0]; · iexists _; iexact HS0
    iexists _, _; isplitr; swap; · iexact HS1
    ipureintro; rfl

end Cert.Down.Gen

end
-- ==== Proof.Down.Bits.RunB.lean ====
module

public import proofs.«01_k».proof.Proof.Down.Bits.RunA

/-! The run of the down projection's kernel at a middle point of its grid: the generated text. -/

@[expose] public section

-- membership in a rectangle of production extents (`View.cover_of_tiled`): the elaborator's structural look
-- recurses once per coordinate of the long axes
set_option maxRecDepth 16384

noncomputable section

namespace Cert.Down.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1300000 in
/-- What the body's stores leave in each output's staging memref, as pieces (last first) IN CASE B (`scf.if` 0 not taken, `scf.if` 1 taken, `scf.if` 2 not taken: points 1, 2, … 29: 29 of 31), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). Here also the FORGOTTEN outputs' (10, 11, 12, 13, 14) at anything, handed back at some contents nothing names. -/
noncomputable def kernelRun0_B (c : Dev nD) (i : grid0.Coords) (arg1 : Memref sig .tc .vmem S256x9728 .fp8e4m3) (harg1 : arg1.IsWhole) (arg2 : Memref sig .tc .vmem S256x1 .f32) (harg2 : arg2.IsWhole) (arg3 : Memref sig .tc .vmem S9728x2560 .fp8e4m3) (harg3 : arg3.IsWhole) (arg4 : Memref sig .tc .vmem S1x2560 .f32) (harg4 : arg4.IsWhole) (arg5 : Memref sig .tc .vmem S256x2560 .f32) (harg5 : arg5.IsWhole) (arg6 : Memref sig .tc .vmem S1x2560 .f32) (harg6 : arg6.IsWhole) (arg7 : Memref sig .tc .vmem S256x2560 .i8) (harg7 : arg7.IsWhole) (arg8 : Memref sig .tc .vmem S256x1 .f32) (harg8 : arg8.IsWhole) (arg9 : Memref sig .tc .vmem S1x2560 .f32) (harg9 : arg9.IsWhole) (arg10 : Memref sig .tc .vmem S1x2560 .f32) (harg10 : arg10.IsWhole) (arg11 : Memref sig .tc .vmem S256x2560 .f32) (harg11 : arg11.IsWhole) (arg12 : Memref sig .tc .vmem S256x2560 .fp8e4m3) (harg12 : arg12.IsWhole) (arg13 : Memref sig .tc .vmem S256x1 .f32) (harg13 : arg13.IsWhole) (arg14 : Memref sig .tc .vmem S256x5120 .fp8e4m3) (harg14 : arg14.IsWhole) (arg15 : Memref sig .tc .vmem S256x1 .f32) (harg15 : arg15.IsWhole) (arg16 : Memref sig .tc .vmem S256x2560 .f32) (harg16 : arg16.IsWhole) (arg17 : Memref sig .tc .vmem S256x2560 .f32) (harg17 : arg17.IsWhole) (hc0 : ¬cond0_0 i) (hc1 : cond0_1 i) (hc2 : ¬cond0_2 i)
    (x0 : Vec F S256x9728 .fp8e4m3) (x1 : Vec F S256x1 .f32) (x2 : Vec F S9728x2560 .fp8e4m3) (x3 : Vec F S1x2560 .f32) (x4 : Vec F S256x2560 .f32) (x5 : Vec F S1x2560 .f32) (x6 : Vec F S256x2560 .i8) (x7 : Vec F S256x1 .f32) (x8 : Vec F S1x2560 .f32) (x9 : Vec F S1x2560 .f32) (xs0 : Vec F S256x2560 .f32) :
    { LS0 : List (View.Piece (Elt F) S256x2560 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ owns (c : Thread nD τ) arg16 fullShare xs0 ∗ (∃ d, owns (c : Thread nD τ) arg17 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ f, arg16.view.loc (c : Thread nD τ) ↦[arg16.view.set]{fullShare} arg16.view.writes (Elt F) f LS0) ∗ (∃ d, owns (c : Thread nD τ) arg17 fullShare d)) -∗ K ⟨⟩))
          ⊢ wp frame (wpE (defs₀ (F := F)) Variants.none c none) E (cc0_down i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K } := by
  refine ⟨?_, fun E K => ?run⟩
  case run =>
    simp only [cc0_down_eq_skeleton]; unfold cc0_down_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%d12, %f12, -, H12⟩, ⟨%d13, %f13, -, H13⟩, ⟨%d14, %f14, -, H14⟩, ⟨%fs0, %hfs0, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg16.eq_unread hfs0
    sl_exec (disch := first | sl_exact hc0 | sl_exact hc1 | sl_exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _, _; isplitr; swap; · iexact H10
      ipureintro; rfl
    isplitl [H11]
    · iexists _, _; isplitr; swap; · iexact H11
      ipureintro; rfl
    isplitl [H12]
    · iexists _, _; isplitr; swap; · iexact H12
      ipureintro; rfl
    isplitl [H13]
    · iexists _, _; isplitr; swap; · iexact H13
      ipureintro; rfl
    isplitl [H14]
    · iexists _, _; isplitr; swap; · iexact H14
      ipureintro; rfl
    isplitl [HS0]; · iexists _; iexact HS0
    iexists _, _; isplitr; swap; · iexact HS1
    ipureintro; rfl

end Cert.Down.Gen

end
-- ==== Proof.Down.Bits.RunC.lean ====
module

public import proofs.«01_k».proof.Proof.Down.Bits.RunB

/-! The run of the down projection's kernel at the last point of its grid, where only the rows of the point before are written out: the generated text of this run, but for one step, which rewrites the printed parts by `dsimp` and not by `simp` (which does not end on them). -/

@[expose] public section

-- membership in a rectangle of production extents (`View.cover_of_tiled`): the elaborator's structural look
-- recurses once per coordinate of the long axes
set_option maxRecDepth 16384

noncomputable section

namespace Cert.Down.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- What the body's stores leave in each output's staging memref, as pieces (last first) IN CASE C (`scf.if` 0 not taken, `scf.if` 1 not taken, `scf.if` 2 taken: points 30), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). Here also the FORGOTTEN outputs' (10, 11, 12, 13, 14) at anything, handed back at some contents nothing names. -/
noncomputable def kernelRun0_C (c : Dev nD) (i : grid0.Coords) (arg1 : Memref sig .tc .vmem S256x9728 .fp8e4m3) (harg1 : arg1.IsWhole) (arg2 : Memref sig .tc .vmem S256x1 .f32) (harg2 : arg2.IsWhole) (arg3 : Memref sig .tc .vmem S9728x2560 .fp8e4m3) (harg3 : arg3.IsWhole) (arg4 : Memref sig .tc .vmem S1x2560 .f32) (harg4 : arg4.IsWhole) (arg5 : Memref sig .tc .vmem S256x2560 .f32) (harg5 : arg5.IsWhole) (arg6 : Memref sig .tc .vmem S1x2560 .f32) (harg6 : arg6.IsWhole) (arg7 : Memref sig .tc .vmem S256x2560 .i8) (harg7 : arg7.IsWhole) (arg8 : Memref sig .tc .vmem S256x1 .f32) (harg8 : arg8.IsWhole) (arg9 : Memref sig .tc .vmem S1x2560 .f32) (harg9 : arg9.IsWhole) (arg10 : Memref sig .tc .vmem S1x2560 .f32) (harg10 : arg10.IsWhole) (arg11 : Memref sig .tc .vmem S256x2560 .f32) (harg11 : arg11.IsWhole) (arg12 : Memref sig .tc .vmem S256x2560 .fp8e4m3) (harg12 : arg12.IsWhole) (arg13 : Memref sig .tc .vmem S256x1 .f32) (harg13 : arg13.IsWhole) (arg14 : Memref sig .tc .vmem S256x5120 .fp8e4m3) (harg14 : arg14.IsWhole) (arg15 : Memref sig .tc .vmem S256x1 .f32) (harg15 : arg15.IsWhole) (arg16 : Memref sig .tc .vmem S256x2560 .f32) (harg16 : arg16.IsWhole) (arg17 : Memref sig .tc .vmem S256x2560 .f32) (harg17 : arg17.IsWhole) (hc0 : ¬cond0_0 i) (hc1 : ¬cond0_1 i) (hc2 : cond0_2 i)
    (x0 : Vec F S256x9728 .fp8e4m3) (x1 : Vec F S256x1 .f32) (x2 : Vec F S9728x2560 .fp8e4m3) (x3 : Vec F S1x2560 .f32) (x4 : Vec F S256x2560 .f32) (x5 : Vec F S1x2560 .f32) (x6 : Vec F S256x2560 .i8) (x7 : Vec F S256x1 .f32) (x8 : Vec F S1x2560 .f32) (x9 : Vec F S1x2560 .f32) (xs0 : Vec F S256x2560 .f32) :
    { LS0 : List (View.Piece (Elt F) S256x2560 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ owns (c : Thread nD τ) arg16 fullShare xs0 ∗ (∃ d, owns (c : Thread nD τ) arg17 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ owns (c : Thread nD τ) arg16 fullShare xs0 ∗ (∃ d, owns (c : Thread nD τ) arg17 fullShare d)) -∗ K ⟨⟩))
          ⊢ wp frame (wpE (defs₀ (F := F)) Variants.none c none) E (cc0_down i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K } := by
  refine ⟨[], fun E K => ?run⟩
  case run =>
    simp only [cc0_down_eq_skeleton]; unfold cc0_down_skel
    dsimp only [k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%d12, %f12, -, H12⟩, ⟨%d13, %f13, -, H13⟩, ⟨%d14, %f14, -, H14⟩, ⟨%fs0, %hfs0, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg16.eq_unread hfs0
    sl_exec (disch := first | sl_exact hc0 | sl_exact hc1 | sl_exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _, _; isplitr; swap; · iexact H10
      ipureintro; rfl
    isplitl [H11]
    · iexists _, _; isplitr; swap; · iexact H11
      ipureintro; rfl
    isplitl [H12]
    · iexists _, _; isplitr; swap; · iexact H12
      ipureintro; rfl
    isplitl [H13]
    · iexists _, _; isplitr; swap; · iexact H13
      ipureintro; rfl
    isplitl [H14]
    · iexists _, _; isplitr; swap; · iexact H14
      ipureintro; rfl
    isplitl [HS0]
    · iexists _; isplitr; · ipureintro; exact harg16.read_unread _
      iexact HS0
    iexists _, _; isplitr; swap; · iexact HS1
    ipureintro; rfl

end Cert.Down.Gen

end
-- ==== Proof.Down.Bits.Frame.lean ====
module

public import proofs.«01_k».proof.Proof.Down.Bits.RunC
public import Idealize.ShloMosaic.Lib.Claim

/-! The frame of the down projection's kernel: the generated text over this directory's run of the last point. -/

@[expose] public section

-- membership in a rectangle of production extents (`View.cover_of_tiled`): the elaborator's structural look
-- recurses once per coordinate of the long axes
set_option maxRecDepth 16384

noncomputable section

namespace Cert.Down.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- Case A's pieces for scratch `arg16`, which the kernel carries between points, cover it: one of them a store of the WHOLE buffer (Lib/Ring.lean `sl_whole_mem`). -/
theorem scover0_A_0 (c : Dev nD) (i : grid0.Coords) (arg1 : Memref sig .tc .vmem S256x9728 .fp8e4m3) (harg1 : arg1.IsWhole) (arg2 : Memref sig .tc .vmem S256x1 .f32) (harg2 : arg2.IsWhole) (arg3 : Memref sig .tc .vmem S9728x2560 .fp8e4m3) (harg3 : arg3.IsWhole) (arg4 : Memref sig .tc .vmem S1x2560 .f32) (harg4 : arg4.IsWhole) (arg5 : Memref sig .tc .vmem S256x2560 .f32) (harg5 : arg5.IsWhole) (arg6 : Memref sig .tc .vmem S1x2560 .f32) (harg6 : arg6.IsWhole) (arg7 : Memref sig .tc .vmem S256x2560 .i8) (harg7 : arg7.IsWhole) (arg8 : Memref sig .tc .vmem S256x1 .f32) (harg8 : arg8.IsWhole) (arg9 : Memref sig .tc .vmem S1x2560 .f32) (harg9 : arg9.IsWhole) (arg10 : Memref sig .tc .vmem S1x2560 .f32) (harg10 : arg10.IsWhole) (arg11 : Memref sig .tc .vmem S256x2560 .f32) (harg11 : arg11.IsWhole) (arg12 : Memref sig .tc .vmem S256x2560 .fp8e4m3) (harg12 : arg12.IsWhole) (arg13 : Memref sig .tc .vmem S256x1 .f32) (harg13 : arg13.IsWhole) (arg14 : Memref sig .tc .vmem S256x5120 .fp8e4m3) (harg14 : arg14.IsWhole) (arg15 : Memref sig .tc .vmem S256x1 .f32) (harg15 : arg15.IsWhole) (arg16 : Memref sig .tc .vmem S256x2560 .f32) (harg16 : arg16.IsWhole) (arg17 : Memref sig .tc .vmem S256x2560 .f32) (harg17 : arg17.IsWhole) (hc0 : cond0_0 i) (hc1 : cond0_1 i) (hc2 : ¬cond0_2 i)
    (x0 : Vec F S256x9728 .fp8e4m3) (x1 : Vec F S256x1 .f32) (x2 : Vec F S9728x2560 .fp8e4m3) (x3 : Vec F S1x2560 .f32) (x4 : Vec F S256x2560 .f32) (x5 : Vec F S1x2560 .f32) (x6 : Vec F S256x2560 .i8) (x7 : Vec F S256x1 .f32) (x8 : Vec F S1x2560 .f32) (x9 : Vec F S1x2560 .f32) (y : S256x2560.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 x3 x4 x5 x6 x7 x8 x9).1, y ∈ pc.1.set :=
  View.cover_of_wholeMem (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 x3 x4 x5 x6 x7 x8 x9).1 (by sl_whole_mem) y

/-- What case A leaves in scratch `arg16`: its pieces read back over junk. -/
def sout0_A_0 (c : Dev nD) (i : grid0.Coords) (arg1 : Memref sig .tc .vmem S256x9728 .fp8e4m3) (harg1 : arg1.IsWhole) (arg2 : Memref sig .tc .vmem S256x1 .f32) (harg2 : arg2.IsWhole) (arg3 : Memref sig .tc .vmem S9728x2560 .fp8e4m3) (harg3 : arg3.IsWhole) (arg4 : Memref sig .tc .vmem S1x2560 .f32) (harg4 : arg4.IsWhole) (arg5 : Memref sig .tc .vmem S256x2560 .f32) (harg5 : arg5.IsWhole) (arg6 : Memref sig .tc .vmem S1x2560 .f32) (harg6 : arg6.IsWhole) (arg7 : Memref sig .tc .vmem S256x2560 .i8) (harg7 : arg7.IsWhole) (arg8 : Memref sig .tc .vmem S256x1 .f32) (harg8 : arg8.IsWhole) (arg9 : Memref sig .tc .vmem S1x2560 .f32) (harg9 : arg9.IsWhole) (arg10 : Memref sig .tc .vmem S1x2560 .f32) (harg10 : arg10.IsWhole) (arg11 : Memref sig .tc .vmem S256x2560 .f32) (harg11 : arg11.IsWhole) (arg12 : Memref sig .tc .vmem S256x2560 .fp8e4m3) (harg12 : arg12.IsWhole) (arg13 : Memref sig .tc .vmem S256x1 .f32) (harg13 : arg13.IsWhole) (arg14 : Memref sig .tc .vmem S256x5120 .fp8e4m3) (harg14 : arg14.IsWhole) (arg15 : Memref sig .tc .vmem S256x1 .f32) (harg15 : arg15.IsWhole) (arg16 : Memref sig .tc .vmem S256x2560 .f32) (harg16 : arg16.IsWhole) (arg17 : Memref sig .tc .vmem S256x2560 .f32) (harg17 : arg17.IsWhole) (hc0 : cond0_0 i) (hc1 : cond0_1 i) (hc2 : ¬cond0_2 i)
    (x0 : Vec F S256x9728 .fp8e4m3) (x1 : Vec F S256x1 .f32) (x2 : Vec F S9728x2560 .fp8e4m3) (x3 : Vec F S1x2560 .f32) (x4 : Vec F S256x2560 .f32) (x5 : Vec F S1x2560 .f32) (x6 : Vec F S256x2560 .i8) (x7 : Vec F S256x1 .f32) (x8 : Vec F S1x2560 .f32) (x9 : Vec F S1x2560 .f32) : Vec F S256x2560 .f32 :=
  VS0_0.read (Elt F) (VS0_0.writes (Elt F) VS0_0.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 x3 x4 x5 x6 x7 x8 x9).1)

/-- Case B's pieces for scratch `arg16`, which the kernel carries between points, cover it: 10 pieces of `S256x256` tiling it (Lib/Ring.lean `Piece.tiledL`). -/
theorem scover0_B_0 (c : Dev nD) (i : grid0.Coords) (arg1 : Memref sig .tc .vmem S256x9728 .fp8e4m3) (harg1 : arg1.IsWhole) (arg2 : Memref sig .tc .vmem S256x1 .f32) (harg2 : arg2.IsWhole) (arg3 : Memref sig .tc .vmem S9728x2560 .fp8e4m3) (harg3 : arg3.IsWhole) (arg4 : Memref sig .tc .vmem S1x2560 .f32) (harg4 : arg4.IsWhole) (arg5 : Memref sig .tc .vmem S256x2560 .f32) (harg5 : arg5.IsWhole) (arg6 : Memref sig .tc .vmem S1x2560 .f32) (harg6 : arg6.IsWhole) (arg7 : Memref sig .tc .vmem S256x2560 .i8) (harg7 : arg7.IsWhole) (arg8 : Memref sig .tc .vmem S256x1 .f32) (harg8 : arg8.IsWhole) (arg9 : Memref sig .tc .vmem S1x2560 .f32) (harg9 : arg9.IsWhole) (arg10 : Memref sig .tc .vmem S1x2560 .f32) (harg10 : arg10.IsWhole) (arg11 : Memref sig .tc .vmem S256x2560 .f32) (harg11 : arg11.IsWhole) (arg12 : Memref sig .tc .vmem S256x2560 .fp8e4m3) (harg12 : arg12.IsWhole) (arg13 : Memref sig .tc .vmem S256x1 .f32) (harg13 : arg13.IsWhole) (arg14 : Memref sig .tc .vmem S256x5120 .fp8e4m3) (harg14 : arg14.IsWhole) (arg15 : Memref sig .tc .vmem S256x1 .f32) (harg15 : arg15.IsWhole) (arg16 : Memref sig .tc .vmem S256x2560 .f32) (harg16 : arg16.IsWhole) (arg17 : Memref sig .tc .vmem S256x2560 .f32) (harg17 : arg17.IsWhole) (hc0 : ¬cond0_0 i) (hc1 : cond0_1 i) (hc2 : ¬cond0_2 i)
    (x0 : Vec F S256x9728 .fp8e4m3) (x1 : Vec F S256x1 .f32) (x2 : Vec F S9728x2560 .fp8e4m3) (x3 : Vec F S1x2560 .f32) (x4 : Vec F S256x2560 .f32) (x5 : Vec F S1x2560 .f32) (x6 : Vec F S256x2560 .i8) (x7 : Vec F S256x1 .f32) (x8 : Vec F S1x2560 .f32) (x9 : Vec F S1x2560 .f32) (xs0 : Vec F S256x2560 .f32) (y : S256x2560.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 x3 x4 x5 x6 x7 x8 x9 xs0).1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 x3 x4 x5 x6 x7 x8 x9 xs0).1 S256x256.size (by sl_kernel_rfl) y

/-- What case B leaves in scratch `arg16`: its pieces read back over junk. -/
def sout0_B_0 (c : Dev nD) (i : grid0.Coords) (arg1 : Memref sig .tc .vmem S256x9728 .fp8e4m3) (harg1 : arg1.IsWhole) (arg2 : Memref sig .tc .vmem S256x1 .f32) (harg2 : arg2.IsWhole) (arg3 : Memref sig .tc .vmem S9728x2560 .fp8e4m3) (harg3 : arg3.IsWhole) (arg4 : Memref sig .tc .vmem S1x2560 .f32) (harg4 : arg4.IsWhole) (arg5 : Memref sig .tc .vmem S256x2560 .f32) (harg5 : arg5.IsWhole) (arg6 : Memref sig .tc .vmem S1x2560 .f32) (harg6 : arg6.IsWhole) (arg7 : Memref sig .tc .vmem S256x2560 .i8) (harg7 : arg7.IsWhole) (arg8 : Memref sig .tc .vmem S256x1 .f32) (harg8 : arg8.IsWhole) (arg9 : Memref sig .tc .vmem S1x2560 .f32) (harg9 : arg9.IsWhole) (arg10 : Memref sig .tc .vmem S1x2560 .f32) (harg10 : arg10.IsWhole) (arg11 : Memref sig .tc .vmem S256x2560 .f32) (harg11 : arg11.IsWhole) (arg12 : Memref sig .tc .vmem S256x2560 .fp8e4m3) (harg12 : arg12.IsWhole) (arg13 : Memref sig .tc .vmem S256x1 .f32) (harg13 : arg13.IsWhole) (arg14 : Memref sig .tc .vmem S256x5120 .fp8e4m3) (harg14 : arg14.IsWhole) (arg15 : Memref sig .tc .vmem S256x1 .f32) (harg15 : arg15.IsWhole) (arg16 : Memref sig .tc .vmem S256x2560 .f32) (harg16 : arg16.IsWhole) (arg17 : Memref sig .tc .vmem S256x2560 .f32) (harg17 : arg17.IsWhole) (hc0 : ¬cond0_0 i) (hc1 : cond0_1 i) (hc2 : ¬cond0_2 i)
    (x0 : Vec F S256x9728 .fp8e4m3) (x1 : Vec F S256x1 .f32) (x2 : Vec F S9728x2560 .fp8e4m3) (x3 : Vec F S1x2560 .f32) (x4 : Vec F S256x2560 .f32) (x5 : Vec F S1x2560 .f32) (x6 : Vec F S256x2560 .i8) (x7 : Vec F S256x1 .f32) (x8 : Vec F S1x2560 .f32) (x9 : Vec F S1x2560 .f32) (xs0 : Vec F S256x2560 .f32) : Vec F S256x2560 .f32 :=
  VS0_0.read (Elt F) (VS0_0.writes (Elt F) VS0_0.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 x3 x4 x5 x6 x7 x8 x9 xs0).1)

/-- Case C stores nothing into scratch `arg16`: it holds what the point before left. -/
def sout0_C_0 (c : Dev nD) (i : grid0.Coords) (arg1 : Memref sig .tc .vmem S256x9728 .fp8e4m3) (harg1 : arg1.IsWhole) (arg2 : Memref sig .tc .vmem S256x1 .f32) (harg2 : arg2.IsWhole) (arg3 : Memref sig .tc .vmem S9728x2560 .fp8e4m3) (harg3 : arg3.IsWhole) (arg4 : Memref sig .tc .vmem S1x2560 .f32) (harg4 : arg4.IsWhole) (arg5 : Memref sig .tc .vmem S256x2560 .f32) (harg5 : arg5.IsWhole) (arg6 : Memref sig .tc .vmem S1x2560 .f32) (harg6 : arg6.IsWhole) (arg7 : Memref sig .tc .vmem S256x2560 .i8) (harg7 : arg7.IsWhole) (arg8 : Memref sig .tc .vmem S256x1 .f32) (harg8 : arg8.IsWhole) (arg9 : Memref sig .tc .vmem S1x2560 .f32) (harg9 : arg9.IsWhole) (arg10 : Memref sig .tc .vmem S1x2560 .f32) (harg10 : arg10.IsWhole) (arg11 : Memref sig .tc .vmem S256x2560 .f32) (harg11 : arg11.IsWhole) (arg12 : Memref sig .tc .vmem S256x2560 .fp8e4m3) (harg12 : arg12.IsWhole) (arg13 : Memref sig .tc .vmem S256x1 .f32) (harg13 : arg13.IsWhole) (arg14 : Memref sig .tc .vmem S256x5120 .fp8e4m3) (harg14 : arg14.IsWhole) (arg15 : Memref sig .tc .vmem S256x1 .f32) (harg15 : arg15.IsWhole) (arg16 : Memref sig .tc .vmem S256x2560 .f32) (harg16 : arg16.IsWhole) (arg17 : Memref sig .tc .vmem S256x2560 .f32) (harg17 : arg17.IsWhole) (hc0 : ¬cond0_0 i) (hc1 : ¬cond0_1 i) (hc2 : cond0_2 i)
    (x0 : Vec F S256x9728 .fp8e4m3) (x1 : Vec F S256x1 .f32) (x2 : Vec F S9728x2560 .fp8e4m3) (x3 : Vec F S1x2560 .f32) (x4 : Vec F S256x2560 .f32) (x5 : Vec F S1x2560 .f32) (x6 : Vec F S256x2560 .i8) (x7 : Vec F S256x1 .f32) (x8 : Vec F S1x2560 .f32) (x9 : Vec F S1x2560 .f32) (xs0 : Vec F S256x2560 .f32) : Vec F S256x2560 .f32 := xs0

/-! ## What the outputs hold after each point -/

/-- THE ACCUMULATION. What the outputs' staging buffers and the scratch the kernel carries between points hold after the body at position `n`:
    the case the closed forms select at `n`, run at the point's memrefs and input blocks, an output it reads before covering
    at what this leaves at `n - 1` (its buffer is not written back between: `before0_W_κ`). An assignment of the conditions no point meets is no case (`False.elim`). -/
def outsAt0 (c : Dev nD) : (n : ℕ) → n < cfg0.N → Vec F S256x2560 .f32
  | 0, hn => sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) scM0_0 (Memref.isWhole_whole _) scM0_1 (Memref.isWhole_whole _) ((hcond0_0 ⟨0, hn⟩).mpr (Nat.zero_mod _)) ((hcond0_1 ⟨0, hn⟩).mpr (by (try dsimp only); omega)) (fun h => (fun h => by (try dsimp only at h); omega) ((hcond0_2 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩)
  | n + 1, hn =>
    if h0 : (n + 1) % 31 = 0 then
      if h1 : (n + 1) < 30 then
        if h2 : (n + 1) % 31 = 30 then
          False.elim (by have hN : n + 1 < 31 := lt_of_lt_of_eq hn (show cfg0.N = 31 from N_0); omega)
        else
          sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) scM0_0 (Memref.isWhole_whole _) scM0_1 (Memref.isWhole_whole _) ((hcond0_0 ⟨n + 1, hn⟩).mpr h0) ((hcond0_1 ⟨n + 1, hn⟩).mpr h1) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩)
      else
        False.elim (by have hN : n + 1 < 31 := lt_of_lt_of_eq hn (show cfg0.N = 31 from N_0); omega)
    else
      if h1 : (n + 1) < 30 then
        if h2 : (n + 1) % 31 = 30 then
          False.elim (by have hN : n + 1 < 31 := lt_of_lt_of_eq hn (show cfg0.N = 31 from N_0); omega)
        else
          sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) scM0_0 (Memref.isWhole_whole _) scM0_1 (Memref.isWhole_whole _) (fun h => h0 ((hcond0_0 ⟨n + 1, hn⟩).mp h)) ((hcond0_1 ⟨n + 1, hn⟩).mpr h1) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (outsAt0 c n (Nat.lt_of_succ_lt hn))
      else
        if h2 : (n + 1) % 31 = 30 then
          sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) ((hcond0_2 ⟨n + 1, hn⟩).mpr h2) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (outsAt0 c n (Nat.lt_of_succ_lt hn))
        else
          False.elim (by have hN : n + 1 < 31 := lt_of_lt_of_eq hn (show cfg0.N = 31 from N_0); omega)

/-- `outsAt0` at a point of case A: that case's contents. -/
theorem outsAt0_A (c : Dev nD) (t : Fin cfg0.N) (h0 : t.val % 31 = 0) (h1 : t.val < 30) (h2 : ¬t.val % 31 = 30) :
    outsAt0 m c t.val t.isLt = sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) ((hcond0_0 t).mpr h0) ((hcond0_1 t).mpr h1) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (iblk m c 9 t) := by
  obtain ⟨n, hn⟩ := t
  cases n with
  | zero => exact rfl
  | succ n => exact (dif_pos h0).trans ((dif_pos h1).trans ((dif_neg h2).trans rfl))

/-- `outsAt0` at a point of case B: that case's contents, over what the point before left. -/
theorem outsAt0_B (c : Dev nD) (t : Fin cfg0.N) (h0 : ¬t.val % 31 = 0) (h1 : t.val < 30) (h2 : ¬t.val % 31 = 30) :
    outsAt0 m c t.val t.isLt = sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) (fun h => h0 ((hcond0_0 t).mp h)) ((hcond0_1 t).mpr h1) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (iblk m c 9 t) (outsAt0 m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_pos h1).trans ((dif_neg h2).trans rfl))

/-- `outsAt0` at a point of case C: that case's contents, over what the point before left. -/
theorem outsAt0_C (c : Dev nD) (t : Fin cfg0.N) (h0 : ¬t.val % 31 = 0) (h1 : ¬t.val < 30) (h2 : t.val % 31 = 30) :
    outsAt0 m c t.val t.isLt = sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) (fun h => h0 ((hcond0_0 t).mp h)) (fun h => h1 ((hcond0_1 t).mp h)) ((hcond0_2 t).mpr h2) (iblk m c 0 t) (iblk m c 1 t) (iblk m c 2 t) (iblk m c 3 t) (iblk m c 4 t) (iblk m c 5 t) (iblk m c 6 t) (iblk m c 7 t) (iblk m c 8 t) (iblk m c 9 t) (outsAt0 m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_neg h1).trans ((dif_pos h2).trans rfl))

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn)) ∗ (∃ d, owns (c : Thread nD τ) scM0_1 fullShare d)) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop(owns (c : Thread nD τ) scM0_0 fullShare ((outsAt0 m c n hn)) ∗ (∃ d, owns (c : Thread nD τ) scM0_1 fullShare d)) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop(owns (c : Thread nD τ) scM0_0 fullShare ((outsAt0 m c (n - 1) (by omega))) ∗ (∃ d, owns (c : Thread nD τ) scM0_1 fullShare d)) ∗ (∃ r, prngReg c r)) := by
  cases n with
  | zero => exact absurd rfl hz
  | succ n => rfl

/-! ## The pipeline's proof data -/

/-- The output windows this certificate FORGETS (10, 11, 12, 13, 14): nothing reads what the kernel leaves in them, so nothing
    of it is named (Lib/Pipeline/Dat.lean `Dat.toRForget`). -/
def forgets0 : Fin 15 → Bool := fun w => w.val == 10 || w.val == 11 || w.val == 12 || w.val == 13 || w.val == 14

/-- The proof data of the one pipeline on core `c`: the arrays as the region finds them (`V`); after the body at
    point `t` each input's buffer at its block and the outputs, FORGOTTEN, at `Dat.unnamed`; the invariant the class's
    (`PhiS`: the class's `ΦA` before the first point, then the scoped rest with the carried scratch at `outsAt0`'s component);
    nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, h⟩ => Pipeline.Dat.unnamed (cfg := cfg0) ⟨10, h⟩ t
    | ⟨11, h⟩ => Pipeline.Dat.unnamed (cfg := cfg0) ⟨11, h⟩ t
    | ⟨12, h⟩ => Pipeline.Dat.unnamed (cfg := cfg0) ⟨12, h⟩ t
    | ⟨13, h⟩ => Pipeline.Dat.unnamed (cfg := cfg0) ⟨13, h⟩ t
    | ⟨14, h⟩ => Pipeline.Dat.unnamed (cfg := cfg0) ⟨14, h⟩ t
  Φ t := PhiS m c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare d)
    ∗ (∃ d, owns (c : Thread nD τ) (ms0_11 t) fullShare d)
    ∗ (∃ d, owns (c : Thread nD τ) (ms0_12 t) fullShare d)
    ∗ (∃ d, owns (c : Thread nD τ) (ms0_13 t) fullShare d)
    ∗ (∃ d, owns (c : Thread nD τ) (ms0_14 t) fullShare d))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (∃ d, owns (c : Thread nD τ) (ms0_10 t) fullShare d)
    ∗ (∃ d, owns (c : Thread nD τ) (ms0_11 t) fullShare d)
    ∗ (∃ d, owns (c : Thread nD τ) (ms0_12 t) fullShare d)
    ∗ (∃ d, owns (c : Thread nD τ) (ms0_13 t) fullShare d)
    ∗ (∃ d, owns (c : Thread nD τ) (ms0_14 t) fullShare d))

set_option maxHeartbeats 19200000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9]
  rw [show (dats m 0 c).owesAt () t.succ = (dats m 0 c).owesAt () t.castSucc from rfl]
  rw [show (dats m 0 c).Φ t.succ = PhiS m c (t.val + 1) t.isLt from rfl, PhiS_succ]
  have hN : t.val < 31 := lt_of_lt_of_eq t.isLt (show cfg0.N = 31 from N_0)
  by_cases h0 : t.val % 31 = 0
  · by_cases h1 : t.val < 30
    · by_cases h2 : t.val % 31 = 30
      · exfalso; omega
      · rw [show (dats m 0 c).leavesExact 0 t = owns (c : Thread nD τ) (ms0_0 t) fullShare ((dats m 0 c).after 0 t) from by
      unfold Dat.leavesExact; rw [liveAt0_0 t], after0_0]
        rw [show (dats m 0 c).leavesExact 1 t = owns (c : Thread nD τ) (ms0_1 t) fullShare ((dats m 0 c).after 1 t) from by
      unfold Dat.leavesExact; rw [liveAt0_1 t], after0_1]
        rw [show (dats m 0 c).leavesExact 2 t = owns (c : Thread nD τ) (ms0_2 t) fullShare ((dats m 0 c).after 2 t) from by
      unfold Dat.leavesExact; rw [liveAt0_2 t], after0_2]
        rw [show (dats m 0 c).leavesExact 3 t = owns (c : Thread nD τ) (ms0_3 t) fullShare ((dats m 0 c).after 3 t) from by
      unfold Dat.leavesExact; rw [liveAt0_3 t], after0_3]
        rw [show (dats m 0 c).leavesExact 4 t = owns (c : Thread nD τ) (ms0_4 t) fullShare ((dats m 0 c).after 4 t) from by
      unfold Dat.leavesExact; rw [liveAt0_4 t], after0_4]
        rw [show (dats m 0 c).leavesExact 5 t = owns (c : Thread nD τ) (ms0_5 t) fullShare ((dats m 0 c).after 5 t) from by
      unfold Dat.leavesExact; rw [liveAt0_5 t], after0_5]
        rw [show (dats m 0 c).leavesExact 6 t = owns (c : Thread nD τ) (ms0_6 t) fullShare ((dats m 0 c).after 6 t) from by
      unfold Dat.leavesExact; rw [liveAt0_6 t], after0_6]
        rw [show (dats m 0 c).leavesExact 7 t = owns (c : Thread nD τ) (ms0_7 t) fullShare ((dats m 0 c).after 7 t) from by
      unfold Dat.leavesExact; rw [liveAt0_7 t], after0_7]
        rw [show (dats m 0 c).leavesExact 8 t = owns (c : Thread nD τ) (ms0_8 t) fullShare ((dats m 0 c).after 8 t) from by
      unfold Dat.leavesExact; rw [liveAt0_8 t], after0_8]
        rw [show (dats m 0 c).leavesExact 9 t = owns (c : Thread nD τ) (ms0_9 t) fullShare ((dats m 0 c).after 9 t) from by
      unfold Dat.leavesExact; rw [liveAt0_9 t], after0_9]
        by_cases hz : t.val = 0
        · rw [PhiS_castSucc m c t, PhiS_zero m c _ _ hz, PhiA0_eq]
          rw [outsAt0_A m c t h0 h1 h2]
          unfold sout0_A_0
          iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
          iapply ((kernelRun0_A c (grid0.coords t) _ _ _ _ _ _ _ _ _ _ _ _ _ _ _ _ _ _ _ _ _ _ _ _ _ _ _ _ _ _ _ _ _ _ ((hcond0_0 t).mpr h0) ((hcond0_1 t).mpr h1) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (iblk m c 9 t)).2 Set.univ _)
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          isplitl [H9]; · iexact H9
          isplitl [H10]; · iexists _; iexact H10
          isplitl [H11]; · iexists _; iexact H11
          isplitl [H12]; · iexists _; iexact H12
          isplitl [H13]; · iexists _; iexact H13
          isplitl [H14]; · iexists _; iexact H14
          isplitl [HS0]; · iexact HS0
          isplitl [HS1]; · iexact HS1
          iintro ⟨H0, H1, H2, H3, H4, H5, H6, H7, H8, H9, H10, H11, H12, H13, H14, ⟨%es0, HS0⟩, HS1⟩
          isplitl [HS0 HS1 Hg]
          · isplitl [HS0 HS1]
            · isplitl [HS0]
              · unfold owns; iexists _; isplitr
                swap; · iexact HS0
                ipureintro; exact View.read_writes_of_cover _ _ _ _ _ (scover0_A_0 c _ _ _ _ _ _ _ _ _ _ _ _ _ _ _ _ _ _ _ _ _ _ _ _ _ _ _ _ _ _ _ _ _ _ _ _ _ _ _ _ _ _ _ _ _ _ _ _)
              iexact HS1
            iexact Hg
          isplitl [Ho]; · iexact Ho
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          isplitl [H9]; · iexact H9
          isplitl [H10]; · iexact H10
          isplitl [H11]; · iexact H11
          isplitl [H12]; · iexact H12
          isplitl [H13]; · iexact H13
          iexact H14
        · exfalso; have hN : t.val < 31 := lt_of_lt_of_eq t.isLt (show cfg0.N = 31 from N_0); omega
    · exfalso; omega
  · by_cases h1 : t.val < 30
    · by_cases h2 : t.val % 31 = 30
      · exfalso; omega
      · rw [show (dats m 0 c).leavesExact 0 t = owns (c : Thread nD τ) (ms0_0 t) fullShare ((dats m 0 c).after 0 t) from by
      unfold Dat.leavesExact; rw [liveAt0_0 t], after0_0]
        rw [show (dats m 0 c).leavesExact 1 t = owns (c : Thread nD τ) (ms0_1 t) fullShare ((dats m 0 c).after 1 t) from by
      unfold Dat.leavesExact; rw [liveAt0_1 t], after0_1]
        rw [show (dats m 0 c).leavesExact 2 t = owns (c : Thread nD τ) (ms0_2 t) fullShare ((dats m 0 c).after 2 t) from by
      unfold Dat.leavesExact; rw [liveAt0_2 t], after0_2]
        rw [show (dats m 0 c).leavesExact 3 t = owns (c : Thread nD τ) (ms0_3 t) fullShare ((dats m 0 c).after 3 t) from by
      unfold Dat.leavesExact; rw [liveAt0_3 t], after0_3]
        rw [show (dats m 0 c).leavesExact 4 t = owns (c : Thread nD τ) (ms0_4 t) fullShare ((dats m 0 c).after 4 t) from by
      unfold Dat.leavesExact; rw [liveAt0_4 t], after0_4]
        rw [show (dats m 0 c).leavesExact 5 t = owns (c : Thread nD τ) (ms0_5 t) fullShare ((dats m 0 c).after 5 t) from by
      unfold Dat.leavesExact; rw [liveAt0_5 t], after0_5]
        rw [show (dats m 0 c).leavesExact 6 t = owns (c : Thread nD τ) (ms0_6 t) fullShare ((dats m 0 c).after 6 t) from by
      unfold Dat.leavesExact; rw [liveAt0_6 t], after0_6]
        rw [show (dats m 0 c).leavesExact 7 t = owns (c : Thread nD τ) (ms0_7 t) fullShare ((dats m 0 c).after 7 t) from by
      unfold Dat.leavesExact; rw [liveAt0_7 t], after0_7]
        rw [show (dats m 0 c).leavesExact 8 t = owns (c : Thread nD τ) (ms0_8 t) fullShare ((dats m 0 c).after 8 t) from by
      unfold Dat.leavesExact; rw [liveAt0_8 t], after0_8]
        rw [show (dats m 0 c).leavesExact 9 t = owns (c : Thread nD τ) (ms0_9 t) fullShare ((dats m 0 c).after 9 t) from by
      unfold Dat.leavesExact; rw [liveAt0_9 t], after0_9]
        by_cases hz : t.val = 0
        · exfalso; have hN : t.val < 31 := lt_of_lt_of_eq t.isLt (show cfg0.N = 31 from N_0); omega
        · rw [PhiS_castSucc m c t, PhiS_pos m c _ _ hz]
          rw [outsAt0_B m c t h0 h1 h2]
          unfold sout0_B_0
          iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
          iapply ((kernelRun0_B c (grid0.coords t) _ _ _ _ _ _ _ _ _ _ _ _ _ _ _ _ _ _ _ _ _ _ _ _ _ _ _ _ _ _ _ _ _ _ (fun h => h0 ((hcond0_0 t).mp h)) ((hcond0_1 t).mpr h1) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (iblk m c 9 t) _).2 Set.univ _)
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          isplitl [H9]; · iexact H9
          isplitl [H10]; · iexists _; iexact H10
          isplitl [H11]; · iexists _; iexact H11
          isplitl [H12]; · iexists _; iexact H12
          isplitl [H13]; · iexists _; iexact H13
          isplitl [H14]; · iexists _; iexact H14
          isplitl [HS0]; · iexact HS0
          isplitl [HS1]; · iexact HS1
          iintro ⟨H0, H1, H2, H3, H4, H5, H6, H7, H8, H9, H10, H11, H12, H13, H14, ⟨%es0, HS0⟩, HS1⟩
          isplitl [HS0 HS1 Hg]
          · isplitl [HS0 HS1]
            · isplitl [HS0]
              · unfold owns; iexists _; isplitr
                swap; · iexact HS0
                ipureintro; exact View.read_writes_of_cover _ _ _ _ _ (scover0_B_0 c _ _ _ _ _ _ _ _ _ _ _ _ _ _ _ _ _ _ _ _ _ _ _ _ _ _ _ _ _ _ _ _ _ _ _ _ _ _ _ _ _ _ _ _ _ _ _ _ _)
              iexact HS1
            iexact Hg
          isplitl [Ho]; · iexact Ho
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          isplitl [H9]; · iexact H9
          isplitl [H10]; · iexact H10
          isplitl [H11]; · iexact H11
          isplitl [H12]; · iexact H12
          isplitl [H13]; · iexact H13
          iexact H14
    · by_cases h2 : t.val % 31 = 30
      · rw [show (dats m 0 c).leavesExact 0 t = owns (c : Thread nD τ) (ms0_0 t) fullShare ((dats m 0 c).after 0 t) from by
      unfold Dat.leavesExact; rw [liveAt0_0 t], after0_0]
        rw [show (dats m 0 c).leavesExact 1 t = owns (c : Thread nD τ) (ms0_1 t) fullShare ((dats m 0 c).after 1 t) from by
      unfold Dat.leavesExact; rw [liveAt0_1 t], after0_1]
        rw [show (dats m 0 c).leavesExact 2 t = owns (c : Thread nD τ) (ms0_2 t) fullShare ((dats m 0 c).after 2 t) from by
      unfold Dat.leavesExact; rw [liveAt0_2 t], after0_2]
        rw [show (dats m 0 c).leavesExact 3 t = owns (c : Thread nD τ) (ms0_3 t) fullShare ((dats m 0 c).after 3 t) from by
      unfold Dat.leavesExact; rw [liveAt0_3 t], after0_3]
        rw [show (dats m 0 c).leavesExact 4 t = owns (c : Thread nD τ) (ms0_4 t) fullShare ((dats m 0 c).after 4 t) from by
      unfold Dat.leavesExact; rw [liveAt0_4 t], after0_4]
        rw [show (dats m 0 c).leavesExact 5 t = owns (c : Thread nD τ) (ms0_5 t) fullShare ((dats m 0 c).after 5 t) from by
      unfold Dat.leavesExact; rw [liveAt0_5 t], after0_5]
        rw [show (dats m 0 c).leavesExact 6 t = owns (c : Thread nD τ) (ms0_6 t) fullShare ((dats m 0 c).after 6 t) from by
      unfold Dat.leavesExact; rw [liveAt0_6 t], after0_6]
        rw [show (dats m 0 c).leavesExact 7 t = owns (c : Thread nD τ) (ms0_7 t) fullShare ((dats m 0 c).after 7 t) from by
      unfold Dat.leavesExact; rw [liveAt0_7 t], after0_7]
        rw [show (dats m 0 c).leavesExact 8 t = owns (c : Thread nD τ) (ms0_8 t) fullShare ((dats m 0 c).after 8 t) from by
      unfold Dat.leavesExact; rw [liveAt0_8 t], after0_8]
        rw [show (dats m 0 c).leavesExact 9 t = owns (c : Thread nD τ) (ms0_9 t) fullShare ((dats m 0 c).after 9 t) from by
      unfold Dat.leavesExact; rw [liveAt0_9 t], after0_9]
        by_cases hz : t.val = 0
        · exfalso; have hN : t.val < 31 := lt_of_lt_of_eq t.isLt (show cfg0.N = 31 from N_0); omega
        · rw [PhiS_castSucc m c t, PhiS_pos m c _ _ hz]
          rw [outsAt0_C m c t h0 h1 h2]
          unfold sout0_C_0
          iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
          iapply ((kernelRun0_C c (grid0.coords t) _ _ _ _ _ _ _ _ _ _ _ _ _ _ _ _ _ _ _ _ _ _ _ _ _ _ _ _ _ _ _ _ _ _ (fun h => h0 ((hcond0_0 t).mp h)) (fun h => h1 ((hcond0_1 t).mp h)) ((hcond0_2 t).mpr h2) (iblk m c 0 t) (iblk m c 1 t) (iblk m c 2 t) (iblk m c 3 t) (iblk m c 4 t) (iblk m c 5 t) (iblk m c 6 t) (iblk m c 7 t) (iblk m c 8 t) (iblk m c 9 t) _).2 Set.univ _)
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          isplitl [H9]; · iexact H9
          isplitl [H10]; · iexists _; iexact H10
          isplitl [H11]; · iexists _; iexact H11
          isplitl [H12]; · iexists _; iexact H12
          isplitl [H13]; · iexists _; iexact H13
          isplitl [H14]; · iexists _; iexact H14
          isplitl [HS0]; · iexact HS0
          isplitl [HS1]; · iexact HS1
          iintro ⟨H0, H1, H2, H3, H4, H5, H6, H7, H8, H9, H10, H11, H12, H13, H14, HS0, HS1⟩
          isplitl [HS0 HS1 Hg]
          · isplitl [HS0 HS1]
            · isplitl [HS0]
              · iexact HS0
              iexact HS1
            iexact Hg
          isplitl [Ho]; · iexact Ho
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          isplitl [H9]; · iexact H9
          isplitl [H10]; · iexact H10
          isplitl [H11]; · iexact H11
          isplitl [H12]; · iexact H12
          isplitl [H13]; · iexact H13
          iexact H14
      · exfalso; omega

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1⟩, Hg⟩
  isplitl [HS0 HS1]
  · isplitl [HS0]
    · iexists _; iexact HS0
    iexact HS1
  iexact Hg

/-- The same after the last point. -/
theorem hout (c : Dev nD) : (dats m 0 c).Φ (Fin.last cfg0.N) ⊢ Pipeline.ΦA spec0 c :=
  Phi_out m c _ (by rw [Fin.val_last]; have : cfg0.N = 31 := N_0; omega)

/-! ## The run and the frame -/

-- `θ_run_frame_track_forget`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_track_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- At the compiled mesh, for any values, from any memory with zero counters: every weakly fair execution of @main on the
    TensorCores terminates, and every final state has every INPUT array of the pipeline unchanged, nothing stated of the
    FORGOTTEN outputs (windows 10, 11, 12, 13, 14) (Lib/Pipeline/Frame.lean `RDat.FramePost` over the proof data with those windows
    forgotten, Dat.lean `Dat.toRForget`), and every other unscoped buffer at its region-entry contents. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  frame_of m ρ (fun c => (dats m 0 c).toRForget forgets0) (A_eq m) (run_main m ρ)

/-- THE FRAME: `Cert.quiescent_Down`'s statement (Defs.lean) at any `F` — Proof.lean cites it at `Bits`:
    `theorem Cert.Proof.claim : Cert.Claim := ⟨Cert.Down.Gen.facts, fun m ρ _ => Cert.Down.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  θ_run_and (unchanged m ρ) ((θ_run defs _ _).mono (fun _ h => h.2) (run_main_quiescent m ρ))

end Cert.Down.Gen

end
-- ==== Proof.Down.Ideal.RunC.lean ====
module

public import proofs.«01_k».proof.Proof.Gen.DownIdeal.Frame.RunB

/-! The run of the down projection's ideal kernel at the last point of its grid, where only the rows of the point before are written out: the generated text of this run, but for one step, which rewrites the printed parts by `dsimp` and not by `simp` (which does not end on them). -/

@[expose] public section

-- membership in a rectangle of production extents (`View.cover_of_tiled`): the elaborator's structural look
-- recurses once per coordinate of the long axes
set_option maxRecDepth 16384

noncomputable section

namespace Cert.DownIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- What the body's stores leave in each output's staging memref, as pieces (last first) IN CASE C (`scf.if` 0 not taken, `scf.if` 1 not taken, `scf.if` 2 taken: points 30), WITH the
    proof that on whole staging memrefs — the inputs' at their contents, the other outputs' at
    anything, a carried scratch at the contents the point before left (`xs·`) or at anything, the other scratch at anything, the body runs to the continuation holding the inputs' as they were,
    a carried scratch it stored into with its pieces written (`LS·`), a scratch it stored into and does not carry with its pieces (`LT·`) written over some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_C (c : Dev nD) (i : grid0.Coords) (arg1 : Memref sig .tc .vmem S256x9728 .fp8e4m3) (harg1 : arg1.IsWhole) (arg2 : Memref sig .tc .vmem S256x1 .f32) (harg2 : arg2.IsWhole) (arg3 : Memref sig .tc .vmem S9728x2560 .fp8e4m3) (harg3 : arg3.IsWhole) (arg4 : Memref sig .tc .vmem S1x2560 .f32) (harg4 : arg4.IsWhole) (arg5 : Memref sig .tc .vmem S256x2560 .f32) (harg5 : arg5.IsWhole) (arg6 : Memref sig .tc .vmem S1x2560 .f32) (harg6 : arg6.IsWhole) (arg7 : Memref sig .tc .vmem S256x2560 .i8) (harg7 : arg7.IsWhole) (arg8 : Memref sig .tc .vmem S256x1 .f32) (harg8 : arg8.IsWhole) (arg9 : Memref sig .tc .vmem S1x2560 .f32) (harg9 : arg9.IsWhole) (arg10 : Memref sig .tc .vmem S1x2560 .f32) (harg10 : arg10.IsWhole) (arg11 : Memref sig .tc .vmem S256x2560 .f32) (harg11 : arg11.IsWhole) (arg12 : Memref sig .tc .vmem S256x2560 .fp8e4m3) (harg12 : arg12.IsWhole) (arg13 : Memref sig .tc .vmem S256x1 .f32) (harg13 : arg13.IsWhole) (arg14 : Memref sig .tc .vmem S256x5120 .fp8e4m3) (harg14 : arg14.IsWhole) (arg15 : Memref sig .tc .vmem S256x1 .f32) (harg15 : arg15.IsWhole) (arg16 : Memref sig .tc .vmem S256x2560 .f32) (harg16 : arg16.IsWhole) (arg17 : Memref sig .tc .vmem S256x2560 .f32) (harg17 : arg17.IsWhole) (hc0 : ¬cond0_0 i) (hc1 : ¬cond0_1 i) (hc2 : cond0_2 i)
    (x0 : Vec F S256x9728 .fp8e4m3) (x1 : Vec F S256x1 .f32) (x2 : Vec F S9728x2560 .fp8e4m3) (x3 : Vec F S1x2560 .f32) (x4 : Vec F S256x2560 .f32) (x5 : Vec F S1x2560 .f32) (x6 : Vec F S256x2560 .i8) (x7 : Vec F S256x1 .f32) (x8 : Vec F S1x2560 .f32) (x9 : Vec F S1x2560 .f32) (xs0 : Vec F S256x2560 .f32) :
    Σ' (L10 : List (View.Piece (Elt F) S256x2560 .f32)), Σ' (L11 : List (View.Piece (Elt F) S256x2560 .fp8e4m3)), Σ' (L12 : List (View.Piece (Elt F) S256x1 .f32)), Σ' (L13 : List (View.Piece (Elt F) S256x5120 .fp8e4m3)), Σ' (L14 : List (View.Piece (Elt F) S256x1 .f32)), Σ' (LS0 : List (View.Piece (Elt F) S256x2560 .f32)), { LT1 : List (View.Piece (Elt F) S256x2560 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ owns (c : Thread nD τ) arg16 fullShare xs0 ∗ (∃ d, owns (c : Thread nD τ) arg17 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ f, arg11.view.loc (c : Thread nD τ) ↦[arg11.view.set]{fullShare} arg11.view.writes (Elt F) f L10) ∗ (∃ f, arg12.view.loc (c : Thread nD τ) ↦[arg12.view.set]{fullShare} arg12.view.writes (Elt F) f L11) ∗ (∃ f, arg13.view.loc (c : Thread nD τ) ↦[arg13.view.set]{fullShare} arg13.view.writes (Elt F) f L12) ∗ (∃ f, arg14.view.loc (c : Thread nD τ) ↦[arg14.view.set]{fullShare} arg14.view.writes (Elt F) f L13) ∗ (∃ f, arg15.view.loc (c : Thread nD τ) ↦[arg15.view.set]{fullShare} arg15.view.writes (Elt F) f L14) ∗ owns (c : Thread nD τ) arg16 fullShare xs0 ∗ (∃ f, arg17.view.loc (c : Thread nD τ) ↦[arg17.view.set]{fullShare} arg17.view.writes (Elt F) f LT1)) -∗ K ⟨⟩))
          ⊢ wp frame (wpE (defs₀ (F := F)) Variants.none c none) E (cc0_down i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K } := by
  refine ⟨?_, ?_, ?_, ?_, ?_, [], ?_, fun E K => ?run⟩
  case run =>
    simp only [cc0_down_eq_skeleton]; unfold cc0_down_skel
    dsimp only [k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%d12, %f12, -, H12⟩, ⟨%d13, %f13, -, H13⟩, ⟨%d14, %f14, -, H14⟩, ⟨%fs0, %hfs0, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg16.eq_unread hfs0
    sl_exec (disch := first | sl_exact hc0 | sl_exact hc1 | sl_exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]; · iexists _; iexact H10
    isplitl [H11]; · iexists _; iexact H11
    isplitl [H12]; · iexists _; iexact H12
    isplitl [H13]; · iexists _; iexact H13
    isplitl [H14]; · iexists _; iexact H14
    isplitl [HS0]
    · iexists _; isplitr; · ipureintro; exact harg16.read_unread _
      iexact HS0
    iexists _; iexact HS1

end Cert.DownIdeal.Gen

end
-- ==== Proof.Down.Ideal.Outs.lean ====
module

public import proofs.«01_k».proof.Proof.Down.Ideal.RunC
public import Idealize.ShloMosaic.Lib.Claim

/-! What each grid point of the down projection's ideal kernel leaves in its buffers: the generated text over this directory's run of the last point. -/

@[expose] public section

-- membership in a rectangle of production extents (`View.cover_of_tiled`): the elaborator's structural look
-- recurses once per coordinate of the long axes
set_option maxRecDepth 16384

noncomputable section

namespace Cert.DownIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

section
variable (c : Dev nD) (i : grid0.Coords) (arg1 : Memref sig .tc .vmem S256x9728 .fp8e4m3) (harg1 : arg1.IsWhole) (arg2 : Memref sig .tc .vmem S256x1 .f32) (harg2 : arg2.IsWhole) (arg3 : Memref sig .tc .vmem S9728x2560 .fp8e4m3) (harg3 : arg3.IsWhole) (arg4 : Memref sig .tc .vmem S1x2560 .f32) (harg4 : arg4.IsWhole) (arg5 : Memref sig .tc .vmem S256x2560 .f32) (harg5 : arg5.IsWhole) (arg6 : Memref sig .tc .vmem S1x2560 .f32) (harg6 : arg6.IsWhole) (arg7 : Memref sig .tc .vmem S256x2560 .i8) (harg7 : arg7.IsWhole) (arg8 : Memref sig .tc .vmem S256x1 .f32) (harg8 : arg8.IsWhole) (arg9 : Memref sig .tc .vmem S1x2560 .f32) (harg9 : arg9.IsWhole) (arg10 : Memref sig .tc .vmem S1x2560 .f32) (harg10 : arg10.IsWhole) (arg11 : Memref sig .tc .vmem S256x2560 .f32) (harg11 : arg11.IsWhole) (arg12 : Memref sig .tc .vmem S256x2560 .fp8e4m3) (harg12 : arg12.IsWhole) (arg13 : Memref sig .tc .vmem S256x1 .f32) (harg13 : arg13.IsWhole) (arg14 : Memref sig .tc .vmem S256x5120 .fp8e4m3) (harg14 : arg14.IsWhole) (arg15 : Memref sig .tc .vmem S256x1 .f32) (harg15 : arg15.IsWhole) (arg16 : Memref sig .tc .vmem S256x2560 .f32) (harg16 : arg16.IsWhole) (arg17 : Memref sig .tc .vmem S256x2560 .f32) (harg17 : arg17.IsWhole) (hc0 : cond0_0 i) (hc1 : cond0_1 i) (hc2 : ¬cond0_2 i)
    (x0 : Vec F S256x9728 .fp8e4m3) (x1 : Vec F S256x1 .f32) (x2 : Vec F S9728x2560 .fp8e4m3) (x3 : Vec F S1x2560 .f32) (x4 : Vec F S256x2560 .f32) (x5 : Vec F S1x2560 .f32) (x6 : Vec F S256x2560 .i8) (x7 : Vec F S256x1 .f32) (x8 : Vec F S1x2560 .f32) (x9 : Vec F S1x2560 .f32)

/-- Case A's pieces for output 10 tile its block (1 store of `S256x2560`, checked by the kernel's evaluation: Lib/Ring.lean `Piece.tiledL`, linear in the pieces, through a loop's `@[irreducible]` trip theorem too), so they cover it. -/
theorem cover0_A_10 (y : S256x2560.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 x3 x4 x5 x6 x7 x8 x9).1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 x3 x4 x5 x6 x7 x8 x9).1 S256x2560.size (by sl_kernel_rfl) y

/-- What case A leaves in output 10's staging buffer: its pieces read back over junk. -/
def out0_A_10 : Vec F S256x2560 .f32 :=
  VO0_10.read (Elt F) (VO0_10.writes (Elt F) VO0_10.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 x3 x4 x5 x6 x7 x8 x9).1)

/-- Case A's pieces for output 11 tile its block (8 stores of `S32x2560`, checked by the kernel's evaluation: Lib/Ring.lean `Piece.tiledL`, linear in the pieces, through a loop's `@[irreducible]` trip theorem too), so they cover it. -/
theorem cover0_A_11 (y : S256x2560.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 x3 x4 x5 x6 x7 x8 x9).2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 x3 x4 x5 x6 x7 x8 x9).2.1 S32x2560.size (by sl_kernel_rfl) y

/-- What case A leaves in output 11's staging buffer: its pieces read back over junk. -/
def out0_A_11 : Vec F S256x2560 .fp8e4m3 :=
  VO0_11.read (Elt F) (VO0_11.writes (Elt F) VO0_11.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 x3 x4 x5 x6 x7 x8 x9).2.1)

/-- Case A's pieces for output 12 tile its block (8 stores of `S32x1`, checked by the kernel's evaluation: Lib/Ring.lean `Piece.tiledL`, linear in the pieces, through a loop's `@[irreducible]` trip theorem too), so they cover it. -/
theorem cover0_A_12 (y : S256x1.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 x3 x4 x5 x6 x7 x8 x9).2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 x3 x4 x5 x6 x7 x8 x9).2.2.1 S32x1.size (by sl_kernel_rfl) y

/-- What case A leaves in output 12's staging buffer: its pieces read back over junk. -/
def out0_A_12 : Vec F S256x1 .f32 :=
  VO0_12.read (Elt F) (VO0_12.writes (Elt F) VO0_12.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 x3 x4 x5 x6 x7 x8 x9).2.2.1)

/-- Case A's pieces for output 13 tile its block (16 stores of `S32x2560`, checked by the kernel's evaluation: Lib/Ring.lean `Piece.tiledL`, linear in the pieces, through a loop's `@[irreducible]` trip theorem too), so they cover it. -/
theorem cover0_A_13 (y : S256x5120.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 x3 x4 x5 x6 x7 x8 x9).2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 x3 x4 x5 x6 x7 x8 x9).2.2.2.1 S32x2560.size (by sl_kernel_rfl) y

/-- What case A leaves in output 13's staging buffer: its pieces read back over junk. -/
def out0_A_13 : Vec F S256x5120 .fp8e4m3 :=
  VO0_13.read (Elt F) (VO0_13.writes (Elt F) VO0_13.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 x3 x4 x5 x6 x7 x8 x9).2.2.2.1)

/-- Case A's pieces for output 14 tile its block (8 stores of `S32x1`, checked by the kernel's evaluation: Lib/Ring.lean `Piece.tiledL`, linear in the pieces, through a loop's `@[irreducible]` trip theorem too), so they cover it. -/
theorem cover0_A_14 (y : S256x1.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 x3 x4 x5 x6 x7 x8 x9).2.2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 x3 x4 x5 x6 x7 x8 x9).2.2.2.2.1 S32x1.size (by sl_kernel_rfl) y

/-- What case A leaves in output 14's staging buffer: its pieces read back over junk. -/
def out0_A_14 : Vec F S256x1 .f32 :=
  VO0_14.read (Elt F) (VO0_14.writes (Elt F) VO0_14.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 x3 x4 x5 x6 x7 x8 x9).2.2.2.2.1)

/-- Case A's pieces for scratch `arg16`, which the kernel carries between points, cover it: one of them a store of the WHOLE buffer (Lib/Ring.lean `sl_whole_mem`). -/
theorem scover0_A_0 (y : S256x2560.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 x3 x4 x5 x6 x7 x8 x9).2.2.2.2.2.1, y ∈ pc.1.set :=
  View.cover_of_wholeMem (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 x3 x4 x5 x6 x7 x8 x9).2.2.2.2.2.1 (by sl_whole_mem) y

/-- What case A leaves in scratch `arg16`: its pieces read back over junk. -/
def sout0_A_0 : Vec F S256x2560 .f32 :=
  VS0_0.read (Elt F) (VS0_0.writes (Elt F) VS0_0.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 x3 x4 x5 x6 x7 x8 x9).2.2.2.2.2.1)

end

section
variable (c : Dev nD) (i : grid0.Coords) (arg1 : Memref sig .tc .vmem S256x9728 .fp8e4m3) (harg1 : arg1.IsWhole) (arg2 : Memref sig .tc .vmem S256x1 .f32) (harg2 : arg2.IsWhole) (arg3 : Memref sig .tc .vmem S9728x2560 .fp8e4m3) (harg3 : arg3.IsWhole) (arg4 : Memref sig .tc .vmem S1x2560 .f32) (harg4 : arg4.IsWhole) (arg5 : Memref sig .tc .vmem S256x2560 .f32) (harg5 : arg5.IsWhole) (arg6 : Memref sig .tc .vmem S1x2560 .f32) (harg6 : arg6.IsWhole) (arg7 : Memref sig .tc .vmem S256x2560 .i8) (harg7 : arg7.IsWhole) (arg8 : Memref sig .tc .vmem S256x1 .f32) (harg8 : arg8.IsWhole) (arg9 : Memref sig .tc .vmem S1x2560 .f32) (harg9 : arg9.IsWhole) (arg10 : Memref sig .tc .vmem S1x2560 .f32) (harg10 : arg10.IsWhole) (arg11 : Memref sig .tc .vmem S256x2560 .f32) (harg11 : arg11.IsWhole) (arg12 : Memref sig .tc .vmem S256x2560 .fp8e4m3) (harg12 : arg12.IsWhole) (arg13 : Memref sig .tc .vmem S256x1 .f32) (harg13 : arg13.IsWhole) (arg14 : Memref sig .tc .vmem S256x5120 .fp8e4m3) (harg14 : arg14.IsWhole) (arg15 : Memref sig .tc .vmem S256x1 .f32) (harg15 : arg15.IsWhole) (arg16 : Memref sig .tc .vmem S256x2560 .f32) (harg16 : arg16.IsWhole) (arg17 : Memref sig .tc .vmem S256x2560 .f32) (harg17 : arg17.IsWhole) (hc0 : ¬cond0_0 i) (hc1 : cond0_1 i) (hc2 : ¬cond0_2 i)
    (x0 : Vec F S256x9728 .fp8e4m3) (x1 : Vec F S256x1 .f32) (x2 : Vec F S9728x2560 .fp8e4m3) (x3 : Vec F S1x2560 .f32) (x4 : Vec F S256x2560 .f32) (x5 : Vec F S1x2560 .f32) (x6 : Vec F S256x2560 .i8) (x7 : Vec F S256x1 .f32) (x8 : Vec F S1x2560 .f32) (x9 : Vec F S1x2560 .f32) (xs0 : Vec F S256x2560 .f32)

/-- Case B's pieces for output 10 tile its block (1 store of `S256x2560`, checked by the kernel's evaluation: Lib/Ring.lean `Piece.tiledL`, linear in the pieces, through a loop's `@[irreducible]` trip theorem too), so they cover it. -/
theorem cover0_B_10 (y : S256x2560.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 x3 x4 x5 x6 x7 x8 x9 xs0).1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 x3 x4 x5 x6 x7 x8 x9 xs0).1 S256x2560.size (by sl_kernel_rfl) y

/-- What case B leaves in output 10's staging buffer: its pieces read back over junk. -/
def out0_B_10 : Vec F S256x2560 .f32 :=
  VO0_10.read (Elt F) (VO0_10.writes (Elt F) VO0_10.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 x3 x4 x5 x6 x7 x8 x9 xs0).1)

/-- Case B's pieces for output 11 tile its block (8 stores of `S32x2560`, checked by the kernel's evaluation: Lib/Ring.lean `Piece.tiledL`, linear in the pieces, through a loop's `@[irreducible]` trip theorem too), so they cover it. -/
theorem cover0_B_11 (y : S256x2560.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 x3 x4 x5 x6 x7 x8 x9 xs0).2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 x3 x4 x5 x6 x7 x8 x9 xs0).2.1 S32x2560.size (by sl_kernel_rfl) y

/-- What case B leaves in output 11's staging buffer: its pieces read back over junk. -/
def out0_B_11 : Vec F S256x2560 .fp8e4m3 :=
  VO0_11.read (Elt F) (VO0_11.writes (Elt F) VO0_11.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 x3 x4 x5 x6 x7 x8 x9 xs0).2.1)

/-- Case B's pieces for output 12 tile its block (8 stores of `S32x1`, checked by the kernel's evaluation: Lib/Ring.lean `Piece.tiledL`, linear in the pieces, through a loop's `@[irreducible]` trip theorem too), so they cover it. -/
theorem cover0_B_12 (y : S256x1.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 x3 x4 x5 x6 x7 x8 x9 xs0).2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 x3 x4 x5 x6 x7 x8 x9 xs0).2.2.1 S32x1.size (by sl_kernel_rfl) y

/-- What case B leaves in output 12's staging buffer: its pieces read back over junk. -/
def out0_B_12 : Vec F S256x1 .f32 :=
  VO0_12.read (Elt F) (VO0_12.writes (Elt F) VO0_12.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 x3 x4 x5 x6 x7 x8 x9 xs0).2.2.1)

/-- Case B's pieces for output 13 tile its block (16 stores of `S32x2560`, checked by the kernel's evaluation: Lib/Ring.lean `Piece.tiledL`, linear in the pieces, through a loop's `@[irreducible]` trip theorem too), so they cover it. -/
theorem cover0_B_13 (y : S256x5120.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 x3 x4 x5 x6 x7 x8 x9 xs0).2.2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 x3 x4 x5 x6 x7 x8 x9 xs0).2.2.2.1 S32x2560.size (by sl_kernel_rfl) y

/-- What case B leaves in output 13's staging buffer: its pieces read back over junk. -/
def out0_B_13 : Vec F S256x5120 .fp8e4m3 :=
  VO0_13.read (Elt F) (VO0_13.writes (Elt F) VO0_13.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 x3 x4 x5 x6 x7 x8 x9 xs0).2.2.2.1)

/-- Case B's pieces for output 14 tile its block (8 stores of `S32x1`, checked by the kernel's evaluation: Lib/Ring.lean `Piece.tiledL`, linear in the pieces, through a loop's `@[irreducible]` trip theorem too), so they cover it. -/
theorem cover0_B_14 (y : S256x1.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 x3 x4 x5 x6 x7 x8 x9 xs0).2.2.2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 x3 x4 x5 x6 x7 x8 x9 xs0).2.2.2.2.1 S32x1.size (by sl_kernel_rfl) y

/-- What case B leaves in output 14's staging buffer: its pieces read back over junk. -/
def out0_B_14 : Vec F S256x1 .f32 :=
  VO0_14.read (Elt F) (VO0_14.writes (Elt F) VO0_14.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 x3 x4 x5 x6 x7 x8 x9 xs0).2.2.2.2.1)

/-- Case B's pieces for scratch `arg16`, which the kernel carries between points, cover it: 10 pieces of `S256x256` tiling it (Lib/Ring.lean `Piece.tiledL`). -/
theorem scover0_B_0 (y : S256x2560.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 x3 x4 x5 x6 x7 x8 x9 xs0).2.2.2.2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 x3 x4 x5 x6 x7 x8 x9 xs0).2.2.2.2.2.1 S256x256.size (by sl_kernel_rfl) y

/-- What case B leaves in scratch `arg16`: its pieces read back over junk. -/
def sout0_B_0 : Vec F S256x2560 .f32 :=
  VS0_0.read (Elt F) (VS0_0.writes (Elt F) VS0_0.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 x3 x4 x5 x6 x7 x8 x9 xs0).2.2.2.2.2.1)

end

section
variable (c : Dev nD) (i : grid0.Coords) (arg1 : Memref sig .tc .vmem S256x9728 .fp8e4m3) (harg1 : arg1.IsWhole) (arg2 : Memref sig .tc .vmem S256x1 .f32) (harg2 : arg2.IsWhole) (arg3 : Memref sig .tc .vmem S9728x2560 .fp8e4m3) (harg3 : arg3.IsWhole) (arg4 : Memref sig .tc .vmem S1x2560 .f32) (harg4 : arg4.IsWhole) (arg5 : Memref sig .tc .vmem S256x2560 .f32) (harg5 : arg5.IsWhole) (arg6 : Memref sig .tc .vmem S1x2560 .f32) (harg6 : arg6.IsWhole) (arg7 : Memref sig .tc .vmem S256x2560 .i8) (harg7 : arg7.IsWhole) (arg8 : Memref sig .tc .vmem S256x1 .f32) (harg8 : arg8.IsWhole) (arg9 : Memref sig .tc .vmem S1x2560 .f32) (harg9 : arg9.IsWhole) (arg10 : Memref sig .tc .vmem S1x2560 .f32) (harg10 : arg10.IsWhole) (arg11 : Memref sig .tc .vmem S256x2560 .f32) (harg11 : arg11.IsWhole) (arg12 : Memref sig .tc .vmem S256x2560 .fp8e4m3) (harg12 : arg12.IsWhole) (arg13 : Memref sig .tc .vmem S256x1 .f32) (harg13 : arg13.IsWhole) (arg14 : Memref sig .tc .vmem S256x5120 .fp8e4m3) (harg14 : arg14.IsWhole) (arg15 : Memref sig .tc .vmem S256x1 .f32) (harg15 : arg15.IsWhole) (arg16 : Memref sig .tc .vmem S256x2560 .f32) (harg16 : arg16.IsWhole) (arg17 : Memref sig .tc .vmem S256x2560 .f32) (harg17 : arg17.IsWhole) (hc0 : ¬cond0_0 i) (hc1 : ¬cond0_1 i) (hc2 : cond0_2 i)
    (x0 : Vec F S256x9728 .fp8e4m3) (x1 : Vec F S256x1 .f32) (x2 : Vec F S9728x2560 .fp8e4m3) (x3 : Vec F S1x2560 .f32) (x4 : Vec F S256x2560 .f32) (x5 : Vec F S1x2560 .f32) (x6 : Vec F S256x2560 .i8) (x7 : Vec F S256x1 .f32) (x8 : Vec F S1x2560 .f32) (x9 : Vec F S1x2560 .f32) (xs0 : Vec F S256x2560 .f32)

/-- Case C's pieces for output 10 tile its block (1 store of `S256x2560`, checked by the kernel's evaluation: Lib/Ring.lean `Piece.tiledL`, linear in the pieces, through a loop's `@[irreducible]` trip theorem too), so they cover it. -/
theorem cover0_C_10 (y : S256x2560.Idx) :
    ∃ pc ∈ (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 x3 x4 x5 x6 x7 x8 x9 xs0).1, y ∈ pc.1.set :=
  View.cover_of_tiledL (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 x3 x4 x5 x6 x7 x8 x9 xs0).1 S256x2560.size (by sl_kernel_rfl) y

/-- What case C leaves in output 10's staging buffer: its pieces read back over junk. -/
def out0_C_10 : Vec F S256x2560 .f32 :=
  VO0_10.read (Elt F) (VO0_10.writes (Elt F) VO0_10.junk (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 x3 x4 x5 x6 x7 x8 x9 xs0).1)

/-- Case C's pieces for output 11 tile its block (8 stores of `S32x2560`, checked by the kernel's evaluation: Lib/Ring.lean `Piece.tiledL`, linear in the pieces, through a loop's `@[irreducible]` trip theorem too), so they cover it. -/
theorem cover0_C_11 (y : S256x2560.Idx) :
    ∃ pc ∈ (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 x3 x4 x5 x6 x7 x8 x9 xs0).2.1, y ∈ pc.1.set :=
  View.cover_of_tiledL (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 x3 x4 x5 x6 x7 x8 x9 xs0).2.1 S32x2560.size (by sl_kernel_rfl) y

/-- What case C leaves in output 11's staging buffer: its pieces read back over junk. -/
def out0_C_11 : Vec F S256x2560 .fp8e4m3 :=
  VO0_11.read (Elt F) (VO0_11.writes (Elt F) VO0_11.junk (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 x3 x4 x5 x6 x7 x8 x9 xs0).2.1)

/-- Case C's pieces for output 12 tile its block (8 stores of `S32x1`, checked by the kernel's evaluation: Lib/Ring.lean `Piece.tiledL`, linear in the pieces, through a loop's `@[irreducible]` trip theorem too), so they cover it. -/
theorem cover0_C_12 (y : S256x1.Idx) :
    ∃ pc ∈ (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 x3 x4 x5 x6 x7 x8 x9 xs0).2.2.1, y ∈ pc.1.set :=
  View.cover_of_tiledL (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 x3 x4 x5 x6 x7 x8 x9 xs0).2.2.1 S32x1.size (by sl_kernel_rfl) y

/-- What case C leaves in output 12's staging buffer: its pieces read back over junk. -/
def out0_C_12 : Vec F S256x1 .f32 :=
  VO0_12.read (Elt F) (VO0_12.writes (Elt F) VO0_12.junk (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 x3 x4 x5 x6 x7 x8 x9 xs0).2.2.1)

/-- Case C's pieces for output 13 tile its block (16 stores of `S32x2560`, checked by the kernel's evaluation: Lib/Ring.lean `Piece.tiledL`, linear in the pieces, through a loop's `@[irreducible]` trip theorem too), so they cover it. -/
theorem cover0_C_13 (y : S256x5120.Idx) :
    ∃ pc ∈ (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 x3 x4 x5 x6 x7 x8 x9 xs0).2.2.2.1, y ∈ pc.1.set :=
  View.cover_of_tiledL (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 x3 x4 x5 x6 x7 x8 x9 xs0).2.2.2.1 S32x2560.size (by sl_kernel_rfl) y

/-- What case C leaves in output 13's staging buffer: its pieces read back over junk. -/
def out0_C_13 : Vec F S256x5120 .fp8e4m3 :=
  VO0_13.read (Elt F) (VO0_13.writes (Elt F) VO0_13.junk (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 x3 x4 x5 x6 x7 x8 x9 xs0).2.2.2.1)

/-- Case C's pieces for output 14 tile its block (8 stores of `S32x1`, checked by the kernel's evaluation: Lib/Ring.lean `Piece.tiledL`, linear in the pieces, through a loop's `@[irreducible]` trip theorem too), so they cover it. -/
theorem cover0_C_14 (y : S256x1.Idx) :
    ∃ pc ∈ (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 x3 x4 x5 x6 x7 x8 x9 xs0).2.2.2.2.1, y ∈ pc.1.set :=
  View.cover_of_tiledL (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 x3 x4 x5 x6 x7 x8 x9 xs0).2.2.2.2.1 S32x1.size (by sl_kernel_rfl) y

/-- What case C leaves in output 14's staging buffer: its pieces read back over junk. -/
def out0_C_14 : Vec F S256x1 .f32 :=
  VO0_14.read (Elt F) (VO0_14.writes (Elt F) VO0_14.junk (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 x3 x4 x5 x6 x7 x8 x9 xs0).2.2.2.2.1)

end

/-- Case C stores nothing into scratch `arg16`: it holds what the point before left. -/
def sout0_C_0 (c : Dev nD) (i : grid0.Coords) (arg1 : Memref sig .tc .vmem S256x9728 .fp8e4m3) (harg1 : arg1.IsWhole) (arg2 : Memref sig .tc .vmem S256x1 .f32) (harg2 : arg2.IsWhole) (arg3 : Memref sig .tc .vmem S9728x2560 .fp8e4m3) (harg3 : arg3.IsWhole) (arg4 : Memref sig .tc .vmem S1x2560 .f32) (harg4 : arg4.IsWhole) (arg5 : Memref sig .tc .vmem S256x2560 .f32) (harg5 : arg5.IsWhole) (arg6 : Memref sig .tc .vmem S1x2560 .f32) (harg6 : arg6.IsWhole) (arg7 : Memref sig .tc .vmem S256x2560 .i8) (harg7 : arg7.IsWhole) (arg8 : Memref sig .tc .vmem S256x1 .f32) (harg8 : arg8.IsWhole) (arg9 : Memref sig .tc .vmem S1x2560 .f32) (harg9 : arg9.IsWhole) (arg10 : Memref sig .tc .vmem S1x2560 .f32) (harg10 : arg10.IsWhole) (arg11 : Memref sig .tc .vmem S256x2560 .f32) (harg11 : arg11.IsWhole) (arg12 : Memref sig .tc .vmem S256x2560 .fp8e4m3) (harg12 : arg12.IsWhole) (arg13 : Memref sig .tc .vmem S256x1 .f32) (harg13 : arg13.IsWhole) (arg14 : Memref sig .tc .vmem S256x5120 .fp8e4m3) (harg14 : arg14.IsWhole) (arg15 : Memref sig .tc .vmem S256x1 .f32) (harg15 : arg15.IsWhole) (arg16 : Memref sig .tc .vmem S256x2560 .f32) (harg16 : arg16.IsWhole) (arg17 : Memref sig .tc .vmem S256x2560 .f32) (harg17 : arg17.IsWhole) (hc0 : ¬cond0_0 i) (hc1 : ¬cond0_1 i) (hc2 : cond0_2 i)
    (x0 : Vec F S256x9728 .fp8e4m3) (x1 : Vec F S256x1 .f32) (x2 : Vec F S9728x2560 .fp8e4m3) (x3 : Vec F S1x2560 .f32) (x4 : Vec F S256x2560 .f32) (x5 : Vec F S1x2560 .f32) (x6 : Vec F S256x2560 .i8) (x7 : Vec F S256x1 .f32) (x8 : Vec F S1x2560 .f32) (x9 : Vec F S1x2560 .f32) (xs0 : Vec F S256x2560 .f32) : Vec F S256x2560 .f32 := xs0

/-! ## What the outputs hold after each point -/

/-- THE ACCUMULATION. What the outputs' staging buffers and the scratch the kernel carries between points hold after the body at position `n` (a tuple: the outputs in window order, then the scratch):
    the case the closed forms select at `n`, run at the point's memrefs and input blocks, an output it reads before covering
    at what this leaves at `n - 1` (its buffer is not written back between: `before0_W_κ`). An assignment of the conditions no point meets is no case (`False.elim`). -/
def outsAt0 (c : Dev nD) : (n : ℕ) → n < cfg0.N → Vec F S256x2560 .f32 × Vec F S256x2560 .fp8e4m3 × Vec F S256x1 .f32 × Vec F S256x5120 .fp8e4m3 × Vec F S256x1 .f32 × Vec F S256x2560 .f32
  | 0, hn => (out0_A_10 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) scM0_0 (Memref.isWhole_whole _) scM0_1 (Memref.isWhole_whole _) ((hcond0_0 ⟨0, hn⟩).mpr (Nat.zero_mod _)) ((hcond0_1 ⟨0, hn⟩).mpr (by (try dsimp only); omega)) (fun h => (fun h => by (try dsimp only at h); omega) ((hcond0_2 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩), out0_A_11 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) scM0_0 (Memref.isWhole_whole _) scM0_1 (Memref.isWhole_whole _) ((hcond0_0 ⟨0, hn⟩).mpr (Nat.zero_mod _)) ((hcond0_1 ⟨0, hn⟩).mpr (by (try dsimp only); omega)) (fun h => (fun h => by (try dsimp only at h); omega) ((hcond0_2 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩), out0_A_12 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) scM0_0 (Memref.isWhole_whole _) scM0_1 (Memref.isWhole_whole _) ((hcond0_0 ⟨0, hn⟩).mpr (Nat.zero_mod _)) ((hcond0_1 ⟨0, hn⟩).mpr (by (try dsimp only); omega)) (fun h => (fun h => by (try dsimp only at h); omega) ((hcond0_2 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩), out0_A_13 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) scM0_0 (Memref.isWhole_whole _) scM0_1 (Memref.isWhole_whole _) ((hcond0_0 ⟨0, hn⟩).mpr (Nat.zero_mod _)) ((hcond0_1 ⟨0, hn⟩).mpr (by (try dsimp only); omega)) (fun h => (fun h => by (try dsimp only at h); omega) ((hcond0_2 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩), out0_A_14 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) scM0_0 (Memref.isWhole_whole _) scM0_1 (Memref.isWhole_whole _) ((hcond0_0 ⟨0, hn⟩).mpr (Nat.zero_mod _)) ((hcond0_1 ⟨0, hn⟩).mpr (by (try dsimp only); omega)) (fun h => (fun h => by (try dsimp only at h); omega) ((hcond0_2 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) scM0_0 (Memref.isWhole_whole _) scM0_1 (Memref.isWhole_whole _) ((hcond0_0 ⟨0, hn⟩).mpr (Nat.zero_mod _)) ((hcond0_1 ⟨0, hn⟩).mpr (by (try dsimp only); omega)) (fun h => (fun h => by (try dsimp only at h); omega) ((hcond0_2 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩))
  | n + 1, hn =>
    if h0 : (n + 1) % 31 = 0 then
      if h1 : (n + 1) < 30 then
        if h2 : (n + 1) % 31 = 30 then
          False.elim (by have hN : n + 1 < 31 := lt_of_lt_of_eq hn (show cfg0.N = 31 from N_0); omega)
        else
          (out0_A_10 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) scM0_0 (Memref.isWhole_whole _) scM0_1 (Memref.isWhole_whole _) ((hcond0_0 ⟨n + 1, hn⟩).mpr h0) ((hcond0_1 ⟨n + 1, hn⟩).mpr h1) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩), out0_A_11 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) scM0_0 (Memref.isWhole_whole _) scM0_1 (Memref.isWhole_whole _) ((hcond0_0 ⟨n + 1, hn⟩).mpr h0) ((hcond0_1 ⟨n + 1, hn⟩).mpr h1) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩), out0_A_12 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) scM0_0 (Memref.isWhole_whole _) scM0_1 (Memref.isWhole_whole _) ((hcond0_0 ⟨n + 1, hn⟩).mpr h0) ((hcond0_1 ⟨n + 1, hn⟩).mpr h1) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩), out0_A_13 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) scM0_0 (Memref.isWhole_whole _) scM0_1 (Memref.isWhole_whole _) ((hcond0_0 ⟨n + 1, hn⟩).mpr h0) ((hcond0_1 ⟨n + 1, hn⟩).mpr h1) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩), out0_A_14 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) scM0_0 (Memref.isWhole_whole _) scM0_1 (Memref.isWhole_whole _) ((hcond0_0 ⟨n + 1, hn⟩).mpr h0) ((hcond0_1 ⟨n + 1, hn⟩).mpr h1) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) scM0_0 (Memref.isWhole_whole _) scM0_1 (Memref.isWhole_whole _) ((hcond0_0 ⟨n + 1, hn⟩).mpr h0) ((hcond0_1 ⟨n + 1, hn⟩).mpr h1) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩))
      else
        False.elim (by have hN : n + 1 < 31 := lt_of_lt_of_eq hn (show cfg0.N = 31 from N_0); omega)
    else
      if h1 : (n + 1) < 30 then
        if h2 : (n + 1) % 31 = 30 then
          False.elim (by have hN : n + 1 < 31 := lt_of_lt_of_eq hn (show cfg0.N = 31 from N_0); omega)
        else
          (out0_B_10 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) scM0_0 (Memref.isWhole_whole _) scM0_1 (Memref.isWhole_whole _) (fun h => h0 ((hcond0_0 ⟨n + 1, hn⟩).mp h)) ((hcond0_1 ⟨n + 1, hn⟩).mpr h1) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (outsAt0 c n (Nat.lt_of_succ_lt hn)).2.2.2.2.2, out0_B_11 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) scM0_0 (Memref.isWhole_whole _) scM0_1 (Memref.isWhole_whole _) (fun h => h0 ((hcond0_0 ⟨n + 1, hn⟩).mp h)) ((hcond0_1 ⟨n + 1, hn⟩).mpr h1) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (outsAt0 c n (Nat.lt_of_succ_lt hn)).2.2.2.2.2, out0_B_12 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) scM0_0 (Memref.isWhole_whole _) scM0_1 (Memref.isWhole_whole _) (fun h => h0 ((hcond0_0 ⟨n + 1, hn⟩).mp h)) ((hcond0_1 ⟨n + 1, hn⟩).mpr h1) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (outsAt0 c n (Nat.lt_of_succ_lt hn)).2.2.2.2.2, out0_B_13 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) scM0_0 (Memref.isWhole_whole _) scM0_1 (Memref.isWhole_whole _) (fun h => h0 ((hcond0_0 ⟨n + 1, hn⟩).mp h)) ((hcond0_1 ⟨n + 1, hn⟩).mpr h1) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (outsAt0 c n (Nat.lt_of_succ_lt hn)).2.2.2.2.2, out0_B_14 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) scM0_0 (Memref.isWhole_whole _) scM0_1 (Memref.isWhole_whole _) (fun h => h0 ((hcond0_0 ⟨n + 1, hn⟩).mp h)) ((hcond0_1 ⟨n + 1, hn⟩).mpr h1) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (outsAt0 c n (Nat.lt_of_succ_lt hn)).2.2.2.2.2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) scM0_0 (Memref.isWhole_whole _) scM0_1 (Memref.isWhole_whole _) (fun h => h0 ((hcond0_0 ⟨n + 1, hn⟩).mp h)) ((hcond0_1 ⟨n + 1, hn⟩).mpr h1) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (outsAt0 c n (Nat.lt_of_succ_lt hn)).2.2.2.2.2)
      else
        if h2 : (n + 1) % 31 = 30 then
          (out0_C_10 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) ((hcond0_2 ⟨n + 1, hn⟩).mpr h2) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (outsAt0 c n (Nat.lt_of_succ_lt hn)).2.2.2.2.2, out0_C_11 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) ((hcond0_2 ⟨n + 1, hn⟩).mpr h2) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (outsAt0 c n (Nat.lt_of_succ_lt hn)).2.2.2.2.2, out0_C_12 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) ((hcond0_2 ⟨n + 1, hn⟩).mpr h2) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (outsAt0 c n (Nat.lt_of_succ_lt hn)).2.2.2.2.2, out0_C_13 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) ((hcond0_2 ⟨n + 1, hn⟩).mpr h2) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (outsAt0 c n (Nat.lt_of_succ_lt hn)).2.2.2.2.2, out0_C_14 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) ((hcond0_2 ⟨n + 1, hn⟩).mpr h2) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (outsAt0 c n (Nat.lt_of_succ_lt hn)).2.2.2.2.2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) ((hcond0_2 ⟨n + 1, hn⟩).mpr h2) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (outsAt0 c n (Nat.lt_of_succ_lt hn)).2.2.2.2.2)
        else
          False.elim (by have hN : n + 1 < 31 := lt_of_lt_of_eq hn (show cfg0.N = 31 from N_0); omega)

/-- `outsAt0` at a point of case A: that case's contents. -/
theorem outsAt0_A (c : Dev nD) (t : Fin cfg0.N) (h0 : t.val % 31 = 0) (h1 : t.val < 30) (h2 : ¬t.val % 31 = 30) :
    outsAt0 m c t.val t.isLt = (out0_A_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) ((hcond0_0 t).mpr h0) ((hcond0_1 t).mpr h1) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (iblk m c 9 t), out0_A_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) ((hcond0_0 t).mpr h0) ((hcond0_1 t).mpr h1) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (iblk m c 9 t), out0_A_12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) ((hcond0_0 t).mpr h0) ((hcond0_1 t).mpr h1) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (iblk m c 9 t), out0_A_13 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) ((hcond0_0 t).mpr h0) ((hcond0_1 t).mpr h1) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (iblk m c 9 t), out0_A_14 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) ((hcond0_0 t).mpr h0) ((hcond0_1 t).mpr h1) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (iblk m c 9 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) ((hcond0_0 t).mpr h0) ((hcond0_1 t).mpr h1) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (iblk m c 9 t)) := by
  obtain ⟨n, hn⟩ := t
  cases n with
  | zero => exact rfl
  | succ n => exact (dif_pos h0).trans ((dif_pos h1).trans ((dif_neg h2).trans rfl))

/-- `outsAt0` at a point of case B: that case's contents, over what the point before left. -/
theorem outsAt0_B (c : Dev nD) (t : Fin cfg0.N) (h0 : ¬t.val % 31 = 0) (h1 : t.val < 30) (h2 : ¬t.val % 31 = 30) :
    outsAt0 m c t.val t.isLt = (out0_B_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) (fun h => h0 ((hcond0_0 t).mp h)) ((hcond0_1 t).mpr h1) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (iblk m c 9 t) (outsAt0 m c (t.val - 1) (Nat.lt_of_le_of_lt (Nat.sub_le _ _) t.isLt)).2.2.2.2.2, out0_B_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) (fun h => h0 ((hcond0_0 t).mp h)) ((hcond0_1 t).mpr h1) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (iblk m c 9 t) (outsAt0 m c (t.val - 1) (Nat.lt_of_le_of_lt (Nat.sub_le _ _) t.isLt)).2.2.2.2.2, out0_B_12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) (fun h => h0 ((hcond0_0 t).mp h)) ((hcond0_1 t).mpr h1) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (iblk m c 9 t) (outsAt0 m c (t.val - 1) (Nat.lt_of_le_of_lt (Nat.sub_le _ _) t.isLt)).2.2.2.2.2, out0_B_13 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) (fun h => h0 ((hcond0_0 t).mp h)) ((hcond0_1 t).mpr h1) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (iblk m c 9 t) (outsAt0 m c (t.val - 1) (Nat.lt_of_le_of_lt (Nat.sub_le _ _) t.isLt)).2.2.2.2.2, out0_B_14 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) (fun h => h0 ((hcond0_0 t).mp h)) ((hcond0_1 t).mpr h1) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (iblk m c 9 t) (outsAt0 m c (t.val - 1) (Nat.lt_of_le_of_lt (Nat.sub_le _ _) t.isLt)).2.2.2.2.2, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) (fun h => h0 ((hcond0_0 t).mp h)) ((hcond0_1 t).mpr h1) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (iblk m c 9 t) (outsAt0 m c (t.val - 1) (Nat.lt_of_le_of_lt (Nat.sub_le _ _) t.isLt)).2.2.2.2.2) := by
  obtain ⟨n, hn⟩ := t
  cases n with
  | zero => exact (by exfalso; (try dsimp only at h0); exact absurd (Nat.zero_mod _) h0)
  | succ n => exact (dif_neg h0).trans ((dif_pos h1).trans ((dif_neg h2).trans rfl))

/-- `outsAt0` at a point of case C: that case's contents, over what the point before left. -/
theorem outsAt0_C (c : Dev nD) (t : Fin cfg0.N) (h0 : ¬t.val % 31 = 0) (h1 : ¬t.val < 30) (h2 : t.val % 31 = 30) :
    outsAt0 m c t.val t.isLt = (out0_C_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) (fun h => h0 ((hcond0_0 t).mp h)) (fun h => h1 ((hcond0_1 t).mp h)) ((hcond0_2 t).mpr h2) (iblk m c 0 t) (iblk m c 1 t) (iblk m c 2 t) (iblk m c 3 t) (iblk m c 4 t) (iblk m c 5 t) (iblk m c 6 t) (iblk m c 7 t) (iblk m c 8 t) (iblk m c 9 t) (outsAt0 m c (t.val - 1) (Nat.lt_of_le_of_lt (Nat.sub_le _ _) t.isLt)).2.2.2.2.2, out0_C_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) (fun h => h0 ((hcond0_0 t).mp h)) (fun h => h1 ((hcond0_1 t).mp h)) ((hcond0_2 t).mpr h2) (iblk m c 0 t) (iblk m c 1 t) (iblk m c 2 t) (iblk m c 3 t) (iblk m c 4 t) (iblk m c 5 t) (iblk m c 6 t) (iblk m c 7 t) (iblk m c 8 t) (iblk m c 9 t) (outsAt0 m c (t.val - 1) (Nat.lt_of_le_of_lt (Nat.sub_le _ _) t.isLt)).2.2.2.2.2, out0_C_12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) (fun h => h0 ((hcond0_0 t).mp h)) (fun h => h1 ((hcond0_1 t).mp h)) ((hcond0_2 t).mpr h2) (iblk m c 0 t) (iblk m c 1 t) (iblk m c 2 t) (iblk m c 3 t) (iblk m c 4 t) (iblk m c 5 t) (iblk m c 6 t) (iblk m c 7 t) (iblk m c 8 t) (iblk m c 9 t) (outsAt0 m c (t.val - 1) (Nat.lt_of_le_of_lt (Nat.sub_le _ _) t.isLt)).2.2.2.2.2, out0_C_13 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) (fun h => h0 ((hcond0_0 t).mp h)) (fun h => h1 ((hcond0_1 t).mp h)) ((hcond0_2 t).mpr h2) (iblk m c 0 t) (iblk m c 1 t) (iblk m c 2 t) (iblk m c 3 t) (iblk m c 4 t) (iblk m c 5 t) (iblk m c 6 t) (iblk m c 7 t) (iblk m c 8 t) (iblk m c 9 t) (outsAt0 m c (t.val - 1) (Nat.lt_of_le_of_lt (Nat.sub_le _ _) t.isLt)).2.2.2.2.2, out0_C_14 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) (fun h => h0 ((hcond0_0 t).mp h)) (fun h => h1 ((hcond0_1 t).mp h)) ((hcond0_2 t).mpr h2) (iblk m c 0 t) (iblk m c 1 t) (iblk m c 2 t) (iblk m c 3 t) (iblk m c 4 t) (iblk m c 5 t) (iblk m c 6 t) (iblk m c 7 t) (iblk m c 8 t) (iblk m c 9 t) (outsAt0 m c (t.val - 1) (Nat.lt_of_le_of_lt (Nat.sub_le _ _) t.isLt)).2.2.2.2.2, sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) (fun h => h0 ((hcond0_0 t).mp h)) (fun h => h1 ((hcond0_1 t).mp h)) ((hcond0_2 t).mpr h2) (iblk m c 0 t) (iblk m c 1 t) (iblk m c 2 t) (iblk m c 3 t) (iblk m c 4 t) (iblk m c 5 t) (iblk m c 6 t) (iblk m c 7 t) (iblk m c 8 t) (iblk m c 9 t) (outsAt0 m c (t.val - 1) (Nat.lt_of_le_of_lt (Nat.sub_le _ _) t.isLt)).2.2.2.2.2) := by
  obtain ⟨n, hn⟩ := t
  cases n with
  | zero => exact (by exfalso; (try dsimp only at h0); exact absurd (Nat.zero_mod _) h0)
  | succ n => exact (dif_neg h0).trans ((dif_neg h1).trans ((dif_pos h2).trans rfl))

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.2.2.2.2) ∗ (∃ d, owns (c : Thread nD τ) scM0_1 fullShare d)) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop(owns (c : Thread nD τ) scM0_0 fullShare ((outsAt0 m c n hn).2.2.2.2.2) ∗ (∃ d, owns (c : Thread nD τ) scM0_1 fullShare d)) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop(owns (c : Thread nD τ) scM0_0 fullShare ((outsAt0 m c (n - 1) (by omega)).2.2.2.2.2) ∗ (∃ d, owns (c : Thread nD τ) scM0_1 fullShare d)) ∗ (∃ r, prngReg c r)) := by
  cases n with
  | zero => exact absurd rfl hz
  | succ n => rfl

/-! ## The pipeline's proof data -/

/-- The proof data of the one pipeline on core `c`: the arrays as the region finds them (`V`); after the body at
    point `t` each input's buffer at its block and the outputs' at `outsAt0`; the invariant the class's
    (`PhiS`: the class's `ΦA` before the first point, then the scoped rest with the carried scratch at `outsAt0`'s component);
    nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => (outsAt0 m c t.val t.isLt).1
    | ⟨11, _⟩ => (outsAt0 m c t.val t.isLt).2.1
    | ⟨12, _⟩ => (outsAt0 m c t.val t.isLt).2.2.1
    | ⟨13, _⟩ => (outsAt0 m c t.val t.isLt).2.2.2.1
    | ⟨14, _⟩ => (outsAt0 m c t.val t.isLt).2.2.2.2.1
  Φ t := PhiS m c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = (outsAt0 m c t.val t.isLt).1 := by dsimp only [dats]
theorem after0_11 (c : Dev nD) (t : Fin cfg0.N) : (dats m 0 c).after 11 t = (outsAt0 m c t.val t.isLt).2.1 := by dsimp only [dats]
theorem after0_12 (c : Dev nD) (t : Fin cfg0.N) : (dats m 0 c).after 12 t = (outsAt0 m c t.val t.isLt).2.2.1 := by dsimp only [dats]
theorem after0_13 (c : Dev nD) (t : Fin cfg0.N) : (dats m 0 c).after 13 t = (outsAt0 m c t.val t.isLt).2.2.2.1 := by dsimp only [dats]
theorem after0_14 (c : Dev nD) (t : Fin cfg0.N) : (dats m 0 c).after 14 t = (outsAt0 m c t.val t.isLt).2.2.2.2.1 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d

end Cert.DownIdeal.Gen

end
-- ==== Proof.Down.Ideal.Frame.lean ====
module

public import proofs.«01_k».proof.Proof.Down.Ideal.Outs
public import Idealize.ShloMosaic.Lib.Claim

/-! The frame of the down projection's ideal kernel: the generated text over this directory's `Outs`. -/

@[expose] public section

-- membership in a rectangle of production extents (`View.cover_of_tiled`): the elaborator's structural look
-- recurses once per coordinate of the long axes
set_option maxRecDepth 16384

noncomputable section

namespace Cert.DownIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t
    ∗ (dats m 0 c).leavesExact 14 t)

set_option maxHeartbeats 19200000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9]
  rw [show (dats m 0 c).owesAt () t.succ = (dats m 0 c).owesAt () t.castSucc from rfl]
  rw [show (dats m 0 c).Φ t.succ = PhiS m c (t.val + 1) t.isLt from rfl, PhiS_succ]
  have hN : t.val < 31 := lt_of_lt_of_eq t.isLt (show cfg0.N = 31 from N_0)
  by_cases h0 : t.val % 31 = 0
  · by_cases h1 : t.val < 30
    · by_cases h2 : t.val % 31 = 30
      · exfalso; omega
      · rw [show (dats m 0 c).leavesExact 0 t = owns (c : Thread nD τ) (ms0_0 t) fullShare ((dats m 0 c).after 0 t) from by
      unfold Dat.leavesExact; rw [liveAt0_0 t], after0_0]
        rw [show (dats m 0 c).leavesExact 1 t = owns (c : Thread nD τ) (ms0_1 t) fullShare ((dats m 0 c).after 1 t) from by
      unfold Dat.leavesExact; rw [liveAt0_1 t], after0_1]
        rw [show (dats m 0 c).leavesExact 2 t = owns (c : Thread nD τ) (ms0_2 t) fullShare ((dats m 0 c).after 2 t) from by
      unfold Dat.leavesExact; rw [liveAt0_2 t], after0_2]
        rw [show (dats m 0 c).leavesExact 3 t = owns (c : Thread nD τ) (ms0_3 t) fullShare ((dats m 0 c).after 3 t) from by
      unfold Dat.leavesExact; rw [liveAt0_3 t], after0_3]
        rw [show (dats m 0 c).leavesExact 4 t = owns (c : Thread nD τ) (ms0_4 t) fullShare ((dats m 0 c).after 4 t) from by
      unfold Dat.leavesExact; rw [liveAt0_4 t], after0_4]
        rw [show (dats m 0 c).leavesExact 5 t = owns (c : Thread nD τ) (ms0_5 t) fullShare ((dats m 0 c).after 5 t) from by
      unfold Dat.leavesExact; rw [liveAt0_5 t], after0_5]
        rw [show (dats m 0 c).leavesExact 6 t = owns (c : Thread nD τ) (ms0_6 t) fullShare ((dats m 0 c).after 6 t) from by
      unfold Dat.leavesExact; rw [liveAt0_6 t], after0_6]
        rw [show (dats m 0 c).leavesExact 7 t = owns (c : Thread nD τ) (ms0_7 t) fullShare ((dats m 0 c).after 7 t) from by
      unfold Dat.leavesExact; rw [liveAt0_7 t], after0_7]
        rw [show (dats m 0 c).leavesExact 8 t = owns (c : Thread nD τ) (ms0_8 t) fullShare ((dats m 0 c).after 8 t) from by
      unfold Dat.leavesExact; rw [liveAt0_8 t], after0_8]
        rw [show (dats m 0 c).leavesExact 9 t = owns (c : Thread nD τ) (ms0_9 t) fullShare ((dats m 0 c).after 9 t) from by
      unfold Dat.leavesExact; rw [liveAt0_9 t], after0_9]
        rw [show (dats m 0 c).leavesExact 10 t = owns (c : Thread nD τ) (ms0_10 t) fullShare ((dats m 0 c).after 10 t) from by
      unfold Dat.leavesExact; rw [liveAt0_10_A t ((hcond0_0 t).mpr h0) ((hcond0_1 t).mpr h1) (fun h => h2 ((hcond0_2 t).mp h))], after0_10]
        rw [show (dats m 0 c).leavesExact 11 t = owns (c : Thread nD τ) (ms0_11 t) fullShare ((dats m 0 c).after 11 t) from by
      unfold Dat.leavesExact; rw [liveAt0_11_A t ((hcond0_0 t).mpr h0) ((hcond0_1 t).mpr h1) (fun h => h2 ((hcond0_2 t).mp h))], after0_11]
        rw [show (dats m 0 c).leavesExact 12 t = owns (c : Thread nD τ) (ms0_12 t) fullShare ((dats m 0 c).after 12 t) from by
      unfold Dat.leavesExact; rw [liveAt0_12_A t ((hcond0_0 t).mpr h0) ((hcond0_1 t).mpr h1) (fun h => h2 ((hcond0_2 t).mp h))], after0_12]
        rw [show (dats m 0 c).leavesExact 13 t = owns (c : Thread nD τ) (ms0_13 t) fullShare ((dats m 0 c).after 13 t) from by
      unfold Dat.leavesExact; rw [liveAt0_13_A t ((hcond0_0 t).mpr h0) ((hcond0_1 t).mpr h1) (fun h => h2 ((hcond0_2 t).mp h))], after0_13]
        rw [show (dats m 0 c).leavesExact 14 t = owns (c : Thread nD τ) (ms0_14 t) fullShare ((dats m 0 c).after 14 t) from by
      unfold Dat.leavesExact; rw [liveAt0_14_A t ((hcond0_0 t).mpr h0) ((hcond0_1 t).mpr h1) (fun h => h2 ((hcond0_2 t).mp h))], after0_14]
        by_cases hz : t.val = 0
        · rw [PhiS_castSucc m c t, PhiS_zero m c _ _ hz, PhiA0_eq]
          rw [outsAt0_A m c t h0 h1 h2]
          unfold out0_A_10 out0_A_11 out0_A_12 out0_A_13 out0_A_14 sout0_A_0; (try dsimp only)
          iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
          iapply ((kernelRun0_A c (grid0.coords t) _ _ _ _ _ _ _ _ _ _ _ _ _ _ _ _ _ _ _ _ _ _ _ _ _ _ _ _ _ _ _ _ _ _ ((hcond0_0 t).mpr h0) ((hcond0_1 t).mpr h1) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (iblk m c 9 t)).2.2.2.2.2.2.2 Set.univ _)
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          isplitl [H9]; · iexact H9
          isplitl [H10]; · iexists _; iexact H10
          isplitl [H11]; · iexists _; iexact H11
          isplitl [H12]; · iexists _; iexact H12
          isplitl [H13]; · iexists _; iexact H13
          isplitl [H14]; · iexists _; iexact H14
          isplitl [HS0]; · iexact HS0
          isplitl [HS1]; · iexact HS1
          iintro ⟨H0, H1, H2, H3, H4, H5, H6, H7, H8, H9, ⟨%e10, H10⟩, ⟨%e11, H11⟩, ⟨%e12, H12⟩, ⟨%e13, H13⟩, ⟨%e14, H14⟩, ⟨%es0, HS0⟩, ⟨%fT1, HS1⟩⟩
          isplitl [HS0 HS1 Hg]
          · isplitl [HS0 HS1]
            · isplitl [HS0]
              · unfold owns; iexists _; isplitr
                swap; · iexact HS0
                ipureintro; exact View.read_writes_of_cover _ _ _ _ _ (scover0_A_0 c _ _ _ _ _ _ _ _ _ _ _ _ _ _ _ _ _ _ _ _ _ _ _ _ _ _ _ _ _ _ _ _ _ _ _ _ _ _ _ _ _ _ _ _ _ _ _ _)
              iexists _; unfold owns; iexists _; isplitr
              swap; · iexact HS1
              ipureintro; rfl
            iexact Hg
          isplitl [Ho]; · iexact Ho
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          isplitl [H9]; · iexact H9
          isplitl [H10]
          · unfold owns; iexists _; isplitr
            swap; · iexact H10
            ipureintro; exact View.read_writes_of_cover _ _ _ _ _ (cover0_A_10 c _ _ _ _ _ _ _ _ _ _ _ _ _ _ _ _ _ _ _ _ _ _ _ _ _ _ _ _ _ _ _ _ _ _ _ _ _ _ _ _ _ _ _ _ _ _ _ _)
          isplitl [H11]
          · unfold owns; iexists _; isplitr
            swap; · iexact H11
            ipureintro; exact View.read_writes_of_cover _ _ _ _ _ (cover0_A_11 c _ _ _ _ _ _ _ _ _ _ _ _ _ _ _ _ _ _ _ _ _ _ _ _ _ _ _ _ _ _ _ _ _ _ _ _ _ _ _ _ _ _ _ _ _ _ _ _)
          isplitl [H12]
          · unfold owns; iexists _; isplitr
            swap; · iexact H12
            ipureintro; exact View.read_writes_of_cover _ _ _ _ _ (cover0_A_12 c _ _ _ _ _ _ _ _ _ _ _ _ _ _ _ _ _ _ _ _ _ _ _ _ _ _ _ _ _ _ _ _ _ _ _ _ _ _ _ _ _ _ _ _ _ _ _ _)
          isplitl [H13]
          · unfold owns; iexists _; isplitr
            swap; · iexact H13
            ipureintro; exact View.read_writes_of_cover _ _ _ _ _ (cover0_A_13 c _ _ _ _ _ _ _ _ _ _ _ _ _ _ _ _ _ _ _ _ _ _ _ _ _ _ _ _ _ _ _ _ _ _ _ _ _ _ _ _ _ _ _ _ _ _ _ _)
          unfold owns; iexists _; isplitr
          swap; · iexact H14
          ipureintro; exact View.read_writes_of_cover _ _ _ _ _ (cover0_A_14 c _ _ _ _ _ _ _ _ _ _ _ _ _ _ _ _ _ _ _ _ _ _ _ _ _ _ _ _ _ _ _ _ _ _ _ _ _ _ _ _ _ _ _ _ _ _ _ _)
        · exfalso; have hN : t.val < 31 := lt_of_lt_of_eq t.isLt (show cfg0.N = 31 from N_0); omega
    · exfalso; omega
  · by_cases h1 : t.val < 30
    · by_cases h2 : t.val % 31 = 30
      · exfalso; omega
      · rw [show (dats m 0 c).leavesExact 0 t = owns (c : Thread nD τ) (ms0_0 t) fullShare ((dats m 0 c).after 0 t) from by
      unfold Dat.leavesExact; rw [liveAt0_0 t], after0_0]
        rw [show (dats m 0 c).leavesExact 1 t = owns (c : Thread nD τ) (ms0_1 t) fullShare ((dats m 0 c).after 1 t) from by
      unfold Dat.leavesExact; rw [liveAt0_1 t], after0_1]
        rw [show (dats m 0 c).leavesExact 2 t = owns (c : Thread nD τ) (ms0_2 t) fullShare ((dats m 0 c).after 2 t) from by
      unfold Dat.leavesExact; rw [liveAt0_2 t], after0_2]
        rw [show (dats m 0 c).leavesExact 3 t = owns (c : Thread nD τ) (ms0_3 t) fullShare ((dats m 0 c).after 3 t) from by
      unfold Dat.leavesExact; rw [liveAt0_3 t], after0_3]
        rw [show (dats m 0 c).leavesExact 4 t = owns (c : Thread nD τ) (ms0_4 t) fullShare ((dats m 0 c).after 4 t) from by
      unfold Dat.leavesExact; rw [liveAt0_4 t], after0_4]
        rw [show (dats m 0 c).leavesExact 5 t = owns (c : Thread nD τ) (ms0_5 t) fullShare ((dats m 0 c).after 5 t) from by
      unfold Dat.leavesExact; rw [liveAt0_5 t], after0_5]
        rw [show (dats m 0 c).leavesExact 6 t = owns (c : Thread nD τ) (ms0_6 t) fullShare ((dats m 0 c).after 6 t) from by
      unfold Dat.leavesExact; rw [liveAt0_6 t], after0_6]
        rw [show (dats m 0 c).leavesExact 7 t = owns (c : Thread nD τ) (ms0_7 t) fullShare ((dats m 0 c).after 7 t) from by
      unfold Dat.leavesExact; rw [liveAt0_7 t], after0_7]
        rw [show (dats m 0 c).leavesExact 8 t = owns (c : Thread nD τ) (ms0_8 t) fullShare ((dats m 0 c).after 8 t) from by
      unfold Dat.leavesExact; rw [liveAt0_8 t], after0_8]
        rw [show (dats m 0 c).leavesExact 9 t = owns (c : Thread nD τ) (ms0_9 t) fullShare ((dats m 0 c).after 9 t) from by
      unfold Dat.leavesExact; rw [liveAt0_9 t], after0_9]
        rw [show (dats m 0 c).leavesExact 10 t = owns (c : Thread nD τ) (ms0_10 t) fullShare ((dats m 0 c).after 10 t) from by
      unfold Dat.leavesExact; rw [liveAt0_10_B t (fun h => h0 ((hcond0_0 t).mp h)) ((hcond0_1 t).mpr h1) (fun h => h2 ((hcond0_2 t).mp h))], after0_10]
        rw [show (dats m 0 c).leavesExact 11 t = owns (c : Thread nD τ) (ms0_11 t) fullShare ((dats m 0 c).after 11 t) from by
      unfold Dat.leavesExact; rw [liveAt0_11_B t (fun h => h0 ((hcond0_0 t).mp h)) ((hcond0_1 t).mpr h1) (fun h => h2 ((hcond0_2 t).mp h))], after0_11]
        rw [show (dats m 0 c).leavesExact 12 t = owns (c : Thread nD τ) (ms0_12 t) fullShare ((dats m 0 c).after 12 t) from by
      unfold Dat.leavesExact; rw [liveAt0_12_B t (fun h => h0 ((hcond0_0 t).mp h)) ((hcond0_1 t).mpr h1) (fun h => h2 ((hcond0_2 t).mp h))], after0_12]
        rw [show (dats m 0 c).leavesExact 13 t = owns (c : Thread nD τ) (ms0_13 t) fullShare ((dats m 0 c).after 13 t) from by
      unfold Dat.leavesExact; rw [liveAt0_13_B t (fun h => h0 ((hcond0_0 t).mp h)) ((hcond0_1 t).mpr h1) (fun h => h2 ((hcond0_2 t).mp h))], after0_13]
        rw [show (dats m 0 c).leavesExact 14 t = owns (c : Thread nD τ) (ms0_14 t) fullShare ((dats m 0 c).after 14 t) from by
      unfold Dat.leavesExact; rw [liveAt0_14_B t (fun h => h0 ((hcond0_0 t).mp h)) ((hcond0_1 t).mpr h1) (fun h => h2 ((hcond0_2 t).mp h))], after0_14]
        by_cases hz : t.val = 0
        · exfalso; have hN : t.val < 31 := lt_of_lt_of_eq t.isLt (show cfg0.N = 31 from N_0); omega
        · rw [PhiS_castSucc m c t, PhiS_pos m c _ _ hz]
          rw [outsAt0_B m c t h0 h1 h2]
          unfold out0_B_10 out0_B_11 out0_B_12 out0_B_13 out0_B_14 sout0_B_0; (try dsimp only)
          iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
          iapply ((kernelRun0_B c (grid0.coords t) _ _ _ _ _ _ _ _ _ _ _ _ _ _ _ _ _ _ _ _ _ _ _ _ _ _ _ _ _ _ _ _ _ _ (fun h => h0 ((hcond0_0 t).mp h)) ((hcond0_1 t).mpr h1) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (iblk m c 9 t) _).2.2.2.2.2.2.2 Set.univ _)
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          isplitl [H9]; · iexact H9
          isplitl [H10]; · iexists _; iexact H10
          isplitl [H11]; · iexists _; iexact H11
          isplitl [H12]; · iexists _; iexact H12
          isplitl [H13]; · iexists _; iexact H13
          isplitl [H14]; · iexists _; iexact H14
          isplitl [HS0]; · iexact HS0
          isplitl [HS1]; · iexact HS1
          iintro ⟨H0, H1, H2, H3, H4, H5, H6, H7, H8, H9, ⟨%e10, H10⟩, ⟨%e11, H11⟩, ⟨%e12, H12⟩, ⟨%e13, H13⟩, ⟨%e14, H14⟩, ⟨%es0, HS0⟩, ⟨%fT1, HS1⟩⟩
          isplitl [HS0 HS1 Hg]
          · isplitl [HS0 HS1]
            · isplitl [HS0]
              · unfold owns; iexists _; isplitr
                swap; · iexact HS0
                ipureintro; exact View.read_writes_of_cover _ _ _ _ _ (scover0_B_0 c _ _ _ _ _ _ _ _ _ _ _ _ _ _ _ _ _ _ _ _ _ _ _ _ _ _ _ _ _ _ _ _ _ _ _ _ _ _ _ _ _ _ _ _ _ _ _ _ _)
              iexists _; unfold owns; iexists _; isplitr
              swap; · iexact HS1
              ipureintro; rfl
            iexact Hg
          isplitl [Ho]; · iexact Ho
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          isplitl [H9]; · iexact H9
          isplitl [H10]
          · unfold owns; iexists _; isplitr
            swap; · iexact H10
            ipureintro; exact View.read_writes_of_cover _ _ _ _ _ (cover0_B_10 c _ _ _ _ _ _ _ _ _ _ _ _ _ _ _ _ _ _ _ _ _ _ _ _ _ _ _ _ _ _ _ _ _ _ _ _ _ _ _ _ _ _ _ _ _ _ _ _ _)
          isplitl [H11]
          · unfold owns; iexists _; isplitr
            swap; · iexact H11
            ipureintro; exact View.read_writes_of_cover _ _ _ _ _ (cover0_B_11 c _ _ _ _ _ _ _ _ _ _ _ _ _ _ _ _ _ _ _ _ _ _ _ _ _ _ _ _ _ _ _ _ _ _ _ _ _ _ _ _ _ _ _ _ _ _ _ _ _)
          isplitl [H12]
          · unfold owns; iexists _; isplitr
            swap; · iexact H12
            ipureintro; exact View.read_writes_of_cover _ _ _ _ _ (cover0_B_12 c _ _ _ _ _ _ _ _ _ _ _ _ _ _ _ _ _ _ _ _ _ _ _ _ _ _ _ _ _ _ _ _ _ _ _ _ _ _ _ _ _ _ _ _ _ _ _ _ _)
          isplitl [H13]
          · unfold owns; iexists _; isplitr
            swap; · iexact H13
            ipureintro; exact View.read_writes_of_cover _ _ _ _ _ (cover0_B_13 c _ _ _ _ _ _ _ _ _ _ _ _ _ _ _ _ _ _ _ _ _ _ _ _ _ _ _ _ _ _ _ _ _ _ _ _ _ _ _ _ _ _ _ _ _ _ _ _ _)
          unfold owns; iexists _; isplitr
          swap; · iexact H14
          ipureintro; exact View.read_writes_of_cover _ _ _ _ _ (cover0_B_14 c _ _ _ _ _ _ _ _ _ _ _ _ _ _ _ _ _ _ _ _ _ _ _ _ _ _ _ _ _ _ _ _ _ _ _ _ _ _ _ _ _ _ _ _ _ _ _ _ _)
    · by_cases h2 : t.val % 31 = 30
      · rw [show (dats m 0 c).leavesExact 0 t = owns (c : Thread nD τ) (ms0_0 t) fullShare ((dats m 0 c).after 0 t) from by
      unfold Dat.leavesExact; rw [liveAt0_0 t], after0_0]
        rw [show (dats m 0 c).leavesExact 1 t = owns (c : Thread nD τ) (ms0_1 t) fullShare ((dats m 0 c).after 1 t) from by
      unfold Dat.leavesExact; rw [liveAt0_1 t], after0_1]
        rw [show (dats m 0 c).leavesExact 2 t = owns (c : Thread nD τ) (ms0_2 t) fullShare ((dats m 0 c).after 2 t) from by
      unfold Dat.leavesExact; rw [liveAt0_2 t], after0_2]
        rw [show (dats m 0 c).leavesExact 3 t = owns (c : Thread nD τ) (ms0_3 t) fullShare ((dats m 0 c).after 3 t) from by
      unfold Dat.leavesExact; rw [liveAt0_3 t], after0_3]
        rw [show (dats m 0 c).leavesExact 4 t = owns (c : Thread nD τ) (ms0_4 t) fullShare ((dats m 0 c).after 4 t) from by
      unfold Dat.leavesExact; rw [liveAt0_4 t], after0_4]
        rw [show (dats m 0 c).leavesExact 5 t = owns (c : Thread nD τ) (ms0_5 t) fullShare ((dats m 0 c).after 5 t) from by
      unfold Dat.leavesExact; rw [liveAt0_5 t], after0_5]
        rw [show (dats m 0 c).leavesExact 6 t = owns (c : Thread nD τ) (ms0_6 t) fullShare ((dats m 0 c).after 6 t) from by
      unfold Dat.leavesExact; rw [liveAt0_6 t], after0_6]
        rw [show (dats m 0 c).leavesExact 7 t = owns (c : Thread nD τ) (ms0_7 t) fullShare ((dats m 0 c).after 7 t) from by
      unfold Dat.leavesExact; rw [liveAt0_7 t], after0_7]
        rw [show (dats m 0 c).leavesExact 8 t = owns (c : Thread nD τ) (ms0_8 t) fullShare ((dats m 0 c).after 8 t) from by
      unfold Dat.leavesExact; rw [liveAt0_8 t], after0_8]
        rw [show (dats m 0 c).leavesExact 9 t = owns (c : Thread nD τ) (ms0_9 t) fullShare ((dats m 0 c).after 9 t) from by
      unfold Dat.leavesExact; rw [liveAt0_9 t], after0_9]
        rw [show (dats m 0 c).leavesExact 10 t = owns (c : Thread nD τ) (ms0_10 t) fullShare ((dats m 0 c).after 10 t) from by
      unfold Dat.leavesExact; rw [liveAt0_10_C t (fun h => h0 ((hcond0_0 t).mp h)) (fun h => h1 ((hcond0_1 t).mp h)) ((hcond0_2 t).mpr h2)], after0_10]
        rw [show (dats m 0 c).leavesExact 11 t = owns (c : Thread nD τ) (ms0_11 t) fullShare ((dats m 0 c).after 11 t) from by
      unfold Dat.leavesExact; rw [liveAt0_11_C t (fun h => h0 ((hcond0_0 t).mp h)) (fun h => h1 ((hcond0_1 t).mp h)) ((hcond0_2 t).mpr h2)], after0_11]
        rw [show (dats m 0 c).leavesExact 12 t = owns (c : Thread nD τ) (ms0_12 t) fullShare ((dats m 0 c).after 12 t) from by
      unfold Dat.leavesExact; rw [liveAt0_12_C t (fun h => h0 ((hcond0_0 t).mp h)) (fun h => h1 ((hcond0_1 t).mp h)) ((hcond0_2 t).mpr h2)], after0_12]
        rw [show (dats m 0 c).leavesExact 13 t = owns (c : Thread nD τ) (ms0_13 t) fullShare ((dats m 0 c).after 13 t) from by
      unfold Dat.leavesExact; rw [liveAt0_13_C t (fun h => h0 ((hcond0_0 t).mp h)) (fun h => h1 ((hcond0_1 t).mp h)) ((hcond0_2 t).mpr h2)], after0_13]
        rw [show (dats m 0 c).leavesExact 14 t = owns (c : Thread nD τ) (ms0_14 t) fullShare ((dats m 0 c).after 14 t) from by
      unfold Dat.leavesExact; rw [liveAt0_14_C t (fun h => h0 ((hcond0_0 t).mp h)) (fun h => h1 ((hcond0_1 t).mp h)) ((hcond0_2 t).mpr h2)], after0_14]
        by_cases hz : t.val = 0
        · exfalso; have hN : t.val < 31 := lt_of_lt_of_eq t.isLt (show cfg0.N = 31 from N_0); omega
        · rw [PhiS_castSucc m c t, PhiS_pos m c _ _ hz]
          rw [outsAt0_C m c t h0 h1 h2]
          unfold out0_C_10 out0_C_11 out0_C_12 out0_C_13 out0_C_14 sout0_C_0; (try dsimp only)
          iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
          iapply ((kernelRun0_C c (grid0.coords t) _ _ _ _ _ _ _ _ _ _ _ _ _ _ _ _ _ _ _ _ _ _ _ _ _ _ _ _ _ _ _ _ _ _ (fun h => h0 ((hcond0_0 t).mp h)) (fun h => h1 ((hcond0_1 t).mp h)) ((hcond0_2 t).mpr h2) (iblk m c 0 t) (iblk m c 1 t) (iblk m c 2 t) (iblk m c 3 t) (iblk m c 4 t) (iblk m c 5 t) (iblk m c 6 t) (iblk m c 7 t) (iblk m c 8 t) (iblk m c 9 t) _).2.2.2.2.2.2.2 Set.univ _)
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          isplitl [H9]; · iexact H9
          isplitl [H10]; · iexists _; iexact H10
          isplitl [H11]; · iexists _; iexact H11
          isplitl [H12]; · iexists _; iexact H12
          isplitl [H13]; · iexists _; iexact H13
          isplitl [H14]; · iexists _; iexact H14
          isplitl [HS0]; · iexact HS0
          isplitl [HS1]; · iexact HS1
          iintro ⟨H0, H1, H2, H3, H4, H5, H6, H7, H8, H9, ⟨%e10, H10⟩, ⟨%e11, H11⟩, ⟨%e12, H12⟩, ⟨%e13, H13⟩, ⟨%e14, H14⟩, HS0, ⟨%fT1, HS1⟩⟩
          isplitl [HS0 HS1 Hg]
          · isplitl [HS0 HS1]
            · isplitl [HS0]
              · iexact HS0
              iexists _; unfold owns; iexists _; isplitr
              swap; · iexact HS1
              ipureintro; rfl
            iexact Hg
          isplitl [Ho]; · iexact Ho
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          isplitl [H9]; · iexact H9
          isplitl [H10]
          · unfold owns; iexists _; isplitr
            swap; · iexact H10
            ipureintro; exact View.read_writes_of_cover _ _ _ _ _ (cover0_C_10 c _ _ _ _ _ _ _ _ _ _ _ _ _ _ _ _ _ _ _ _ _ _ _ _ _ _ _ _ _ _ _ _ _ _ _ _ _ _ _ _ _ _ _ _ _ _ _ _ _)
          isplitl [H11]
          · unfold owns; iexists _; isplitr
            swap; · iexact H11
            ipureintro; exact View.read_writes_of_cover _ _ _ _ _ (cover0_C_11 c _ _ _ _ _ _ _ _ _ _ _ _ _ _ _ _ _ _ _ _ _ _ _ _ _ _ _ _ _ _ _ _ _ _ _ _ _ _ _ _ _ _ _ _ _ _ _ _ _)
          isplitl [H12]
          · unfold owns; iexists _; isplitr
            swap; · iexact H12
            ipureintro; exact View.read_writes_of_cover _ _ _ _ _ (cover0_C_12 c _ _ _ _ _ _ _ _ _ _ _ _ _ _ _ _ _ _ _ _ _ _ _ _ _ _ _ _ _ _ _ _ _ _ _ _ _ _ _ _ _ _ _ _ _ _ _ _ _)
          isplitl [H13]
          · unfold owns; iexists _; isplitr
            swap; · iexact H13
            ipureintro; exact View.read_writes_of_cover _ _ _ _ _ (cover0_C_13 c _ _ _ _ _ _ _ _ _ _ _ _ _ _ _ _ _ _ _ _ _ _ _ _ _ _ _ _ _ _ _ _ _ _ _ _ _ _ _ _ _ _ _ _ _ _ _ _ _)
          unfold owns; iexists _; isplitr
          swap; · iexact H14
          ipureintro; exact View.read_writes_of_cover _ _ _ _ _ (cover0_C_14 c _ _ _ _ _ _ _ _ _ _ _ _ _ _ _ _ _ _ _ _ _ _ _ _ _ _ _ _ _ _ _ _ _ _ _ _ _ _ _ _ _ _ _ _ _ _ _ _ _)
      · exfalso; omega

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1⟩, Hg⟩
  isplitl [HS0 HS1]
  · isplitl [HS0]
    · iexists _; iexact HS0
    iexact HS1
  iexact Hg

/-- The same after the last point. -/
theorem hout (c : Dev nD) : (dats m 0 c).Φ (Fin.last cfg0.N) ⊢ Pipeline.ΦA spec0 c :=
  Phi_out m c _ (by rw [Fin.val_last]; have : cfg0.N = 31 := N_0; omega)

/-! ## The run and the frame -/

-- `θ_run_frame_track`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  frame_of m ρ (dats m) (A_eq m) (run_main m ρ)

/-- THE FRAME: `Cert.quiescent_DownIdeal`'s statement (Defs.lean) at any `F` — Proof.lean cites it at `Bits`:
    `theorem Cert.Proof.claim : Cert.Claim := ⟨Cert.DownIdeal.Gen.facts, fun m ρ _ => Cert.DownIdeal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  θ_run_and (unchanged m ρ) ((θ_run defs _ _).mono (fun _ h => h.2) (run_main_quiescent m ρ))

end Cert.DownIdeal.Gen

end
-- ==== Proof.Down.Step.lean ====
module

public import proofs.«01_k».proof.Proof.Down.Ideal.Outs
public import proofs.«01_k».proof.Proof.Layer
public import proofs.«01_k».proof.Proof.Canon
public import Idealize.ShloMosaic.Lib.Pipeline.ValueKit
public import Idealize.ShloMosaic.Lib.Pipeline.ReadBack

/-! What the down projection kernel leaves in its staging buffer at a grid point, and what it writes one point later:
    the staged rows, the codes and scales of their norms, and the codes and scales of the layer input they make with the embeddings. -/

@[expose] public section

set_option maxRecDepth 16384

noncomputable section
open Idealize.ShloMosaic Idealize.ShloMosaic.TcCoe Idealize.SL.Sem
open Idealize.ShloMosaic.Pipeline (Dat)
namespace Cert.DownIdeal.Value
open Cert.DownIdeal Cert.DownIdeal.Gen
variable (m : (ℓ : Loc nD τ sig) → Buf (Elt Ideal) ℓ)

/-- The residual plus the scaled product, at row `r`, column `j` of a block of rows. -/
def lin (x : Vec Ideal S256x9728 .fp8e4m3) (xs : Vec Ideal S256x1 .f32) (w : Vec Ideal S9728x2560 .fp8e4m3)
    (s : Vec Ideal S1x2560 .f32) (res : Vec Ideal S256x2560 .f32) (r : Fin 256) (j : Fin 2560) : EReal :=
  res (ix2 r j) + (∑ k : Fin 9728, (x (ix2 r k) : EReal) * w (ix2 k j)) * xs (ix2 r 0) * s (ix2 0 j)

/-- The codes of the norms of staged rows. -/
def codesAt (v : S256x2560.Idx → EReal) (w : S1x2560.Idx → EReal) (y : S256x2560.Idx) : EReal :=
  Cert.Norm.code (fun j => v (ix2 (y 0 : Fin 256) j)) (fun j => w (ix2 0 j)) (y 1)

/-- The scales of the norms of staged rows. -/
def scaleAt (v : S256x2560.Idx → EReal) (w : S1x2560.Idx → EReal) (y : S256x1.Idx) : EReal :=
  Cert.Norm.scale (fun j => v (ix2 (y 0 : Fin 256) j)) (fun j => w (ix2 0 j))

/-- The codes of the layer input that embedding rows and staged rows make. -/
def xcodesAt (e : Vec Ideal S256x2560 .i8) (es : Vec Ideal S256x1 .f32) (we wh : Vec Ideal S1x2560 .f32) (v : S256x2560.Idx → EReal) (y : S256x5120.Idx) : EReal :=
  Cert.Layer.code (fun j => Cert.Layer.emb (e (ix2 (y 0 : Fin 256) j)) (es (ix2 (y 0 : Fin 256) 0))) (fun j => we (ix2 0 j))
    (fun j => v (ix2 (y 0 : Fin 256) j)) (fun j => wh (ix2 0 j)) (y 1)

/-- The scales of the layer input that embedding rows and staged rows make. -/
def xscaleAt (e : Vec Ideal S256x2560 .i8) (es : Vec Ideal S256x1 .f32) (we wh : Vec Ideal S1x2560 .f32) (v : S256x2560.Idx → EReal) (y : S256x1.Idx) : EReal :=
  Cert.Layer.scale (fun j => Cert.Layer.emb (e (ix2 (y 0 : Fin 256) j)) (es (ix2 (y 0 : Fin 256) 0))) (fun j => we (ix2 0 j))
    (fun j => v (ix2 (y 0 : Fin 256) j)) (fun j => wh (ix2 0 j))

/-- What the point before left in the staging buffer. -/
abbrev prev (c : Dev nD) (t : Fin cfg0.N) : S256x2560.Idx → EReal :=
  (outsAt0 m c (t.val - 1) (Nat.lt_of_le_of_lt (Nat.sub_le _ _) t.isLt)).2.2.2.2.2

/-- After the first point the staging buffer holds that point's rows. -/
theorem g_A (c : Dev nD) (t : Fin cfg0.N) (h0 : t.val % 31 = 0) (h1 : t.val < 30) (h2 : ¬t.val % 31 = 30) (y : S256x2560.Idx) :
    (outsAt0 m c t.val t.isLt).2.2.2.2.2 y
      = lin (iblk m c 0 t) (iblk m c 1 t) (iblk m c 2 t) (iblk m c 3 t) (iblk m c 4 t) (y 0) (y 1) := by
  rw [outsAt0_A m c t h0 h1 h2]
  frame_out
  refine canon_dropLast _ _ _ ?_ ?_
  · simp only [List.dropLast]
    exact View.cover_of_tiled_head _ _ _ rfl _
  simp only [List.dropLast]
  canon_tiles x h
  all_goals
    open_payloads
    pointwise [lin]
    blk_point []

/-- After a middle point the staging buffer holds that point's rows. -/
theorem g_B (c : Dev nD) (t : Fin cfg0.N) (h0 : ¬t.val % 31 = 0) (h1 : t.val < 30) (h2 : ¬t.val % 31 = 30) (y : S256x2560.Idx) :
    (outsAt0 m c t.val t.isLt).2.2.2.2.2 y
      = lin (iblk m c 0 t) (iblk m c 1 t) (iblk m c 2 t) (iblk m c 3 t) (iblk m c 4 t) (y 0) (y 1) := by
  rw [outsAt0_B m c t h0 h1 h2]
  frame_out
  canon_tiles x h
  all_goals
    open_payloads
    pointwise [lin]
    blk_point []

/-- A middle point writes the rows the point before left. -/
theorem out_B (c : Dev nD) (t : Fin cfg0.N) (h0 : ¬t.val % 31 = 0) (h1 : t.val < 30) (h2 : ¬t.val % 31 = 30) :
    (outsAt0 m c t.val t.isLt).1 = prev m c t := by
  rw [outsAt0_B m c t h0 h1 h2]
  frame_out
  simp only [read_unread_whole]

/-- A middle point writes the codes of the norms of those rows. -/
theorem codes_B (c : Dev nD) (t : Fin cfg0.N) (h0 : ¬t.val % 31 = 0) (h1 : t.val < 30) (h2 : ¬t.val % 31 = 30) (y : S256x2560.Idx) :
    (outsAt0 m c t.val t.isLt).2.1 y = codesAt (prev m c t) (iblk m c 5 t) y := by
  rw [outsAt0_B m c t h0 h1 h2]
  frame_out
  simp only [read_unread_whole]
  canon_tiles x h
  all_goals
    open_payloads
    refine (Cert.Tile.codesK_eq (R := 32) _ _ _ _ _ _ _ _ _ _ _ _ x).trans ?_
    refine Cert.Tile.code_congr (fun k => ?_) (fun k => rfl) (Fin.ext (by first | exact h1.symm | exact h1))
    refine (congrFun (View.readCov_fill _ _ _ _ _ (by decide)) _).trans ?_
    pointwise []
    blk_point []

/-- A middle point writes the scales of the norms of those rows. -/
theorem scales_B (c : Dev nD) (t : Fin cfg0.N) (h0 : ¬t.val % 31 = 0) (h1 : t.val < 30) (h2 : ¬t.val % 31 = 30) (y : S256x1.Idx) :
    (outsAt0 m c t.val t.isLt).2.2.1 y = scaleAt (prev m c t) (iblk m c 5 t) y := by
  rw [outsAt0_B m c t h0 h1 h2]
  frame_out
  simp only [read_unread_whole]
  canon_tiles x h
  all_goals
    open_payloads
    refine (Cert.Tile.scalesK_eq (R := 32) _ _ _ _ _ _ _ _ _ _ _ x).trans ?_
    refine Cert.Tile.scale_congr (fun k => ?_) (fun k => rfl)
    refine (congrFun (View.readCov_fill _ _ _ _ _ (by decide)) _).trans ?_
    pointwise []
    blk_point []

/-- A middle point writes the codes of the layer input made with those rows. -/
theorem xcodes_B (c : Dev nD) (t : Fin cfg0.N) (h0 : ¬t.val % 31 = 0) (h1 : t.val < 30) (h2 : ¬t.val % 31 = 30) (y : S256x5120.Idx) :
    (outsAt0 m c t.val t.isLt).2.2.2.1 y = xcodesAt (iblk m c 6 t) (iblk m c 7 t) (iblk m c 8 t) (iblk m c 9 t) (prev m c t) y := by
  rw [outsAt0_B m c t h0 h1 h2]
  frame_out
  simp only [read_unread_whole]
  canon_tiles x h
  all_goals
    open_payloads
    first
    | have hk : (y 1 : Fin 5120).val = (x 1 : Fin 2560).val := h1
      refine (Cert.Layer.codesL_eq (R := 32) _ _ _ _ _ _ _ _ _ _ _ _ _ _ x (y 1) hk).trans ?_
    | have hk : (y 1 : Fin 5120).val = 2560 + (x 1 : Fin 2560).val := h1
      refine (Cert.Layer.codesR_eq (R := 32) _ _ _ _ _ _ _ _ _ _ _ _ _ _ x (y 1) hk).trans ?_
    refine Cert.Layer.code_congr (fun j => ?_) (fun j => rfl) (fun j => ?_) (fun j => rfl) rfl
    · refine (Cert.Layer.emb_pt _ _ _ _ _).trans (congrArg₂ Cert.Layer.emb ?_ ?_)
      · pointwise []
        blk_point []
      · pointwise []
        blk_point []
    · refine (congrFun (View.readCov_fill _ _ _ _ _ (by decide)) _).trans ?_
      pointwise []
      blk_point []

/-- A middle point writes the scales of the layer input made with those rows. -/
theorem xscales_B (c : Dev nD) (t : Fin cfg0.N) (h0 : ¬t.val % 31 = 0) (h1 : t.val < 30) (h2 : ¬t.val % 31 = 30) (y : S256x1.Idx) :
    (outsAt0 m c t.val t.isLt).2.2.2.2.1 y = xscaleAt (iblk m c 6 t) (iblk m c 7 t) (iblk m c 8 t) (iblk m c 9 t) (prev m c t) y := by
  rw [outsAt0_B m c t h0 h1 h2]
  frame_out
  simp only [read_unread_whole]
  canon_tiles x h
  all_goals
    open_payloads
    refine (Cert.Layer.scalesK_eq (R := 32) _ _ _ _ _ _ _ _ _ _ _ _ _ x).trans ?_
    refine Cert.Layer.scale_congr (fun j => ?_) (fun j => rfl) (fun j => ?_) (fun j => rfl)
    · refine (Cert.Layer.emb_pt _ _ _ _ _).trans (congrArg₂ Cert.Layer.emb ?_ ?_)
      · pointwise []
        blk_point []
      · pointwise []
        blk_point []
    · refine (congrFun (View.readCov_fill _ _ _ _ _ (by decide)) _).trans ?_
      pointwise []
      blk_point []

/-- The last point writes the rows the point before left. -/
theorem out_C (c : Dev nD) (t : Fin cfg0.N) (h0 : ¬t.val % 31 = 0) (h1 : ¬t.val < 30) (h2 : t.val % 31 = 30) :
    (outsAt0 m c t.val t.isLt).1 = prev m c t := by
  rw [outsAt0_C m c t h0 h1 h2]
  frame_out
  simp only [read_unread_whole]

/-- The last point writes the codes of the norms of those rows. -/
theorem codes_C (c : Dev nD) (t : Fin cfg0.N) (h0 : ¬t.val % 31 = 0) (h1 : ¬t.val < 30) (h2 : t.val % 31 = 30) (y : S256x2560.Idx) :
    (outsAt0 m c t.val t.isLt).2.1 y = codesAt (prev m c t) (iblk m c 5 t) y := by
  rw [outsAt0_C m c t h0 h1 h2]
  frame_out
  simp only [read_unread_whole]
  canon_tiles x h
  all_goals
    open_payloads
    refine (Cert.Tile.codesK_eq (R := 32) _ _ _ _ _ _ _ _ _ _ _ _ x).trans ?_
    refine Cert.Tile.code_congr (fun k => ?_) (fun k => rfl) (Fin.ext (by first | exact h1.symm | exact h1))
    refine (congrFun (View.readCov_fill _ _ _ _ _ (by decide)) _).trans ?_
    pointwise []
    blk_point []

/-- The last point writes the scales of the norms of those rows. -/
theorem scales_C (c : Dev nD) (t : Fin cfg0.N) (h0 : ¬t.val % 31 = 0) (h1 : ¬t.val < 30) (h2 : t.val % 31 = 30) (y : S256x1.Idx) :
    (outsAt0 m c t.val t.isLt).2.2.1 y = scaleAt (prev m c t) (iblk m c 5 t) y := by
  rw [outsAt0_C m c t h0 h1 h2]
  frame_out
  simp only [read_unread_whole]
  canon_tiles x h
  all_goals
    open_payloads
    refine (Cert.Tile.scalesK_eq (R := 32) _ _ _ _ _ _ _ _ _ _ _ x).trans ?_
    refine Cert.Tile.scale_congr (fun k => ?_) (fun k => rfl)
    refine (congrFun (View.readCov_fill _ _ _ _ _ (by decide)) _).trans ?_
    pointwise []
    blk_point []

/-- The last point writes the codes of the layer input made with those rows. -/
theorem xcodes_C (c : Dev nD) (t : Fin cfg0.N) (h0 : ¬t.val % 31 = 0) (h1 : ¬t.val < 30) (h2 : t.val % 31 = 30) (y : S256x5120.Idx) :
    (outsAt0 m c t.val t.isLt).2.2.2.1 y = xcodesAt (iblk m c 6 t) (iblk m c 7 t) (iblk m c 8 t) (iblk m c 9 t) (prev m c t) y := by
  rw [outsAt0_C m c t h0 h1 h2]
  frame_out
  simp only [read_unread_whole]
  canon_tiles x h
  all_goals
    open_payloads
    first
    | have hk : (y 1 : Fin 5120).val = (x 1 : Fin 2560).val := h1
      refine (Cert.Layer.codesL_eq (R := 32) _ _ _ _ _ _ _ _ _ _ _ _ _ _ x (y 1) hk).trans ?_
    | have hk : (y 1 : Fin 5120).val = 2560 + (x 1 : Fin 2560).val := h1
      refine (Cert.Layer.codesR_eq (R := 32) _ _ _ _ _ _ _ _ _ _ _ _ _ _ x (y 1) hk).trans ?_
    refine Cert.Layer.code_congr (fun j => ?_) (fun j => rfl) (fun j => ?_) (fun j => rfl) rfl
    · refine (Cert.Layer.emb_pt _ _ _ _ _).trans (congrArg₂ Cert.Layer.emb ?_ ?_)
      · pointwise []
        blk_point []
      · pointwise []
        blk_point []
    · refine (congrFun (View.readCov_fill _ _ _ _ _ (by decide)) _).trans ?_
      pointwise []
      blk_point []

/-- The last point writes the scales of the layer input made with those rows. -/
theorem xscales_C (c : Dev nD) (t : Fin cfg0.N) (h0 : ¬t.val % 31 = 0) (h1 : ¬t.val < 30) (h2 : t.val % 31 = 30) (y : S256x1.Idx) :
    (outsAt0 m c t.val t.isLt).2.2.2.2.1 y = xscaleAt (iblk m c 6 t) (iblk m c 7 t) (iblk m c 8 t) (iblk m c 9 t) (prev m c t) y := by
  rw [outsAt0_C m c t h0 h1 h2]
  frame_out
  simp only [read_unread_whole]
  canon_tiles x h
  all_goals
    open_payloads
    refine (Cert.Layer.scalesK_eq (R := 32) _ _ _ _ _ _ _ _ _ _ _ _ _ x).trans ?_
    refine Cert.Layer.scale_congr (fun j => ?_) (fun j => rfl) (fun j => ?_) (fun j => rfl)
    · refine (Cert.Layer.emb_pt _ _ _ _ _).trans (congrArg₂ Cert.Layer.emb ?_ ?_)
      · pointwise []
        blk_point []
      · pointwise []
        blk_point []
    · refine (congrFun (View.readCov_fill _ _ _ _ _ (by decide)) _).trans ?_
      pointwise []
      blk_point []

end Cert.DownIdeal.Value

end
-- ==== Proof.Down.Ref.lean ====
module

public import proofs.«01_k».proof.Proof.Layer
public import proofs.«01_k».proof.Proof.Gen.DownRefIdeal.Value

/-! The down projection reference at an index: the residual plus the scaled product, the codes and scales of its norm, and the codes and scales of the
    layer input it makes with the embeddings. -/

@[expose] public section

set_option maxRecDepth 16384

noncomputable section
open Idealize.ShloMosaic Idealize.ShloMosaic.TcCoe Idealize.SL.Sem
open Idealize.ShloMosaic.Pipeline (Dat)
namespace Cert.DownRefIdeal.Value
open Cert.DownRefIdeal Cert.DownRefIdeal.Gen

/-- The residual plus the scaled product of the whole arrays, at row `r`, column `j`. -/
def linG (x : Vec Ideal S7680x9728 .fp8e4m3) (xs : Vec Ideal S7680x1 .f32) (w : Vec Ideal S9728x2560 .fp8e4m3) (s : Vec Ideal S1x2560 .f32) (res : Vec Ideal S7680x2560 .f32) (r : Fin 7680) (j : Fin 2560) : EReal :=
  res (ix2 r j) + (∑ k : Fin 9728, (x (ix2 r k) : EReal) * w (ix2 k j)) * xs (ix2 r 0) * s (ix2 0 j)

variable (x : Vec Ideal S7680x9728 .fp8e4m3) (xs : Vec Ideal S7680x1 .f32) (w : Vec Ideal S9728x2560 .fp8e4m3) (s : Vec Ideal S1x2560 .f32) (res : Vec Ideal S7680x2560 .f32) (wn : Vec Ideal S1x2560 .f32) (e : Vec Ideal S7680x2560 .i8) (es : Vec Ideal S7680x1 .f32) (we : Vec Ideal S1x2560 .f32) (wh : Vec Ideal S1x2560 .f32) (r : Fin 7680)

/-- The offsets of a whole array. -/
theorem hz : (![0, 0] : Fin 2 → ℕ) = fun _ => 0 := by
  funext i
  fin_cases i <;> rfl

/-- The row maxima, from the whole arrays. -/
theorem whole15 : k0_pay15 (F := Ideal) x xs w s res wn e es we wh = k0_pay8 res x xs w s wn := by
  unfold k0_pay15
  rw [View.ld_unit_zero (S := S7680x2560) hz _ res, View.ld_unit_zero (S := S7680x9728) hz _ x, View.ld_unit_zero (S := S7680x1) hz _ xs, View.ld_unit_zero (S := S9728x2560) hz _ w, View.ld_unit_zero (S := S1x2560) hz _ s, View.ld_unit_zero (S := S1x2560) hz _ wn]

/-- The test for zero rows, from the whole arrays. -/
theorem whole16 : k0_pay16 (F := Ideal) x xs w s res wn e es we wh = k0_pay9 res x xs w s wn := by
  unfold k0_pay16
  rw [View.ld_unit_zero (S := S7680x2560) hz _ res, View.ld_unit_zero (S := S7680x9728) hz _ x, View.ld_unit_zero (S := S7680x1) hz _ xs, View.ld_unit_zero (S := S9728x2560) hz _ w, View.ld_unit_zero (S := S1x2560) hz _ s, View.ld_unit_zero (S := S1x2560) hz _ wn]

/-- The normed embeddings, from the whole arrays. -/
theorem whole17 : k0_pay17 (F := Ideal) x xs w s res wn e es we wh = k0_pay13 (k0_pay6 e es) we := by
  unfold k0_pay17
  rw [View.ld_unit_zero (S := S7680x2560) hz _ e, View.ld_unit_zero (S := S7680x1) hz _ es, View.ld_unit_zero (S := S1x2560) hz _ we]

/-- The normed rows, from the whole arrays. -/
theorem whole18 : k0_pay18 (F := Ideal) x xs w s res wn e es we wh = k0_pay14 (k0_pay5 res x xs w s) wh := by
  unfold k0_pay18
  rw [View.ld_unit_zero (S := S7680x2560) hz _ res, View.ld_unit_zero (S := S7680x9728) hz _ x, View.ld_unit_zero (S := S7680x1) hz _ xs, View.ld_unit_zero (S := S9728x2560) hz _ w, View.ld_unit_zero (S := S1x2560) hz _ s, View.ld_unit_zero (S := S1x2560) hz _ wh]

/-- The reference's rows at an index. -/
theorem ref_lin (j : Fin 2560) : k0_pay5 (F := Ideal) res x xs w s (ix2 r j) = linG x xs w s res r j := by
  pointwise [k0_pay5, linG]

/-- The reference's first result at an index. -/
theorem ref_out (j : Fin 2560) : G10 x xs w s res wn e es we wh (ix2 r j) = linG x xs w s res r j := ref_lin x xs w s res r j

/-- The reference's norms at an index. -/
theorem ref_norm (j : Fin 2560) : k0_pay7 (F := Ideal) res x xs w s wn (ix2 r j)
    = Cert.Norm.norm (linG x xs w s res r) (fun k => wn (ix2 0 k)) j := by
  refine (Cert.Tile.normR_eq (R := 7680) (k0_pay5 (F := Ideal) res x xs w s) wn _ _ _ _ _ _ r j).trans ?_
  rw [funext (ref_lin x xs w s res r)]

/-- The reference's scales at a row. -/
theorem ref_scale : k0_pay10 (k0_pay8 (F := Ideal) res x xs w s wn) (k0_pay9 (F := Ideal) res x xs w s wn) (Scalar.ofBits (F := Ideal) .f32 0x43E00000#32) (ix1 r)
    = Cert.Norm.scale (linG x xs w s res r) (fun k => wn (ix2 0 k)) := by
  refine (Cert.Tile.scalesR_eq (R := 7680) (k0_pay5 (F := Ideal) res x xs w s) wn _ _ _ _ _ _ reduces_S7680x2560_S7680 (.inl rfl) rfl r).trans ?_
  rw [funext (ref_lin x xs w s res r)]

/-- The reference's codes at an index. -/
theorem ref_codes (j : Fin 2560) : G11 x xs w s res wn e es we wh (ix2 r j)
    = Cert.Norm.code (linG x xs w s res r) (fun k => wn (ix2 0 k)) j := by
  unfold G11
  rw [whole15, whole16]
  refine (Cert.Tile.codesR_pt (R := 7680) (k0_pay7 (F := Ideal) res x xs w s wn) (k0_pay10 (k0_pay8 (F := Ideal) res x xs w s wn) (k0_pay9 (F := Ideal) res x xs w s wn) (Scalar.ofBits (F := Ideal) .f32 0x43E00000#32)) _ _ _ r j).trans ?_
  exact (congrArg₂ (fun a b => min (Ideal.ofBits FTy.f32 1138753536#32) (max (Ideal.ofBits FTy.f32 3286237184#32) (Ideal.div a b)))
    (ref_norm x xs w s res wn r j) (ref_scale x xs w s res wn r)).trans (Cert.Tile.code_div _ _ j)

/-- The reference's scales, as the column it writes. -/
theorem ref_scales : G12 x xs w s res wn e es we wh (ix2 r 0)
    = Cert.Norm.scale (linG x xs w s res r) (fun k => wn (ix2 0 k)) := by
  unfold G12
  rw [whole15, whole16]
  refine Eq.trans ?_ (ref_scale x xs w s res wn r)
  unfold k0_pay12
  generalize k0_pay10 (k0_pay8 (F := Ideal) res x xs w s wn) (k0_pay9 (F := Ideal) res x xs w s wn) (Scalar.ofBits (F := Ideal) .f32 0x43E00000#32) = q
  exact Cert.Tile.col_pt q _ r

/-- The rows and embeddings behind the layer input, at an index. -/
theorem ref_xcongr : Cert.Layer.scale (fun j => (mulf (sitofp (F := Ideal) .f32 e) (broadcastTo S7680x2560 es broadcasts_S7680x1_S7680x2560)) (ix2 r j)) (fun j => we (ix2 0 j)) (fun j => (k0_pay5 (F := Ideal) res x xs w s) (ix2 r j)) (fun j => wh (ix2 0 j))
    = Cert.Layer.scale (fun j => Cert.Layer.emb (e (ix2 r j)) (es (ix2 r 0))) (fun j => we (ix2 0 j)) (linG x xs w s res r) (fun j => wh (ix2 0 j)) :=
  Cert.Layer.scale_congr (fun j => Cert.Layer.emb_pt e es _ r j) (fun j => rfl) (fun j => ref_lin x xs w s res r j) (fun j => rfl)

/-- The reference's scale of the layer input at a row. -/
theorem ref_xscale : k0_pay2 (k0_pay13 (k0_pay6 (F := Ideal) e es) we) (k0_pay14 (k0_pay5 (F := Ideal) res x xs w s) wh) (ix1 r)
    = Cert.Layer.scale (fun j => (mulf (sitofp (F := Ideal) .f32 e) (broadcastTo S7680x2560 es broadcasts_S7680x1_S7680x2560)) (ix2 r j)) (fun j => we (ix2 0 j)) (fun j => (k0_pay5 (F := Ideal) res x xs w s) (ix2 r j)) (fun j => wh (ix2 0 j)) :=
  Cert.Layer.scalesD_eq (mulf (sitofp (F := Ideal) .f32 e) (broadcastTo S7680x2560 es broadcasts_S7680x1_S7680x2560)) (k0_pay5 (F := Ideal) res x xs w s) we wh _ _ _ _ _ _ concatenates_S7680x2560_S7680x2560_S7680x5120_d1 reduces_S7680x5120_S7680 (.inl rfl) rfl r

/-- The reference's codes of the layer input at an index. -/
theorem ref_xcodes (k : Fin 5120) : G13 x xs w s res wn e es we wh (ix2 r k) = Cert.Layer.code (fun j => Cert.Layer.emb (e (ix2 r j)) (es (ix2 r 0))) (fun j => we (ix2 0 j)) (linG x xs w s res r) (fun j => wh (ix2 0 j)) k := by
  unfold G13
  rw [whole17, whole18]
  refine (Cert.Layer.codesD_eq (mulf (sitofp (F := Ideal) .f32 e) (broadcastTo S7680x2560 es broadcasts_S7680x1_S7680x2560)) (k0_pay5 (F := Ideal) res x xs w s) we wh (k0_pay2 (k0_pay13 (k0_pay6 (F := Ideal) e es) we) (k0_pay14 (k0_pay5 (F := Ideal) res x xs w s) wh)) _ _ _ _ _ _ concatenates_S7680x2560_S7680x2560_S7680x5120_d1 _ _ r k (ref_xscale x xs w s res e es we wh r)).trans ?_
  exact Cert.Layer.code_congr (fun j => Cert.Layer.emb_pt e es _ r j) (fun j => rfl) (fun j => ref_lin x xs w s res r j) (fun j => rfl) rfl

/-- The reference's scales of the layer input, as the column it writes. -/
theorem ref_xscales : G14 x xs w s res wn e es we wh (ix2 r 0) = Cert.Layer.scale (fun j => Cert.Layer.emb (e (ix2 r j)) (es (ix2 r 0))) (fun j => we (ix2 0 j)) (linG x xs w s res r) (fun j => wh (ix2 0 j)) := by
  unfold G14
  rw [whole17, whole18]
  refine Eq.trans ?_ ((ref_xscale x xs w s res e es we wh r).trans (ref_xcongr x xs w s res e es we wh r))
  unfold k0_pay4
  generalize k0_pay2 (k0_pay13 (k0_pay6 (F := Ideal) e es) we) (k0_pay14 (k0_pay5 (F := Ideal) res x xs w s) wh) = q
  exact Cert.Tile.col_pt q _ r

end Cert.DownRefIdeal.Value

end
-- ==== Proof.Down.Final.lean ====
module

public import proofs.«01_k».proof.Proof.Down.Ideal.Frame
public import proofs.«01_k».proof.Proof.Down.Step
public import proofs.«01_k».proof.Proof.Down.Ref

/-! The down projection kernel's five result arrays are the reference's: every block of 256 rows is written one grid point
    after its products were computed. -/

@[expose] public section

set_option maxRecDepth 16384

noncomputable section
open Idealize.ShloMosaic Idealize.ShloMosaic.TcCoe Idealize.SL.Sem
open Idealize.ShloMosaic.Pipeline (Dat)
namespace Cert.DownIdeal.Value
open Cert.DownIdeal Cert.DownIdeal.Gen
open Cert.DownRefIdeal.Value (linG)
variable (m : (ℓ : Loc nD τ sig) → Buf (Elt Ideal) ℓ)

/-- The windows' index maps: the row blocks of the operands advance with the point and stay at the last, the
    weights and gains are whole, the embeddings and the results lag one point behind. -/
theorem idx : ∀ t : Fin cfg0.N, win0_0.index t = ![min t.val 29, 0] ∧ win0_1.index t = ![min t.val 29, 0] ∧ win0_2.index t = ![0, 0]
    ∧ win0_3.index t = ![0, 0] ∧ win0_4.index t = ![min t.val 29, 0] ∧ win0_5.index t = ![0, 0]
    ∧ win0_6.index t = ![t.val - 1, 0] ∧ win0_7.index t = ![t.val - 1, 0] ∧ win0_8.index t = ![0, 0]
    ∧ win0_9.index t = ![0, 0] ∧ win0_10.index t = ![t.val - 1, 0] ∧ win0_11.index t = ![t.val - 1, 0]
    ∧ win0_12.index t = ![t.val - 1, 0] ∧ win0_13.index t = ![t.val - 1, 0] ∧ win0_14.index t = ![t.val - 1, 0]
    :=
  (by decide +kernel : ∀ t : Fin grid0.N, _)

/-- The results' blocks are written back at every point but the first. -/
theorem flush_pos : ∀ t : Fin cfg0.N, ((cfg0.win 10).flush t = true → t.val ≠ 0) ∧ ((cfg0.win 11).flush t = true → t.val ≠ 0) ∧ ((cfg0.win 12).flush t = true → t.val ≠ 0) ∧ ((cfg0.win 13).flush t = true → t.val ≠ 0) ∧ ((cfg0.win 14).flush t = true → t.val ≠ 0) :=
  (by decide +kernel : ∀ t : Fin grid0.N, _)

/-- The rows computed at point `s`, read from the whole arrays. -/
theorem lin_read (c : Dev nD) (s : Fin cfg0.N) (hs : s.val < 30) (r : Fin 256) (j : Fin 2560) :
    lin (iblk m c 0 s) (iblk m c 1 s) (iblk m c 2 s) (iblk m c 3 s) (iblk m c 4 s) r j
      = linG (m ((c : Thread nD τ).loc main_arg0)) (m ((c : Thread nD τ).loc main_arg1)) (m ((c : Thread nD τ).loc main_arg2)) (m ((c : Thread nD τ).loc main_arg3)) (m ((c : Thread nD τ).loc main_arg4))
          ⟨256 * s.val + r.val, by omega⟩ j := by
  unfold lin linG
  blk_point [iblk, V, idx s]

/-- The norm's gain, read from the whole array. -/
theorem gain_read (c : Dev nD) (t : Fin cfg0.N) (k : Fin 2560) :
    iblk m c 5 t (ix2 0 k) = m ((c : Thread nD τ).loc main_arg5) (ix2 0 k) := by
  blk_point [iblk, V, idx t]

/-- The embeddings' gain, read from the whole array. -/
theorem we_read (c : Dev nD) (t : Fin cfg0.N) (k : Fin 2560) :
    iblk m c 8 t (ix2 0 k) = m ((c : Thread nD τ).loc main_arg8) (ix2 0 k) := by
  blk_point [iblk, V, idx t]

/-- The gain of the layer input's rows, read from the whole array. -/
theorem wh_read (c : Dev nD) (t : Fin cfg0.N) (k : Fin 2560) :
    iblk m c 9 t (ix2 0 k) = m ((c : Thread nD τ).loc main_arg9) (ix2 0 k) := by
  blk_point [iblk, V, idx t]

/-- The embeddings a later point reads, from the whole arrays. -/
theorem emb_read (c : Dev nD) (t : Fin cfg0.N) (hN : t.val < 31) (r : Fin 256) (j : Fin 2560) :
    Cert.Layer.emb (iblk m c 6 t (ix2 r j)) (iblk m c 7 t (ix2 r 0))
      = Cert.Layer.emb (m ((c : Thread nD τ).loc main_arg6) (ix2 ⟨256 * (t.val - 1) + r.val, by omega⟩ j))
          (m ((c : Thread nD τ).loc main_arg7) (ix2 ⟨256 * (t.val - 1) + r.val, by omega⟩ 0)) := by
  refine congrArg₂ Cert.Layer.emb ?_ ?_
  · blk_point [iblk, V, idx t]
  · blk_point [iblk, V, idx t]

/-- The staged rows, whichever point computed them. -/
theorem g_at (c : Dev nD) (s : Fin cfg0.N) (hs : s.val < 30) (y : S256x2560.Idx) :
    (outsAt0 m c s.val s.isLt).2.2.2.2.2 y
      = lin (iblk m c 0 s) (iblk m c 1 s) (iblk m c 2 s) (iblk m c 3 s) (iblk m c 4 s) (y 0) (y 1) := by
  by_cases h0 : s.val % 31 = 0
  · exact g_A m c s h0 hs (by omega) y
  · exact g_B m c s h0 hs (by omega) y

/-- The rows any later point writes. -/
theorem out_at (c : Dev nD) (t : Fin cfg0.N) (ht : t.val ≠ 0) (y : S256x2560.Idx) :
    (outsAt0 m c t.val t.isLt).1 y = prev m c t y := by
  have hN : t.val < 31 := t.isLt
  by_cases h1 : t.val < 30
  · exact congrFun (out_B m c t (by omega) h1 (by omega)) y
  · exact congrFun (out_C m c t (by omega) h1 (by omega)) y

/-- The codes any later point writes. -/
theorem codes_at (c : Dev nD) (t : Fin cfg0.N) (ht : t.val ≠ 0) (y : S256x2560.Idx) :
    (outsAt0 m c t.val t.isLt).2.1 y = codesAt (prev m c t) (iblk m c 5 t) y := by
  have hN : t.val < 31 := t.isLt
  by_cases h1 : t.val < 30
  · exact codes_B m c t (by omega) h1 (by omega) y
  · exact codes_C m c t (by omega) h1 (by omega) y

/-- The scales any later point writes. -/
theorem scales_at (c : Dev nD) (t : Fin cfg0.N) (ht : t.val ≠ 0) (y : S256x1.Idx) :
    (outsAt0 m c t.val t.isLt).2.2.1 y = scaleAt (prev m c t) (iblk m c 5 t) y := by
  have hN : t.val < 31 := t.isLt
  by_cases h1 : t.val < 30
  · exact scales_B m c t (by omega) h1 (by omega) y
  · exact scales_C m c t (by omega) h1 (by omega) y

/-- The codes of the layer input any later point writes. -/
theorem xcodes_at (c : Dev nD) (t : Fin cfg0.N) (ht : t.val ≠ 0) (y : S256x5120.Idx) :
    (outsAt0 m c t.val t.isLt).2.2.2.1 y = xcodesAt (iblk m c 6 t) (iblk m c 7 t) (iblk m c 8 t) (iblk m c 9 t) (prev m c t) y := by
  have hN : t.val < 31 := t.isLt
  by_cases h1 : t.val < 30
  · exact xcodes_B m c t (by omega) h1 (by omega) y
  · exact xcodes_C m c t (by omega) h1 (by omega) y

/-- The scales of the layer input any later point writes. -/
theorem xscales_at (c : Dev nD) (t : Fin cfg0.N) (ht : t.val ≠ 0) (y : S256x1.Idx) :
    (outsAt0 m c t.val t.isLt).2.2.2.2.1 y = xscaleAt (iblk m c 6 t) (iblk m c 7 t) (iblk m c 8 t) (iblk m c 9 t) (prev m c t) y := by
  have hN : t.val < 31 := t.isLt
  by_cases h1 : t.val < 30
  · exact xscales_B m c t (by omega) h1 (by omega) y
  · exact xscales_C m c t (by omega) h1 (by omega) y

/-- The array of rows is the reference's. -/
theorem final10 (c : Dev nD) : (dats m 0 c).arrAt 10 (cfgs 0).N
    = Cert.DownRefIdeal.Value.G10 (m ((c : Thread nD τ).loc main_arg0)) (m ((c : Thread nD τ).loc main_arg1)) (m ((c : Thread nD τ).loc main_arg2)) (m ((c : Thread nD τ).loc main_arg3)) (m ((c : Thread nD τ).loc main_arg4))
      (m ((c : Thread nD τ).loc main_arg5)) (m ((c : Thread nD τ).loc main_arg6)) (m ((c : Thread nD τ).loc main_arg7)) (m ((c : Thread nD τ).loc main_arg8)) (m ((c : Thread nD τ).loc main_arg9)) := by
  refine (dats m 0 c).arrAt_eq_of_covers 10 _ (by decide +kernel) fun t hf y => ?_
  have ht := (flush_pos t).1 hf
  have hN : t.val < 31 := t.isLt
  have hs : t.val - 1 < 30 := by omega
  have hs' : t.val - 1 < cfg0.N := by show t.val - 1 < 31; omega
  have hr : 256 * (t.val - 1) + (y 0).val < 7680 := by have h0 : (y 0).val < 256 := (y 0).isLt; omega
  have e : ((cfg0.win 10).blk t).view.emb y = (ix2 (⟨256 * (t.val - 1) + (y 0).val, hr⟩ : Fin 7680) (y 1 : Fin 2560) : S7680x2560.Idx) := by
    blk_ext [idx t]
  rw [e]
  blk_simp
  rw [after0_10]
  refine Eq.trans ?_ (Cert.DownRefIdeal.Value.ref_out _ _ _ _ _ _ _ _ _ _ _ _).symm
  exact (out_at m c t ht y).trans ((g_at m c ⟨t.val - 1, hs'⟩ hs y).trans (lin_read m c ⟨t.val - 1, hs'⟩ hs _ _))

/-- The array of codes is the reference's. -/
theorem final11 (c : Dev nD) : (dats m 0 c).arrAt 11 (cfgs 0).N
    = Cert.DownRefIdeal.Value.G11 (m ((c : Thread nD τ).loc main_arg0)) (m ((c : Thread nD τ).loc main_arg1)) (m ((c : Thread nD τ).loc main_arg2)) (m ((c : Thread nD τ).loc main_arg3)) (m ((c : Thread nD τ).loc main_arg4))
      (m ((c : Thread nD τ).loc main_arg5)) (m ((c : Thread nD τ).loc main_arg6)) (m ((c : Thread nD τ).loc main_arg7)) (m ((c : Thread nD τ).loc main_arg8)) (m ((c : Thread nD τ).loc main_arg9)) := by
  refine (dats m 0 c).arrAt_eq_of_covers 11 _ (by decide +kernel) fun t hf y => ?_
  have ht := (flush_pos t).2.1 hf
  have hN : t.val < 31 := t.isLt
  have hs : t.val - 1 < 30 := by omega
  have hs' : t.val - 1 < cfg0.N := by show t.val - 1 < 31; omega
  have hr : 256 * (t.val - 1) + (y 0).val < 7680 := by have h0 : (y 0).val < 256 := (y 0).isLt; omega
  have e : ((cfg0.win 11).blk t).view.emb y = (ix2 (⟨256 * (t.val - 1) + (y 0).val, hr⟩ : Fin 7680) (y 1 : Fin 2560) : S7680x2560.Idx) := by
    blk_ext [idx t]
  rw [e]
  blk_simp
  rw [after0_11]
  refine (codes_at m c t ht y).trans ?_
  refine Eq.trans ?_ (Cert.DownRefIdeal.Value.ref_codes _ _ _ _ _ _ _ _ _ _ _ _).symm
  refine Cert.Tile.code_congr (fun k => ?_) (fun k => gain_read m c t k) rfl
  exact (g_at m c ⟨t.val - 1, hs'⟩ hs _).trans (lin_read m c ⟨t.val - 1, hs'⟩ hs _ _)

/-- The array of scales is the reference's. -/
theorem final12 (c : Dev nD) : (dats m 0 c).arrAt 12 (cfgs 0).N
    = Cert.DownRefIdeal.Value.G12 (m ((c : Thread nD τ).loc main_arg0)) (m ((c : Thread nD τ).loc main_arg1)) (m ((c : Thread nD τ).loc main_arg2)) (m ((c : Thread nD τ).loc main_arg3)) (m ((c : Thread nD τ).loc main_arg4))
      (m ((c : Thread nD τ).loc main_arg5)) (m ((c : Thread nD τ).loc main_arg6)) (m ((c : Thread nD τ).loc main_arg7)) (m ((c : Thread nD τ).loc main_arg8)) (m ((c : Thread nD τ).loc main_arg9)) := by
  refine (dats m 0 c).arrAt_eq_of_covers 12 _ (by decide +kernel) fun t hf y => ?_
  have ht := (flush_pos t).2.2.1 hf
  have hN : t.val < 31 := t.isLt
  have hs : t.val - 1 < 30 := by omega
  have hs' : t.val - 1 < cfg0.N := by show t.val - 1 < 31; omega
  have hr : 256 * (t.val - 1) + (y 0).val < 7680 := by have h0 : (y 0).val < 256 := (y 0).isLt; omega
  have e : ((cfg0.win 12).blk t).view.emb y = (ix2 (⟨256 * (t.val - 1) + (y 0).val, hr⟩ : Fin 7680) (0 : Fin 1) : S7680x1.Idx) := by
    blk_ext [idx t]
  rw [e]
  blk_simp
  rw [after0_12]
  refine (scales_at m c t ht y).trans ?_
  refine Eq.trans ?_ (Cert.DownRefIdeal.Value.ref_scales _ _ _ _ _ _ _ _ _ _ _).symm
  refine Cert.Tile.scale_congr (fun k => ?_) (fun k => gain_read m c t k)
  exact (g_at m c ⟨t.val - 1, hs'⟩ hs _).trans (lin_read m c ⟨t.val - 1, hs'⟩ hs _ _)

/-- The array of the layer input's codes is the reference's. -/
theorem final13 (c : Dev nD) : (dats m 0 c).arrAt 13 (cfgs 0).N
    = Cert.DownRefIdeal.Value.G13 (m ((c : Thread nD τ).loc main_arg0)) (m ((c : Thread nD τ).loc main_arg1)) (m ((c : Thread nD τ).loc main_arg2)) (m ((c : Thread nD τ).loc main_arg3)) (m ((c : Thread nD τ).loc main_arg4))
      (m ((c : Thread nD τ).loc main_arg5)) (m ((c : Thread nD τ).loc main_arg6)) (m ((c : Thread nD τ).loc main_arg7)) (m ((c : Thread nD τ).loc main_arg8)) (m ((c : Thread nD τ).loc main_arg9)) := by
  refine (dats m 0 c).arrAt_eq_of_covers 13 _ (by decide +kernel) fun t hf y => ?_
  have ht := (flush_pos t).2.2.2.1 hf
  have hN : t.val < 31 := t.isLt
  have hs : t.val - 1 < 30 := by omega
  have hs' : t.val - 1 < cfg0.N := by show t.val - 1 < 31; omega
  have hr : 256 * (t.val - 1) + (y 0).val < 7680 := by have h0 : (y 0).val < 256 := (y 0).isLt; omega
  have e : ((cfg0.win 13).blk t).view.emb y = (ix2 (⟨256 * (t.val - 1) + (y 0).val, hr⟩ : Fin 7680) (y 1 : Fin 5120) : S7680x5120.Idx) := by
    blk_ext [idx t]
  rw [e]
  blk_simp
  rw [after0_13]
  refine (xcodes_at m c t ht y).trans ?_
  refine Eq.trans ?_ (Cert.DownRefIdeal.Value.ref_xcodes _ _ _ _ _ _ _ _ _ _ _ _).symm
  refine Cert.Layer.code_congr (fun j => emb_read m c t hN _ j) (fun j => we_read m c t j) (fun j => ?_) (fun j => wh_read m c t j) rfl
  exact (g_at m c ⟨t.val - 1, hs'⟩ hs _).trans (lin_read m c ⟨t.val - 1, hs'⟩ hs _ _)

/-- The array of the layer input's scales is the reference's. -/
theorem final14 (c : Dev nD) : (dats m 0 c).arrAt 14 (cfgs 0).N
    = Cert.DownRefIdeal.Value.G14 (m ((c : Thread nD τ).loc main_arg0)) (m ((c : Thread nD τ).loc main_arg1)) (m ((c : Thread nD τ).loc main_arg2)) (m ((c : Thread nD τ).loc main_arg3)) (m ((c : Thread nD τ).loc main_arg4))
      (m ((c : Thread nD τ).loc main_arg5)) (m ((c : Thread nD τ).loc main_arg6)) (m ((c : Thread nD τ).loc main_arg7)) (m ((c : Thread nD τ).loc main_arg8)) (m ((c : Thread nD τ).loc main_arg9)) := by
  refine (dats m 0 c).arrAt_eq_of_covers 14 _ (by decide +kernel) fun t hf y => ?_
  have ht := (flush_pos t).2.2.2.2 hf
  have hN : t.val < 31 := t.isLt
  have hs : t.val - 1 < 30 := by omega
  have hs' : t.val - 1 < cfg0.N := by show t.val - 1 < 31; omega
  have hr : 256 * (t.val - 1) + (y 0).val < 7680 := by have h0 : (y 0).val < 256 := (y 0).isLt; omega
  have e : ((cfg0.win 14).blk t).view.emb y = (ix2 (⟨256 * (t.val - 1) + (y 0).val, hr⟩ : Fin 7680) (0 : Fin 1) : S7680x1.Idx) := by
    blk_ext [idx t]
  rw [e]
  blk_simp
  rw [after0_14]
  refine (xscales_at m c t ht y).trans ?_
  refine Eq.trans ?_ (Cert.DownRefIdeal.Value.ref_xscales _ _ _ _ _ _ _ _ _ _ _).symm
  refine Cert.Layer.scale_congr (fun j => emb_read m c t hN _ j) (fun j => we_read m c t j) (fun j => ?_) (fun j => wh_read m c t j)
  exact (g_at m c ⟨t.val - 1, hs'⟩ hs _).trans (lin_read m c ⟨t.val - 1, hs'⟩ hs _ _)

end Cert.DownIdeal.Value

end
-- ==== Proof.lean ====
module

public import proofs.«01_k».proof.Defs
public import proofs.«01_k».proof.Proof.Gen.GateUp
public import proofs.«01_k».proof.Proof.Gen.GateUp.Skeleton
public import proofs.«01_k».proof.Proof.Gen.GateUp.Launch
public import proofs.«01_k».proof.Proof.Gen.GateUp.Points
public import proofs.«01_k».proof.Proof.Gen.GateUp.Frame
public import proofs.«01_k».proof.Proof.Gen.GateUpIdeal
public import proofs.«01_k».proof.Proof.Gen.GateUpIdeal.Skeleton
public import proofs.«01_k».proof.Proof.Gen.GateUpIdeal.Launch
public import proofs.«01_k».proof.Proof.Gen.GateUpIdeal.Points
public import proofs.«01_k».proof.Proof.Gen.GateUpIdeal.Frame
public import proofs.«01_k».proof.Proof.Gen.GateUpRefIdeal
public import proofs.«01_k».proof.Proof.Gen.GateUpRefIdeal.Skeleton
public import proofs.«01_k».proof.Proof.Gen.GateUpRefIdeal.Launch
public import proofs.«01_k».proof.Proof.Gen.GateUpRefIdeal.Points
public import proofs.«01_k».proof.Proof.Gen.GateUpRefIdeal.Frame
public import proofs.«01_k».proof.Proof.Gen.GateUpIdeal.Value
public import proofs.«01_k».proof.Proof.Gen.GateUpRefIdeal.Value
public import proofs.«01_k».proof.Proof.GateUp.Final
public import proofs.«01_k».proof.Proof.Gen.Qkv
public import proofs.«01_k».proof.Proof.Gen.Qkv.Skeleton
public import proofs.«01_k».proof.Proof.Gen.Qkv.Launch
public import proofs.«01_k».proof.Proof.Gen.Qkv.Points
public import proofs.«01_k».proof.Proof.Gen.Qkv.Frame
public import proofs.«01_k».proof.Proof.Gen.QkvIdeal
public import proofs.«01_k».proof.Proof.Gen.QkvIdeal.Skeleton
public import proofs.«01_k».proof.Proof.Gen.QkvIdeal.Launch
public import proofs.«01_k».proof.Proof.Gen.QkvIdeal.Points
public import proofs.«01_k».proof.Proof.Gen.QkvIdeal.Frame
public import proofs.«01_k».proof.Proof.Gen.QkvRefIdeal
public import proofs.«01_k».proof.Proof.Gen.QkvRefIdeal.Skeleton
public import proofs.«01_k».proof.Proof.Gen.QkvRefIdeal.Launch
public import proofs.«01_k».proof.Proof.Gen.QkvRefIdeal.Points
public import proofs.«01_k».proof.Proof.Gen.QkvRefIdeal.Frame
public import proofs.«01_k».proof.Proof.Gen.QkvIdeal.Value
public import proofs.«01_k».proof.Proof.Gen.QkvRefIdeal.Value
public import proofs.«01_k».proof.Proof.Qkv.Final
public import proofs.«01_k».proof.Proof.Gen.OutProj
public import proofs.«01_k».proof.Proof.Gen.OutProj.Skeleton
public import proofs.«01_k».proof.Proof.Gen.OutProj.Launch
public import proofs.«01_k».proof.Proof.Gen.OutProj.Points
public import proofs.«01_k».proof.Proof.Gen.OutProj.Frame
public import proofs.«01_k».proof.Proof.Gen.OutProjIdeal
public import proofs.«01_k».proof.Proof.Gen.OutProjIdeal.Skeleton
public import proofs.«01_k».proof.Proof.Gen.OutProjIdeal.Launch
public import proofs.«01_k».proof.Proof.Gen.OutProjIdeal.Points
public import proofs.«01_k».proof.Proof.Gen.OutProjIdeal.Frame
public import proofs.«01_k».proof.Proof.Gen.OutProjRefIdeal
public import proofs.«01_k».proof.Proof.Gen.OutProjRefIdeal.Skeleton
public import proofs.«01_k».proof.Proof.Gen.OutProjRefIdeal.Launch
public import proofs.«01_k».proof.Proof.Gen.OutProjRefIdeal.Points
public import proofs.«01_k».proof.Proof.Gen.OutProjRefIdeal.Frame
public import proofs.«01_k».proof.Proof.Gen.OutProjIdeal.Value
public import proofs.«01_k».proof.Proof.Gen.OutProjRefIdeal.Value
public import proofs.«01_k».proof.Proof.OutProj.Final
public import proofs.«01_k».proof.Proof.Gen.DownLast
public import proofs.«01_k».proof.Proof.Gen.DownLast.Skeleton
public import proofs.«01_k».proof.Proof.Gen.DownLast.Launch
public import proofs.«01_k».proof.Proof.Gen.DownLast.Points
public import proofs.«01_k».proof.Proof.Gen.DownLast.Frame
public import proofs.«01_k».proof.Proof.Gen.DownLastIdeal
public import proofs.«01_k».proof.Proof.Gen.DownLastIdeal.Skeleton
public import proofs.«01_k».proof.Proof.Gen.DownLastIdeal.Launch
public import proofs.«01_k».proof.Proof.Gen.DownLastIdeal.Points
public import proofs.«01_k».proof.Proof.Gen.DownLastIdeal.Frame
public import proofs.«01_k».proof.Proof.Gen.DownLastRefIdeal
public import proofs.«01_k».proof.Proof.Gen.DownLastRefIdeal.Skeleton
public import proofs.«01_k».proof.Proof.Gen.DownLastRefIdeal.Launch
public import proofs.«01_k».proof.Proof.Gen.DownLastRefIdeal.Points
public import proofs.«01_k».proof.Proof.Gen.DownLastRefIdeal.Frame
public import proofs.«01_k».proof.Proof.Gen.DownLastIdeal.Value
public import proofs.«01_k».proof.Proof.Gen.DownLastRefIdeal.Value
public import proofs.«01_k».proof.Proof.DownLast.Final
public import proofs.«01_k».proof.Proof.Gen.Fc
public import proofs.«01_k».proof.Proof.Gen.Fc.Skeleton
public import proofs.«01_k».proof.Proof.Gen.Fc.Launch
public import proofs.«01_k».proof.Proof.Gen.Fc.Points
public import proofs.«01_k».proof.Proof.Fc.Bits.Frame
public import proofs.«01_k».proof.Proof.Gen.FcIdeal
public import proofs.«01_k».proof.Proof.Gen.FcIdeal.Skeleton
public import proofs.«01_k».proof.Proof.Gen.FcIdeal.Launch
public import proofs.«01_k».proof.Proof.Gen.FcIdeal.Points
public import proofs.«01_k».proof.Proof.Fc.Ideal.Frame
public import proofs.«01_k».proof.Proof.Gen.FcRefIdeal
public import proofs.«01_k».proof.Proof.Gen.FcRefIdeal.Skeleton
public import proofs.«01_k».proof.Proof.Gen.FcRefIdeal.Launch
public import proofs.«01_k».proof.Proof.Gen.FcRefIdeal.Points
public import proofs.«01_k».proof.Proof.Gen.FcRefIdeal.Frame
public import proofs.«01_k».proof.Proof.Gen.FcRefIdeal.Value
public import proofs.«01_k».proof.Proof.Fc.Final
public import proofs.«01_k».proof.Proof.Gen.Down
public import proofs.«01_k».proof.Proof.Gen.Down.Skeleton
public import proofs.«01_k».proof.Proof.Gen.Down.Launch
public import proofs.«01_k».proof.Proof.Gen.Down.Points
public import proofs.«01_k».proof.Proof.Down.Bits.Frame
public import proofs.«01_k».proof.Proof.Gen.DownIdeal
public import proofs.«01_k».proof.Proof.Gen.DownIdeal.Skeleton
public import proofs.«01_k».proof.Proof.Gen.DownIdeal.Launch
public import proofs.«01_k».proof.Proof.Gen.DownIdeal.Points
public import proofs.«01_k».proof.Proof.Down.Ideal.Frame
public import proofs.«01_k».proof.Proof.Gen.DownRefIdeal
public import proofs.«01_k».proof.Proof.Gen.DownRefIdeal.Skeleton
public import proofs.«01_k».proof.Proof.Gen.DownRefIdeal.Launch
public import proofs.«01_k».proof.Proof.Gen.DownRefIdeal.Points
public import proofs.«01_k».proof.Proof.Gen.DownRefIdeal.Frame
public import proofs.«01_k».proof.Proof.Gen.DownRefIdeal.Value
public import proofs.«01_k».proof.Proof.Down.Final
public import Idealize.ShloMosaic.Lib.Claim
public import Idealize.ShloMosaic.Adequacy
public import Idealize.ShloMosaic.Init

@[expose] public section

set_option maxRecDepth 16384

noncomputable section

namespace Cert.Proof

open Idealize.ShloMosaic Idealize.SL.Sem Cert.GateUp

/-- The gate/up kernel and its reference write the same two arrays. -/
theorem algebraic_gate_up : Cert.algebraic_GateUpIdeal_GateUpRefIdeal := by
  pair_intro
  · run_from Cert.GateUpIdeal.Gen.run_main m g
  · run_from Cert.GateUpRefIdeal.Gen.run_main m' g'
    · refine (Cert.GateUpRefIdeal.Value.final6 m' c).trans (Eq.trans ?_ (Cert.GateUpIdeal.Value.final6 m c).symm)
      obtain ⟨h0, h1, h2, h3, h4, h5⟩ := hagree c
      rw [h0, h1, h2, h3, h4, h5]
    · refine (Cert.GateUpRefIdeal.Value.final7 m' c).trans (Eq.trans ?_ (Cert.GateUpIdeal.Value.final7 m c).symm)
      obtain ⟨h0, h1, h2, h3, h4, h5⟩ := hagree c
      rw [h0, h1, h2, h3, h4, h5]

/-- The query, key and value kernel and its reference write the same array. -/
theorem algebraic_qkv : Cert.algebraic_QkvIdeal_QkvRefIdeal := by
  pair_intro
  · run_from Cert.QkvIdeal.Gen.run_main m g
  · run_from Cert.QkvRefIdeal.Gen.run_main m' g'
    refine (Cert.QkvRefIdeal.Value.final6 m' c).trans (Eq.trans ?_ (Cert.QkvIdeal.Value.final6 m c).symm)
    obtain ⟨h0, h1, h2, h3, h4, h5⟩ := hagree c
    rw [h0, h1, h2, h3, h4, h5]

set_option maxHeartbeats 4000000 in
/-- The output projection kernel and its reference write the same three arrays. -/
theorem algebraic_out_proj : Cert.algebraic_OutProjIdeal_OutProjRefIdeal := by
  pair_intro
  · run_from Cert.OutProjIdeal.Gen.run_main m g
  · run_from Cert.OutProjRefIdeal.Gen.run_main m' g'
    · refine (Cert.OutProjRefIdeal.Value.final6 m' c).trans (Eq.trans ?_ (Cert.OutProjIdeal.Value.final6 m c).symm)
      obtain ⟨h0, h1, h2, h3, h4, h5⟩ := hagree c
      rw [h0, h1, h2, h3, h4, h5]
    · refine (Cert.OutProjRefIdeal.Value.final7 m' c).trans (Eq.trans ?_ (Cert.OutProjIdeal.Value.final7 m c).symm)
      obtain ⟨h0, h1, h2, h3, h4, h5⟩ := hagree c
      rw [h0, h1, h2, h3, h4, h5]
    · refine (Cert.OutProjRefIdeal.Value.final8 m' c).trans (Eq.trans ?_ (Cert.OutProjIdeal.Value.final8 m c).symm)
      obtain ⟨h0, h1, h2, h3, h4, h5⟩ := hagree c
      rw [h0, h1, h2, h3, h4, h5]

set_option maxHeartbeats 4000000 in
/-- The last down projection kernel and its reference write the same three arrays. -/
theorem algebraic_down_last : Cert.algebraic_DownLastIdeal_DownLastRefIdeal := by
  pair_intro
  · run_from Cert.DownLastIdeal.Gen.run_main m g
  · run_from Cert.DownLastRefIdeal.Gen.run_main m' g'
    · refine (Cert.DownLastRefIdeal.Value.final6 m' c).trans (Eq.trans ?_ (Cert.DownLastIdeal.Value.final6 m c).symm)
      obtain ⟨h0, h1, h2, h3, h4, h5⟩ := hagree c
      rw [h0, h1, h2, h3, h4, h5]
    · refine (Cert.DownLastRefIdeal.Value.final7 m' c).trans (Eq.trans ?_ (Cert.DownLastIdeal.Value.final7 m c).symm)
      obtain ⟨h0, h1, h2, h3, h4, h5⟩ := hagree c
      rw [h0, h1, h2, h3, h4, h5]
    · refine (Cert.DownLastRefIdeal.Value.final8 m' c).trans (Eq.trans ?_ (Cert.DownLastIdeal.Value.final8 m c).symm)
      obtain ⟨h0, h1, h2, h3, h4, h5⟩ := hagree c
      rw [h0, h1, h2, h3, h4, h5]

set_option maxHeartbeats 8000000 in
/-- The first projection kernel and its reference write the same three arrays. -/
theorem algebraic_fc : Cert.algebraic_FcIdeal_FcRefIdeal := by
  pair_intro
  · run_from Cert.FcIdeal.Gen.run_main m g
  · run_from Cert.FcRefIdeal.Gen.run_main m' g'
    · refine (Cert.FcRefIdeal.Value.final8 m' c).trans (Eq.trans ?_ (Cert.FcIdeal.Value.final8 m c).symm)
      obtain ⟨h0, h1, h2, h3, h4, h5, h6, h7⟩ := hagree c
      rw [h0, h1, h2, h3, h4, h5, h6, h7]
    · refine (Cert.FcRefIdeal.Value.final9 m' c).trans (Eq.trans ?_ (Cert.FcIdeal.Value.final9 m c).symm)
      obtain ⟨h0, h1, h2, h3, h4, h5, h6, h7⟩ := hagree c
      rw [h0, h1, h2, h3, h4, h5, h6, h7]
    · refine (Cert.FcRefIdeal.Value.final10 m' c).trans (Eq.trans ?_ (Cert.FcIdeal.Value.final10 m c).symm)
      obtain ⟨h0, h1, h2, h3, h4, h5, h6, h7⟩ := hagree c
      rw [h0, h1, h2, h3, h4, h5, h6, h7]

set_option maxHeartbeats 8000000 in
/-- The down projection kernel and its reference write the same five arrays. -/
theorem algebraic_down : Cert.algebraic_DownIdeal_DownRefIdeal := by
  pair_intro
  · run_from Cert.DownIdeal.Gen.run_main m g
  · run_from Cert.DownRefIdeal.Gen.run_main m' g'
    · refine (Cert.DownRefIdeal.Value.final10 m' c).trans (Eq.trans ?_ (Cert.DownIdeal.Value.final10 m c).symm)
      obtain ⟨h0, h1, h2, h3, h4, h5, h6, h7, h8, h9⟩ := hagree c
      rw [h0, h1, h2, h3, h4, h5, h6, h7, h8, h9]
    · refine (Cert.DownRefIdeal.Value.final11 m' c).trans (Eq.trans ?_ (Cert.DownIdeal.Value.final11 m c).symm)
      obtain ⟨h0, h1, h2, h3, h4, h5, h6, h7, h8, h9⟩ := hagree c
      rw [h0, h1, h2, h3, h4, h5, h6, h7, h8, h9]
    · refine (Cert.DownRefIdeal.Value.final12 m' c).trans (Eq.trans ?_ (Cert.DownIdeal.Value.final12 m c).symm)
      obtain ⟨h0, h1, h2, h3, h4, h5, h6, h7, h8, h9⟩ := hagree c
      rw [h0, h1, h2, h3, h4, h5, h6, h7, h8, h9]
    · refine (Cert.DownRefIdeal.Value.final13 m' c).trans (Eq.trans ?_ (Cert.DownIdeal.Value.final13 m c).symm)
      obtain ⟨h0, h1, h2, h3, h4, h5, h6, h7, h8, h9⟩ := hagree c
      rw [h0, h1, h2, h3, h4, h5, h6, h7, h8, h9]
    · refine (Cert.DownRefIdeal.Value.final14 m' c).trans (Eq.trans ?_ (Cert.DownIdeal.Value.final14 m c).symm)
      obtain ⟨h0, h1, h2, h3, h4, h5, h6, h7, h8, h9⟩ := hagree c
      rw [h0, h1, h2, h3, h4, h5, h6, h7, h8, h9]

theorem claim : Cert.Claim := ⟨Cert.GateUp.Gen.facts, Cert.GateUpIdeal.Gen.facts, Cert.GateUpRefIdeal.Gen.facts,
  Cert.Qkv.Gen.facts, Cert.QkvIdeal.Gen.facts, Cert.QkvRefIdeal.Gen.facts,
  Cert.OutProj.Gen.facts, Cert.OutProjIdeal.Gen.facts, Cert.OutProjRefIdeal.Gen.facts,
  Cert.DownLast.Gen.facts, Cert.DownLastIdeal.Gen.facts, Cert.DownLastRefIdeal.Gen.facts,
  Cert.Fc.Gen.facts, Cert.FcIdeal.Gen.facts, Cert.FcRefIdeal.Gen.facts,
  Cert.Down.Gen.facts, Cert.DownIdeal.Gen.facts, Cert.DownRefIdeal.Gen.facts,
  fun m ρ _ => Cert.GateUp.Gen.frame m ρ, fun m ρ _ => Cert.GateUpIdeal.Gen.frame m ρ,
  fun m ρ _ => Cert.GateUpRefIdeal.Gen.frame m ρ,
  fun m ρ _ => Cert.Qkv.Gen.frame m ρ, fun m ρ _ => Cert.QkvIdeal.Gen.frame m ρ,
  fun m ρ _ => Cert.QkvRefIdeal.Gen.frame m ρ,
  fun m ρ _ => Cert.OutProj.Gen.frame m ρ, fun m ρ _ => Cert.OutProjIdeal.Gen.frame m ρ,
  fun m ρ _ => Cert.OutProjRefIdeal.Gen.frame m ρ,
  fun m ρ _ => Cert.DownLast.Gen.frame m ρ, fun m ρ _ => Cert.DownLastIdeal.Gen.frame m ρ,
  fun m ρ _ => Cert.DownLastRefIdeal.Gen.frame m ρ,
  fun m ρ _ => Cert.Fc.Gen.frame m ρ, fun m ρ _ => Cert.FcIdeal.Gen.frame m ρ,
  fun m ρ _ => Cert.FcRefIdeal.Gen.frame m ρ,
  fun m ρ _ => Cert.Down.Gen.frame m ρ, fun m ρ _ => Cert.DownIdeal.Gen.frame m ρ,
  fun m ρ _ => Cert.DownRefIdeal.Gen.frame m ρ,
  trivial, algebraic_gate_up, trivial, algebraic_qkv, trivial, algebraic_out_proj,
  trivial, algebraic_down_last, trivial, algebraic_fc, trivial, algebraic_down⟩

end Cert.Proof

end
